-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_WideBwdX (m : (ℓ : Loc Cert.WideBwdX.nD Cert.WideBwdX.τ Cert.WideBwdX.sig) → Buf (Elt Bits) ℓ) : Prop :=
  True

def Pre_WideBwdXIdeal (m : (ℓ : Loc Cert.WideBwdXIdeal.nD Cert.WideBwdXIdeal.τ Cert.WideBwdXIdeal.sig) → Buf (Elt Ideal) ℓ) : Prop :=
  True

def Pre_WideBwdXRefIdeal (m : (ℓ : Loc Cert.WideBwdXRefIdeal.nD Cert.WideBwdXRefIdeal.τ Cert.WideBwdXRefIdeal.sig) → Buf (Elt Ideal) ℓ) : Prop :=
  True

def Pre_WideBwdW (m : (ℓ : Loc Cert.WideBwdW.nD Cert.WideBwdW.τ Cert.WideBwdW.sig) → Buf (Elt Bits) ℓ) : Prop :=
  True

def Pre_WideBwdWIdeal (m : (ℓ : Loc Cert.WideBwdWIdeal.nD Cert.WideBwdWIdeal.τ Cert.WideBwdWIdeal.sig) → Buf (Elt Ideal) ℓ) : Prop :=
  True

def Pre_WideBwdWRefIdeal (m : (ℓ : Loc Cert.WideBwdWRefIdeal.nD Cert.WideBwdWRefIdeal.τ Cert.WideBwdWRefIdeal.sig) → Buf (Elt Ideal) ℓ) : Prop :=
  True

def Pre_UpBwdW (m : (ℓ : Loc Cert.UpBwdW.nD Cert.UpBwdW.τ Cert.UpBwdW.sig) → Buf (Elt Bits) ℓ) : Prop :=
  True

def Pre_UpBwdWIdeal (m : (ℓ : Loc Cert.UpBwdWIdeal.nD Cert.UpBwdWIdeal.τ Cert.UpBwdWIdeal.sig) → Buf (Elt Ideal) ℓ) : Prop :=
  True

def Pre_UpBwdWRefIdeal (m : (ℓ : Loc Cert.UpBwdWRefIdeal.nD Cert.UpBwdWRefIdeal.τ Cert.UpBwdWRefIdeal.sig) → Buf (Elt Ideal) ℓ) : Prop :=
  True

def Pre_DownBwdX (m : (ℓ : Loc Cert.DownBwdX.nD Cert.DownBwdX.τ Cert.DownBwdX.sig) → Buf (Elt Bits) ℓ) : Prop :=
  True

def Pre_DownBwdXIdeal (m : (ℓ : Loc Cert.DownBwdXIdeal.nD Cert.DownBwdXIdeal.τ Cert.DownBwdXIdeal.sig) → Buf (Elt Ideal) ℓ) : Prop :=
  True

def Pre_DownBwdXRefIdeal (m : (ℓ : Loc Cert.DownBwdXRefIdeal.nD Cert.DownBwdXRefIdeal.τ Cert.DownBwdXRefIdeal.sig) → Buf (Elt Ideal) ℓ) : Prop :=
  True

def Pre_DownBwdW (m : (ℓ : Loc Cert.DownBwdW.nD Cert.DownBwdW.τ Cert.DownBwdW.sig) → Buf (Elt Bits) ℓ) : Prop :=
  True

def Pre_DownBwdWIdeal (m : (ℓ : Loc Cert.DownBwdWIdeal.nD Cert.DownBwdWIdeal.τ Cert.DownBwdWIdeal.sig) → Buf (Elt Ideal) ℓ) : Prop :=
  True

def Pre_DownBwdWRefIdeal (m : (ℓ : Loc Cert.DownBwdWRefIdeal.nD Cert.DownBwdWRefIdeal.τ Cert.DownBwdWRefIdeal.sig) → Buf (Elt Ideal) ℓ) : Prop :=
  True

def Pre_OutBwdX (m : (ℓ : Loc Cert.OutBwdX.nD Cert.OutBwdX.τ Cert.OutBwdX.sig) → Buf (Elt Bits) ℓ) : Prop :=
  True

def Pre_OutBwdXIdeal (m : (ℓ : Loc Cert.OutBwdXIdeal.nD Cert.OutBwdXIdeal.τ Cert.OutBwdXIdeal.sig) → Buf (Elt Ideal) ℓ) : Prop :=
  True

def Pre_OutBwdXRefIdeal (m : (ℓ : Loc Cert.OutBwdXRefIdeal.nD Cert.OutBwdXRefIdeal.τ Cert.OutBwdXRefIdeal.sig) → Buf (Elt Ideal) ℓ) : Prop :=
  True

def Pre_OutBwdW (m : (ℓ : Loc Cert.OutBwdW.nD Cert.OutBwdW.τ Cert.OutBwdW.sig) → Buf (Elt Bits) ℓ) : Prop :=
  True

def Pre_OutBwdWIdeal (m : (ℓ : Loc Cert.OutBwdWIdeal.nD Cert.OutBwdWIdeal.τ Cert.OutBwdWIdeal.sig) → Buf (Elt Ideal) ℓ) : Prop :=
  True

def Pre_OutBwdWRefIdeal (m : (ℓ : Loc Cert.OutBwdWRefIdeal.nD Cert.OutBwdWRefIdeal.τ Cert.OutBwdWRefIdeal.sig) → Buf (Elt Ideal) ℓ) : Prop :=
  True

def Pre_BranchBwdX (m : (ℓ : Loc Cert.BranchBwdX.nD Cert.BranchBwdX.τ Cert.BranchBwdX.sig) → Buf (Elt Bits) ℓ) : Prop :=
  True

def Pre_BranchBwdXIdeal (m : (ℓ : Loc Cert.BranchBwdXIdeal.nD Cert.BranchBwdXIdeal.τ Cert.BranchBwdXIdeal.sig) → Buf (Elt Ideal) ℓ) : Prop :=
  True

def Pre_BranchBwdXRefIdeal (m : (ℓ : Loc Cert.BranchBwdXRefIdeal.nD Cert.BranchBwdXRefIdeal.τ Cert.BranchBwdXRefIdeal.sig) → Buf (Elt Ideal) ℓ) : Prop :=
  True

def Pre_BranchABwdW (m : (ℓ : Loc Cert.BranchABwdW.nD Cert.BranchABwdW.τ Cert.BranchABwdW.sig) → Buf (Elt Bits) ℓ) : Prop :=
  True

def Pre_BranchABwdWIdeal (m : (ℓ : Loc Cert.BranchABwdWIdeal.nD Cert.BranchABwdWIdeal.τ Cert.BranchABwdWIdeal.sig) → Buf (Elt Ideal) ℓ) : Prop :=
  True

def Pre_BranchABwdWRefIdeal (m : (ℓ : Loc Cert.BranchABwdWRefIdeal.nD Cert.BranchABwdWRefIdeal.τ Cert.BranchABwdWRefIdeal.sig) → Buf (Elt Ideal) ℓ) : Prop :=
  True

def Pre_BranchBBwdW (m : (ℓ : Loc Cert.BranchBBwdW.nD Cert.BranchBBwdW.τ Cert.BranchBBwdW.sig) → Buf (Elt Bits) ℓ) : Prop :=
  True

def Pre_BranchBBwdWIdeal (m : (ℓ : Loc Cert.BranchBBwdWIdeal.nD Cert.BranchBBwdWIdeal.τ Cert.BranchBBwdWIdeal.sig) → Buf (Elt Ideal) ℓ) : Prop :=
  True

def Pre_BranchBBwdWRefIdeal (m : (ℓ : Loc Cert.BranchBBwdWRefIdeal.nD Cert.BranchBBwdWRefIdeal.τ Cert.BranchBBwdWRefIdeal.sig) → Buf (Elt Ideal) ℓ) : Prop :=
  True

def Pre_ForgetBwdX (m : (ℓ : Loc Cert.ForgetBwdX.nD Cert.ForgetBwdX.τ Cert.ForgetBwdX.sig) → Buf (Elt Bits) ℓ) : Prop :=
  True

def Pre_ForgetBwdXIdeal (m : (ℓ : Loc Cert.ForgetBwdXIdeal.nD Cert.ForgetBwdXIdeal.τ Cert.ForgetBwdXIdeal.sig) → Buf (Elt Ideal) ℓ) : Prop :=
  True

def Pre_ForgetBwdXRefIdeal (m : (ℓ : Loc Cert.ForgetBwdXRefIdeal.nD Cert.ForgetBwdXRefIdeal.τ Cert.ForgetBwdXRefIdeal.sig) → Buf (Elt Ideal) ℓ) : Prop :=
  True

def Pre_ForgetBwdW (m : (ℓ : Loc Cert.ForgetBwdW.nD Cert.ForgetBwdW.τ Cert.ForgetBwdW.sig) → Buf (Elt Bits) ℓ) : Prop :=
  True

def Pre_ForgetBwdWIdeal (m : (ℓ : Loc Cert.ForgetBwdWIdeal.nD Cert.ForgetBwdWIdeal.τ Cert.ForgetBwdWIdeal.sig) → Buf (Elt Ideal) ℓ) : Prop :=
  True

def Pre_ForgetBwdWRefIdeal (m : (ℓ : Loc Cert.ForgetBwdWRefIdeal.nD Cert.ForgetBwdWRefIdeal.τ Cert.ForgetBwdWRefIdeal.sig) → Buf (Elt Ideal) ℓ) : Prop :=
  True

def Pre_WideFwd (m : (ℓ : Loc Cert.WideFwd.nD Cert.WideFwd.τ Cert.WideFwd.sig) → Buf (Elt Bits) ℓ) : Prop :=
  True

def Pre_WideFwdIdeal (m : (ℓ : Loc Cert.WideFwdIdeal.nD Cert.WideFwdIdeal.τ Cert.WideFwdIdeal.sig) → Buf (Elt Ideal) ℓ) : Prop :=
  True

def Pre_WideFwdRefIdeal (m : (ℓ : Loc Cert.WideFwdRefIdeal.nD Cert.WideFwdRefIdeal.τ Cert.WideFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_BranchAFwd (m : (ℓ : Loc Cert.BranchAFwd.nD Cert.BranchAFwd.τ Cert.BranchAFwd.sig) → Buf (Elt Bits) ℓ) : Prop :=
  True

def Pre_BranchAFwdIdeal (m : (ℓ : Loc Cert.BranchAFwdIdeal.nD Cert.BranchAFwdIdeal.τ Cert.BranchAFwdIdeal.sig) → Buf (Elt Ideal) ℓ) : Prop :=
  True

def Pre_BranchAFwdRefIdeal (m : (ℓ : Loc Cert.BranchAFwdRefIdeal.nD Cert.BranchAFwdRefIdeal.τ Cert.BranchAFwdRefIdeal.sig) → Buf (Elt Ideal) ℓ) : Prop :=
  True

def Pre_BranchBFwd (m : (ℓ : Loc Cert.BranchBFwd.nD Cert.BranchBFwd.τ Cert.BranchBFwd.sig) → Buf (Elt Bits) ℓ) : Prop :=
  True

def Pre_BranchBFwdIdeal (m : (ℓ : Loc Cert.BranchBFwdIdeal.nD Cert.BranchBFwdIdeal.τ Cert.BranchBFwdIdeal.sig) → Buf (Elt Ideal) ℓ) : Prop :=
  True

def Pre_BranchBFwdRefIdeal (m : (ℓ : Loc Cert.BranchBFwdRefIdeal.nD Cert.BranchBFwdRefIdeal.τ Cert.BranchBFwdRefIdeal.sig) → Buf (Elt Ideal) ℓ) : Prop :=
  True

def Pre_ForgetFwd (m : (ℓ : Loc Cert.ForgetFwd.nD Cert.ForgetFwd.τ Cert.ForgetFwd.sig) → Buf (Elt Bits) ℓ) : Prop :=
  True

def Pre_ForgetFwdIdeal (m : (ℓ : Loc Cert.ForgetFwdIdeal.nD Cert.ForgetFwdIdeal.τ Cert.ForgetFwdIdeal.sig) → Buf (Elt Ideal) ℓ) : Prop :=
  True

def Pre_ForgetFwdRefIdeal (m : (ℓ : Loc Cert.ForgetFwdRefIdeal.nD Cert.ForgetFwdRefIdeal.τ Cert.ForgetFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_WideBwdX [hWideBwdX : Cert.WideBwdX.Facts] : Prop :=
  ∀ (m : (ℓ : Loc Cert.WideBwdX.nD Cert.WideBwdX.τ Cert.WideBwdX.sig) → Buf (Elt Bits) ℓ) (g : Dev Cert.WideBwdX.nD → PrngReg), Pre_WideBwdX m →
    θ_run (Cert.WideBwdX.defs (F := Bits)) (onTc (τ := Cert.WideBwdX.τ) (Cert.WideBwdX.main (F := Bits))) ⟨m, fun _ => 0, g⟩ (fun r => (∀ c : Dev Cert.WideBwdX.nD,
      r.2.mem ((c.tc : Thread Cert.WideBwdX.nD Cert.WideBwdX.τ).loc Cert.WideBwdX.main_arg0) = m ((c.tc : Thread Cert.WideBwdX.nD Cert.WideBwdX.τ).loc Cert.WideBwdX.main_arg0)
      ∧ r.2.mem ((c.tc : Thread Cert.WideBwdX.nD Cert.WideBwdX.τ).loc Cert.WideBwdX.main_arg1) = m ((c.tc : Thread Cert.WideBwdX.nD Cert.WideBwdX.τ).loc Cert.WideBwdX.main_arg1))
      ∧ r.2.sem = fun _ => 0)

def quiescent_WideBwdXIdeal [hWideBwdXIdeal : Cert.WideBwdXIdeal.Facts] : Prop :=
  ∀ (m : (ℓ : Loc Cert.WideBwdXIdeal.nD Cert.WideBwdXIdeal.τ Cert.WideBwdXIdeal.sig) → Buf (Elt Ideal) ℓ) (g : Dev Cert.WideBwdXIdeal.nD → PrngReg), Pre_WideBwdXIdeal m →
    θ_run (Cert.WideBwdXIdeal.defs (F := Ideal)) (onTc (τ := Cert.WideBwdXIdeal.τ) (Cert.WideBwdXIdeal.main (F := Ideal))) ⟨m, fun _ => 0, g⟩ (fun r => (∀ c : Dev Cert.WideBwdXIdeal.nD,
      r.2.mem ((c.tc : Thread Cert.WideBwdXIdeal.nD Cert.WideBwdXIdeal.τ).loc Cert.WideBwdXIdeal.main_arg0) = m ((c.tc : Thread Cert.WideBwdXIdeal.nD Cert.WideBwdXIdeal.τ).loc Cert.WideBwdXIdeal.main_arg0)
      ∧ r.2.mem ((c.tc : Thread Cert.WideBwdXIdeal.nD Cert.WideBwdXIdeal.τ).loc Cert.WideBwdXIdeal.main_arg1) = m ((c.tc : Thread Cert.WideBwdXIdeal.nD Cert.WideBwdXIdeal.τ).loc Cert.WideBwdXIdeal.main_arg1))
      ∧ r.2.sem = fun _ => 0)

def quiescent_WideBwdXRefIdeal [hWideBwdXRefIdeal : Cert.WideBwdXRefIdeal.Facts] : Prop :=
  ∀ (m : (ℓ : Loc Cert.WideBwdXRefIdeal.nD Cert.WideBwdXRefIdeal.τ Cert.WideBwdXRefIdeal.sig) → Buf (Elt Ideal) ℓ) (g : Dev Cert.WideBwdXRefIdeal.nD → PrngReg), Pre_WideBwdXRefIdeal m →
    θ_run (Cert.WideBwdXRefIdeal.defs (F := Ideal)) (onTc (τ := Cert.WideBwdXRefIdeal.τ) (Cert.WideBwdXRefIdeal.main (F := Ideal))) ⟨m, fun _ => 0, g⟩ (fun r => (∀ c : Dev Cert.WideBwdXRefIdeal.nD,
      r.2.mem ((c.tc : Thread Cert.WideBwdXRefIdeal.nD Cert.WideBwdXRefIdeal.τ).loc Cert.WideBwdXRefIdeal.main_arg0) = m ((c.tc : Thread Cert.WideBwdXRefIdeal.nD Cert.WideBwdXRefIdeal.τ).loc Cert.WideBwdXRefIdeal.main_arg0)
      ∧ r.2.mem ((c.tc : Thread Cert.WideBwdXRefIdeal.nD Cert.WideBwdXRefIdeal.τ).loc Cert.WideBwdXRefIdeal.main_arg1) = m ((c.tc : Thread Cert.WideBwdXRefIdeal.nD Cert.WideBwdXRefIdeal.τ).loc Cert.WideBwdXRefIdeal.main_arg1))
      ∧ r.2.sem = fun _ => 0)

def quiescent_WideBwdW [hWideBwdW : Cert.WideBwdW.Facts] : Prop :=
  ∀ (m : (ℓ : Loc Cert.WideBwdW.nD Cert.WideBwdW.τ Cert.WideBwdW.sig) → Buf (Elt Bits) ℓ) (g : Dev Cert.WideBwdW.nD → PrngReg), Pre_WideBwdW m →
    θ_run (Cert.WideBwdW.defs (F := Bits)) (onTc (τ := Cert.WideBwdW.τ) (Cert.WideBwdW.main (F := Bits))) ⟨m, fun _ => 0, g⟩ (fun r => (∀ c : Dev Cert.WideBwdW.nD,
      r.2.mem ((c.tc : Thread Cert.WideBwdW.nD Cert.WideBwdW.τ).loc Cert.WideBwdW.main_arg0) = m ((c.tc : Thread Cert.WideBwdW.nD Cert.WideBwdW.τ).loc Cert.WideBwdW.main_arg0)
      ∧ r.2.mem ((c.tc : Thread Cert.WideBwdW.nD Cert.WideBwdW.τ).loc Cert.WideBwdW.main_arg1) = m ((c.tc : Thread Cert.WideBwdW.nD Cert.WideBwdW.τ).loc Cert.WideBwdW.main_arg1))
      ∧ r.2.sem = fun _ => 0)

def quiescent_WideBwdWIdeal [hWideBwdWIdeal : Cert.WideBwdWIdeal.Facts] : Prop :=
  ∀ (m : (ℓ : Loc Cert.WideBwdWIdeal.nD Cert.WideBwdWIdeal.τ Cert.WideBwdWIdeal.sig) → Buf (Elt Ideal) ℓ) (g : Dev Cert.WideBwdWIdeal.nD → PrngReg), Pre_WideBwdWIdeal m →
    θ_run (Cert.WideBwdWIdeal.defs (F := Ideal)) (onTc (τ := Cert.WideBwdWIdeal.τ) (Cert.WideBwdWIdeal.main (F := Ideal))) ⟨m, fun _ => 0, g⟩ (fun r => (∀ c : Dev Cert.WideBwdWIdeal.nD,
      r.2.mem ((c.tc : Thread Cert.WideBwdWIdeal.nD Cert.WideBwdWIdeal.τ).loc Cert.WideBwdWIdeal.main_arg0) = m ((c.tc : Thread Cert.WideBwdWIdeal.nD Cert.WideBwdWIdeal.τ).loc Cert.WideBwdWIdeal.main_arg0)
      ∧ r.2.mem ((c.tc : Thread Cert.WideBwdWIdeal.nD Cert.WideBwdWIdeal.τ).loc Cert.WideBwdWIdeal.main_arg1) = m ((c.tc : Thread Cert.WideBwdWIdeal.nD Cert.WideBwdWIdeal.τ).loc Cert.WideBwdWIdeal.main_arg1))
      ∧ r.2.sem = fun _ => 0)

def quiescent_WideBwdWRefIdeal [hWideBwdWRefIdeal : Cert.WideBwdWRefIdeal.Facts] : Prop :=
  ∀ (m : (ℓ : Loc Cert.WideBwdWRefIdeal.nD Cert.WideBwdWRefIdeal.τ Cert.WideBwdWRefIdeal.sig) → Buf (Elt Ideal) ℓ) (g : Dev Cert.WideBwdWRefIdeal.nD → PrngReg), Pre_WideBwdWRefIdeal m →
    θ_run (Cert.WideBwdWRefIdeal.defs (F := Ideal)) (onTc (τ := Cert.WideBwdWRefIdeal.τ) (Cert.WideBwdWRefIdeal.main (F := Ideal))) ⟨m, fun _ => 0, g⟩ (fun r => (∀ c : Dev Cert.WideBwdWRefIdeal.nD,
      r.2.mem ((c.tc : Thread Cert.WideBwdWRefIdeal.nD Cert.WideBwdWRefIdeal.τ).loc Cert.WideBwdWRefIdeal.main_arg0) = m ((c.tc : Thread Cert.WideBwdWRefIdeal.nD Cert.WideBwdWRefIdeal.τ).loc Cert.WideBwdWRefIdeal.main_arg0)
      ∧ r.2.mem ((c.tc : Thread Cert.WideBwdWRefIdeal.nD Cert.WideBwdWRefIdeal.τ).loc Cert.WideBwdWRefIdeal.main_arg1) = m ((c.tc : Thread Cert.WideBwdWRefIdeal.nD Cert.WideBwdWRefIdeal.τ).loc Cert.WideBwdWRefIdeal.main_arg1))
      ∧ r.2.sem = fun _ => 0)

def quiescent_UpBwdW [hUpBwdW : Cert.UpBwdW.Facts] : Prop :=
  ∀ (m : (ℓ : Loc Cert.UpBwdW.nD Cert.UpBwdW.τ Cert.UpBwdW.sig) → Buf (Elt Bits) ℓ) (g : Dev Cert.UpBwdW.nD → PrngReg), Pre_UpBwdW m →
    θ_run (Cert.UpBwdW.defs (F := Bits)) (onTc (τ := Cert.UpBwdW.τ) (Cert.UpBwdW.main (F := Bits))) ⟨m, fun _ => 0, g⟩ (fun r => (∀ c : Dev Cert.UpBwdW.nD,
      r.2.mem ((c.tc : Thread Cert.UpBwdW.nD Cert.UpBwdW.τ).loc Cert.UpBwdW.main_arg0) = m ((c.tc : Thread Cert.UpBwdW.nD Cert.UpBwdW.τ).loc Cert.UpBwdW.main_arg0)
      ∧ r.2.mem ((c.tc : Thread Cert.UpBwdW.nD Cert.UpBwdW.τ).loc Cert.UpBwdW.main_arg1) = m ((c.tc : Thread Cert.UpBwdW.nD Cert.UpBwdW.τ).loc Cert.UpBwdW.main_arg1))
      ∧ r.2.sem = fun _ => 0)

def quiescent_UpBwdWIdeal [hUpBwdWIdeal : Cert.UpBwdWIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg), Pre_UpBwdWIdeal m →
    θ_run (Cert.UpBwdWIdeal.defs (F := Ideal)) (onTc (τ := Cert.UpBwdWIdeal.τ) (Cert.UpBwdWIdeal.main (F := Ideal))) ⟨m, fun _ => 0, g⟩ (fun r => (∀ c : Dev Cert.UpBwdWIdeal.nD,
      r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
      ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1))
      ∧ r.2.sem = fun _ => 0)

def quiescent_UpBwdWRefIdeal [hUpBwdWRefIdeal : Cert.UpBwdWRefIdeal.Facts] : Prop :=
  ∀ (m : (ℓ : Loc Cert.UpBwdWRefIdeal.nD Cert.UpBwdWRefIdeal.τ Cert.UpBwdWRefIdeal.sig) → Buf (Elt Ideal) ℓ) (g : Dev Cert.UpBwdWRefIdeal.nD → PrngReg), Pre_UpBwdWRefIdeal m →
    θ_run (Cert.UpBwdWRefIdeal.defs (F := Ideal)) (onTc (τ := Cert.UpBwdWRefIdeal.τ) (Cert.UpBwdWRefIdeal.main (F := Ideal))) ⟨m, fun _ => 0, g⟩ (fun r => (∀ c : Dev Cert.UpBwdWRefIdeal.nD,
      r.2.mem ((c.tc : Thread Cert.UpBwdWRefIdeal.nD Cert.UpBwdWRefIdeal.τ).loc Cert.UpBwdWRefIdeal.main_arg0) = m ((c.tc : Thread Cert.UpBwdWRefIdeal.nD Cert.UpBwdWRefIdeal.τ).loc Cert.UpBwdWRefIdeal.main_arg0)
      ∧ r.2.mem ((c.tc : Thread Cert.UpBwdWRefIdeal.nD Cert.UpBwdWRefIdeal.τ).loc Cert.UpBwdWRefIdeal.main_arg1) = m ((c.tc : Thread Cert.UpBwdWRefIdeal.nD Cert.UpBwdWRefIdeal.τ).loc Cert.UpBwdWRefIdeal.main_arg1))
      ∧ r.2.sem = fun _ => 0)

def quiescent_DownBwdX [hDownBwdX : Cert.DownBwdX.Facts] : Prop :=
  ∀ (m : (ℓ : Loc Cert.DownBwdX.nD Cert.DownBwdX.τ Cert.DownBwdX.sig) → Buf (Elt Bits) ℓ) (g : Dev Cert.DownBwdX.nD → PrngReg), Pre_DownBwdX m →
    θ_run (Cert.DownBwdX.defs (F := Bits)) (onTc (τ := Cert.DownBwdX.τ) (Cert.DownBwdX.main (F := Bits))) ⟨m, fun _ => 0, g⟩ (fun r => (∀ c : Dev Cert.DownBwdX.nD,
      r.2.mem ((c.tc : Thread Cert.DownBwdX.nD Cert.DownBwdX.τ).loc Cert.DownBwdX.main_arg0) = m ((c.tc : Thread Cert.DownBwdX.nD Cert.DownBwdX.τ).loc Cert.DownBwdX.main_arg0)
      ∧ r.2.mem ((c.tc : Thread Cert.DownBwdX.nD Cert.DownBwdX.τ).loc Cert.DownBwdX.main_arg1) = m ((c.tc : Thread Cert.DownBwdX.nD Cert.DownBwdX.τ).loc Cert.DownBwdX.main_arg1))
      ∧ r.2.sem = fun _ => 0)

def quiescent_DownBwdXIdeal [hDownBwdXIdeal : Cert.DownBwdXIdeal.Facts] : Prop :=
  ∀ (m : (ℓ : Loc Cert.DownBwdXIdeal.nD Cert.DownBwdXIdeal.τ Cert.DownBwdXIdeal.sig) → Buf (Elt Ideal) ℓ) (g : Dev Cert.DownBwdXIdeal.nD → PrngReg), Pre_DownBwdXIdeal m →
    θ_run (Cert.DownBwdXIdeal.defs (F := Ideal)) (onTc (τ := Cert.DownBwdXIdeal.τ) (Cert.DownBwdXIdeal.main (F := Ideal))) ⟨m, fun _ => 0, g⟩ (fun r => (∀ c : Dev Cert.DownBwdXIdeal.nD,
      r.2.mem ((c.tc : Thread Cert.DownBwdXIdeal.nD Cert.DownBwdXIdeal.τ).loc Cert.DownBwdXIdeal.main_arg0) = m ((c.tc : Thread Cert.DownBwdXIdeal.nD Cert.DownBwdXIdeal.τ).loc Cert.DownBwdXIdeal.main_arg0)
      ∧ r.2.mem ((c.tc : Thread Cert.DownBwdXIdeal.nD Cert.DownBwdXIdeal.τ).loc Cert.DownBwdXIdeal.main_arg1) = m ((c.tc : Thread Cert.DownBwdXIdeal.nD Cert.DownBwdXIdeal.τ).loc Cert.DownBwdXIdeal.main_arg1))
      ∧ r.2.sem = fun _ => 0)

def quiescent_DownBwdXRefIdeal [hDownBwdXRefIdeal : Cert.DownBwdXRefIdeal.Facts] : Prop :=
  ∀ (m : (ℓ : Loc Cert.DownBwdXRefIdeal.nD Cert.DownBwdXRefIdeal.τ Cert.DownBwdXRefIdeal.sig) → Buf (Elt Ideal) ℓ) (g : Dev Cert.DownBwdXRefIdeal.nD → PrngReg), Pre_DownBwdXRefIdeal m →
    θ_run (Cert.DownBwdXRefIdeal.defs (F := Ideal)) (onTc (τ := Cert.DownBwdXRefIdeal.τ) (Cert.DownBwdXRefIdeal.main (F := Ideal))) ⟨m, fun _ => 0, g⟩ (fun r => (∀ c : Dev Cert.DownBwdXRefIdeal.nD,
      r.2.mem ((c.tc : Thread Cert.DownBwdXRefIdeal.nD Cert.DownBwdXRefIdeal.τ).loc Cert.DownBwdXRefIdeal.main_arg0) = m ((c.tc : Thread Cert.DownBwdXRefIdeal.nD Cert.DownBwdXRefIdeal.τ).loc Cert.DownBwdXRefIdeal.main_arg0)
      ∧ r.2.mem ((c.tc : Thread Cert.DownBwdXRefIdeal.nD Cert.DownBwdXRefIdeal.τ).loc Cert.DownBwdXRefIdeal.main_arg1) = m ((c.tc : Thread Cert.DownBwdXRefIdeal.nD Cert.DownBwdXRefIdeal.τ).loc Cert.DownBwdXRefIdeal.main_arg1))
      ∧ r.2.sem = fun _ => 0)

def quiescent_DownBwdW [hDownBwdW : Cert.DownBwdW.Facts] : Prop :=
  ∀ (m : (ℓ : Loc Cert.DownBwdW.nD Cert.DownBwdW.τ Cert.DownBwdW.sig) → Buf (Elt Bits) ℓ) (g : Dev Cert.DownBwdW.nD → PrngReg), Pre_DownBwdW m →
    θ_run (Cert.DownBwdW.defs (F := Bits)) (onTc (τ := Cert.DownBwdW.τ) (Cert.DownBwdW.main (F := Bits))) ⟨m, fun _ => 0, g⟩ (fun r => (∀ c : Dev Cert.DownBwdW.nD,
      r.2.mem ((c.tc : Thread Cert.DownBwdW.nD Cert.DownBwdW.τ).loc Cert.DownBwdW.main_arg0) = m ((c.tc : Thread Cert.DownBwdW.nD Cert.DownBwdW.τ).loc Cert.DownBwdW.main_arg0)
      ∧ r.2.mem ((c.tc : Thread Cert.DownBwdW.nD Cert.DownBwdW.τ).loc Cert.DownBwdW.main_arg1) = m ((c.tc : Thread Cert.DownBwdW.nD Cert.DownBwdW.τ).loc Cert.DownBwdW.main_arg1))
      ∧ r.2.sem = fun _ => 0)

def quiescent_DownBwdWIdeal [hDownBwdWIdeal : Cert.DownBwdWIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg), Pre_DownBwdWIdeal m →
    θ_run (Cert.DownBwdWIdeal.defs (F := Ideal)) (onTc (τ := Cert.DownBwdWIdeal.τ) (Cert.DownBwdWIdeal.main (F := Ideal))) ⟨m, fun _ => 0, g⟩ (fun r => (∀ c : Dev Cert.DownBwdWIdeal.nD,
      r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
      ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ r.2.sem = fun _ => 0)

def quiescent_DownBwdWRefIdeal [hDownBwdWRefIdeal : Cert.DownBwdWRefIdeal.Facts] : Prop :=
  ∀ (m : (ℓ : Loc Cert.DownBwdWRefIdeal.nD Cert.DownBwdWRefIdeal.τ Cert.DownBwdWRefIdeal.sig) → Buf (Elt Ideal) ℓ) (g : Dev Cert.DownBwdWRefIdeal.nD → PrngReg), Pre_DownBwdWRefIdeal m →
    θ_run (Cert.DownBwdWRefIdeal.defs (F := Ideal)) (onTc (τ := Cert.DownBwdWRefIdeal.τ) (Cert.DownBwdWRefIdeal.main (F := Ideal))) ⟨m, fun _ => 0, g⟩ (fun r => (∀ c : Dev Cert.DownBwdWRefIdeal.nD,
      r.2.mem ((c.tc : Thread Cert.DownBwdWRefIdeal.nD Cert.DownBwdWRefIdeal.τ).loc Cert.DownBwdWRefIdeal.main_arg0) = m ((c.tc : Thread Cert.DownBwdWRefIdeal.nD Cert.DownBwdWRefIdeal.τ).loc Cert.DownBwdWRefIdeal.main_arg0)
      ∧ r.2.mem ((c.tc : Thread Cert.DownBwdWRefIdeal.nD Cert.DownBwdWRefIdeal.τ).loc Cert.DownBwdWRefIdeal.main_arg1) = m ((c.tc : Thread Cert.DownBwdWRefIdeal.nD Cert.DownBwdWRefIdeal.τ).loc Cert.DownBwdWRefIdeal.main_arg1))
      ∧ r.2.sem = fun _ => 0)

def quiescent_OutBwdX [hOutBwdX : Cert.OutBwdX.Facts] : Prop :=
  ∀ (m : (ℓ : Loc Cert.OutBwdX.nD Cert.OutBwdX.τ Cert.OutBwdX.sig) → Buf (Elt Bits) ℓ) (g : Dev Cert.OutBwdX.nD → PrngReg), Pre_OutBwdX m →
    θ_run (Cert.OutBwdX.defs (F := Bits)) (onTc (τ := Cert.OutBwdX.τ) (Cert.OutBwdX.main (F := Bits))) ⟨m, fun _ => 0, g⟩ (fun r => (∀ c : Dev Cert.OutBwdX.nD,
      r.2.mem ((c.tc : Thread Cert.OutBwdX.nD Cert.OutBwdX.τ).loc Cert.OutBwdX.main_arg0) = m ((c.tc : Thread Cert.OutBwdX.nD Cert.OutBwdX.τ).loc Cert.OutBwdX.main_arg0)
      ∧ r.2.mem ((c.tc : Thread Cert.OutBwdX.nD Cert.OutBwdX.τ).loc Cert.OutBwdX.main_arg1) = m ((c.tc : Thread Cert.OutBwdX.nD Cert.OutBwdX.τ).loc Cert.OutBwdX.main_arg1))
      ∧ r.2.sem = fun _ => 0)

def quiescent_OutBwdXIdeal [hOutBwdXIdeal : Cert.OutBwdXIdeal.Facts] : Prop :=
  ∀ (m : (ℓ : Loc Cert.OutBwdXIdeal.nD Cert.OutBwdXIdeal.τ Cert.OutBwdXIdeal.sig) → Buf (Elt Ideal) ℓ) (g : Dev Cert.OutBwdXIdeal.nD → PrngReg), Pre_OutBwdXIdeal m →
    θ_run (Cert.OutBwdXIdeal.defs (F := Ideal)) (onTc (τ := Cert.OutBwdXIdeal.τ) (Cert.OutBwdXIdeal.main (F := Ideal))) ⟨m, fun _ => 0, g⟩ (fun r => (∀ c : Dev Cert.OutBwdXIdeal.nD,
      r.2.mem ((c.tc : Thread Cert.OutBwdXIdeal.nD Cert.OutBwdXIdeal.τ).loc Cert.OutBwdXIdeal.main_arg0) = m ((c.tc : Thread Cert.OutBwdXIdeal.nD Cert.OutBwdXIdeal.τ).loc Cert.OutBwdXIdeal.main_arg0)
      ∧ r.2.mem ((c.tc : Thread Cert.OutBwdXIdeal.nD Cert.OutBwdXIdeal.τ).loc Cert.OutBwdXIdeal.main_arg1) = m ((c.tc : Thread Cert.OutBwdXIdeal.nD Cert.OutBwdXIdeal.τ).loc Cert.OutBwdXIdeal.main_arg1))
      ∧ r.2.sem = fun _ => 0)

def quiescent_OutBwdXRefIdeal [hOutBwdXRefIdeal : Cert.OutBwdXRefIdeal.Facts] : Prop :=
  ∀ (m : (ℓ : Loc Cert.OutBwdXRefIdeal.nD Cert.OutBwdXRefIdeal.τ Cert.OutBwdXRefIdeal.sig) → Buf (Elt Ideal) ℓ) (g : Dev Cert.OutBwdXRefIdeal.nD → PrngReg), Pre_OutBwdXRefIdeal m →
    θ_run (Cert.OutBwdXRefIdeal.defs (F := Ideal)) (onTc (τ := Cert.OutBwdXRefIdeal.τ) (Cert.OutBwdXRefIdeal.main (F := Ideal))) ⟨m, fun _ => 0, g⟩ (fun r => (∀ c : Dev Cert.OutBwdXRefIdeal.nD,
      r.2.mem ((c.tc : Thread Cert.OutBwdXRefIdeal.nD Cert.OutBwdXRefIdeal.τ).loc Cert.OutBwdXRefIdeal.main_arg0) = m ((c.tc : Thread Cert.OutBwdXRefIdeal.nD Cert.OutBwdXRefIdeal.τ).loc Cert.OutBwdXRefIdeal.main_arg0)
      ∧ r.2.mem ((c.tc : Thread Cert.OutBwdXRefIdeal.nD Cert.OutBwdXRefIdeal.τ).loc Cert.OutBwdXRefIdeal.main_arg1) = m ((c.tc : Thread Cert.OutBwdXRefIdeal.nD Cert.OutBwdXRefIdeal.τ).loc Cert.OutBwdXRefIdeal.main_arg1))
      ∧ r.2.sem = fun _ => 0)

def quiescent_OutBwdW [hOutBwdW : Cert.OutBwdW.Facts] : Prop :=
  ∀ (m : (ℓ : Loc Cert.OutBwdW.nD Cert.OutBwdW.τ Cert.OutBwdW.sig) → Buf (Elt Bits) ℓ) (g : Dev Cert.OutBwdW.nD → PrngReg), Pre_OutBwdW m →
    θ_run (Cert.OutBwdW.defs (F := Bits)) (onTc (τ := Cert.OutBwdW.τ) (Cert.OutBwdW.main (F := Bits))) ⟨m, fun _ => 0, g⟩ (fun r => (∀ c : Dev Cert.OutBwdW.nD,
      r.2.mem ((c.tc : Thread Cert.OutBwdW.nD Cert.OutBwdW.τ).loc Cert.OutBwdW.main_arg0) = m ((c.tc : Thread Cert.OutBwdW.nD Cert.OutBwdW.τ).loc Cert.OutBwdW.main_arg0)
      ∧ r.2.mem ((c.tc : Thread Cert.OutBwdW.nD Cert.OutBwdW.τ).loc Cert.OutBwdW.main_arg1) = m ((c.tc : Thread Cert.OutBwdW.nD Cert.OutBwdW.τ).loc Cert.OutBwdW.main_arg1))
      ∧ r.2.sem = fun _ => 0)

def quiescent_OutBwdWIdeal [hOutBwdWIdeal : Cert.OutBwdWIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg), Pre_OutBwdWIdeal m →
    θ_run (Cert.OutBwdWIdeal.defs (F := Ideal)) (onTc (τ := Cert.OutBwdWIdeal.τ) (Cert.OutBwdWIdeal.main (F := Ideal))) ⟨m, fun _ => 0, g⟩ (fun r => (∀ c : Dev Cert.OutBwdWIdeal.nD,
      r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
      ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ r.2.sem = fun _ => 0)

def quiescent_OutBwdWRefIdeal [hOutBwdWRefIdeal : Cert.OutBwdWRefIdeal.Facts] : Prop :=
  ∀ (m : (ℓ : Loc Cert.OutBwdWRefIdeal.nD Cert.OutBwdWRefIdeal.τ Cert.OutBwdWRefIdeal.sig) → Buf (Elt Ideal) ℓ) (g : Dev Cert.OutBwdWRefIdeal.nD → PrngReg), Pre_OutBwdWRefIdeal m →
    θ_run (Cert.OutBwdWRefIdeal.defs (F := Ideal)) (onTc (τ := Cert.OutBwdWRefIdeal.τ) (Cert.OutBwdWRefIdeal.main (F := Ideal))) ⟨m, fun _ => 0, g⟩ (fun r => (∀ c : Dev Cert.OutBwdWRefIdeal.nD,
      r.2.mem ((c.tc : Thread Cert.OutBwdWRefIdeal.nD Cert.OutBwdWRefIdeal.τ).loc Cert.OutBwdWRefIdeal.main_arg0) = m ((c.tc : Thread Cert.OutBwdWRefIdeal.nD Cert.OutBwdWRefIdeal.τ).loc Cert.OutBwdWRefIdeal.main_arg0)
      ∧ r.2.mem ((c.tc : Thread Cert.OutBwdWRefIdeal.nD Cert.OutBwdWRefIdeal.τ).loc Cert.OutBwdWRefIdeal.main_arg1) = m ((c.tc : Thread Cert.OutBwdWRefIdeal.nD Cert.OutBwdWRefIdeal.τ).loc Cert.OutBwdWRefIdeal.main_arg1))
      ∧ r.2.sem = fun _ => 0)

def quiescent_BranchBwdX [hBranchBwdX : Cert.BranchBwdX.Facts] : Prop :=
  ∀ (m : (ℓ : Loc Cert.BranchBwdX.nD Cert.BranchBwdX.τ Cert.BranchBwdX.sig) → Buf (Elt Bits) ℓ) (g : Dev Cert.BranchBwdX.nD → PrngReg), Pre_BranchBwdX m →
    θ_run (Cert.BranchBwdX.defs (F := Bits)) (onTc (τ := Cert.BranchBwdX.τ) (Cert.BranchBwdX.main (F := Bits))) ⟨m, fun _ => 0, g⟩ (fun r => (∀ c : Dev Cert.BranchBwdX.nD,
      r.2.mem ((c.tc : Thread Cert.BranchBwdX.nD Cert.BranchBwdX.τ).loc Cert.BranchBwdX.main_arg0) = m ((c.tc : Thread Cert.BranchBwdX.nD Cert.BranchBwdX.τ).loc Cert.BranchBwdX.main_arg0)
      ∧ r.2.mem ((c.tc : Thread Cert.BranchBwdX.nD Cert.BranchBwdX.τ).loc Cert.BranchBwdX.main_arg1) = m ((c.tc : Thread Cert.BranchBwdX.nD Cert.BranchBwdX.τ).loc Cert.BranchBwdX.main_arg1))
      ∧ r.2.sem = fun _ => 0)

def quiescent_BranchBwdXIdeal [hBranchBwdXIdeal : Cert.BranchBwdXIdeal.Facts] : Prop :=
  ∀ (m : (ℓ : Loc Cert.BranchBwdXIdeal.nD Cert.BranchBwdXIdeal.τ Cert.BranchBwdXIdeal.sig) → Buf (Elt Ideal) ℓ) (g : Dev Cert.BranchBwdXIdeal.nD → PrngReg), Pre_BranchBwdXIdeal m →
    θ_run (Cert.BranchBwdXIdeal.defs (F := Ideal)) (onTc (τ := Cert.BranchBwdXIdeal.τ) (Cert.BranchBwdXIdeal.main (F := Ideal))) ⟨m, fun _ => 0, g⟩ (fun r => (∀ c : Dev Cert.BranchBwdXIdeal.nD,
      r.2.mem ((c.tc : Thread Cert.BranchBwdXIdeal.nD Cert.BranchBwdXIdeal.τ).loc Cert.BranchBwdXIdeal.main_arg0) = m ((c.tc : Thread Cert.BranchBwdXIdeal.nD Cert.BranchBwdXIdeal.τ).loc Cert.BranchBwdXIdeal.main_arg0)
      ∧ r.2.mem ((c.tc : Thread Cert.BranchBwdXIdeal.nD Cert.BranchBwdXIdeal.τ).loc Cert.BranchBwdXIdeal.main_arg1) = m ((c.tc : Thread Cert.BranchBwdXIdeal.nD Cert.BranchBwdXIdeal.τ).loc Cert.BranchBwdXIdeal.main_arg1))
      ∧ r.2.sem = fun _ => 0)

def quiescent_BranchBwdXRefIdeal [hBranchBwdXRefIdeal : Cert.BranchBwdXRefIdeal.Facts] : Prop :=
  ∀ (m : (ℓ : Loc Cert.BranchBwdXRefIdeal.nD Cert.BranchBwdXRefIdeal.τ Cert.BranchBwdXRefIdeal.sig) → Buf (Elt Ideal) ℓ) (g : Dev Cert.BranchBwdXRefIdeal.nD → PrngReg), Pre_BranchBwdXRefIdeal m →
    θ_run (Cert.BranchBwdXRefIdeal.defs (F := Ideal)) (onTc (τ := Cert.BranchBwdXRefIdeal.τ) (Cert.BranchBwdXRefIdeal.main (F := Ideal))) ⟨m, fun _ => 0, g⟩ (fun r => (∀ c : Dev Cert.BranchBwdXRefIdeal.nD,
      r.2.mem ((c.tc : Thread Cert.BranchBwdXRefIdeal.nD Cert.BranchBwdXRefIdeal.τ).loc Cert.BranchBwdXRefIdeal.main_arg0) = m ((c.tc : Thread Cert.BranchBwdXRefIdeal.nD Cert.BranchBwdXRefIdeal.τ).loc Cert.BranchBwdXRefIdeal.main_arg0)
      ∧ r.2.mem ((c.tc : Thread Cert.BranchBwdXRefIdeal.nD Cert.BranchBwdXRefIdeal.τ).loc Cert.BranchBwdXRefIdeal.main_arg1) = m ((c.tc : Thread Cert.BranchBwdXRefIdeal.nD Cert.BranchBwdXRefIdeal.τ).loc Cert.BranchBwdXRefIdeal.main_arg1))
      ∧ r.2.sem = fun _ => 0)

def quiescent_BranchABwdW [hBranchABwdW : Cert.BranchABwdW.Facts] : Prop :=
  ∀ (m : (ℓ : Loc Cert.BranchABwdW.nD Cert.BranchABwdW.τ Cert.BranchABwdW.sig) → Buf (Elt Bits) ℓ) (g : Dev Cert.BranchABwdW.nD → PrngReg), Pre_BranchABwdW m →
    θ_run (Cert.BranchABwdW.defs (F := Bits)) (onTc (τ := Cert.BranchABwdW.τ) (Cert.BranchABwdW.main (F := Bits))) ⟨m, fun _ => 0, g⟩ (fun r => (∀ c : Dev Cert.BranchABwdW.nD,
      r.2.mem ((c.tc : Thread Cert.BranchABwdW.nD Cert.BranchABwdW.τ).loc Cert.BranchABwdW.main_arg0) = m ((c.tc : Thread Cert.BranchABwdW.nD Cert.BranchABwdW.τ).loc Cert.BranchABwdW.main_arg0)
      ∧ r.2.mem ((c.tc : Thread Cert.BranchABwdW.nD Cert.BranchABwdW.τ).loc Cert.BranchABwdW.main_arg1) = m ((c.tc : Thread Cert.BranchABwdW.nD Cert.BranchABwdW.τ).loc Cert.BranchABwdW.main_arg1))
      ∧ r.2.sem = fun _ => 0)

def quiescent_BranchABwdWIdeal [hBranchABwdWIdeal : Cert.BranchABwdWIdeal.Facts] : Prop :=
  ∀ (m : (ℓ : Loc Cert.BranchABwdWIdeal.nD Cert.BranchABwdWIdeal.τ Cert.BranchABwdWIdeal.sig) → Buf (Elt Ideal) ℓ) (g : Dev Cert.BranchABwdWIdeal.nD → PrngReg), Pre_BranchABwdWIdeal m →
    θ_run (Cert.BranchABwdWIdeal.defs (F := Ideal)) (onTc (τ := Cert.BranchABwdWIdeal.τ) (Cert.BranchABwdWIdeal.main (F := Ideal))) ⟨m, fun _ => 0, g⟩ (fun r => (∀ c : Dev Cert.BranchABwdWIdeal.nD,
      r.2.mem ((c.tc : Thread Cert.BranchABwdWIdeal.nD Cert.BranchABwdWIdeal.τ).loc Cert.BranchABwdWIdeal.main_arg0) = m ((c.tc : Thread Cert.BranchABwdWIdeal.nD Cert.BranchABwdWIdeal.τ).loc Cert.BranchABwdWIdeal.main_arg0)
      ∧ r.2.mem ((c.tc : Thread Cert.BranchABwdWIdeal.nD Cert.BranchABwdWIdeal.τ).loc Cert.BranchABwdWIdeal.main_arg1) = m ((c.tc : Thread Cert.BranchABwdWIdeal.nD Cert.BranchABwdWIdeal.τ).loc Cert.BranchABwdWIdeal.main_arg1))
      ∧ r.2.sem = fun _ => 0)

def quiescent_BranchABwdWRefIdeal [hBranchABwdWRefIdeal : Cert.BranchABwdWRefIdeal.Facts] : Prop :=
  ∀ (m : (ℓ : Loc Cert.BranchABwdWRefIdeal.nD Cert.BranchABwdWRefIdeal.τ Cert.BranchABwdWRefIdeal.sig) → Buf (Elt Ideal) ℓ) (g : Dev Cert.BranchABwdWRefIdeal.nD → PrngReg), Pre_BranchABwdWRefIdeal m →
    θ_run (Cert.BranchABwdWRefIdeal.defs (F := Ideal)) (onTc (τ := Cert.BranchABwdWRefIdeal.τ) (Cert.BranchABwdWRefIdeal.main (F := Ideal))) ⟨m, fun _ => 0, g⟩ (fun r => (∀ c : Dev Cert.BranchABwdWRefIdeal.nD,
      r.2.mem ((c.tc : Thread Cert.BranchABwdWRefIdeal.nD Cert.BranchABwdWRefIdeal.τ).loc Cert.BranchABwdWRefIdeal.main_arg0) = m ((c.tc : Thread Cert.BranchABwdWRefIdeal.nD Cert.BranchABwdWRefIdeal.τ).loc Cert.BranchABwdWRefIdeal.main_arg0)
      ∧ r.2.mem ((c.tc : Thread Cert.BranchABwdWRefIdeal.nD Cert.BranchABwdWRefIdeal.τ).loc Cert.BranchABwdWRefIdeal.main_arg1) = m ((c.tc : Thread Cert.BranchABwdWRefIdeal.nD Cert.BranchABwdWRefIdeal.τ).loc Cert.BranchABwdWRefIdeal.main_arg1))
      ∧ r.2.sem = fun _ => 0)

def quiescent_BranchBBwdW [hBranchBBwdW : Cert.BranchBBwdW.Facts] : Prop :=
  ∀ (m : (ℓ : Loc Cert.BranchBBwdW.nD Cert.BranchBBwdW.τ Cert.BranchBBwdW.sig) → Buf (Elt Bits) ℓ) (g : Dev Cert.BranchBBwdW.nD → PrngReg), Pre_BranchBBwdW m →
    θ_run (Cert.BranchBBwdW.defs (F := Bits)) (onTc (τ := Cert.BranchBBwdW.τ) (Cert.BranchBBwdW.main (F := Bits))) ⟨m, fun _ => 0, g⟩ (fun r => (∀ c : Dev Cert.BranchBBwdW.nD,
      r.2.mem ((c.tc : Thread Cert.BranchBBwdW.nD Cert.BranchBBwdW.τ).loc Cert.BranchBBwdW.main_arg0) = m ((c.tc : Thread Cert.BranchBBwdW.nD Cert.BranchBBwdW.τ).loc Cert.BranchBBwdW.main_arg0)
      ∧ r.2.mem ((c.tc : Thread Cert.BranchBBwdW.nD Cert.BranchBBwdW.τ).loc Cert.BranchBBwdW.main_arg1) = m ((c.tc : Thread Cert.BranchBBwdW.nD Cert.BranchBBwdW.τ).loc Cert.BranchBBwdW.main_arg1))
      ∧ r.2.sem = fun _ => 0)

def quiescent_BranchBBwdWIdeal [hBranchBBwdWIdeal : Cert.BranchBBwdWIdeal.Facts] : Prop :=
  ∀ (m : (ℓ : Loc Cert.BranchBBwdWIdeal.nD Cert.BranchBBwdWIdeal.τ Cert.BranchBBwdWIdeal.sig) → Buf (Elt Ideal) ℓ) (g : Dev Cert.BranchBBwdWIdeal.nD → PrngReg), Pre_BranchBBwdWIdeal m →
    θ_run (Cert.BranchBBwdWIdeal.defs (F := Ideal)) (onTc (τ := Cert.BranchBBwdWIdeal.τ) (Cert.BranchBBwdWIdeal.main (F := Ideal))) ⟨m, fun _ => 0, g⟩ (fun r => (∀ c : Dev Cert.BranchBBwdWIdeal.nD,
      r.2.mem ((c.tc : Thread Cert.BranchBBwdWIdeal.nD Cert.BranchBBwdWIdeal.τ).loc Cert.BranchBBwdWIdeal.main_arg0) = m ((c.tc : Thread Cert.BranchBBwdWIdeal.nD Cert.BranchBBwdWIdeal.τ).loc Cert.BranchBBwdWIdeal.main_arg0)
      ∧ r.2.mem ((c.tc : Thread Cert.BranchBBwdWIdeal.nD Cert.BranchBBwdWIdeal.τ).loc Cert.BranchBBwdWIdeal.main_arg1) = m ((c.tc : Thread Cert.BranchBBwdWIdeal.nD Cert.BranchBBwdWIdeal.τ).loc Cert.BranchBBwdWIdeal.main_arg1))
      ∧ r.2.sem = fun _ => 0)

def quiescent_BranchBBwdWRefIdeal [hBranchBBwdWRefIdeal : Cert.BranchBBwdWRefIdeal.Facts] : Prop :=
  ∀ (m : (ℓ : Loc Cert.BranchBBwdWRefIdeal.nD Cert.BranchBBwdWRefIdeal.τ Cert.BranchBBwdWRefIdeal.sig) → Buf (Elt Ideal) ℓ) (g : Dev Cert.BranchBBwdWRefIdeal.nD → PrngReg), Pre_BranchBBwdWRefIdeal m →
    θ_run (Cert.BranchBBwdWRefIdeal.defs (F := Ideal)) (onTc (τ := Cert.BranchBBwdWRefIdeal.τ) (Cert.BranchBBwdWRefIdeal.main (F := Ideal))) ⟨m, fun _ => 0, g⟩ (fun r => (∀ c : Dev Cert.BranchBBwdWRefIdeal.nD,
      r.2.mem ((c.tc : Thread Cert.BranchBBwdWRefIdeal.nD Cert.BranchBBwdWRefIdeal.τ).loc Cert.BranchBBwdWRefIdeal.main_arg0) = m ((c.tc : Thread Cert.BranchBBwdWRefIdeal.nD Cert.BranchBBwdWRefIdeal.τ).loc Cert.BranchBBwdWRefIdeal.main_arg0)
      ∧ r.2.mem ((c.tc : Thread Cert.BranchBBwdWRefIdeal.nD Cert.BranchBBwdWRefIdeal.τ).loc Cert.BranchBBwdWRefIdeal.main_arg1) = m ((c.tc : Thread Cert.BranchBBwdWRefIdeal.nD Cert.BranchBBwdWRefIdeal.τ).loc Cert.BranchBBwdWRefIdeal.main_arg1))
      ∧ r.2.sem = fun _ => 0)

def quiescent_ForgetBwdX [hForgetBwdX : Cert.ForgetBwdX.Facts] : Prop :=
  ∀ (m : (ℓ : Loc Cert.ForgetBwdX.nD Cert.ForgetBwdX.τ Cert.ForgetBwdX.sig) → Buf (Elt Bits) ℓ) (g : Dev Cert.ForgetBwdX.nD → PrngReg), Pre_ForgetBwdX m →
    θ_run (Cert.ForgetBwdX.defs (F := Bits)) (onTc (τ := Cert.ForgetBwdX.τ) (Cert.ForgetBwdX.main (F := Bits))) ⟨m, fun _ => 0, g⟩ (fun r => (∀ c : Dev Cert.ForgetBwdX.nD,
      r.2.mem ((c.tc : Thread Cert.ForgetBwdX.nD Cert.ForgetBwdX.τ).loc Cert.ForgetBwdX.main_arg0) = m ((c.tc : Thread Cert.ForgetBwdX.nD Cert.ForgetBwdX.τ).loc Cert.ForgetBwdX.main_arg0)
      ∧ r.2.mem ((c.tc : Thread Cert.ForgetBwdX.nD Cert.ForgetBwdX.τ).loc Cert.ForgetBwdX.main_arg1) = m ((c.tc : Thread Cert.ForgetBwdX.nD Cert.ForgetBwdX.τ).loc Cert.ForgetBwdX.main_arg1))
      ∧ r.2.sem = fun _ => 0)

def quiescent_ForgetBwdXIdeal [hForgetBwdXIdeal : Cert.ForgetBwdXIdeal.Facts] : Prop :=
  ∀ (m : (ℓ : Loc Cert.ForgetBwdXIdeal.nD Cert.ForgetBwdXIdeal.τ Cert.ForgetBwdXIdeal.sig) → Buf (Elt Ideal) ℓ) (g : Dev Cert.ForgetBwdXIdeal.nD → PrngReg), Pre_ForgetBwdXIdeal m →
    θ_run (Cert.ForgetBwdXIdeal.defs (F := Ideal)) (onTc (τ := Cert.ForgetBwdXIdeal.τ) (Cert.ForgetBwdXIdeal.main (F := Ideal))) ⟨m, fun _ => 0, g⟩ (fun r => (∀ c : Dev Cert.ForgetBwdXIdeal.nD,
      r.2.mem ((c.tc : Thread Cert.ForgetBwdXIdeal.nD Cert.ForgetBwdXIdeal.τ).loc Cert.ForgetBwdXIdeal.main_arg0) = m ((c.tc : Thread Cert.ForgetBwdXIdeal.nD Cert.ForgetBwdXIdeal.τ).loc Cert.ForgetBwdXIdeal.main_arg0)
      ∧ r.2.mem ((c.tc : Thread Cert.ForgetBwdXIdeal.nD Cert.ForgetBwdXIdeal.τ).loc Cert.ForgetBwdXIdeal.main_arg1) = m ((c.tc : Thread Cert.ForgetBwdXIdeal.nD Cert.ForgetBwdXIdeal.τ).loc Cert.ForgetBwdXIdeal.main_arg1))
      ∧ r.2.sem = fun _ => 0)

def quiescent_ForgetBwdXRefIdeal [hForgetBwdXRefIdeal : Cert.ForgetBwdXRefIdeal.Facts] : Prop :=
  ∀ (m : (ℓ : Loc Cert.ForgetBwdXRefIdeal.nD Cert.ForgetBwdXRefIdeal.τ Cert.ForgetBwdXRefIdeal.sig) → Buf (Elt Ideal) ℓ) (g : Dev Cert.ForgetBwdXRefIdeal.nD → PrngReg), Pre_ForgetBwdXRefIdeal m →
    θ_run (Cert.ForgetBwdXRefIdeal.defs (F := Ideal)) (onTc (τ := Cert.ForgetBwdXRefIdeal.τ) (Cert.ForgetBwdXRefIdeal.main (F := Ideal))) ⟨m, fun _ => 0, g⟩ (fun r => (∀ c : Dev Cert.ForgetBwdXRefIdeal.nD,
      r.2.mem ((c.tc : Thread Cert.ForgetBwdXRefIdeal.nD Cert.ForgetBwdXRefIdeal.τ).loc Cert.ForgetBwdXRefIdeal.main_arg0) = m ((c.tc : Thread Cert.ForgetBwdXRefIdeal.nD Cert.ForgetBwdXRefIdeal.τ).loc Cert.ForgetBwdXRefIdeal.main_arg0)
      ∧ r.2.mem ((c.tc : Thread Cert.ForgetBwdXRefIdeal.nD Cert.ForgetBwdXRefIdeal.τ).loc Cert.ForgetBwdXRefIdeal.main_arg1) = m ((c.tc : Thread Cert.ForgetBwdXRefIdeal.nD Cert.ForgetBwdXRefIdeal.τ).loc Cert.ForgetBwdXRefIdeal.main_arg1))
      ∧ r.2.sem = fun _ => 0)

def quiescent_ForgetBwdW [hForgetBwdW : Cert.ForgetBwdW.Facts] : Prop :=
  ∀ (m : (ℓ : Loc Cert.ForgetBwdW.nD Cert.ForgetBwdW.τ Cert.ForgetBwdW.sig) → Buf (Elt Bits) ℓ) (g : Dev Cert.ForgetBwdW.nD → PrngReg), Pre_ForgetBwdW m →
    θ_run (Cert.ForgetBwdW.defs (F := Bits)) (onTc (τ := Cert.ForgetBwdW.τ) (Cert.ForgetBwdW.main (F := Bits))) ⟨m, fun _ => 0, g⟩ (fun r => (∀ c : Dev Cert.ForgetBwdW.nD,
      r.2.mem ((c.tc : Thread Cert.ForgetBwdW.nD Cert.ForgetBwdW.τ).loc Cert.ForgetBwdW.main_arg0) = m ((c.tc : Thread Cert.ForgetBwdW.nD Cert.ForgetBwdW.τ).loc Cert.ForgetBwdW.main_arg0)
      ∧ r.2.mem ((c.tc : Thread Cert.ForgetBwdW.nD Cert.ForgetBwdW.τ).loc Cert.ForgetBwdW.main_arg1) = m ((c.tc : Thread Cert.ForgetBwdW.nD Cert.ForgetBwdW.τ).loc Cert.ForgetBwdW.main_arg1))
      ∧ r.2.sem = fun _ => 0)

def quiescent_ForgetBwdWIdeal [hForgetBwdWIdeal : Cert.ForgetBwdWIdeal.Facts] : Prop :=
  ∀ (m : (ℓ : Loc Cert.ForgetBwdWIdeal.nD Cert.ForgetBwdWIdeal.τ Cert.ForgetBwdWIdeal.sig) → Buf (Elt Ideal) ℓ) (g : Dev Cert.ForgetBwdWIdeal.nD → PrngReg), Pre_ForgetBwdWIdeal m →
    θ_run (Cert.ForgetBwdWIdeal.defs (F := Ideal)) (onTc (τ := Cert.ForgetBwdWIdeal.τ) (Cert.ForgetBwdWIdeal.main (F := Ideal))) ⟨m, fun _ => 0, g⟩ (fun r => (∀ c : Dev Cert.ForgetBwdWIdeal.nD,
      r.2.mem ((c.tc : Thread Cert.ForgetBwdWIdeal.nD Cert.ForgetBwdWIdeal.τ).loc Cert.ForgetBwdWIdeal.main_arg0) = m ((c.tc : Thread Cert.ForgetBwdWIdeal.nD Cert.ForgetBwdWIdeal.τ).loc Cert.ForgetBwdWIdeal.main_arg0)
      ∧ r.2.mem ((c.tc : Thread Cert.ForgetBwdWIdeal.nD Cert.ForgetBwdWIdeal.τ).loc Cert.ForgetBwdWIdeal.main_arg1) = m ((c.tc : Thread Cert.ForgetBwdWIdeal.nD Cert.ForgetBwdWIdeal.τ).loc Cert.ForgetBwdWIdeal.main_arg1))
      ∧ r.2.sem = fun _ => 0)

def quiescent_ForgetBwdWRefIdeal [hForgetBwdWRefIdeal : Cert.ForgetBwdWRefIdeal.Facts] : Prop :=
  ∀ (m : (ℓ : Loc Cert.ForgetBwdWRefIdeal.nD Cert.ForgetBwdWRefIdeal.τ Cert.ForgetBwdWRefIdeal.sig) → Buf (Elt Ideal) ℓ) (g : Dev Cert.ForgetBwdWRefIdeal.nD → PrngReg), Pre_ForgetBwdWRefIdeal m →
    θ_run (Cert.ForgetBwdWRefIdeal.defs (F := Ideal)) (onTc (τ := Cert.ForgetBwdWRefIdeal.τ) (Cert.ForgetBwdWRefIdeal.main (F := Ideal))) ⟨m, fun _ => 0, g⟩ (fun r => (∀ c : Dev Cert.ForgetBwdWRefIdeal.nD,
      r.2.mem ((c.tc : Thread Cert.ForgetBwdWRefIdeal.nD Cert.ForgetBwdWRefIdeal.τ).loc Cert.ForgetBwdWRefIdeal.main_arg0) = m ((c.tc : Thread Cert.ForgetBwdWRefIdeal.nD Cert.ForgetBwdWRefIdeal.τ).loc Cert.ForgetBwdWRefIdeal.main_arg0)
      ∧ r.2.mem ((c.tc : Thread Cert.ForgetBwdWRefIdeal.nD Cert.ForgetBwdWRefIdeal.τ).loc Cert.ForgetBwdWRefIdeal.main_arg1) = m ((c.tc : Thread Cert.ForgetBwdWRefIdeal.nD Cert.ForgetBwdWRefIdeal.τ).loc Cert.ForgetBwdWRefIdeal.main_arg1))
      ∧ r.2.sem = fun _ => 0)

def quiescent_WideFwd [hWideFwd : Cert.WideFwd.Facts] : Prop :=
  ∀ (m : (ℓ : Loc Cert.WideFwd.nD Cert.WideFwd.τ Cert.WideFwd.sig) → Buf (Elt Bits) ℓ) (g : Dev Cert.WideFwd.nD → PrngReg), Pre_WideFwd m →
    θ_run (Cert.WideFwd.defs (F := Bits)) (onTc (τ := Cert.WideFwd.τ) (Cert.WideFwd.main (F := Bits))) ⟨m, fun _ => 0, g⟩ (fun r => (∀ c : Dev Cert.WideFwd.nD,
      r.2.mem ((c.tc : Thread Cert.WideFwd.nD Cert.WideFwd.τ).loc Cert.WideFwd.main_arg0) = m ((c.tc : Thread Cert.WideFwd.nD Cert.WideFwd.τ).loc Cert.WideFwd.main_arg0)
      ∧ r.2.mem ((c.tc : Thread Cert.WideFwd.nD Cert.WideFwd.τ).loc Cert.WideFwd.main_arg1) = m ((c.tc : Thread Cert.WideFwd.nD Cert.WideFwd.τ).loc Cert.WideFwd.main_arg1))
      ∧ r.2.sem = fun _ => 0)

def quiescent_WideFwdIdeal [hWideFwdIdeal : Cert.WideFwdIdeal.Facts] : Prop :=
  ∀ (m : (ℓ : Loc Cert.WideFwdIdeal.nD Cert.WideFwdIdeal.τ Cert.WideFwdIdeal.sig) → Buf (Elt Ideal) ℓ) (g : Dev Cert.WideFwdIdeal.nD → PrngReg), Pre_WideFwdIdeal m →
    θ_run (Cert.WideFwdIdeal.defs (F := Ideal)) (onTc (τ := Cert.WideFwdIdeal.τ) (Cert.WideFwdIdeal.main (F := Ideal))) ⟨m, fun _ => 0, g⟩ (fun r => (∀ c : Dev Cert.WideFwdIdeal.nD,
      r.2.mem ((c.tc : Thread Cert.WideFwdIdeal.nD Cert.WideFwdIdeal.τ).loc Cert.WideFwdIdeal.main_arg0) = m ((c.tc : Thread Cert.WideFwdIdeal.nD Cert.WideFwdIdeal.τ).loc Cert.WideFwdIdeal.main_arg0)
      ∧ r.2.mem ((c.tc : Thread Cert.WideFwdIdeal.nD Cert.WideFwdIdeal.τ).loc Cert.WideFwdIdeal.main_arg1) = m ((c.tc : Thread Cert.WideFwdIdeal.nD Cert.WideFwdIdeal.τ).loc Cert.WideFwdIdeal.main_arg1))
      ∧ r.2.sem = fun _ => 0)

def quiescent_WideFwdRefIdeal [hWideFwdRefIdeal : Cert.WideFwdRefIdeal.Facts] : Prop :=
  ∀ (m : (ℓ : Loc Cert.WideFwdRefIdeal.nD Cert.WideFwdRefIdeal.τ Cert.WideFwdRefIdeal.sig) → Buf (Elt Ideal) ℓ) (g : Dev Cert.WideFwdRefIdeal.nD → PrngReg), Pre_WideFwdRefIdeal m →
    θ_run (Cert.WideFwdRefIdeal.defs (F := Ideal)) (onTc (τ := Cert.WideFwdRefIdeal.τ) (Cert.WideFwdRefIdeal.main (F := Ideal))) ⟨m, fun _ => 0, g⟩ (fun r => (∀ c : Dev Cert.WideFwdRefIdeal.nD,
      r.2.mem ((c.tc : Thread Cert.WideFwdRefIdeal.nD Cert.WideFwdRefIdeal.τ).loc Cert.WideFwdRefIdeal.main_arg0) = m ((c.tc : Thread Cert.WideFwdRefIdeal.nD Cert.WideFwdRefIdeal.τ).loc Cert.WideFwdRefIdeal.main_arg0)
      ∧ r.2.mem ((c.tc : Thread Cert.WideFwdRefIdeal.nD Cert.WideFwdRefIdeal.τ).loc Cert.WideFwdRefIdeal.main_arg1) = m ((c.tc : Thread Cert.WideFwdRefIdeal.nD Cert.WideFwdRefIdeal.τ).loc Cert.WideFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_BranchAFwd [hBranchAFwd : Cert.BranchAFwd.Facts] : Prop :=
  ∀ (m : (ℓ : Loc Cert.BranchAFwd.nD Cert.BranchAFwd.τ Cert.BranchAFwd.sig) → Buf (Elt Bits) ℓ) (g : Dev Cert.BranchAFwd.nD → PrngReg), Pre_BranchAFwd m →
    θ_run (Cert.BranchAFwd.defs (F := Bits)) (onTc (τ := Cert.BranchAFwd.τ) (Cert.BranchAFwd.main (F := Bits))) ⟨m, fun _ => 0, g⟩ (fun r => (∀ c : Dev Cert.BranchAFwd.nD,
      r.2.mem ((c.tc : Thread Cert.BranchAFwd.nD Cert.BranchAFwd.τ).loc Cert.BranchAFwd.main_arg0) = m ((c.tc : Thread Cert.BranchAFwd.nD Cert.BranchAFwd.τ).loc Cert.BranchAFwd.main_arg0)
      ∧ r.2.mem ((c.tc : Thread Cert.BranchAFwd.nD Cert.BranchAFwd.τ).loc Cert.BranchAFwd.main_arg1) = m ((c.tc : Thread Cert.BranchAFwd.nD Cert.BranchAFwd.τ).loc Cert.BranchAFwd.main_arg1))
      ∧ r.2.sem = fun _ => 0)

def quiescent_BranchAFwdIdeal [hBranchAFwdIdeal : Cert.BranchAFwdIdeal.Facts] : Prop :=
  ∀ (m : (ℓ : Loc Cert.BranchAFwdIdeal.nD Cert.BranchAFwdIdeal.τ Cert.BranchAFwdIdeal.sig) → Buf (Elt Ideal) ℓ) (g : Dev Cert.BranchAFwdIdeal.nD → PrngReg), Pre_BranchAFwdIdeal m →
    θ_run (Cert.BranchAFwdIdeal.defs (F := Ideal)) (onTc (τ := Cert.BranchAFwdIdeal.τ) (Cert.BranchAFwdIdeal.main (F := Ideal))) ⟨m, fun _ => 0, g⟩ (fun r => (∀ c : Dev Cert.BranchAFwdIdeal.nD,
      r.2.mem ((c.tc : Thread Cert.BranchAFwdIdeal.nD Cert.BranchAFwdIdeal.τ).loc Cert.BranchAFwdIdeal.main_arg0) = m ((c.tc : Thread Cert.BranchAFwdIdeal.nD Cert.BranchAFwdIdeal.τ).loc Cert.BranchAFwdIdeal.main_arg0)
      ∧ r.2.mem ((c.tc : Thread Cert.BranchAFwdIdeal.nD Cert.BranchAFwdIdeal.τ).loc Cert.BranchAFwdIdeal.main_arg1) = m ((c.tc : Thread Cert.BranchAFwdIdeal.nD Cert.BranchAFwdIdeal.τ).loc Cert.BranchAFwdIdeal.main_arg1))
      ∧ r.2.sem = fun _ => 0)

def quiescent_BranchAFwdRefIdeal [hBranchAFwdRefIdeal : Cert.BranchAFwdRefIdeal.Facts] : Prop :=
  ∀ (m : (ℓ : Loc Cert.BranchAFwdRefIdeal.nD Cert.BranchAFwdRefIdeal.τ Cert.BranchAFwdRefIdeal.sig) → Buf (Elt Ideal) ℓ) (g : Dev Cert.BranchAFwdRefIdeal.nD → PrngReg), Pre_BranchAFwdRefIdeal m →
    θ_run (Cert.BranchAFwdRefIdeal.defs (F := Ideal)) (onTc (τ := Cert.BranchAFwdRefIdeal.τ) (Cert.BranchAFwdRefIdeal.main (F := Ideal))) ⟨m, fun _ => 0, g⟩ (fun r => (∀ c : Dev Cert.BranchAFwdRefIdeal.nD,
      r.2.mem ((c.tc : Thread Cert.BranchAFwdRefIdeal.nD Cert.BranchAFwdRefIdeal.τ).loc Cert.BranchAFwdRefIdeal.main_arg0) = m ((c.tc : Thread Cert.BranchAFwdRefIdeal.nD Cert.BranchAFwdRefIdeal.τ).loc Cert.BranchAFwdRefIdeal.main_arg0)
      ∧ r.2.mem ((c.tc : Thread Cert.BranchAFwdRefIdeal.nD Cert.BranchAFwdRefIdeal.τ).loc Cert.BranchAFwdRefIdeal.main_arg1) = m ((c.tc : Thread Cert.BranchAFwdRefIdeal.nD Cert.BranchAFwdRefIdeal.τ).loc Cert.BranchAFwdRefIdeal.main_arg1))
      ∧ r.2.sem = fun _ => 0)

def quiescent_BranchBFwd [hBranchBFwd : Cert.BranchBFwd.Facts] : Prop :=
  ∀ (m : (ℓ : Loc Cert.BranchBFwd.nD Cert.BranchBFwd.τ Cert.BranchBFwd.sig) → Buf (Elt Bits) ℓ) (g : Dev Cert.BranchBFwd.nD → PrngReg), Pre_BranchBFwd m →
    θ_run (Cert.BranchBFwd.defs (F := Bits)) (onTc (τ := Cert.BranchBFwd.τ) (Cert.BranchBFwd.main (F := Bits))) ⟨m, fun _ => 0, g⟩ (fun r => (∀ c : Dev Cert.BranchBFwd.nD,
      r.2.mem ((c.tc : Thread Cert.BranchBFwd.nD Cert.BranchBFwd.τ).loc Cert.BranchBFwd.main_arg0) = m ((c.tc : Thread Cert.BranchBFwd.nD Cert.BranchBFwd.τ).loc Cert.BranchBFwd.main_arg0)
      ∧ r.2.mem ((c.tc : Thread Cert.BranchBFwd.nD Cert.BranchBFwd.τ).loc Cert.BranchBFwd.main_arg1) = m ((c.tc : Thread Cert.BranchBFwd.nD Cert.BranchBFwd.τ).loc Cert.BranchBFwd.main_arg1))
      ∧ r.2.sem = fun _ => 0)

def quiescent_BranchBFwdIdeal [hBranchBFwdIdeal : Cert.BranchBFwdIdeal.Facts] : Prop :=
  ∀ (m : (ℓ : Loc Cert.BranchBFwdIdeal.nD Cert.BranchBFwdIdeal.τ Cert.BranchBFwdIdeal.sig) → Buf (Elt Ideal) ℓ) (g : Dev Cert.BranchBFwdIdeal.nD → PrngReg), Pre_BranchBFwdIdeal m →
    θ_run (Cert.BranchBFwdIdeal.defs (F := Ideal)) (onTc (τ := Cert.BranchBFwdIdeal.τ) (Cert.BranchBFwdIdeal.main (F := Ideal))) ⟨m, fun _ => 0, g⟩ (fun r => (∀ c : Dev Cert.BranchBFwdIdeal.nD,
      r.2.mem ((c.tc : Thread Cert.BranchBFwdIdeal.nD Cert.BranchBFwdIdeal.τ).loc Cert.BranchBFwdIdeal.main_arg0) = m ((c.tc : Thread Cert.BranchBFwdIdeal.nD Cert.BranchBFwdIdeal.τ).loc Cert.BranchBFwdIdeal.main_arg0)
      ∧ r.2.mem ((c.tc : Thread Cert.BranchBFwdIdeal.nD Cert.BranchBFwdIdeal.τ).loc Cert.BranchBFwdIdeal.main_arg1) = m ((c.tc : Thread Cert.BranchBFwdIdeal.nD Cert.BranchBFwdIdeal.τ).loc Cert.BranchBFwdIdeal.main_arg1))
      ∧ r.2.sem = fun _ => 0)

def quiescent_BranchBFwdRefIdeal [hBranchBFwdRefIdeal : Cert.BranchBFwdRefIdeal.Facts] : Prop :=
  ∀ (m : (ℓ : Loc Cert.BranchBFwdRefIdeal.nD Cert.BranchBFwdRefIdeal.τ Cert.BranchBFwdRefIdeal.sig) → Buf (Elt Ideal) ℓ) (g : Dev Cert.BranchBFwdRefIdeal.nD → PrngReg), Pre_BranchBFwdRefIdeal m →
    θ_run (Cert.BranchBFwdRefIdeal.defs (F := Ideal)) (onTc (τ := Cert.BranchBFwdRefIdeal.τ) (Cert.BranchBFwdRefIdeal.main (F := Ideal))) ⟨m, fun _ => 0, g⟩ (fun r => (∀ c : Dev Cert.BranchBFwdRefIdeal.nD,
      r.2.mem ((c.tc : Thread Cert.BranchBFwdRefIdeal.nD Cert.BranchBFwdRefIdeal.τ).loc Cert.BranchBFwdRefIdeal.main_arg0) = m ((c.tc : Thread Cert.BranchBFwdRefIdeal.nD Cert.BranchBFwdRefIdeal.τ).loc Cert.BranchBFwdRefIdeal.main_arg0)
      ∧ r.2.mem ((c.tc : Thread Cert.BranchBFwdRefIdeal.nD Cert.BranchBFwdRefIdeal.τ).loc Cert.BranchBFwdRefIdeal.main_arg1) = m ((c.tc : Thread Cert.BranchBFwdRefIdeal.nD Cert.BranchBFwdRefIdeal.τ).loc Cert.BranchBFwdRefIdeal.main_arg1))
      ∧ r.2.sem = fun _ => 0)

def quiescent_ForgetFwd [hForgetFwd : Cert.ForgetFwd.Facts] : Prop :=
  ∀ (m : (ℓ : Loc Cert.ForgetFwd.nD Cert.ForgetFwd.τ Cert.ForgetFwd.sig) → Buf (Elt Bits) ℓ) (g : Dev Cert.ForgetFwd.nD → PrngReg), Pre_ForgetFwd m →
    θ_run (Cert.ForgetFwd.defs (F := Bits)) (onTc (τ := Cert.ForgetFwd.τ) (Cert.ForgetFwd.main (F := Bits))) ⟨m, fun _ => 0, g⟩ (fun r => (∀ c : Dev Cert.ForgetFwd.nD,
      r.2.mem ((c.tc : Thread Cert.ForgetFwd.nD Cert.ForgetFwd.τ).loc Cert.ForgetFwd.main_arg0) = m ((c.tc : Thread Cert.ForgetFwd.nD Cert.ForgetFwd.τ).loc Cert.ForgetFwd.main_arg0)
      ∧ r.2.mem ((c.tc : Thread Cert.ForgetFwd.nD Cert.ForgetFwd.τ).loc Cert.ForgetFwd.main_arg1) = m ((c.tc : Thread Cert.ForgetFwd.nD Cert.ForgetFwd.τ).loc Cert.ForgetFwd.main_arg1))
      ∧ r.2.sem = fun _ => 0)

def quiescent_ForgetFwdIdeal [hForgetFwdIdeal : Cert.ForgetFwdIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg), Pre_ForgetFwdIdeal m →
    θ_run (Cert.ForgetFwdIdeal.defs (F := Ideal)) (onTc (τ := Cert.ForgetFwdIdeal.τ) (Cert.ForgetFwdIdeal.main (F := Ideal))) ⟨m, fun _ => 0, g⟩ (fun r => (∀ c : Dev Cert.ForgetFwdIdeal.nD,
      r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
      ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1))
      ∧ r.2.sem = fun _ => 0)

def quiescent_ForgetFwdRefIdeal [hForgetFwdRefIdeal : Cert.ForgetFwdRefIdeal.Facts] : Prop :=
  ∀ (m : (ℓ : Loc Cert.ForgetFwdRefIdeal.nD Cert.ForgetFwdRefIdeal.τ Cert.ForgetFwdRefIdeal.sig) → Buf (Elt Ideal) ℓ) (g : Dev Cert.ForgetFwdRefIdeal.nD → PrngReg), Pre_ForgetFwdRefIdeal m →
    θ_run (Cert.ForgetFwdRefIdeal.defs (F := Ideal)) (onTc (τ := Cert.ForgetFwdRefIdeal.τ) (Cert.ForgetFwdRefIdeal.main (F := Ideal))) ⟨m, fun _ => 0, g⟩ (fun r => (∀ c : Dev Cert.ForgetFwdRefIdeal.nD,
      r.2.mem ((c.tc : Thread Cert.ForgetFwdRefIdeal.nD Cert.ForgetFwdRefIdeal.τ).loc Cert.ForgetFwdRefIdeal.main_arg0) = m ((c.tc : Thread Cert.ForgetFwdRefIdeal.nD Cert.ForgetFwdRefIdeal.τ).loc Cert.ForgetFwdRefIdeal.main_arg0)
      ∧ r.2.mem ((c.tc : Thread Cert.ForgetFwdRefIdeal.nD Cert.ForgetFwdRefIdeal.τ).loc Cert.ForgetFwdRefIdeal.main_arg1) = m ((c.tc : Thread Cert.ForgetFwdRefIdeal.nD Cert.ForgetFwdRefIdeal.τ).loc Cert.ForgetFwdRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4)
      ∧ r.2.mem ((c.tc : Thread Cert.AdamBranch.nD Cert.AdamBranch.τ).loc Cert.AdamBranch.main_arg5) = m ((c.tc : Thread Cert.AdamBranch.nD Cert.AdamBranch.τ).loc Cert.AdamBranch.main_arg5))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
      ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4)
      ∧ r.2.mem ((c.tc : Thread Cert.AdamBranchRefIdeal.nD Cert.AdamBranchRefIdeal.τ).loc Cert.AdamBranchRefIdeal.main_arg5) = m ((c.tc : Thread Cert.AdamBranchRefIdeal.nD Cert.AdamBranchRefIdeal.τ).loc Cert.AdamBranchRefIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_Kernel_KernelIdeal : Prop :=
  True

def preserves_WideBwdX_WideBwdXIdeal : Prop :=
  True

def algebraic_WideBwdXIdeal_WideBwdXRefIdeal [hWideBwdXIdeal : Cert.WideBwdXIdeal.Facts] [hWideBwdXRefIdeal : Cert.WideBwdXRefIdeal.Facts] : Prop :=
  ∀ (m : (ℓ : Loc Cert.WideBwdXIdeal.nD Cert.WideBwdXIdeal.τ Cert.WideBwdXIdeal.sig) → Buf (Elt Ideal) ℓ) (g : Dev Cert.WideBwdXIdeal.nD → PrngReg)
    (m' : (ℓ : Loc Cert.WideBwdXRefIdeal.nD Cert.WideBwdXRefIdeal.τ Cert.WideBwdXRefIdeal.sig) → Buf (Elt Ideal) ℓ) (g' : Dev Cert.WideBwdXRefIdeal.nD → PrngReg), Pre_WideBwdXIdeal m →
    (∀ c : Dev Cert.WideBwdXIdeal.nD,
      m' ((c.tc : Thread Cert.WideBwdXRefIdeal.nD Cert.WideBwdXRefIdeal.τ).loc Cert.WideBwdXRefIdeal.main_arg0) = m ((c.tc : Thread Cert.WideBwdXIdeal.nD Cert.WideBwdXIdeal.τ).loc Cert.WideBwdXIdeal.main_arg0)
      ∧ m' ((c.tc : Thread Cert.WideBwdXRefIdeal.nD Cert.WideBwdXRefIdeal.τ).loc Cert.WideBwdXRefIdeal.main_arg1) = m ((c.tc : Thread Cert.WideBwdXIdeal.nD Cert.WideBwdXIdeal.τ).loc Cert.WideBwdXIdeal.main_arg1)) →
    ∃ (v0 : (c : Dev Cert.WideBwdXIdeal.nD) → Buf (Elt Ideal) ((c.tc : Thread Cert.WideBwdXIdeal.nD Cert.WideBwdXIdeal.τ).loc Cert.WideBwdXIdeal.main_v0)),
      θ_run (Cert.WideBwdXIdeal.defs (F := Ideal)) (onTc (τ := Cert.WideBwdXIdeal.τ) (Cert.WideBwdXIdeal.main (F := Ideal))) ⟨m, fun _ => 0, g⟩ (fun r => ∀ c : Dev Cert.WideBwdXIdeal.nD,
          r.2.mem ((c.tc : Thread Cert.WideBwdXIdeal.nD Cert.WideBwdXIdeal.τ).loc Cert.WideBwdXIdeal.main_v0) = v0 c
          ∧ r.2.mem ((c.tc : Thread Cert.WideBwdXIdeal.nD Cert.WideBwdXIdeal.τ).loc Cert.WideBwdXIdeal.main_arg0) = m ((c.tc : Thread Cert.WideBwdXIdeal.nD Cert.WideBwdXIdeal.τ).loc Cert.WideBwdXIdeal.main_arg0)
          ∧ r.2.mem ((c.tc : Thread Cert.WideBwdXIdeal.nD Cert.WideBwdXIdeal.τ).loc Cert.WideBwdXIdeal.main_arg1) = m ((c.tc : Thread Cert.WideBwdXIdeal.nD Cert.WideBwdXIdeal.τ).loc Cert.WideBwdXIdeal.main_arg1))
      ∧ θ_run (Cert.WideBwdXRefIdeal.defs (F := Ideal)) (onTc (τ := Cert.WideBwdXRefIdeal.τ) (Cert.WideBwdXRefIdeal.main (F := Ideal))) ⟨m', fun _ => 0, g'⟩ (fun r => ∀ c : Dev Cert.WideBwdXRefIdeal.nD,
          r.2.mem ((c.tc : Thread Cert.WideBwdXRefIdeal.nD Cert.WideBwdXRefIdeal.τ).loc Cert.WideBwdXRefIdeal.main_v5) = v0 c
          ∧ r.2.mem ((c.tc : Thread Cert.WideBwdXRefIdeal.nD Cert.WideBwdXRefIdeal.τ).loc Cert.WideBwdXRefIdeal.main_arg0) = m' ((c.tc : Thread Cert.WideBwdXRefIdeal.nD Cert.WideBwdXRefIdeal.τ).loc Cert.WideBwdXRefIdeal.main_arg0)
          ∧ r.2.mem ((c.tc : Thread Cert.WideBwdXRefIdeal.nD Cert.WideBwdXRefIdeal.τ).loc Cert.WideBwdXRefIdeal.main_arg1) = m' ((c.tc : Thread Cert.WideBwdXRefIdeal.nD Cert.WideBwdXRefIdeal.τ).loc Cert.WideBwdXRefIdeal.main_arg1))

def preserves_WideBwdW_WideBwdWIdeal : Prop :=
  True

def algebraic_WideBwdWIdeal_WideBwdWRefIdeal [hWideBwdWIdeal : Cert.WideBwdWIdeal.Facts] [hWideBwdWRefIdeal : Cert.WideBwdWRefIdeal.Facts] : Prop :=
  ∀ (m : (ℓ : Loc Cert.WideBwdWIdeal.nD Cert.WideBwdWIdeal.τ Cert.WideBwdWIdeal.sig) → Buf (Elt Ideal) ℓ) (g : Dev Cert.WideBwdWIdeal.nD → PrngReg)
    (m' : (ℓ : Loc Cert.WideBwdWRefIdeal.nD Cert.WideBwdWRefIdeal.τ Cert.WideBwdWRefIdeal.sig) → Buf (Elt Ideal) ℓ) (g' : Dev Cert.WideBwdWRefIdeal.nD → PrngReg), Pre_WideBwdWIdeal m →
    (∀ c : Dev Cert.WideBwdWIdeal.nD,
      m' ((c.tc : Thread Cert.WideBwdWRefIdeal.nD Cert.WideBwdWRefIdeal.τ).loc Cert.WideBwdWRefIdeal.main_arg0) = m ((c.tc : Thread Cert.WideBwdWIdeal.nD Cert.WideBwdWIdeal.τ).loc Cert.WideBwdWIdeal.main_arg0)
      ∧ m' ((c.tc : Thread Cert.WideBwdWRefIdeal.nD Cert.WideBwdWRefIdeal.τ).loc Cert.WideBwdWRefIdeal.main_arg1) = m ((c.tc : Thread Cert.WideBwdWIdeal.nD Cert.WideBwdWIdeal.τ).loc Cert.WideBwdWIdeal.main_arg1)) →
    ∃ (v0 : (c : Dev Cert.WideBwdWIdeal.nD) → Buf (Elt Ideal) ((c.tc : Thread Cert.WideBwdWIdeal.nD Cert.WideBwdWIdeal.τ).loc Cert.WideBwdWIdeal.main_v0)),
      θ_run (Cert.WideBwdWIdeal.defs (F := Ideal)) (onTc (τ := Cert.WideBwdWIdeal.τ) (Cert.WideBwdWIdeal.main (F := Ideal))) ⟨m, fun _ => 0, g⟩ (fun r => ∀ c : Dev Cert.WideBwdWIdeal.nD,
          r.2.mem ((c.tc : Thread Cert.WideBwdWIdeal.nD Cert.WideBwdWIdeal.τ).loc Cert.WideBwdWIdeal.main_v0) = v0 c
          ∧ r.2.mem ((c.tc : Thread Cert.WideBwdWIdeal.nD Cert.WideBwdWIdeal.τ).loc Cert.WideBwdWIdeal.main_arg0) = m ((c.tc : Thread Cert.WideBwdWIdeal.nD Cert.WideBwdWIdeal.τ).loc Cert.WideBwdWIdeal.main_arg0)
          ∧ r.2.mem ((c.tc : Thread Cert.WideBwdWIdeal.nD Cert.WideBwdWIdeal.τ).loc Cert.WideBwdWIdeal.main_arg1) = m ((c.tc : Thread Cert.WideBwdWIdeal.nD Cert.WideBwdWIdeal.τ).loc Cert.WideBwdWIdeal.main_arg1))
      ∧ θ_run (Cert.WideBwdWRefIdeal.defs (F := Ideal)) (onTc (τ := Cert.WideBwdWRefIdeal.τ) (Cert.WideBwdWRefIdeal.main (F := Ideal))) ⟨m', fun _ => 0, g'⟩ (fun r => ∀ c : Dev Cert.WideBwdWRefIdeal.nD,
          r.2.mem ((c.tc : Thread Cert.WideBwdWRefIdeal.nD Cert.WideBwdWRefIdeal.τ).loc Cert.WideBwdWRefIdeal.main_v5) = v0 c
          ∧ r.2.mem ((c.tc : Thread Cert.WideBwdWRefIdeal.nD Cert.WideBwdWRefIdeal.τ).loc Cert.WideBwdWRefIdeal.main_arg0) = m' ((c.tc : Thread Cert.WideBwdWRefIdeal.nD Cert.WideBwdWRefIdeal.τ).loc Cert.WideBwdWRefIdeal.main_arg0)
          ∧ r.2.mem ((c.tc : Thread Cert.WideBwdWRefIdeal.nD Cert.WideBwdWRefIdeal.τ).loc Cert.WideBwdWRefIdeal.main_arg1) = m' ((c.tc : Thread Cert.WideBwdWRefIdeal.nD Cert.WideBwdWRefIdeal.τ).loc Cert.WideBwdWRefIdeal.main_arg1))

def preserves_UpBwdW_UpBwdWIdeal : Prop :=
  True

def algebraic_UpBwdWIdeal_UpBwdWRefIdeal [hUpBwdWIdeal : Cert.UpBwdWIdeal.Facts] [hUpBwdWRefIdeal : Cert.UpBwdWRefIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg)
    (m' : (ℓ : Loc Cert.UpBwdWRefIdeal.nD Cert.UpBwdWRefIdeal.τ Cert.UpBwdWRefIdeal.sig) → Buf (Elt Ideal) ℓ) (g' : Dev Cert.UpBwdWRefIdeal.nD → PrngReg), Pre_UpBwdWIdeal m →
    (∀ c : Dev Cert.UpBwdWIdeal.nD,
      m' ((c.tc : Thread Cert.UpBwdWRefIdeal.nD Cert.UpBwdWRefIdeal.τ).loc Cert.UpBwdWRefIdeal.main_arg0) = m ((c.tc : Thread Cert.UpBwdWIdeal.nD Cert.UpBwdWIdeal.τ).loc Cert.UpBwdWIdeal.main_arg0)
      ∧ m' ((c.tc : Thread Cert.UpBwdWRefIdeal.nD Cert.UpBwdWRefIdeal.τ).loc Cert.UpBwdWRefIdeal.main_arg1) = m ((c.tc : Thread Cert.UpBwdWIdeal.nD Cert.UpBwdWIdeal.τ).loc Cert.UpBwdWIdeal.main_arg1)) →
    ∃ (v0 : (c : Dev Cert.UpBwdWIdeal.nD) → Buf (Elt Ideal) ((c.tc : Thread Cert.UpBwdWIdeal.nD Cert.UpBwdWIdeal.τ).loc Cert.UpBwdWIdeal.main_v0)),
      θ_run (Cert.UpBwdWIdeal.defs (F := Ideal)) (onTc (τ := Cert.UpBwdWIdeal.τ) (Cert.UpBwdWIdeal.main (F := Ideal))) ⟨m, fun _ => 0, g⟩ (fun r => ∀ c : Dev Cert.UpBwdWIdeal.nD,
          r.2.mem ((c.tc : Thread Cert.UpBwdWIdeal.nD Cert.UpBwdWIdeal.τ).loc Cert.UpBwdWIdeal.main_v0) = v0 c
          ∧ r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
          ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1))
      ∧ θ_run (Cert.UpBwdWRefIdeal.defs (F := Ideal)) (onTc (τ := Cert.UpBwdWRefIdeal.τ) (Cert.UpBwdWRefIdeal.main (F := Ideal))) ⟨m', fun _ => 0, g'⟩ (fun r => ∀ c : Dev Cert.UpBwdWRefIdeal.nD,
          r.2.mem ((c.tc : Thread Cert.UpBwdWRefIdeal.nD Cert.UpBwdWRefIdeal.τ).loc Cert.UpBwdWRefIdeal.main_v7) = v0 c
          ∧ r.2.mem ((c.tc : Thread Cert.UpBwdWRefIdeal.nD Cert.UpBwdWRefIdeal.τ).loc Cert.UpBwdWRefIdeal.main_arg0) = m' ((c.tc : Thread Cert.UpBwdWRefIdeal.nD Cert.UpBwdWRefIdeal.τ).loc Cert.UpBwdWRefIdeal.main_arg0)
          ∧ r.2.mem ((c.tc : Thread Cert.UpBwdWRefIdeal.nD Cert.UpBwdWRefIdeal.τ).loc Cert.UpBwdWRefIdeal.main_arg1) = m' ((c.tc : Thread Cert.UpBwdWRefIdeal.nD Cert.UpBwdWRefIdeal.τ).loc Cert.UpBwdWRefIdeal.main_arg1))

def preserves_DownBwdX_DownBwdXIdeal : Prop :=
  True

def algebraic_DownBwdXIdeal_DownBwdXRefIdeal [hDownBwdXIdeal : Cert.DownBwdXIdeal.Facts] [hDownBwdXRefIdeal : Cert.DownBwdXRefIdeal.Facts] : Prop :=
  ∀ (m : (ℓ : Loc Cert.DownBwdXIdeal.nD Cert.DownBwdXIdeal.τ Cert.DownBwdXIdeal.sig) → Buf (Elt Ideal) ℓ) (g : Dev Cert.DownBwdXIdeal.nD → PrngReg)
    (m' : (ℓ : Loc Cert.DownBwdXRefIdeal.nD Cert.DownBwdXRefIdeal.τ Cert.DownBwdXRefIdeal.sig) → Buf (Elt Ideal) ℓ) (g' : Dev Cert.DownBwdXRefIdeal.nD → PrngReg), Pre_DownBwdXIdeal m →
    (∀ c : Dev Cert.DownBwdXIdeal.nD,
      m' ((c.tc : Thread Cert.DownBwdXRefIdeal.nD Cert.DownBwdXRefIdeal.τ).loc Cert.DownBwdXRefIdeal.main_arg0) = m ((c.tc : Thread Cert.DownBwdXIdeal.nD Cert.DownBwdXIdeal.τ).loc Cert.DownBwdXIdeal.main_arg0)
      ∧ m' ((c.tc : Thread Cert.DownBwdXRefIdeal.nD Cert.DownBwdXRefIdeal.τ).loc Cert.DownBwdXRefIdeal.main_arg1) = m ((c.tc : Thread Cert.DownBwdXIdeal.nD Cert.DownBwdXIdeal.τ).loc Cert.DownBwdXIdeal.main_arg1)) →
    ∃ (v0 : (c : Dev Cert.DownBwdXIdeal.nD) → Buf (Elt Ideal) ((c.tc : Thread Cert.DownBwdXIdeal.nD Cert.DownBwdXIdeal.τ).loc Cert.DownBwdXIdeal.main_v0)),
      θ_run (Cert.DownBwdXIdeal.defs (F := Ideal)) (onTc (τ := Cert.DownBwdXIdeal.τ) (Cert.DownBwdXIdeal.main (F := Ideal))) ⟨m, fun _ => 0, g⟩ (fun r => ∀ c : Dev Cert.DownBwdXIdeal.nD,
          r.2.mem ((c.tc : Thread Cert.DownBwdXIdeal.nD Cert.DownBwdXIdeal.τ).loc Cert.DownBwdXIdeal.main_v0) = v0 c
          ∧ r.2.mem ((c.tc : Thread Cert.DownBwdXIdeal.nD Cert.DownBwdXIdeal.τ).loc Cert.DownBwdXIdeal.main_arg0) = m ((c.tc : Thread Cert.DownBwdXIdeal.nD Cert.DownBwdXIdeal.τ).loc Cert.DownBwdXIdeal.main_arg0)
          ∧ r.2.mem ((c.tc : Thread Cert.DownBwdXIdeal.nD Cert.DownBwdXIdeal.τ).loc Cert.DownBwdXIdeal.main_arg1) = m ((c.tc : Thread Cert.DownBwdXIdeal.nD Cert.DownBwdXIdeal.τ).loc Cert.DownBwdXIdeal.main_arg1))
      ∧ θ_run (Cert.DownBwdXRefIdeal.defs (F := Ideal)) (onTc (τ := Cert.DownBwdXRefIdeal.τ) (Cert.DownBwdXRefIdeal.main (F := Ideal))) ⟨m', fun _ => 0, g'⟩ (fun r => ∀ c : Dev Cert.DownBwdXRefIdeal.nD,
          r.2.mem ((c.tc : Thread Cert.DownBwdXRefIdeal.nD Cert.DownBwdXRefIdeal.τ).loc Cert.DownBwdXRefIdeal.main_v5) = v0 c
          ∧ r.2.mem ((c.tc : Thread Cert.DownBwdXRefIdeal.nD Cert.DownBwdXRefIdeal.τ).loc Cert.DownBwdXRefIdeal.main_arg0) = m' ((c.tc : Thread Cert.DownBwdXRefIdeal.nD Cert.DownBwdXRefIdeal.τ).loc Cert.DownBwdXRefIdeal.main_arg0)
          ∧ r.2.mem ((c.tc : Thread Cert.DownBwdXRefIdeal.nD Cert.DownBwdXRefIdeal.τ).loc Cert.DownBwdXRefIdeal.main_arg1) = m' ((c.tc : Thread Cert.DownBwdXRefIdeal.nD Cert.DownBwdXRefIdeal.τ).loc Cert.DownBwdXRefIdeal.main_arg1))

def preserves_DownBwdW_DownBwdWIdeal : Prop :=
  True

def algebraic_DownBwdWIdeal_DownBwdWRefIdeal [hDownBwdWIdeal : Cert.DownBwdWIdeal.Facts] [hDownBwdWRefIdeal : Cert.DownBwdWRefIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg)
    (m' : (ℓ : Loc Cert.DownBwdWRefIdeal.nD Cert.DownBwdWRefIdeal.τ Cert.DownBwdWRefIdeal.sig) → Buf (Elt Ideal) ℓ) (g' : Dev Cert.DownBwdWRefIdeal.nD → PrngReg), Pre_DownBwdWIdeal m →
    (∀ c : Dev Cert.DownBwdWIdeal.nD,
      m' ((c.tc : Thread Cert.DownBwdWRefIdeal.nD Cert.DownBwdWRefIdeal.τ).loc Cert.DownBwdWRefIdeal.main_arg0) = m ((c.tc : Thread Cert.DownBwdWIdeal.nD Cert.DownBwdWIdeal.τ).loc Cert.DownBwdWIdeal.main_arg0)
      ∧ m' ((c.tc : Thread Cert.DownBwdWRefIdeal.nD Cert.DownBwdWRefIdeal.τ).loc Cert.DownBwdWRefIdeal.main_arg1) = m ((c.tc : Thread Cert.DownBwdWIdeal.nD Cert.DownBwdWIdeal.τ).loc Cert.DownBwdWIdeal.main_arg1)) →
    ∃ (v0 : (c : Dev Cert.DownBwdWIdeal.nD) → Buf (Elt Ideal) ((c.tc : Thread Cert.DownBwdWIdeal.nD Cert.DownBwdWIdeal.τ).loc Cert.DownBwdWIdeal.main_v0)),
      θ_run (Cert.DownBwdWIdeal.defs (F := Ideal)) (onTc (τ := Cert.DownBwdWIdeal.τ) (Cert.DownBwdWIdeal.main (F := Ideal))) ⟨m, fun _ => 0, g⟩ (fun r => ∀ c : Dev Cert.DownBwdWIdeal.nD,
          r.2.mem ((c.tc : Thread Cert.DownBwdWIdeal.nD Cert.DownBwdWIdeal.τ).loc Cert.DownBwdWIdeal.main_v0) = v0 c
          ∧ r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
          ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ θ_run (Cert.DownBwdWRefIdeal.defs (F := Ideal)) (onTc (τ := Cert.DownBwdWRefIdeal.τ) (Cert.DownBwdWRefIdeal.main (F := Ideal))) ⟨m', fun _ => 0, g'⟩ (fun r => ∀ c : Dev Cert.DownBwdWRefIdeal.nD,
          r.2.mem ((c.tc : Thread Cert.DownBwdWRefIdeal.nD Cert.DownBwdWRefIdeal.τ).loc Cert.DownBwdWRefIdeal.main_v5) = v0 c
          ∧ r.2.mem ((c.tc : Thread Cert.DownBwdWRefIdeal.nD Cert.DownBwdWRefIdeal.τ).loc Cert.DownBwdWRefIdeal.main_arg0) = m' ((c.tc : Thread Cert.DownBwdWRefIdeal.nD Cert.DownBwdWRefIdeal.τ).loc Cert.DownBwdWRefIdeal.main_arg0)
          ∧ r.2.mem ((c.tc : Thread Cert.DownBwdWRefIdeal.nD Cert.DownBwdWRefIdeal.τ).loc Cert.DownBwdWRefIdeal.main_arg1) = m' ((c.tc : Thread Cert.DownBwdWRefIdeal.nD Cert.DownBwdWRefIdeal.τ).loc Cert.DownBwdWRefIdeal.main_arg1))

def preserves_OutBwdX_OutBwdXIdeal : Prop :=
  True

def algebraic_OutBwdXIdeal_OutBwdXRefIdeal [hOutBwdXIdeal : Cert.OutBwdXIdeal.Facts] [hOutBwdXRefIdeal : Cert.OutBwdXRefIdeal.Facts] : Prop :=
  ∀ (m : (ℓ : Loc Cert.OutBwdXIdeal.nD Cert.OutBwdXIdeal.τ Cert.OutBwdXIdeal.sig) → Buf (Elt Ideal) ℓ) (g : Dev Cert.OutBwdXIdeal.nD → PrngReg)
    (m' : (ℓ : Loc Cert.OutBwdXRefIdeal.nD Cert.OutBwdXRefIdeal.τ Cert.OutBwdXRefIdeal.sig) → Buf (Elt Ideal) ℓ) (g' : Dev Cert.OutBwdXRefIdeal.nD → PrngReg), Pre_OutBwdXIdeal m →
    (∀ c : Dev Cert.OutBwdXIdeal.nD,
      m' ((c.tc : Thread Cert.OutBwdXRefIdeal.nD Cert.OutBwdXRefIdeal.τ).loc Cert.OutBwdXRefIdeal.main_arg0) = m ((c.tc : Thread Cert.OutBwdXIdeal.nD Cert.OutBwdXIdeal.τ).loc Cert.OutBwdXIdeal.main_arg0)
      ∧ m' ((c.tc : Thread Cert.OutBwdXRefIdeal.nD Cert.OutBwdXRefIdeal.τ).loc Cert.OutBwdXRefIdeal.main_arg1) = m ((c.tc : Thread Cert.OutBwdXIdeal.nD Cert.OutBwdXIdeal.τ).loc Cert.OutBwdXIdeal.main_arg1)) →
    ∃ (v0 : (c : Dev Cert.OutBwdXIdeal.nD) → Buf (Elt Ideal) ((c.tc : Thread Cert.OutBwdXIdeal.nD Cert.OutBwdXIdeal.τ).loc Cert.OutBwdXIdeal.main_v0)),
      θ_run (Cert.OutBwdXIdeal.defs (F := Ideal)) (onTc (τ := Cert.OutBwdXIdeal.τ) (Cert.OutBwdXIdeal.main (F := Ideal))) ⟨m, fun _ => 0, g⟩ (fun r => ∀ c : Dev Cert.OutBwdXIdeal.nD,
          r.2.mem ((c.tc : Thread Cert.OutBwdXIdeal.nD Cert.OutBwdXIdeal.τ).loc Cert.OutBwdXIdeal.main_v0) = v0 c
          ∧ r.2.mem ((c.tc : Thread Cert.OutBwdXIdeal.nD Cert.OutBwdXIdeal.τ).loc Cert.OutBwdXIdeal.main_arg0) = m ((c.tc : Thread Cert.OutBwdXIdeal.nD Cert.OutBwdXIdeal.τ).loc Cert.OutBwdXIdeal.main_arg0)
          ∧ r.2.mem ((c.tc : Thread Cert.OutBwdXIdeal.nD Cert.OutBwdXIdeal.τ).loc Cert.OutBwdXIdeal.main_arg1) = m ((c.tc : Thread Cert.OutBwdXIdeal.nD Cert.OutBwdXIdeal.τ).loc Cert.OutBwdXIdeal.main_arg1))
      ∧ θ_run (Cert.OutBwdXRefIdeal.defs (F := Ideal)) (onTc (τ := Cert.OutBwdXRefIdeal.τ) (Cert.OutBwdXRefIdeal.main (F := Ideal))) ⟨m', fun _ => 0, g'⟩ (fun r => ∀ c : Dev Cert.OutBwdXRefIdeal.nD,
          r.2.mem ((c.tc : Thread Cert.OutBwdXRefIdeal.nD Cert.OutBwdXRefIdeal.τ).loc Cert.OutBwdXRefIdeal.main_v5) = v0 c
          ∧ r.2.mem ((c.tc : Thread Cert.OutBwdXRefIdeal.nD Cert.OutBwdXRefIdeal.τ).loc Cert.OutBwdXRefIdeal.main_arg0) = m' ((c.tc : Thread Cert.OutBwdXRefIdeal.nD Cert.OutBwdXRefIdeal.τ).loc Cert.OutBwdXRefIdeal.main_arg0)
          ∧ r.2.mem ((c.tc : Thread Cert.OutBwdXRefIdeal.nD Cert.OutBwdXRefIdeal.τ).loc Cert.OutBwdXRefIdeal.main_arg1) = m' ((c.tc : Thread Cert.OutBwdXRefIdeal.nD Cert.OutBwdXRefIdeal.τ).loc Cert.OutBwdXRefIdeal.main_arg1))

def preserves_OutBwdW_OutBwdWIdeal : Prop :=
  True

def algebraic_OutBwdWIdeal_OutBwdWRefIdeal [hOutBwdWIdeal : Cert.OutBwdWIdeal.Facts] [hOutBwdWRefIdeal : Cert.OutBwdWRefIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg)
    (m' : (ℓ : Loc Cert.OutBwdWRefIdeal.nD Cert.OutBwdWRefIdeal.τ Cert.OutBwdWRefIdeal.sig) → Buf (Elt Ideal) ℓ) (g' : Dev Cert.OutBwdWRefIdeal.nD → PrngReg), Pre_OutBwdWIdeal m →
    (∀ c : Dev Cert.OutBwdWIdeal.nD,
      m' ((c.tc : Thread Cert.OutBwdWRefIdeal.nD Cert.OutBwdWRefIdeal.τ).loc Cert.OutBwdWRefIdeal.main_arg0) = m ((c.tc : Thread Cert.OutBwdWIdeal.nD Cert.OutBwdWIdeal.τ).loc Cert.OutBwdWIdeal.main_arg0)
      ∧ m' ((c.tc : Thread Cert.OutBwdWRefIdeal.nD Cert.OutBwdWRefIdeal.τ).loc Cert.OutBwdWRefIdeal.main_arg1) = m ((c.tc : Thread Cert.OutBwdWIdeal.nD Cert.OutBwdWIdeal.τ).loc Cert.OutBwdWIdeal.main_arg1)) →
    ∃ (v0 : (c : Dev Cert.OutBwdWIdeal.nD) → Buf (Elt Ideal) ((c.tc : Thread Cert.OutBwdWIdeal.nD Cert.OutBwdWIdeal.τ).loc Cert.OutBwdWIdeal.main_v0)),
      θ_run (Cert.OutBwdWIdeal.defs (F := Ideal)) (onTc (τ := Cert.OutBwdWIdeal.τ) (Cert.OutBwdWIdeal.main (F := Ideal))) ⟨m, fun _ => 0, g⟩ (fun r => ∀ c : Dev Cert.OutBwdWIdeal.nD,
          r.2.mem ((c.tc : Thread Cert.OutBwdWIdeal.nD Cert.OutBwdWIdeal.τ).loc Cert.OutBwdWIdeal.main_v0) = v0 c
          ∧ r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
          ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ θ_run (Cert.OutBwdWRefIdeal.defs (F := Ideal)) (onTc (τ := Cert.OutBwdWRefIdeal.τ) (Cert.OutBwdWRefIdeal.main (F := Ideal))) ⟨m', fun _ => 0, g'⟩ (fun r => ∀ c : Dev Cert.OutBwdWRefIdeal.nD,
          r.2.mem ((c.tc : Thread Cert.OutBwdWRefIdeal.nD Cert.OutBwdWRefIdeal.τ).loc Cert.OutBwdWRefIdeal.main_v5) = v0 c
          ∧ r.2.mem ((c.tc : Thread Cert.OutBwdWRefIdeal.nD Cert.OutBwdWRefIdeal.τ).loc Cert.OutBwdWRefIdeal.main_arg0) = m' ((c.tc : Thread Cert.OutBwdWRefIdeal.nD Cert.OutBwdWRefIdeal.τ).loc Cert.OutBwdWRefIdeal.main_arg0)
          ∧ r.2.mem ((c.tc : Thread Cert.OutBwdWRefIdeal.nD Cert.OutBwdWRefIdeal.τ).loc Cert.OutBwdWRefIdeal.main_arg1) = m' ((c.tc : Thread Cert.OutBwdWRefIdeal.nD Cert.OutBwdWRefIdeal.τ).loc Cert.OutBwdWRefIdeal.main_arg1))

def preserves_BranchBwdX_BranchBwdXIdeal : Prop :=
  True

def algebraic_BranchBwdXIdeal_BranchBwdXRefIdeal [hBranchBwdXIdeal : Cert.BranchBwdXIdeal.Facts] [hBranchBwdXRefIdeal : Cert.BranchBwdXRefIdeal.Facts] : Prop :=
  ∀ (m : (ℓ : Loc Cert.BranchBwdXIdeal.nD Cert.BranchBwdXIdeal.τ Cert.BranchBwdXIdeal.sig) → Buf (Elt Ideal) ℓ) (g : Dev Cert.BranchBwdXIdeal.nD → PrngReg)
    (m' : (ℓ : Loc Cert.BranchBwdXRefIdeal.nD Cert.BranchBwdXRefIdeal.τ Cert.BranchBwdXRefIdeal.sig) → Buf (Elt Ideal) ℓ) (g' : Dev Cert.BranchBwdXRefIdeal.nD → PrngReg), Pre_BranchBwdXIdeal m →
    (∀ c : Dev Cert.BranchBwdXIdeal.nD,
      m' ((c.tc : Thread Cert.BranchBwdXRefIdeal.nD Cert.BranchBwdXRefIdeal.τ).loc Cert.BranchBwdXRefIdeal.main_arg0) = m ((c.tc : Thread Cert.BranchBwdXIdeal.nD Cert.BranchBwdXIdeal.τ).loc Cert.BranchBwdXIdeal.main_arg0)
      ∧ m' ((c.tc : Thread Cert.BranchBwdXRefIdeal.nD Cert.BranchBwdXRefIdeal.τ).loc Cert.BranchBwdXRefIdeal.main_arg1) = m ((c.tc : Thread Cert.BranchBwdXIdeal.nD Cert.BranchBwdXIdeal.τ).loc Cert.BranchBwdXIdeal.main_arg1)) →
    ∃ (v0 : (c : Dev Cert.BranchBwdXIdeal.nD) → Buf (Elt Ideal) ((c.tc : Thread Cert.BranchBwdXIdeal.nD Cert.BranchBwdXIdeal.τ).loc Cert.BranchBwdXIdeal.main_v0)),
      θ_run (Cert.BranchBwdXIdeal.defs (F := Ideal)) (onTc (τ := Cert.BranchBwdXIdeal.τ) (Cert.BranchBwdXIdeal.main (F := Ideal))) ⟨m, fun _ => 0, g⟩ (fun r => ∀ c : Dev Cert.BranchBwdXIdeal.nD,
          r.2.mem ((c.tc : Thread Cert.BranchBwdXIdeal.nD Cert.BranchBwdXIdeal.τ).loc Cert.BranchBwdXIdeal.main_v0) = v0 c
          ∧ r.2.mem ((c.tc : Thread Cert.BranchBwdXIdeal.nD Cert.BranchBwdXIdeal.τ).loc Cert.BranchBwdXIdeal.main_arg0) = m ((c.tc : Thread Cert.BranchBwdXIdeal.nD Cert.BranchBwdXIdeal.τ).loc Cert.BranchBwdXIdeal.main_arg0)
          ∧ r.2.mem ((c.tc : Thread Cert.BranchBwdXIdeal.nD Cert.BranchBwdXIdeal.τ).loc Cert.BranchBwdXIdeal.main_arg1) = m ((c.tc : Thread Cert.BranchBwdXIdeal.nD Cert.BranchBwdXIdeal.τ).loc Cert.BranchBwdXIdeal.main_arg1))
      ∧ θ_run (Cert.BranchBwdXRefIdeal.defs (F := Ideal)) (onTc (τ := Cert.BranchBwdXRefIdeal.τ) (Cert.BranchBwdXRefIdeal.main (F := Ideal))) ⟨m', fun _ => 0, g'⟩ (fun r => ∀ c : Dev Cert.BranchBwdXRefIdeal.nD,
          r.2.mem ((c.tc : Thread Cert.BranchBwdXRefIdeal.nD Cert.BranchBwdXRefIdeal.τ).loc Cert.BranchBwdXRefIdeal.main_v5) = v0 c
          ∧ r.2.mem ((c.tc : Thread Cert.BranchBwdXRefIdeal.nD Cert.BranchBwdXRefIdeal.τ).loc Cert.BranchBwdXRefIdeal.main_arg0) = m' ((c.tc : Thread Cert.BranchBwdXRefIdeal.nD Cert.BranchBwdXRefIdeal.τ).loc Cert.BranchBwdXRefIdeal.main_arg0)
          ∧ r.2.mem ((c.tc : Thread Cert.BranchBwdXRefIdeal.nD Cert.BranchBwdXRefIdeal.τ).loc Cert.BranchBwdXRefIdeal.main_arg1) = m' ((c.tc : Thread Cert.BranchBwdXRefIdeal.nD Cert.BranchBwdXRefIdeal.τ).loc Cert.BranchBwdXRefIdeal.main_arg1))

def preserves_BranchABwdW_BranchABwdWIdeal : Prop :=
  True

def algebraic_BranchABwdWIdeal_BranchABwdWRefIdeal [hBranchABwdWIdeal : Cert.BranchABwdWIdeal.Facts] [hBranchABwdWRefIdeal : Cert.BranchABwdWRefIdeal.Facts] : Prop :=
  ∀ (m : (ℓ : Loc Cert.BranchABwdWIdeal.nD Cert.BranchABwdWIdeal.τ Cert.BranchABwdWIdeal.sig) → Buf (Elt Ideal) ℓ) (g : Dev Cert.BranchABwdWIdeal.nD → PrngReg)
    (m' : (ℓ : Loc Cert.BranchABwdWRefIdeal.nD Cert.BranchABwdWRefIdeal.τ Cert.BranchABwdWRefIdeal.sig) → Buf (Elt Ideal) ℓ) (g' : Dev Cert.BranchABwdWRefIdeal.nD → PrngReg), Pre_BranchABwdWIdeal m →
    (∀ c : Dev Cert.BranchABwdWIdeal.nD,
      m' ((c.tc : Thread Cert.BranchABwdWRefIdeal.nD Cert.BranchABwdWRefIdeal.τ).loc Cert.BranchABwdWRefIdeal.main_arg0) = m ((c.tc : Thread Cert.BranchABwdWIdeal.nD Cert.BranchABwdWIdeal.τ).loc Cert.BranchABwdWIdeal.main_arg0)
      ∧ m' ((c.tc : Thread Cert.BranchABwdWRefIdeal.nD Cert.BranchABwdWRefIdeal.τ).loc Cert.BranchABwdWRefIdeal.main_arg1) = m ((c.tc : Thread Cert.BranchABwdWIdeal.nD Cert.BranchABwdWIdeal.τ).loc Cert.BranchABwdWIdeal.main_arg1)) →
    ∃ (v0 : (c : Dev Cert.BranchABwdWIdeal.nD) → Buf (Elt Ideal) ((c.tc : Thread Cert.BranchABwdWIdeal.nD Cert.BranchABwdWIdeal.τ).loc Cert.BranchABwdWIdeal.main_v0)),
      θ_run (Cert.BranchABwdWIdeal.defs (F := Ideal)) (onTc (τ := Cert.BranchABwdWIdeal.τ) (Cert.BranchABwdWIdeal.main (F := Ideal))) ⟨m, fun _ => 0, g⟩ (fun r => ∀ c : Dev Cert.BranchABwdWIdeal.nD,
          r.2.mem ((c.tc : Thread Cert.BranchABwdWIdeal.nD Cert.BranchABwdWIdeal.τ).loc Cert.BranchABwdWIdeal.main_v0) = v0 c
          ∧ r.2.mem ((c.tc : Thread Cert.BranchABwdWIdeal.nD Cert.BranchABwdWIdeal.τ).loc Cert.BranchABwdWIdeal.main_arg0) = m ((c.tc : Thread Cert.BranchABwdWIdeal.nD Cert.BranchABwdWIdeal.τ).loc Cert.BranchABwdWIdeal.main_arg0)
          ∧ r.2.mem ((c.tc : Thread Cert.BranchABwdWIdeal.nD Cert.BranchABwdWIdeal.τ).loc Cert.BranchABwdWIdeal.main_arg1) = m ((c.tc : Thread Cert.BranchABwdWIdeal.nD Cert.BranchABwdWIdeal.τ).loc Cert.BranchABwdWIdeal.main_arg1))
      ∧ θ_run (Cert.BranchABwdWRefIdeal.defs (F := Ideal)) (onTc (τ := Cert.BranchABwdWRefIdeal.τ) (Cert.BranchABwdWRefIdeal.main (F := Ideal))) ⟨m', fun _ => 0, g'⟩ (fun r => ∀ c : Dev Cert.BranchABwdWRefIdeal.nD,
          r.2.mem ((c.tc : Thread Cert.BranchABwdWRefIdeal.nD Cert.BranchABwdWRefIdeal.τ).loc Cert.BranchABwdWRefIdeal.main_v7) = v0 c
          ∧ r.2.mem ((c.tc : Thread Cert.BranchABwdWRefIdeal.nD Cert.BranchABwdWRefIdeal.τ).loc Cert.BranchABwdWRefIdeal.main_arg0) = m' ((c.tc : Thread Cert.BranchABwdWRefIdeal.nD Cert.BranchABwdWRefIdeal.τ).loc Cert.BranchABwdWRefIdeal.main_arg0)
          ∧ r.2.mem ((c.tc : Thread Cert.BranchABwdWRefIdeal.nD Cert.BranchABwdWRefIdeal.τ).loc Cert.BranchABwdWRefIdeal.main_arg1) = m' ((c.tc : Thread Cert.BranchABwdWRefIdeal.nD Cert.BranchABwdWRefIdeal.τ).loc Cert.BranchABwdWRefIdeal.main_arg1))

def preserves_BranchBBwdW_BranchBBwdWIdeal : Prop :=
  True

def algebraic_BranchBBwdWIdeal_BranchBBwdWRefIdeal [hBranchBBwdWIdeal : Cert.BranchBBwdWIdeal.Facts] [hBranchBBwdWRefIdeal : Cert.BranchBBwdWRefIdeal.Facts] : Prop :=
  ∀ (m : (ℓ : Loc Cert.BranchBBwdWIdeal.nD Cert.BranchBBwdWIdeal.τ Cert.BranchBBwdWIdeal.sig) → Buf (Elt Ideal) ℓ) (g : Dev Cert.BranchBBwdWIdeal.nD → PrngReg)
    (m' : (ℓ : Loc Cert.BranchBBwdWRefIdeal.nD Cert.BranchBBwdWRefIdeal.τ Cert.BranchBBwdWRefIdeal.sig) → Buf (Elt Ideal) ℓ) (g' : Dev Cert.BranchBBwdWRefIdeal.nD → PrngReg), Pre_BranchBBwdWIdeal m →
    (∀ c : Dev Cert.BranchBBwdWIdeal.nD,
      m' ((c.tc : Thread Cert.BranchBBwdWRefIdeal.nD Cert.BranchBBwdWRefIdeal.τ).loc Cert.BranchBBwdWRefIdeal.main_arg0) = m ((c.tc : Thread Cert.BranchBBwdWIdeal.nD Cert.BranchBBwdWIdeal.τ).loc Cert.BranchBBwdWIdeal.main_arg0)
      ∧ m' ((c.tc : Thread Cert.BranchBBwdWRefIdeal.nD Cert.BranchBBwdWRefIdeal.τ).loc Cert.BranchBBwdWRefIdeal.main_arg1) = m ((c.tc : Thread Cert.BranchBBwdWIdeal.nD Cert.BranchBBwdWIdeal.τ).loc Cert.BranchBBwdWIdeal.main_arg1)) →
    ∃ (v0 : (c : Dev Cert.BranchBBwdWIdeal.nD) → Buf (Elt Ideal) ((c.tc : Thread Cert.BranchBBwdWIdeal.nD Cert.BranchBBwdWIdeal.τ).loc Cert.BranchBBwdWIdeal.main_v0)),
      θ_run (Cert.BranchBBwdWIdeal.defs (F := Ideal)) (onTc (τ := Cert.BranchBBwdWIdeal.τ) (Cert.BranchBBwdWIdeal.main (F := Ideal))) ⟨m, fun _ => 0, g⟩ (fun r => ∀ c : Dev Cert.BranchBBwdWIdeal.nD,
          r.2.mem ((c.tc : Thread Cert.BranchBBwdWIdeal.nD Cert.BranchBBwdWIdeal.τ).loc Cert.BranchBBwdWIdeal.main_v0) = v0 c
          ∧ r.2.mem ((c.tc : Thread Cert.BranchBBwdWIdeal.nD Cert.BranchBBwdWIdeal.τ).loc Cert.BranchBBwdWIdeal.main_arg0) = m ((c.tc : Thread Cert.BranchBBwdWIdeal.nD Cert.BranchBBwdWIdeal.τ).loc Cert.BranchBBwdWIdeal.main_arg0)
          ∧ r.2.mem ((c.tc : Thread Cert.BranchBBwdWIdeal.nD Cert.BranchBBwdWIdeal.τ).loc Cert.BranchBBwdWIdeal.main_arg1) = m ((c.tc : Thread Cert.BranchBBwdWIdeal.nD Cert.BranchBBwdWIdeal.τ).loc Cert.BranchBBwdWIdeal.main_arg1))
      ∧ θ_run (Cert.BranchBBwdWRefIdeal.defs (F := Ideal)) (onTc (τ := Cert.BranchBBwdWRefIdeal.τ) (Cert.BranchBBwdWRefIdeal.main (F := Ideal))) ⟨m', fun _ => 0, g'⟩ (fun r => ∀ c : Dev Cert.BranchBBwdWRefIdeal.nD,
          r.2.mem ((c.tc : Thread Cert.BranchBBwdWRefIdeal.nD Cert.BranchBBwdWRefIdeal.τ).loc Cert.BranchBBwdWRefIdeal.main_v8) = v0 c
          ∧ r.2.mem ((c.tc : Thread Cert.BranchBBwdWRefIdeal.nD Cert.BranchBBwdWRefIdeal.τ).loc Cert.BranchBBwdWRefIdeal.main_arg0) = m' ((c.tc : Thread Cert.BranchBBwdWRefIdeal.nD Cert.BranchBBwdWRefIdeal.τ).loc Cert.BranchBBwdWRefIdeal.main_arg0)
          ∧ r.2.mem ((c.tc : Thread Cert.BranchBBwdWRefIdeal.nD Cert.BranchBBwdWRefIdeal.τ).loc Cert.BranchBBwdWRefIdeal.main_arg1) = m' ((c.tc : Thread Cert.BranchBBwdWRefIdeal.nD Cert.BranchBBwdWRefIdeal.τ).loc Cert.BranchBBwdWRefIdeal.main_arg1))

def preserves_ForgetBwdX_ForgetBwdXIdeal : Prop :=
  True

def algebraic_ForgetBwdXIdeal_ForgetBwdXRefIdeal [hForgetBwdXIdeal : Cert.ForgetBwdXIdeal.Facts] [hForgetBwdXRefIdeal : Cert.ForgetBwdXRefIdeal.Facts] : Prop :=
  ∀ (m : (ℓ : Loc Cert.ForgetBwdXIdeal.nD Cert.ForgetBwdXIdeal.τ Cert.ForgetBwdXIdeal.sig) → Buf (Elt Ideal) ℓ) (g : Dev Cert.ForgetBwdXIdeal.nD → PrngReg)
    (m' : (ℓ : Loc Cert.ForgetBwdXRefIdeal.nD Cert.ForgetBwdXRefIdeal.τ Cert.ForgetBwdXRefIdeal.sig) → Buf (Elt Ideal) ℓ) (g' : Dev Cert.ForgetBwdXRefIdeal.nD → PrngReg), Pre_ForgetBwdXIdeal m →
    (∀ c : Dev Cert.ForgetBwdXIdeal.nD,
      m' ((c.tc : Thread Cert.ForgetBwdXRefIdeal.nD Cert.ForgetBwdXRefIdeal.τ).loc Cert.ForgetBwdXRefIdeal.main_arg0) = m ((c.tc : Thread Cert.ForgetBwdXIdeal.nD Cert.ForgetBwdXIdeal.τ).loc Cert.ForgetBwdXIdeal.main_arg0)
      ∧ m' ((c.tc : Thread Cert.ForgetBwdXRefIdeal.nD Cert.ForgetBwdXRefIdeal.τ).loc Cert.ForgetBwdXRefIdeal.main_arg1) = m ((c.tc : Thread Cert.ForgetBwdXIdeal.nD Cert.ForgetBwdXIdeal.τ).loc Cert.ForgetBwdXIdeal.main_arg1)) →
    ∃ (v0 : (c : Dev Cert.ForgetBwdXIdeal.nD) → Buf (Elt Ideal) ((c.tc : Thread Cert.ForgetBwdXIdeal.nD Cert.ForgetBwdXIdeal.τ).loc Cert.ForgetBwdXIdeal.main_v0)),
      θ_run (Cert.ForgetBwdXIdeal.defs (F := Ideal)) (onTc (τ := Cert.ForgetBwdXIdeal.τ) (Cert.ForgetBwdXIdeal.main (F := Ideal))) ⟨m, fun _ => 0, g⟩ (fun r => ∀ c : Dev Cert.ForgetBwdXIdeal.nD,
          r.2.mem ((c.tc : Thread Cert.ForgetBwdXIdeal.nD Cert.ForgetBwdXIdeal.τ).loc Cert.ForgetBwdXIdeal.main_v0) = v0 c
          ∧ r.2.mem ((c.tc : Thread Cert.ForgetBwdXIdeal.nD Cert.ForgetBwdXIdeal.τ).loc Cert.ForgetBwdXIdeal.main_arg0) = m ((c.tc : Thread Cert.ForgetBwdXIdeal.nD Cert.ForgetBwdXIdeal.τ).loc Cert.ForgetBwdXIdeal.main_arg0)
          ∧ r.2.mem ((c.tc : Thread Cert.ForgetBwdXIdeal.nD Cert.ForgetBwdXIdeal.τ).loc Cert.ForgetBwdXIdeal.main_arg1) = m ((c.tc : Thread Cert.ForgetBwdXIdeal.nD Cert.ForgetBwdXIdeal.τ).loc Cert.ForgetBwdXIdeal.main_arg1))
      ∧ θ_run (Cert.ForgetBwdXRefIdeal.defs (F := Ideal)) (onTc (τ := Cert.ForgetBwdXRefIdeal.τ) (Cert.ForgetBwdXRefIdeal.main (F := Ideal))) ⟨m', fun _ => 0, g'⟩ (fun r => ∀ c : Dev Cert.ForgetBwdXRefIdeal.nD,
          r.2.mem ((c.tc : Thread Cert.ForgetBwdXRefIdeal.nD Cert.ForgetBwdXRefIdeal.τ).loc Cert.ForgetBwdXRefIdeal.main_v5) = v0 c
          ∧ r.2.mem ((c.tc : Thread Cert.ForgetBwdXRefIdeal.nD Cert.ForgetBwdXRefIdeal.τ).loc Cert.ForgetBwdXRefIdeal.main_arg0) = m' ((c.tc : Thread Cert.ForgetBwdXRefIdeal.nD Cert.ForgetBwdXRefIdeal.τ).loc Cert.ForgetBwdXRefIdeal.main_arg0)
          ∧ r.2.mem ((c.tc : Thread Cert.ForgetBwdXRefIdeal.nD Cert.ForgetBwdXRefIdeal.τ).loc Cert.ForgetBwdXRefIdeal.main_arg1) = m' ((c.tc : Thread Cert.ForgetBwdXRefIdeal.nD Cert.ForgetBwdXRefIdeal.τ).loc Cert.ForgetBwdXRefIdeal.main_arg1))

def preserves_ForgetBwdW_ForgetBwdWIdeal : Prop :=
  True

def algebraic_ForgetBwdWIdeal_ForgetBwdWRefIdeal [hForgetBwdWIdeal : Cert.ForgetBwdWIdeal.Facts] [hForgetBwdWRefIdeal : Cert.ForgetBwdWRefIdeal.Facts] : Prop :=
  ∀ (m : (ℓ : Loc Cert.ForgetBwdWIdeal.nD Cert.ForgetBwdWIdeal.τ Cert.ForgetBwdWIdeal.sig) → Buf (Elt Ideal) ℓ) (g : Dev Cert.ForgetBwdWIdeal.nD → PrngReg)
    (m' : (ℓ : Loc Cert.ForgetBwdWRefIdeal.nD Cert.ForgetBwdWRefIdeal.τ Cert.ForgetBwdWRefIdeal.sig) → Buf (Elt Ideal) ℓ) (g' : Dev Cert.ForgetBwdWRefIdeal.nD → PrngReg), Pre_ForgetBwdWIdeal m →
    (∀ c : Dev Cert.ForgetBwdWIdeal.nD,
      m' ((c.tc : Thread Cert.ForgetBwdWRefIdeal.nD Cert.ForgetBwdWRefIdeal.τ).loc Cert.ForgetBwdWRefIdeal.main_arg0) = m ((c.tc : Thread Cert.ForgetBwdWIdeal.nD Cert.ForgetBwdWIdeal.τ).loc Cert.ForgetBwdWIdeal.main_arg0)
      ∧ m' ((c.tc : Thread Cert.ForgetBwdWRefIdeal.nD Cert.ForgetBwdWRefIdeal.τ).loc Cert.ForgetBwdWRefIdeal.main_arg1) = m ((c.tc : Thread Cert.ForgetBwdWIdeal.nD Cert.ForgetBwdWIdeal.τ).loc Cert.ForgetBwdWIdeal.main_arg1)) →
    ∃ (v0 : (c : Dev Cert.ForgetBwdWIdeal.nD) → Buf (Elt Ideal) ((c.tc : Thread Cert.ForgetBwdWIdeal.nD Cert.ForgetBwdWIdeal.τ).loc Cert.ForgetBwdWIdeal.main_v0)),
      θ_run (Cert.ForgetBwdWIdeal.defs (F := Ideal)) (onTc (τ := Cert.ForgetBwdWIdeal.τ) (Cert.ForgetBwdWIdeal.main (F := Ideal))) ⟨m, fun _ => 0, g⟩ (fun r => ∀ c : Dev Cert.ForgetBwdWIdeal.nD,
          r.2.mem ((c.tc : Thread Cert.ForgetBwdWIdeal.nD Cert.ForgetBwdWIdeal.τ).loc Cert.ForgetBwdWIdeal.main_v0) = v0 c
          ∧ r.2.mem ((c.tc : Thread Cert.ForgetBwdWIdeal.nD Cert.ForgetBwdWIdeal.τ).loc Cert.ForgetBwdWIdeal.main_arg0) = m ((c.tc : Thread Cert.ForgetBwdWIdeal.nD Cert.ForgetBwdWIdeal.τ).loc Cert.ForgetBwdWIdeal.main_arg0)
          ∧ r.2.mem ((c.tc : Thread Cert.ForgetBwdWIdeal.nD Cert.ForgetBwdWIdeal.τ).loc Cert.ForgetBwdWIdeal.main_arg1) = m ((c.tc : Thread Cert.ForgetBwdWIdeal.nD Cert.ForgetBwdWIdeal.τ).loc Cert.ForgetBwdWIdeal.main_arg1))
      ∧ θ_run (Cert.ForgetBwdWRefIdeal.defs (F := Ideal)) (onTc (τ := Cert.ForgetBwdWRefIdeal.τ) (Cert.ForgetBwdWRefIdeal.main (F := Ideal))) ⟨m', fun _ => 0, g'⟩ (fun r => ∀ c : Dev Cert.ForgetBwdWRefIdeal.nD,
          r.2.mem ((c.tc : Thread Cert.ForgetBwdWRefIdeal.nD Cert.ForgetBwdWRefIdeal.τ).loc Cert.ForgetBwdWRefIdeal.main_v5) = v0 c
          ∧ r.2.mem ((c.tc : Thread Cert.ForgetBwdWRefIdeal.nD Cert.ForgetBwdWRefIdeal.τ).loc Cert.ForgetBwdWRefIdeal.main_arg0) = m' ((c.tc : Thread Cert.ForgetBwdWRefIdeal.nD Cert.ForgetBwdWRefIdeal.τ).loc Cert.ForgetBwdWRefIdeal.main_arg0)
          ∧ r.2.mem ((c.tc : Thread Cert.ForgetBwdWRefIdeal.nD Cert.ForgetBwdWRefIdeal.τ).loc Cert.ForgetBwdWRefIdeal.main_arg1) = m' ((c.tc : Thread Cert.ForgetBwdWRefIdeal.nD Cert.ForgetBwdWRefIdeal.τ).loc Cert.ForgetBwdWRefIdeal.main_arg1))

def preserves_WideFwd_WideFwdIdeal : Prop :=
  True

def algebraic_WideFwdIdeal_WideFwdRefIdeal [hWideFwdIdeal : Cert.WideFwdIdeal.Facts] [hWideFwdRefIdeal : Cert.WideFwdRefIdeal.Facts] : Prop :=
  ∀ (m : (ℓ : Loc Cert.WideFwdIdeal.nD Cert.WideFwdIdeal.τ Cert.WideFwdIdeal.sig) → Buf (Elt Ideal) ℓ) (g : Dev Cert.WideFwdIdeal.nD → PrngReg)
    (m' : (ℓ : Loc Cert.WideFwdRefIdeal.nD Cert.WideFwdRefIdeal.τ Cert.WideFwdRefIdeal.sig) → Buf (Elt Ideal) ℓ) (g' : Dev Cert.WideFwdRefIdeal.nD → PrngReg), Pre_WideFwdIdeal m →
    (∀ c : Dev Cert.WideFwdIdeal.nD,
      m' ((c.tc : Thread Cert.WideFwdRefIdeal.nD Cert.WideFwdRefIdeal.τ).loc Cert.WideFwdRefIdeal.main_arg0) = m ((c.tc : Thread Cert.WideFwdIdeal.nD Cert.WideFwdIdeal.τ).loc Cert.WideFwdIdeal.main_arg0)
      ∧ m' ((c.tc : Thread Cert.WideFwdRefIdeal.nD Cert.WideFwdRefIdeal.τ).loc Cert.WideFwdRefIdeal.main_arg1) = m ((c.tc : Thread Cert.WideFwdIdeal.nD Cert.WideFwdIdeal.τ).loc Cert.WideFwdIdeal.main_arg1)) →
    ∃ (v0 : (c : Dev Cert.WideFwdIdeal.nD) → Buf (Elt Ideal) ((c.tc : Thread Cert.WideFwdIdeal.nD Cert.WideFwdIdeal.τ).loc Cert.WideFwdIdeal.main_v0)),
      θ_run (Cert.WideFwdIdeal.defs (F := Ideal)) (onTc (τ := Cert.WideFwdIdeal.τ) (Cert.WideFwdIdeal.main (F := Ideal))) ⟨m, fun _ => 0, g⟩ (fun r => ∀ c : Dev Cert.WideFwdIdeal.nD,
          r.2.mem ((c.tc : Thread Cert.WideFwdIdeal.nD Cert.WideFwdIdeal.τ).loc Cert.WideFwdIdeal.main_v0) = v0 c
          ∧ r.2.mem ((c.tc : Thread Cert.WideFwdIdeal.nD Cert.WideFwdIdeal.τ).loc Cert.WideFwdIdeal.main_arg0) = m ((c.tc : Thread Cert.WideFwdIdeal.nD Cert.WideFwdIdeal.τ).loc Cert.WideFwdIdeal.main_arg0)
          ∧ r.2.mem ((c.tc : Thread Cert.WideFwdIdeal.nD Cert.WideFwdIdeal.τ).loc Cert.WideFwdIdeal.main_arg1) = m ((c.tc : Thread Cert.WideFwdIdeal.nD Cert.WideFwdIdeal.τ).loc Cert.WideFwdIdeal.main_arg1))
      ∧ θ_run (Cert.WideFwdRefIdeal.defs (F := Ideal)) (onTc (τ := Cert.WideFwdRefIdeal.τ) (Cert.WideFwdRefIdeal.main (F := Ideal))) ⟨m', fun _ => 0, g'⟩ (fun r => ∀ c : Dev Cert.WideFwdRefIdeal.nD,
          r.2.mem ((c.tc : Thread Cert.WideFwdRefIdeal.nD Cert.WideFwdRefIdeal.τ).loc Cert.WideFwdRefIdeal.main_v2) = v0 c
          ∧ r.2.mem ((c.tc : Thread Cert.WideFwdRefIdeal.nD Cert.WideFwdRefIdeal.τ).loc Cert.WideFwdRefIdeal.main_arg0) = m' ((c.tc : Thread Cert.WideFwdRefIdeal.nD Cert.WideFwdRefIdeal.τ).loc Cert.WideFwdRefIdeal.main_arg0)
          ∧ r.2.mem ((c.tc : Thread Cert.WideFwdRefIdeal.nD Cert.WideFwdRefIdeal.τ).loc Cert.WideFwdRefIdeal.main_arg1) = m' ((c.tc : Thread Cert.WideFwdRefIdeal.nD Cert.WideFwdRefIdeal.τ).loc Cert.WideFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v2) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def preserves_BranchAFwd_BranchAFwdIdeal : Prop :=
  True

def algebraic_BranchAFwdIdeal_BranchAFwdRefIdeal [hBranchAFwdIdeal : Cert.BranchAFwdIdeal.Facts] [hBranchAFwdRefIdeal : Cert.BranchAFwdRefIdeal.Facts] : Prop :=
  ∀ (m : (ℓ : Loc Cert.BranchAFwdIdeal.nD Cert.BranchAFwdIdeal.τ Cert.BranchAFwdIdeal.sig) → Buf (Elt Ideal) ℓ) (g : Dev Cert.BranchAFwdIdeal.nD → PrngReg)
    (m' : (ℓ : Loc Cert.BranchAFwdRefIdeal.nD Cert.BranchAFwdRefIdeal.τ Cert.BranchAFwdRefIdeal.sig) → Buf (Elt Ideal) ℓ) (g' : Dev Cert.BranchAFwdRefIdeal.nD → PrngReg), Pre_BranchAFwdIdeal m →
    (∀ c : Dev Cert.BranchAFwdIdeal.nD,
      m' ((c.tc : Thread Cert.BranchAFwdRefIdeal.nD Cert.BranchAFwdRefIdeal.τ).loc Cert.BranchAFwdRefIdeal.main_arg0) = m ((c.tc : Thread Cert.BranchAFwdIdeal.nD Cert.BranchAFwdIdeal.τ).loc Cert.BranchAFwdIdeal.main_arg0)
      ∧ m' ((c.tc : Thread Cert.BranchAFwdRefIdeal.nD Cert.BranchAFwdRefIdeal.τ).loc Cert.BranchAFwdRefIdeal.main_arg1) = m ((c.tc : Thread Cert.BranchAFwdIdeal.nD Cert.BranchAFwdIdeal.τ).loc Cert.BranchAFwdIdeal.main_arg1)) →
    ∃ (v0 : (c : Dev Cert.BranchAFwdIdeal.nD) → Buf (Elt Ideal) ((c.tc : Thread Cert.BranchAFwdIdeal.nD Cert.BranchAFwdIdeal.τ).loc Cert.BranchAFwdIdeal.main_v0)),
      θ_run (Cert.BranchAFwdIdeal.defs (F := Ideal)) (onTc (τ := Cert.BranchAFwdIdeal.τ) (Cert.BranchAFwdIdeal.main (F := Ideal))) ⟨m, fun _ => 0, g⟩ (fun r => ∀ c : Dev Cert.BranchAFwdIdeal.nD,
          r.2.mem ((c.tc : Thread Cert.BranchAFwdIdeal.nD Cert.BranchAFwdIdeal.τ).loc Cert.BranchAFwdIdeal.main_v0) = v0 c
          ∧ r.2.mem ((c.tc : Thread Cert.BranchAFwdIdeal.nD Cert.BranchAFwdIdeal.τ).loc Cert.BranchAFwdIdeal.main_arg0) = m ((c.tc : Thread Cert.BranchAFwdIdeal.nD Cert.BranchAFwdIdeal.τ).loc Cert.BranchAFwdIdeal.main_arg0)
          ∧ r.2.mem ((c.tc : Thread Cert.BranchAFwdIdeal.nD Cert.BranchAFwdIdeal.τ).loc Cert.BranchAFwdIdeal.main_arg1) = m ((c.tc : Thread Cert.BranchAFwdIdeal.nD Cert.BranchAFwdIdeal.τ).loc Cert.BranchAFwdIdeal.main_arg1))
      ∧ θ_run (Cert.BranchAFwdRefIdeal.defs (F := Ideal)) (onTc (τ := Cert.BranchAFwdRefIdeal.τ) (Cert.BranchAFwdRefIdeal.main (F := Ideal))) ⟨m', fun _ => 0, g'⟩ (fun r => ∀ c : Dev Cert.BranchAFwdRefIdeal.nD,
          r.2.mem ((c.tc : Thread Cert.BranchAFwdRefIdeal.nD Cert.BranchAFwdRefIdeal.τ).loc Cert.BranchAFwdRefIdeal.main_v3) = v0 c
          ∧ r.2.mem ((c.tc : Thread Cert.BranchAFwdRefIdeal.nD Cert.BranchAFwdRefIdeal.τ).loc Cert.BranchAFwdRefIdeal.main_arg0) = m' ((c.tc : Thread Cert.BranchAFwdRefIdeal.nD Cert.BranchAFwdRefIdeal.τ).loc Cert.BranchAFwdRefIdeal.main_arg0)
          ∧ r.2.mem ((c.tc : Thread Cert.BranchAFwdRefIdeal.nD Cert.BranchAFwdRefIdeal.τ).loc Cert.BranchAFwdRefIdeal.main_arg1) = m' ((c.tc : Thread Cert.BranchAFwdRefIdeal.nD Cert.BranchAFwdRefIdeal.τ).loc Cert.BranchAFwdRefIdeal.main_arg1))

def preserves_BranchBFwd_BranchBFwdIdeal : Prop :=
  True

def algebraic_BranchBFwdIdeal_BranchBFwdRefIdeal [hBranchBFwdIdeal : Cert.BranchBFwdIdeal.Facts] [hBranchBFwdRefIdeal : Cert.BranchBFwdRefIdeal.Facts] : Prop :=
  ∀ (m : (ℓ : Loc Cert.BranchBFwdIdeal.nD Cert.BranchBFwdIdeal.τ Cert.BranchBFwdIdeal.sig) → Buf (Elt Ideal) ℓ) (g : Dev Cert.BranchBFwdIdeal.nD → PrngReg)
    (m' : (ℓ : Loc Cert.BranchBFwdRefIdeal.nD Cert.BranchBFwdRefIdeal.τ Cert.BranchBFwdRefIdeal.sig) → Buf (Elt Ideal) ℓ) (g' : Dev Cert.BranchBFwdRefIdeal.nD → PrngReg), Pre_BranchBFwdIdeal m →
    (∀ c : Dev Cert.BranchBFwdIdeal.nD,
      m' ((c.tc : Thread Cert.BranchBFwdRefIdeal.nD Cert.BranchBFwdRefIdeal.τ).loc Cert.BranchBFwdRefIdeal.main_arg0) = m ((c.tc : Thread Cert.BranchBFwdIdeal.nD Cert.BranchBFwdIdeal.τ).loc Cert.BranchBFwdIdeal.main_arg0)
      ∧ m' ((c.tc : Thread Cert.BranchBFwdRefIdeal.nD Cert.BranchBFwdRefIdeal.τ).loc Cert.BranchBFwdRefIdeal.main_arg1) = m ((c.tc : Thread Cert.BranchBFwdIdeal.nD Cert.BranchBFwdIdeal.τ).loc Cert.BranchBFwdIdeal.main_arg1)) →
    ∃ (v0 : (c : Dev Cert.BranchBFwdIdeal.nD) → Buf (Elt Ideal) ((c.tc : Thread Cert.BranchBFwdIdeal.nD Cert.BranchBFwdIdeal.τ).loc Cert.BranchBFwdIdeal.main_v0)),
      θ_run (Cert.BranchBFwdIdeal.defs (F := Ideal)) (onTc (τ := Cert.BranchBFwdIdeal.τ) (Cert.BranchBFwdIdeal.main (F := Ideal))) ⟨m, fun _ => 0, g⟩ (fun r => ∀ c : Dev Cert.BranchBFwdIdeal.nD,
          r.2.mem ((c.tc : Thread Cert.BranchBFwdIdeal.nD Cert.BranchBFwdIdeal.τ).loc Cert.BranchBFwdIdeal.main_v0) = v0 c
          ∧ r.2.mem ((c.tc : Thread Cert.BranchBFwdIdeal.nD Cert.BranchBFwdIdeal.τ).loc Cert.BranchBFwdIdeal.main_arg0) = m ((c.tc : Thread Cert.BranchBFwdIdeal.nD Cert.BranchBFwdIdeal.τ).loc Cert.BranchBFwdIdeal.main_arg0)
          ∧ r.2.mem ((c.tc : Thread Cert.BranchBFwdIdeal.nD Cert.BranchBFwdIdeal.τ).loc Cert.BranchBFwdIdeal.main_arg1) = m ((c.tc : Thread Cert.BranchBFwdIdeal.nD Cert.BranchBFwdIdeal.τ).loc Cert.BranchBFwdIdeal.main_arg1))
      ∧ θ_run (Cert.BranchBFwdRefIdeal.defs (F := Ideal)) (onTc (τ := Cert.BranchBFwdRefIdeal.τ) (Cert.BranchBFwdRefIdeal.main (F := Ideal))) ⟨m', fun _ => 0, g'⟩ (fun r => ∀ c : Dev Cert.BranchBFwdRefIdeal.nD,
          r.2.mem ((c.tc : Thread Cert.BranchBFwdRefIdeal.nD Cert.BranchBFwdRefIdeal.τ).loc Cert.BranchBFwdRefIdeal.main_v4) = v0 c
          ∧ r.2.mem ((c.tc : Thread Cert.BranchBFwdRefIdeal.nD Cert.BranchBFwdRefIdeal.τ).loc Cert.BranchBFwdRefIdeal.main_arg0) = m' ((c.tc : Thread Cert.BranchBFwdRefIdeal.nD Cert.BranchBFwdRefIdeal.τ).loc Cert.BranchBFwdRefIdeal.main_arg0)
          ∧ r.2.mem ((c.tc : Thread Cert.BranchBFwdRefIdeal.nD Cert.BranchBFwdRefIdeal.τ).loc Cert.BranchBFwdRefIdeal.main_arg1) = m' ((c.tc : Thread Cert.BranchBFwdRefIdeal.nD Cert.BranchBFwdRefIdeal.τ).loc Cert.BranchBFwdRefIdeal.main_arg1))

def preserves_ForgetFwd_ForgetFwdIdeal : Prop :=
  True

def algebraic_ForgetFwdIdeal_ForgetFwdRefIdeal [hForgetFwdIdeal : Cert.ForgetFwdIdeal.Facts] [hForgetFwdRefIdeal : Cert.ForgetFwdRefIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg)
    (m' : (ℓ : Loc Cert.ForgetFwdRefIdeal.nD Cert.ForgetFwdRefIdeal.τ Cert.ForgetFwdRefIdeal.sig) → Buf (Elt Ideal) ℓ) (g' : Dev Cert.ForgetFwdRefIdeal.nD → PrngReg), Pre_ForgetFwdIdeal m →
    (∀ c : Dev Cert.ForgetFwdIdeal.nD,
      m' ((c.tc : Thread Cert.ForgetFwdRefIdeal.nD Cert.ForgetFwdRefIdeal.τ).loc Cert.ForgetFwdRefIdeal.main_arg0) = m ((c.tc : Thread Cert.ForgetFwdIdeal.nD Cert.ForgetFwdIdeal.τ).loc Cert.ForgetFwdIdeal.main_arg0)
      ∧ m' ((c.tc : Thread Cert.ForgetFwdRefIdeal.nD Cert.ForgetFwdRefIdeal.τ).loc Cert.ForgetFwdRefIdeal.main_arg1) = m ((c.tc : Thread Cert.ForgetFwdIdeal.nD Cert.ForgetFwdIdeal.τ).loc Cert.ForgetFwdIdeal.main_arg1)) →
    ∃ (v0 : (c : Dev Cert.ForgetFwdIdeal.nD) → Buf (Elt Ideal) ((c.tc : Thread Cert.ForgetFwdIdeal.nD Cert.ForgetFwdIdeal.τ).loc Cert.ForgetFwdIdeal.main_v0)),
      θ_run (Cert.ForgetFwdIdeal.defs (F := Ideal)) (onTc (τ := Cert.ForgetFwdIdeal.τ) (Cert.ForgetFwdIdeal.main (F := Ideal))) ⟨m, fun _ => 0, g⟩ (fun r => ∀ c : Dev Cert.ForgetFwdIdeal.nD,
          r.2.mem ((c.tc : Thread Cert.ForgetFwdIdeal.nD Cert.ForgetFwdIdeal.τ).loc Cert.ForgetFwdIdeal.main_v0) = v0 c
          ∧ r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
          ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1))
      ∧ θ_run (Cert.ForgetFwdRefIdeal.defs (F := Ideal)) (onTc (τ := Cert.ForgetFwdRefIdeal.τ) (Cert.ForgetFwdRefIdeal.main (F := Ideal))) ⟨m', fun _ => 0, g'⟩ (fun r => ∀ c : Dev Cert.ForgetFwdRefIdeal.nD,
          r.2.mem ((c.tc : Thread Cert.ForgetFwdRefIdeal.nD Cert.ForgetFwdRefIdeal.τ).loc Cert.ForgetFwdRefIdeal.main_v2) = v0 c
          ∧ r.2.mem ((c.tc : Thread Cert.ForgetFwdRefIdeal.nD Cert.ForgetFwdRefIdeal.τ).loc Cert.ForgetFwdRefIdeal.main_arg0) = m' ((c.tc : Thread Cert.ForgetFwdRefIdeal.nD Cert.ForgetFwdRefIdeal.τ).loc Cert.ForgetFwdRefIdeal.main_arg0)
          ∧ r.2.mem ((c.tc : Thread Cert.ForgetFwdRefIdeal.nD Cert.ForgetFwdRefIdeal.τ).loc Cert.ForgetFwdRefIdeal.main_arg1) = m' ((c.tc : Thread Cert.ForgetFwdRefIdeal.nD Cert.ForgetFwdRefIdeal.τ).loc Cert.ForgetFwdRefIdeal.main_arg1))

def preserves_AdamIn_AdamInIdeal : Prop :=
  IdealRules.named_const.Statement Cert.AdamInIdeal.κ "first" .f32 0x3FC48605#32 (((5463681 / 8388608)⁻¹ : ℝ) : EReal)
  ∧ IdealRules.named_const.Statement Cert.AdamInIdeal.κ "second" .f32 0x42C8E6D3#32 (((2672307 / 268435456)⁻¹ : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamBranch_AdamBranchIdeal : Prop :=
  IdealRules.named_const.Statement Cert.AdamBranchIdeal.κ "first" .f32 0x3FC48605#32 (((5463681 / 8388608)⁻¹ : ℝ) : EReal)
  ∧ IdealRules.named_const.Statement Cert.AdamBranchIdeal.κ "second" .f32 0x42C8E6D3#32 (((2672307 / 268435456)⁻¹ : ℝ) : EReal)

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)
      ∧ m' ((c.tc : Thread Cert.AdamBranchRefIdeal.nD Cert.AdamBranchRefIdeal.τ).loc Cert.AdamBranchRefIdeal.main_arg5) = m ((c.tc : Thread Cert.AdamBranchIdeal.nD Cert.AdamBranchIdeal.τ).loc Cert.AdamBranchIdeal.main_arg5)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
          ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v6) = v0 c
          ∧ r.2.mem ((c.tc : Thread Cert.AdamBranchRefIdeal.nD Cert.AdamBranchRefIdeal.τ).loc Cert.AdamBranchRefIdeal.main_v30) = v1 c
          ∧ r.2.mem ((c.tc : Thread Cert.AdamBranchRefIdeal.nD Cert.AdamBranchRefIdeal.τ).loc Cert.AdamBranchRefIdeal.main_v11) = v2 c
          ∧ r.2.mem ((c.tc : Thread Cert.AdamBranchRefIdeal.nD Cert.AdamBranchRefIdeal.τ).loc Cert.AdamBranchRefIdeal.main_v17) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4)
          ∧ r.2.mem ((c.tc : Thread Cert.AdamBranchRefIdeal.nD Cert.AdamBranchRefIdeal.τ).loc Cert.AdamBranchRefIdeal.main_arg5) = m' ((c.tc : Thread Cert.AdamBranchRefIdeal.nD Cert.AdamBranchRefIdeal.τ).loc Cert.AdamBranchRefIdeal.main_arg5))

def preserves_AdamOut_AdamOutIdeal : Prop :=
  IdealRules.named_const.Statement Cert.AdamOutIdeal.κ "first" .f32 0x3FC48605#32 (((5463681 / 8388608)⁻¹ : ℝ) : EReal)
  ∧ IdealRules.named_const.Statement Cert.AdamOutIdeal.κ "second" .f32 0x42C8E6D3#32 (((2672307 / 268435456)⁻¹ : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamUp_AdamUpIdeal : Prop :=
  IdealRules.named_const.Statement Cert.AdamUpIdeal.κ "first" .f32 0x3FC48605#32 (((5463681 / 8388608)⁻¹ : ℝ) : EReal)
  ∧ IdealRules.named_const.Statement Cert.AdamUpIdeal.κ "second" .f32 0x42C8E6D3#32 (((2672307 / 268435456)⁻¹ : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_v17) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  IdealRules.named_const.Statement Cert.AdamDownIdeal.κ "first" .f32 0x3FC48605#32 (((5463681 / 8388608)⁻¹ : ℝ) : EReal)
  ∧ IdealRules.named_const.Statement Cert.AdamDownIdeal.κ "second" .f32 0x42C8E6D3#32 (((2672307 / 268435456)⁻¹ : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_AdamSmall_AdamSmallIdeal : Prop :=
  IdealRules.named_const.Statement Cert.AdamSmallIdeal.κ "first" .f32 0x3FC48605#32 (((5463681 / 8388608)⁻¹ : ℝ) : EReal)
  ∧ IdealRules.named_const.Statement Cert.AdamSmallIdeal.κ "second" .f32 0x42C8E6D3#32 (((2672307 / 268435456)⁻¹ : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v6) = v0 c
          ∧ r.2.mem ((c.tc : Thread Cert.AdamSmallRefIdeal.nD Cert.AdamSmallRefIdeal.τ).loc Cert.AdamSmallRefIdeal.main_v30) = v1 c
          ∧ r.2.mem ((c.tc : Thread Cert.AdamSmallRefIdeal.nD Cert.AdamSmallRefIdeal.τ).loc Cert.AdamSmallRefIdeal.main_v11) = v2 c
          ∧ r.2.mem ((c.tc : Thread Cert.AdamSmallRefIdeal.nD Cert.AdamSmallRefIdeal.τ).loc Cert.AdamSmallRefIdeal.main_v17) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v11) = v0 c
          ∧ r.2.mem ((c.tc : Thread Cert.LossHeadRefIdeal.nD Cert.LossHeadRefIdeal.τ).loc Cert.LossHeadRefIdeal.main_v19) = v1 c
          ∧ r.2.mem ((c.tc : Thread Cert.LossHeadRefIdeal.nD Cert.LossHeadRefIdeal.τ).loc Cert.LossHeadRefIdeal.main_v20) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hKernel : Cert.Kernel.Facts) (hKernelIdeal : Cert.KernelIdeal.Facts) (hWideBwdX : Cert.WideBwdX.Facts) (hWideBwdXIdeal : Cert.WideBwdXIdeal.Facts) (hWideBwdXRefIdeal : Cert.WideBwdXRefIdeal.Facts) (hWideBwdW : Cert.WideBwdW.Facts) (hWideBwdWIdeal : Cert.WideBwdWIdeal.Facts) (hWideBwdWRefIdeal : Cert.WideBwdWRefIdeal.Facts) (hUpBwdW : Cert.UpBwdW.Facts) (hUpBwdWIdeal : Cert.UpBwdWIdeal.Facts) (hUpBwdWRefIdeal : Cert.UpBwdWRefIdeal.Facts) (hDownBwdX : Cert.DownBwdX.Facts) (hDownBwdXIdeal : Cert.DownBwdXIdeal.Facts) (hDownBwdXRefIdeal : Cert.DownBwdXRefIdeal.Facts) (hDownBwdW : Cert.DownBwdW.Facts) (hDownBwdWIdeal : Cert.DownBwdWIdeal.Facts) (hDownBwdWRefIdeal : Cert.DownBwdWRefIdeal.Facts) (hOutBwdX : Cert.OutBwdX.Facts) (hOutBwdXIdeal : Cert.OutBwdXIdeal.Facts) (hOutBwdXRefIdeal : Cert.OutBwdXRefIdeal.Facts) (hOutBwdW : Cert.OutBwdW.Facts) (hOutBwdWIdeal : Cert.OutBwdWIdeal.Facts) (hOutBwdWRefIdeal : Cert.OutBwdWRefIdeal.Facts) (hBranchBwdX : Cert.BranchBwdX.Facts) (hBranchBwdXIdeal : Cert.BranchBwdXIdeal.Facts) (hBranchBwdXRefIdeal : Cert.BranchBwdXRefIdeal.Facts) (hBranchABwdW : Cert.BranchABwdW.Facts) (hBranchABwdWIdeal : Cert.BranchABwdWIdeal.Facts) (hBranchABwdWRefIdeal : Cert.BranchABwdWRefIdeal.Facts) (hBranchBBwdW : Cert.BranchBBwdW.Facts) (hBranchBBwdWIdeal : Cert.BranchBBwdWIdeal.Facts) (hBranchBBwdWRefIdeal : Cert.BranchBBwdWRefIdeal.Facts) (hForgetBwdX : Cert.ForgetBwdX.Facts) (hForgetBwdXIdeal : Cert.ForgetBwdXIdeal.Facts) (hForgetBwdXRefIdeal : Cert.ForgetBwdXRefIdeal.Facts) (hForgetBwdW : Cert.ForgetBwdW.Facts) (hForgetBwdWIdeal : Cert.ForgetBwdWIdeal.Facts) (hForgetBwdWRefIdeal : Cert.ForgetBwdWRefIdeal.Facts) (hWideFwd : Cert.WideFwd.Facts) (hWideFwdIdeal : Cert.WideFwdIdeal.Facts) (hWideFwdRefIdeal : Cert.WideFwdRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hBranchAFwd : Cert.BranchAFwd.Facts) (hBranchAFwdIdeal : Cert.BranchAFwdIdeal.Facts) (hBranchAFwdRefIdeal : Cert.BranchAFwdRefIdeal.Facts) (hBranchBFwd : Cert.BranchBFwd.Facts) (hBranchBFwdIdeal : Cert.BranchBFwdIdeal.Facts) (hBranchBFwdRefIdeal : Cert.BranchBFwdRefIdeal.Facts) (hForgetFwd : Cert.ForgetFwd.Facts) (hForgetFwdIdeal : Cert.ForgetFwdIdeal.Facts) (hForgetFwdRefIdeal : Cert.ForgetFwdRefIdeal.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hLossHead : Cert.LossHead.Facts) (hLossHeadIdeal : Cert.LossHeadIdeal.Facts) (hLossHeadRefIdeal : Cert.LossHeadRefIdeal.Facts),
    quiescent_Kernel (hKernel := hKernel)
    ∧ quiescent_KernelIdeal (hKernelIdeal := hKernelIdeal)
    ∧ quiescent_WideBwdX (hWideBwdX := hWideBwdX)
    ∧ quiescent_WideBwdXIdeal (hWideBwdXIdeal := hWideBwdXIdeal)
    ∧ quiescent_WideBwdXRefIdeal (hWideBwdXRefIdeal := hWideBwdXRefIdeal)
    ∧ quiescent_WideBwdW (hWideBwdW := hWideBwdW)
    ∧ quiescent_WideBwdWIdeal (hWideBwdWIdeal := hWideBwdWIdeal)
    ∧ quiescent_WideBwdWRefIdeal (hWideBwdWRefIdeal := hWideBwdWRefIdeal)
    ∧ quiescent_UpBwdW (hUpBwdW := hUpBwdW)
    ∧ quiescent_UpBwdWIdeal (hUpBwdWIdeal := hUpBwdWIdeal)
    ∧ quiescent_UpBwdWRefIdeal (hUpBwdWRefIdeal := hUpBwdWRefIdeal)
    ∧ quiescent_DownBwdX (hDownBwdX := hDownBwdX)
    ∧ quiescent_DownBwdXIdeal (hDownBwdXIdeal := hDownBwdXIdeal)
    ∧ quiescent_DownBwdXRefIdeal (hDownBwdXRefIdeal := hDownBwdXRefIdeal)
    ∧ quiescent_DownBwdW (hDownBwdW := hDownBwdW)
    ∧ quiescent_DownBwdWIdeal (hDownBwdWIdeal := hDownBwdWIdeal)
    ∧ quiescent_DownBwdWRefIdeal (hDownBwdWRefIdeal := hDownBwdWRefIdeal)
    ∧ quiescent_OutBwdX (hOutBwdX := hOutBwdX)
    ∧ quiescent_OutBwdXIdeal (hOutBwdXIdeal := hOutBwdXIdeal)
    ∧ quiescent_OutBwdXRefIdeal (hOutBwdXRefIdeal := hOutBwdXRefIdeal)
    ∧ quiescent_OutBwdW (hOutBwdW := hOutBwdW)
    ∧ quiescent_OutBwdWIdeal (hOutBwdWIdeal := hOutBwdWIdeal)
    ∧ quiescent_OutBwdWRefIdeal (hOutBwdWRefIdeal := hOutBwdWRefIdeal)
    ∧ quiescent_BranchBwdX (hBranchBwdX := hBranchBwdX)
    ∧ quiescent_BranchBwdXIdeal (hBranchBwdXIdeal := hBranchBwdXIdeal)
    ∧ quiescent_BranchBwdXRefIdeal (hBranchBwdXRefIdeal := hBranchBwdXRefIdeal)
    ∧ quiescent_BranchABwdW (hBranchABwdW := hBranchABwdW)
    ∧ quiescent_BranchABwdWIdeal (hBranchABwdWIdeal := hBranchABwdWIdeal)
    ∧ quiescent_BranchABwdWRefIdeal (hBranchABwdWRefIdeal := hBranchABwdWRefIdeal)
    ∧ quiescent_BranchBBwdW (hBranchBBwdW := hBranchBBwdW)
    ∧ quiescent_BranchBBwdWIdeal (hBranchBBwdWIdeal := hBranchBBwdWIdeal)
    ∧ quiescent_BranchBBwdWRefIdeal (hBranchBBwdWRefIdeal := hBranchBBwdWRefIdeal)
    ∧ quiescent_ForgetBwdX (hForgetBwdX := hForgetBwdX)
    ∧ quiescent_ForgetBwdXIdeal (hForgetBwdXIdeal := hForgetBwdXIdeal)
    ∧ quiescent_ForgetBwdXRefIdeal (hForgetBwdXRefIdeal := hForgetBwdXRefIdeal)
    ∧ quiescent_ForgetBwdW (hForgetBwdW := hForgetBwdW)
    ∧ quiescent_ForgetBwdWIdeal (hForgetBwdWIdeal := hForgetBwdWIdeal)
    ∧ quiescent_ForgetBwdWRefIdeal (hForgetBwdWRefIdeal := hForgetBwdWRefIdeal)
    ∧ quiescent_WideFwd (hWideFwd := hWideFwd)
    ∧ quiescent_WideFwdIdeal (hWideFwdIdeal := hWideFwdIdeal)
    ∧ quiescent_WideFwdRefIdeal (hWideFwdRefIdeal := hWideFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_BranchAFwd (hBranchAFwd := hBranchAFwd)
    ∧ quiescent_BranchAFwdIdeal (hBranchAFwdIdeal := hBranchAFwdIdeal)
    ∧ quiescent_BranchAFwdRefIdeal (hBranchAFwdRefIdeal := hBranchAFwdRefIdeal)
    ∧ quiescent_BranchBFwd (hBranchBFwd := hBranchBFwd)
    ∧ quiescent_BranchBFwdIdeal (hBranchBFwdIdeal := hBranchBFwdIdeal)
    ∧ quiescent_BranchBFwdRefIdeal (hBranchBFwdRefIdeal := hBranchBFwdRefIdeal)
    ∧ quiescent_ForgetFwd (hForgetFwd := hForgetFwd)
    ∧ quiescent_ForgetFwdIdeal (hForgetFwdIdeal := hForgetFwdIdeal)
    ∧ quiescent_ForgetFwdRefIdeal (hForgetFwdRefIdeal := hForgetFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_Kernel_KernelIdeal
    ∧ preserves_WideBwdX_WideBwdXIdeal
    ∧ algebraic_WideBwdXIdeal_WideBwdXRefIdeal (hWideBwdXIdeal := hWideBwdXIdeal) (hWideBwdXRefIdeal := hWideBwdXRefIdeal)
    ∧ preserves_WideBwdW_WideBwdWIdeal
    ∧ algebraic_WideBwdWIdeal_WideBwdWRefIdeal (hWideBwdWIdeal := hWideBwdWIdeal) (hWideBwdWRefIdeal := hWideBwdWRefIdeal)
    ∧ preserves_UpBwdW_UpBwdWIdeal
    ∧ algebraic_UpBwdWIdeal_UpBwdWRefIdeal (hUpBwdWIdeal := hUpBwdWIdeal) (hUpBwdWRefIdeal := hUpBwdWRefIdeal)
    ∧ preserves_DownBwdX_DownBwdXIdeal
    ∧ algebraic_DownBwdXIdeal_DownBwdXRefIdeal (hDownBwdXIdeal := hDownBwdXIdeal) (hDownBwdXRefIdeal := hDownBwdXRefIdeal)
    ∧ preserves_DownBwdW_DownBwdWIdeal
    ∧ algebraic_DownBwdWIdeal_DownBwdWRefIdeal (hDownBwdWIdeal := hDownBwdWIdeal) (hDownBwdWRefIdeal := hDownBwdWRefIdeal)
    ∧ preserves_OutBwdX_OutBwdXIdeal
    ∧ algebraic_OutBwdXIdeal_OutBwdXRefIdeal (hOutBwdXIdeal := hOutBwdXIdeal) (hOutBwdXRefIdeal := hOutBwdXRefIdeal)
    ∧ preserves_OutBwdW_OutBwdWIdeal
    ∧ algebraic_OutBwdWIdeal_OutBwdWRefIdeal (hOutBwdWIdeal := hOutBwdWIdeal) (hOutBwdWRefIdeal := hOutBwdWRefIdeal)
    ∧ preserves_BranchBwdX_BranchBwdXIdeal
    ∧ algebraic_BranchBwdXIdeal_BranchBwdXRefIdeal (hBranchBwdXIdeal := hBranchBwdXIdeal) (hBranchBwdXRefIdeal := hBranchBwdXRefIdeal)
    ∧ preserves_BranchABwdW_BranchABwdWIdeal
    ∧ algebraic_BranchABwdWIdeal_BranchABwdWRefIdeal (hBranchABwdWIdeal := hBranchABwdWIdeal) (hBranchABwdWRefIdeal := hBranchABwdWRefIdeal)
    ∧ preserves_BranchBBwdW_BranchBBwdWIdeal
    ∧ algebraic_BranchBBwdWIdeal_BranchBBwdWRefIdeal (hBranchBBwdWIdeal := hBranchBBwdWIdeal) (hBranchBBwdWRefIdeal := hBranchBBwdWRefIdeal)
    ∧ preserves_ForgetBwdX_ForgetBwdXIdeal
    ∧ algebraic_ForgetBwdXIdeal_ForgetBwdXRefIdeal (hForgetBwdXIdeal := hForgetBwdXIdeal) (hForgetBwdXRefIdeal := hForgetBwdXRefIdeal)
    ∧ preserves_ForgetBwdW_ForgetBwdWIdeal
    ∧ algebraic_ForgetBwdWIdeal_ForgetBwdWRefIdeal (hForgetBwdWIdeal := hForgetBwdWIdeal) (hForgetBwdWRefIdeal := hForgetBwdWRefIdeal)
    ∧ preserves_WideFwd_WideFwdIdeal
    ∧ algebraic_WideFwdIdeal_WideFwdRefIdeal (hWideFwdIdeal := hWideFwdIdeal) (hWideFwdRefIdeal := hWideFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_BranchAFwd_BranchAFwdIdeal
    ∧ algebraic_BranchAFwdIdeal_BranchAFwdRefIdeal (hBranchAFwdIdeal := hBranchAFwdIdeal) (hBranchAFwdRefIdeal := hBranchAFwdRefIdeal)
    ∧ preserves_BranchBFwd_BranchBFwdIdeal
    ∧ algebraic_BranchBFwdIdeal_BranchBFwdRefIdeal (hBranchBFwdIdeal := hBranchBFwdIdeal) (hBranchBFwdRefIdeal := hBranchBFwdRefIdeal)
    ∧ preserves_ForgetFwd_ForgetFwdIdeal
    ∧ algebraic_ForgetFwdIdeal_ForgetFwdRefIdeal (hForgetFwdIdeal := hForgetFwdIdeal) (hForgetFwdRefIdeal := hForgetFwdRefIdeal)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_LossHead_LossHeadIdeal
    ∧ algebraic_LossHeadIdeal_LossHeadRefIdeal (hLossHeadIdeal := hLossHeadIdeal) (hLossHeadRefIdeal := hLossHeadRefIdeal)
-- ==== Kernel.lean ====
abbrev S8704x5632 : Shape := ⟨2, ![8704, 5632]⟩
abbrev S8704x512 : Shape := ⟨2, ![8704, 512]⟩
abbrev S544x4x128x128 : Shape := ⟨4, ![544, 4, 128, 128]⟩
abbrev S256x512 : Shape := ⟨2, ![256, 512]⟩
abbrev S16x4x128x128 : Shape := ⟨4, ![16, 4, 128, 128]⟩
abbrev S4x128x128 : Shape := ⟨3, ![4, 128, 128]⟩
abbrev S3x16x512 : Shape := ⟨3, ![3, 16, 512]⟩
abbrev S16x1 : Shape := ⟨2, ![16, 1]⟩
abbrev S16x512 : Shape := ⟨2, ![16, 512]⟩
abbrev S1x16x512 : Shape := ⟨3, ![1, 16, 512]⟩
abbrev S16x128 : Shape := ⟨2, ![16, 128]⟩
abbrev S1x16x128 : Shape := ⟨3, ![1, 16, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1x1x128x128 : Shape := ⟨4, ![1, 1, 128, 128]⟩
abbrev S16 : Shape := ⟨1, ![16]⟩
abbrev S3x16x128 : Shape := ⟨3, ![3, 16, 128]⟩
abbrev S128 : Shape := ⟨1, ![128]⟩

abbrev nBuf : Space → Nat
  | .hbm => 10
  | .vmem => 37
  | .smem => 0
  | _ => 0

abbrev bufTy : (tb : Table) → Fin (tcTables nBuf tb) → BufTy
  | .hbm, ⟨0, _⟩ => ⟨S8704x5632, .f32⟩
  | .hbm, ⟨1, _⟩ => ⟨S8704x512, .f32⟩
  | .hbm, ⟨2, _⟩ => ⟨S8704x512, .f32⟩
  | .hbm, ⟨3, _⟩ => ⟨S8704x512, .f32⟩
  | .hbm, ⟨4, _⟩ => ⟨S8704x512, .f32⟩
  | .hbm, ⟨5, _⟩ => ⟨S544x4x128x128, .f32⟩
  | .hbm, ⟨6, _⟩ => ⟨S8704x512, .f32⟩
  | .hbm, ⟨7, _⟩ => ⟨S8704x512, .f32⟩
  | .hbm, ⟨8, _⟩ => ⟨S8704x512, .f32⟩
  | .hbm, ⟨9, _⟩ => ⟨S8704x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S16x4x128x128, .f32⟩
  | .local _ .vmem, ⟨11, _⟩ => ⟨S16x4x128x128, .f32⟩
  | .local _ .vmem, ⟨12, _⟩ => ⟨S4x128x128, .f32⟩
  | .local _ .vmem, ⟨13, _⟩ => ⟨S3x16x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S16x4x128x128, .f32⟩
  | .local _ .vmem, ⟨25, _⟩ => ⟨S16x4x128x128, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S4x128x128, .f32⟩
  | .local _ .vmem, ⟨35, _⟩ => ⟨S3x16x512, .f32⟩
  | .local _ .vmem, ⟨36, _⟩ => ⟨S3x16x128, .f32⟩
  | _, _ => ⟨S8704x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![2, 17], ![false, false]⟩

@[reducible] def k0_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c16_i32_3 : BitVec 32 := 16#32
  let v5 : BitVec 32 := Scalar.muli arg10 c16_i32_3
  v5
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_3 : BitVec 32 := 16#32
  let v5 : BitVec 32 := Scalar.muli arg10 c16_i32_3
  let v6 : BitVec 32 := v5
  let v7 : Index := Scalar.indexCast v6
  let c0 : Index := 0#32
  ![v7.toNat, 0]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_3 : BitVec 32 := 16#32
  let v5 : BitVec 32 := Scalar.muli arg10 c16_i32_3
  let v6 : BitVec 32 := v5
  let v22 : Index := Scalar.indexCast v6
  let c0_13 : Index := 0#32
  ![v22.toNat, 0]
def k0_off3 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v34 : Index := Scalar.indexCast arg10
  let c0_28 : Index := 0#32
  let c0_29 : Index := 0#32
  let c0_30 : Index := 0#32
  ![v34.toNat, 0, 0, 0]
def k0_off4 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_3 : BitVec 32 := 16#32
  let v5 : BitVec 32 := Scalar.muli arg10 c16_i32_3
  let v6 : BitVec 32 := v5
  let v443 : Index := Scalar.indexCast v6
  let c128 : Index := 128#32
  ![v443.toNat, 128]
def k0_off5 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v455 : Index := Scalar.indexCast arg10
  let c1_233 : Index := 1#32
  let c0_234 : Index := 0#32
  let c0_235 : Index := 0#32
  ![v455.toNat, 1, 0, 0]
def k0_off6 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_3 : BitVec 32 := 16#32
  let v5 : BitVec 32 := Scalar.muli arg10 c16_i32_3
  let v6 : BitVec 32 := v5
  let v864 : Index := Scalar.indexCast v6
  let c256 : Index := 256#32
  ![v864.toNat, 256]
def k0_off7 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v876 : Index := Scalar.indexCast arg10
  let c2_465 : Index := 2#32
  let c0_466 : Index := 0#32
  let c0_467 : Index := 0#32
  ![v876.toNat, 2, 0, 0]
def k0_off8 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c16_i32_3 : BitVec 32 := 16#32
  let v5 : BitVec 32 := Scalar.muli arg10 c16_i32_3
  let v6 : BitVec 32 := v5
  let v1285 : Index := Scalar.indexCast v6
  let c384 : Index := 384#32
  ![v1285.toNat, 384]
def k0_off9 (k0_t1 : Fin k0_t1_loop.trips) : Fin 4 → Nat :=
  let c0_i32_1 : BitVec 32 := 0#32
  let c1_i32 : BitVec 32 := 1#32
  let arg10 : BitVec 32 := Scf.iv c0_i32_1 c1_i32 k0_t1
  let v1297 : Index := Scalar.indexCast arg10
  let c3_697 : Index := 3#32
  let c0_698 : Index := 0#32
  let c0_699 : Index := 0#32
  ![v1297.toNat, 3, 0, 0]
def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c8_i32 : BitVec 32 := 8#32
  let c0_i32 : BitVec 32 := 0#32
  ![v1.toNat, c8_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 17], ![false, false]⟩

@[reducible] def k1_t1_loop : Scf.Loop 32 :=
  let c0_i32_1 : BitVec 32 := 0#32
  let c16_i32 : BitVec 32 := 16#32
  let v4 : BitVec 32 := Scalar.addi c0_i32_1 c16_i32
  let c1_i32 : BitVec 32 := 1#32
  ⟨c0_i32_1, v4, c1_i32⟩
def k1_mult1 (k1_t1 : Fin k1_t1_loop.trips) : BitVec 32 :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let c16_i32_3 : BitVec 32 := 16#32
  let v6 : BitVec 32 := Scalar.muli v5 c16_i32_3
  v6
def k1_off1 (k1_t1 : Fin k1_t1_loop.trips) : Fin 2 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let c16_i32_3 : BitVec 32 := 16#32
  let v6 : BitVec 32 := Scalar.muli v5 c16_i32_3
  let v7 : BitVec 32 := v6
  let v8 : Index := Scalar.indexCast v7
  let c0 : Index := 0#32
  ![v8.toNat, 0]
def k1_off2 (k1_t1 : Fin k1_t1_loop.trips) : Fin 2 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let c16_i32_3 : BitVec 32 := 16#32
  let v6 : BitVec 32 := Scalar.muli v5 c16_i32_3
  let v7 : BitVec 32 := v6
  let v23 : Index := Scalar.indexCast v7
  let c0_13 : Index := 0#32
  ![v23.toNat, 0]
def k1_off3 (k1_t1 : Fin k1_t1_loop.trips) : Fin 4 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let v35 : Index := Scalar.indexCast v5
  let c0_26 : Index := 0#32
  let c0_27 : Index := 0#32
  let c0_28 : Index := 0#32
  ![v35.toNat, 0, 0, 0]
def k1_off4 (k1_t1 : Fin k1_t1_loop.trips) : Fin 2 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let c16_i32_3 : BitVec 32 := 16#32
  let v6 : BitVec 32 := Scalar.muli v5 c16_i32_3
  let v7 : BitVec 32 := v6
  let v966 : Index := Scalar.indexCast v7
  let c128 : Index := 128#32
  ![v966.toNat, 128]
def k1_off5 (k1_t1 : Fin k1_t1_loop.trips) : Fin 4 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let v978 : Index := Scalar.indexCast v5
  let c1_459 : Index := 1#32
  let c0_460 : Index := 0#32
  let c0_461 : Index := 0#32
  ![v978.toNat, 1, 0, 0]
def k1_off6 (k1_t1 : Fin k1_t1_loop.trips) : Fin 2 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let c16_i32_3 : BitVec 32 := 16#32
  let v6 : BitVec 32 := Scalar.muli v5 c16_i32_3
  let v7 : BitVec 32 := v6
  let v1909 : Index := Scalar.indexCast v7
  let c256 : Index := 256#32
  ![v1909.toNat, 256]
def k1_off7 (k1_t1 : Fin k1_t1_loop.trips) : Fin 4 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let v1921 : Index := Scalar.indexCast v5
  let c2_918 : Index := 2#32
  let c0_919 : Index := 0#32
  let c0_920 : Index := 0#32
  ![v1921.toNat, 2, 0, 0]
def k1_off8 (k1_t1 : Fin k1_t1_loop.trips) : Fin 2 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let c16_i32_3 : BitVec 32 := 16#32
  let v6 : BitVec 32 := Scalar.muli v5 c16_i32_3
  let v7 : BitVec 32 := v6
  let v2852 : Index := Scalar.indexCast v7
  let c384 : Index := 384#32
  ![v2852.toNat, 384]
def k1_off9 (k1_t1 : Fin k1_t1_loop.trips) : Fin 4 → Nat :=
  let c15_i32 : BitVec 32 := 15#32
  let c0_i32_1 : BitVec 32 := 0#32
  let c1_i32 : BitVec 32 := 1#32
  let arg15 : BitVec 32 := Scf.iv c0_i32_1 c1_i32 k1_t1
  let v5 : BitVec 32 := Scalar.subi c15_i32 arg15
  let v2864 : Index := Scalar.indexCast v5
  let c3_1377 : Index := 3#32
  let c0_1378 : Index := 0#32
  let c0_1379 : Index := 0#32
  ![v2864.toNat, 3, 0, 0]
def cc1_transform_0 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c7_i32 : BitVec 32 := 7#32
  let c0_i32 : BitVec 32 := 0#32
  ![v3.toNat, c7_i32.toNat]

def cc1_transform_1 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_2 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_3 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c8_i32 : BitVec 32 := 8#32
  let c0_i32 : BitVec 32 := 0#32
  ![v3.toNat, c8_i32.toNat]

def cc1_transform_4 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_5 (i : grid1.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  let c0_i32_3 : BitVec 32 := 0#32
  ![v3.toNat, c0_i32.toNat, c0_i32_1.toNat, c0_i32_2.toNat]

def cc1_transform_6 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_7 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_8 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc1_transform_9 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c17_i32_0 : BitVec 32 := 17#32
  let v1 : BitVec 32 := Scalar.addi v0 c17_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S16x4x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== WideBwdX.lean ====
abbrev S8704x5632 : Shape := ⟨2, ![8704, 5632]⟩
abbrev S1024x5632 : Shape := ⟨2, ![1024, 5632]⟩
abbrev S8704x1024 : Shape := ⟨2, ![8704, 1024]⟩
abbrev S1088x1408 : Shape := ⟨2, ![1088, 1408]⟩
abbrev S1024x1408 : Shape := ⟨2, ![1024, 1408]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x5632, .bf16⟩
  | .hbm, ⟨1, _⟩ => ⟨S1024x5632, .bf16⟩
  | .hbm, ⟨2, _⟩ => ⟨S8704x1024, .bf16⟩
  | .local _ .vmem, ⟨0, _⟩ => ⟨S1088x1408, .bf16⟩
  | .local _ .vmem, ⟨1, _⟩ => ⟨S1088x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S8704x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideBwdXRefIdeal.lean ====
abbrev S8704x5632 : Shape := ⟨2, ![8704, 5632]⟩
abbrev S1024x5632 : Shape := ⟨2, ![1024, 5632]⟩
abbrev S_ : Shape := ⟨0, ![]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x5632, .bf16⟩
  | .hbm, ⟨1, _⟩ => ⟨S1024x5632, .bf16⟩
  | .hbm, ⟨2, _⟩ => ⟨S_, .f32⟩
  | .hbm, ⟨3, _⟩ => ⟨S8704x1024, .f32⟩
  | .hbm, ⟨4, _⟩ => ⟨S1024x5632, .f32⟩
  | .hbm, ⟨5, _⟩ => ⟨S8704x5632, .f32⟩
  | .hbm, ⟨6, _⟩ => ⟨S8704x5632, .f32⟩
  | .hbm, ⟨7, _⟩ => ⟨S8704x1024, .f32⟩
  | .hbm, ⟨8, _⟩ => ⟨S8704x1024, .bf16⟩
  | _, _ => ⟨S8704x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WideBwdW.lean ====
abbrev S8704x1024 : Shape := ⟨2, ![8704, 1024]⟩
abbrev S8704x5632 : Shape := ⟨2, ![8704, 5632]⟩
abbrev S1024x5632 : Shape := ⟨2, ![1024, 5632]⟩
abbrev S2176x1024 : Shape := ⟨2, ![2176, 1024]⟩
abbrev S2176x1408 : Shape := ⟨2, ![2176, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S1024x5632, .f32⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideBwdWRefIdeal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S_, .f32⟩
  | .hbm, ⟨3, _⟩ => ⟨S1024x5632, .f32⟩
  | .hbm, ⟨4, _⟩ => ⟨S8704x1024, .f32⟩
  | .hbm, ⟨5, _⟩ => ⟨S8704x5632, .f32⟩
  | .hbm, ⟨6, _⟩ => ⟨S8704x5632, .f32⟩
  | .hbm, ⟨7, _⟩ => ⟨S5632x1024, .f32⟩
  | .hbm, ⟨8, _⟩ => ⟨S1024x5632, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpBwdW.lean ====
abbrev S8704x1024 : Shape := ⟨2, ![8704, 1024]⟩
abbrev S8704x5632 : Shape := ⟨2, ![8704, 5632]⟩
abbrev S4x1024x1408 : Shape := ⟨3, ![4, 1024, 1408]⟩
abbrev S2176x1024 : Shape := ⟨2, ![2176, 1024]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S4x1024x1408, .f32⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBwdWRefIdeal.lean ====
abbrev S8704x1024 : Shape := ⟨2, ![8704, 1024]⟩
abbrev S8704x5632 : Shape := ⟨2, ![8704, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x5632, .bf16⟩
  | .hbm, ⟨2, _⟩ => ⟨S_, .f32⟩
  | .hbm, ⟨3, _⟩ => ⟨S1024x5632, .f32⟩
  | .hbm, ⟨4, _⟩ => ⟨S8704x1024, .f32⟩
  | .hbm, ⟨5, _⟩ => ⟨S8704x5632, .f32⟩
  | .hbm, ⟨6, _⟩ => ⟨S8704x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownBwdX.lean ====
abbrev S8704x1024 : Shape := ⟨2, ![8704, 1024]⟩
abbrev S2816x1024 : Shape := ⟨2, ![2816, 1024]⟩
abbrev S8704x2816 : Shape := ⟨2, ![8704, 2816]⟩
abbrev S1088x1024 : Shape := ⟨2, ![1088, 1024]⟩
abbrev S1088x2816 : Shape := ⟨2, ![1088, 2816]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S2816x1024, .bf16⟩
  | .hbm, ⟨2, _⟩ => ⟨S8704x2816, .bf16⟩
  | .local _ .vmem, ⟨0, _⟩ => ⟨S1088x1024, .bf16⟩
  | .local _ .vmem, ⟨1, _⟩ => ⟨S1088x1024, .bf16⟩
  | .local _ .vmem, ⟨2, _⟩ => ⟨S2816x1024, .bf16⟩
  | .local _ .vmem, ⟨3, _⟩ => ⟨S1088x2816, .bf16⟩
  | .local _ .vmem, ⟨4, _⟩ => ⟨S1088x2816, .bf16⟩
  | .local _ .vmem, ⟨5, _⟩ => ⟨S8x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdXRefIdeal.lean ====
abbrev S8704x1024 : Shape := ⟨2, ![8704, 1024]⟩
abbrev S2816x1024 : Shape := ⟨2, ![2816, 1024]⟩
abbrev S_ : Shape := ⟨0, ![]⟩
abbrev S8704x2816 : Shape := ⟨2, ![8704, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S2816x1024, .bf16⟩
  | .hbm, ⟨2, _⟩ => ⟨S_, .f32⟩
  | .hbm, ⟨3, _⟩ => ⟨S8704x2816, .f32⟩
  | .hbm, ⟨4, _⟩ => ⟨S2816x1024, .f32⟩
  | .hbm, ⟨5, _⟩ => ⟨S8704x1024, .f32⟩
  | .hbm, ⟨6, _⟩ => ⟨S8704x1024, .f32⟩
  | .hbm, ⟨7, _⟩ => ⟨S8704x2816, .f32⟩
  | .hbm, ⟨8, _⟩ => ⟨S8704x2816, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownBwdW.lean ====
abbrev S8704x2816 : Shape := ⟨2, ![8704, 2816]⟩
abbrev S8704x1024 : Shape := ⟨2, ![8704, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2816, .bf16⟩
  | .hbm, ⟨1, _⟩ => ⟨S8704x1024, .bf16⟩
  | .hbm, ⟨2, _⟩ => ⟨S2816x1024, .f32⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8704x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdWRefIdeal.lean ====
abbrev S8704x2816 : Shape := ⟨2, ![8704, 2816]⟩
abbrev S8704x1024 : Shape := ⟨2, ![8704, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8704x2816, .bf16⟩
  | .hbm, ⟨1, _⟩ => ⟨S8704x1024, .bf16⟩
  | .hbm, ⟨2, _⟩ => ⟨S_, .f32⟩
  | .hbm, ⟨3, _⟩ => ⟨S2816x1024, .f32⟩
  | .hbm, ⟨4, _⟩ => ⟨S8704x2816, .f32⟩
  | .hbm, ⟨5, _⟩ => ⟨S8704x1024, .f32⟩
  | .hbm, ⟨6, _⟩ => ⟨S8704x1024, .f32⟩
  | .hbm, ⟨7, _⟩ => ⟨S1024x2816, .f32⟩
  | .hbm, ⟨8, _⟩ => ⟨S2816x1024, .f32⟩
  | _, _ => ⟨S8704x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBwdX.lean ====
abbrev S8704x1024 : Shape := ⟨2, ![8704, 1024]⟩
abbrev S1024x1024 : Shape := ⟨2, ![1024, 1024]⟩
abbrev S1088x1024 : Shape := ⟨2, ![1088, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | .local _ .vmem, ⟨5, _⟩ => ⟨S8x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdXRefIdeal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S_, .f32⟩
  | .hbm, ⟨3, _⟩ => ⟨S8704x1024, .f32⟩
  | .hbm, ⟨4, _⟩ => ⟨S1024x1024, .f32⟩
  | .hbm, ⟨5, _⟩ => ⟨S8704x1024, .f32⟩
  | .hbm, ⟨6, _⟩ => ⟨S8704x1024, .f32⟩
  | .hbm, ⟨7, _⟩ => ⟨S8704x1024, .f32⟩
  | .hbm, ⟨8, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutBwdW.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutBwdWRefIdeal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S_, .f32⟩
  | .hbm, ⟨3, _⟩ => ⟨S1024x1024, .f32⟩
  | .hbm, ⟨4, _⟩ => ⟨S8704x1024, .f32⟩
  | .hbm, ⟨5, _⟩ => ⟨S8704x1024, .f32⟩
  | .hbm, ⟨6, _⟩ => ⟨S8704x1024, .f32⟩
  | .hbm, ⟨7, _⟩ => ⟨S1024x1024, .f32⟩
  | .hbm, ⟨8, _⟩ => ⟨S1024x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchBwdX.lean ====
abbrev S8704x1024 : Shape := ⟨2, ![8704, 1024]⟩
abbrev S512x1024 : Shape := ⟨2, ![512, 1024]⟩
abbrev S8704x512 : Shape := ⟨2, ![8704, 512]⟩
abbrev S1088x1024 : Shape := ⟨2, ![1088, 1024]⟩
abbrev S1088x512 : Shape := ⟨2, ![1088, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S512x1024, .bf16⟩
  | .hbm, ⟨2, _⟩ => ⟨S8704x512, .bf16⟩
  | .local _ .vmem, ⟨0, _⟩ => ⟨S1088x1024, .bf16⟩
  | .local _ .vmem, ⟨1, _⟩ => ⟨S1088x1024, .bf16⟩
  | .local _ .vmem, ⟨2, _⟩ => ⟨S512x1024, .bf16⟩
  | .local _ .vmem, ⟨3, _⟩ => ⟨S1088x512, .bf16⟩
  | .local _ .vmem, ⟨4, _⟩ => ⟨S1088x512, .bf16⟩
  | .local _ .vmem, ⟨5, _⟩ => ⟨S8x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBwdXRefIdeal.lean ====
abbrev S8704x1024 : Shape := ⟨2, ![8704, 1024]⟩
abbrev S512x1024 : Shape := ⟨2, ![512, 1024]⟩
abbrev S_ : Shape := ⟨0, ![]⟩
abbrev S8704x512 : Shape := ⟨2, ![8704, 512]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S512x1024, .bf16⟩
  | .hbm, ⟨2, _⟩ => ⟨S_, .f32⟩
  | .hbm, ⟨3, _⟩ => ⟨S8704x512, .f32⟩
  | .hbm, ⟨4, _⟩ => ⟨S512x1024, .f32⟩
  | .hbm, ⟨5, _⟩ => ⟨S8704x1024, .f32⟩
  | .hbm, ⟨6, _⟩ => ⟨S8704x1024, .f32⟩
  | .hbm, ⟨7, _⟩ => ⟨S8704x512, .f32⟩
  | .hbm, ⟨8, _⟩ => ⟨S8704x512, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchABwdW.lean ====
abbrev S8704x512 : Shape := ⟨2, ![8704, 512]⟩
abbrev S8704x1024 : Shape := ⟨2, ![8704, 1024]⟩
abbrev S4x512x256 : Shape := ⟨3, ![4, 512, 256]⟩
abbrev S2176x512 : Shape := ⟨2, ![2176, 512]⟩
abbrev S2176x256 : Shape := ⟨2, ![2176, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S8704x512, .bf16⟩
  | .hbm, ⟨1, _⟩ => ⟨S8704x1024, .bf16⟩
  | .hbm, ⟨2, _⟩ => ⟨S4x512x256, .f32⟩
  | .local _ .vmem, ⟨0, _⟩ => ⟨S2176x512, .bf16⟩
  | .local _ .vmem, ⟨1, _⟩ => ⟨S2176x512, .bf16⟩
  | .local _ .vmem, ⟨2, _⟩ => ⟨S2176x256, .bf16⟩
  | .local _ .vmem, ⟨3, _⟩ => ⟨S2176x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchABwdWRefIdeal.lean ====
abbrev S8704x512 : Shape := ⟨2, ![8704, 512]⟩
abbrev S8704x1024 : Shape := ⟨2, ![8704, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S8704x1024, .bf16⟩
  | .hbm, ⟨2, _⟩ => ⟨S_, .f32⟩
  | .hbm, ⟨3, _⟩ => ⟨S512x1024, .f32⟩
  | .hbm, ⟨4, _⟩ => ⟨S8704x512, .f32⟩
  | .hbm, ⟨5, _⟩ => ⟨S8704x1024, .f32⟩
  | .hbm, ⟨6, _⟩ => ⟨S8704x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BranchBBwdW.lean ====
abbrev S512x8704 : Shape := ⟨2, ![512, 8704]⟩
abbrev S8704x1024 : Shape := ⟨2, ![8704, 1024]⟩
abbrev S4x512x256 : Shape := ⟨3, ![4, 512, 256]⟩
abbrev S512x2176 : Shape := ⟨2, ![512, 2176]⟩
abbrev S2176x256 : Shape := ⟨2, ![2176, 256]⟩
abbrev S1x512x256 : Shape := ⟨3, ![1, 512, 256]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S512x8704, .bf16⟩
  | .hbm, ⟨1, _⟩ => ⟨S8704x1024, .bf16⟩
  | .hbm, ⟨2, _⟩ => ⟨S4x512x256, .f32⟩
  | .local _ .vmem, ⟨0, _⟩ => ⟨S512x2176, .bf16⟩
  | .local _ .vmem, ⟨1, _⟩ => ⟨S512x2176, .bf16⟩
  | .local _ .vmem, ⟨2, _⟩ => ⟨S2176x256, .bf16⟩
  | .local _ .vmem, ⟨3, _⟩ => ⟨S2176x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S512x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBBwdWRefIdeal.lean ====
abbrev S512x8704 : Shape := ⟨2, ![512, 8704]⟩
abbrev S8704x1024 : Shape := ⟨2, ![8704, 1024]⟩
abbrev S8704x512 : Shape := ⟨2, ![8704, 512]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S512x8704, .bf16⟩
  | .hbm, ⟨1, _⟩ => ⟨S8704x1024, .bf16⟩
  | .hbm, ⟨2, _⟩ => ⟨S512x8704, .f32⟩
  | .hbm, ⟨3, _⟩ => ⟨S8704x512, .f32⟩
  | .hbm, ⟨4, _⟩ => ⟨S_, .f32⟩
  | .hbm, ⟨5, _⟩ => ⟨S512x1024, .f32⟩
  | .hbm, ⟨6, _⟩ => ⟨S8704x1024, .f32⟩
  | .hbm, ⟨7, _⟩ => ⟨S8704x1024, .f32⟩
  | .hbm, ⟨8, _⟩ => ⟨S1024x512, .f32⟩
  | .hbm, ⟨9, _⟩ => ⟨S512x1024, .f32⟩
  | .hbm, ⟨10, _⟩ => ⟨S512x4x256, .f32⟩
  | .hbm, ⟨11, _⟩ => ⟨S4x512x256, .f32⟩
  | _, _ => ⟨S512x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ForgetBwdX.lean ====
abbrev S8704x128 : Shape := ⟨2, ![8704, 128]⟩
abbrev S1024x128 : Shape := ⟨2, ![1024, 128]⟩
abbrev S8704x1024 : Shape := ⟨2, ![8704, 1024]⟩
abbrev S1088x128 : Shape := ⟨2, ![1088, 128]⟩
abbrev S1088x1024 : Shape := ⟨2, ![1088, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x128, .bf16⟩
  | .hbm, ⟨1, _⟩ => ⟨S1024x128, .bf16⟩
  | .hbm, ⟨2, _⟩ => ⟨S8704x1024, .bf16⟩
  | .local _ .vmem, ⟨0, _⟩ => ⟨S1088x128, .bf16⟩
  | .local _ .vmem, ⟨1, _⟩ => ⟨S1088x128, .bf16⟩
  | .local _ .vmem, ⟨2, _⟩ => ⟨S1024x128, .bf16⟩
  | .local _ .vmem, ⟨3, _⟩ => ⟨S1088x1024, .bf16⟩
  | .local _ .vmem, ⟨4, _⟩ => ⟨S1088x1024, .bf16⟩
  | .local _ .vmem, ⟨5, _⟩ => ⟨S8x128, .f32⟩
  | _, _ => ⟨S8704x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ForgetBwdXRefIdeal.lean ====
abbrev S8704x128 : Shape := ⟨2, ![8704, 128]⟩
abbrev S1024x128 : Shape := ⟨2, ![1024, 128]⟩
abbrev S_ : Shape := ⟨0, ![]⟩
abbrev S8704x1024 : Shape := ⟨2, ![8704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x128, .bf16⟩
  | .hbm, ⟨1, _⟩ => ⟨S1024x128, .bf16⟩
  | .hbm, ⟨2, _⟩ => ⟨S_, .f32⟩
  | .hbm, ⟨3, _⟩ => ⟨S8704x1024, .f32⟩
  | .hbm, ⟨4, _⟩ => ⟨S1024x128, .f32⟩
  | .hbm, ⟨5, _⟩ => ⟨S8704x128, .f32⟩
  | .hbm, ⟨6, _⟩ => ⟨S8704x128, .f32⟩
  | .hbm, ⟨7, _⟩ => ⟨S8704x1024, .f32⟩
  | .hbm, ⟨8, _⟩ => ⟨S8704x1024, .bf16⟩
  | _, _ => ⟨S8704x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ForgetBwdW.lean ====
abbrev S8704x1024 : Shape := ⟨2, ![8704, 1024]⟩
abbrev S8704x128 : Shape := ⟨2, ![8704, 128]⟩
abbrev S1024x128 : Shape := ⟨2, ![1024, 128]⟩
abbrev S2176x1024 : Shape := ⟨2, ![2176, 1024]⟩
abbrev S2176x128 : Shape := ⟨2, ![2176, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x128, .bf16⟩
  | .hbm, ⟨2, _⟩ => ⟨S1024x128, .f32⟩
  | .local _ .vmem, ⟨0, _⟩ => ⟨S2176x1024, .bf16⟩
  | .local _ .vmem, ⟨1, _⟩ => ⟨S2176x1024, .bf16⟩
  | .local _ .vmem, ⟨2, _⟩ => ⟨S2176x128, .bf16⟩
  | .local _ .vmem, ⟨3, _⟩ => ⟨S2176x128, .bf16⟩
  | .local _ .vmem, ⟨4, _⟩ => ⟨S1024x128, .f32⟩
  | .local _ .vmem, ⟨5, _⟩ => ⟨S1024x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ForgetBwdWRefIdeal.lean ====
abbrev S8704x1024 : Shape := ⟨2, ![8704, 1024]⟩
abbrev S8704x128 : Shape := ⟨2, ![8704, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x128, .bf16⟩
  | .hbm, ⟨2, _⟩ => ⟨S_, .f32⟩
  | .hbm, ⟨3, _⟩ => ⟨S1024x128, .f32⟩
  | .hbm, ⟨4, _⟩ => ⟨S8704x1024, .f32⟩
  | .hbm, ⟨5, _⟩ => ⟨S8704x128, .f32⟩
  | .hbm, ⟨6, _⟩ => ⟨S8704x128, .f32⟩
  | .hbm, ⟨7, _⟩ => ⟨S128x1024, .f32⟩
  | .hbm, ⟨8, _⟩ => ⟨S1024x128, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WideFwd.lean ====
abbrev S8704x1024 : Shape := ⟨2, ![8704, 1024]⟩
abbrev S1024x5632 : Shape := ⟨2, ![1024, 5632]⟩
abbrev S8704x5632 : Shape := ⟨2, ![8704, 5632]⟩
abbrev S1088x1024 : Shape := ⟨2, ![1088, 1024]⟩
abbrev S1024x2816 : Shape := ⟨2, ![1024, 2816]⟩
abbrev S1088x2816 : Shape := ⟨2, ![1088, 2816]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S1024x5632, .bf16⟩
  | .hbm, ⟨2, _⟩ => ⟨S8704x5632, .f32⟩
  | .local _ .vmem, ⟨0, _⟩ => ⟨S1088x1024, .bf16⟩
  | .local _ .vmem, ⟨1, _⟩ => ⟨S1088x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1088x2816, .f32⟩
  | .local _ .vmem, ⟨5, _⟩ => ⟨S1088x2816, .f32⟩
  | .local _ .vmem, ⟨6, _⟩ => ⟨S8x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WideFwdRefIdeal.lean ====
abbrev S8704x1024 : Shape := ⟨2, ![8704, 1024]⟩
abbrev S1024x5632 : Shape := ⟨2, ![1024, 5632]⟩
abbrev S8704x5632 : Shape := ⟨2, ![8704, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x5632, .bf16⟩
  | .hbm, ⟨2, _⟩ => ⟨S8704x1024, .f32⟩
  | .hbm, ⟨3, _⟩ => ⟨S1024x5632, .f32⟩
  | .hbm, ⟨4, _⟩ => ⟨S8704x5632, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownFwd.lean ====
abbrev S8704x2816 : Shape := ⟨2, ![8704, 2816]⟩
abbrev S2816x1024 : Shape := ⟨2, ![2816, 1024]⟩
abbrev S8704x1024 : Shape := ⟨2, ![8704, 1024]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2816, .bf16⟩
  | .hbm, ⟨1, _⟩ => ⟨S2816x1024, .bf16⟩
  | .hbm, ⟨2, _⟩ => ⟨S8704x1024, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S8704x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S8704x2816 : Shape := ⟨2, ![8704, 2816]⟩
abbrev S2816x1024 : Shape := ⟨2, ![2816, 1024]⟩
abbrev S8704x1024 : Shape := ⟨2, ![8704, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8704x2816, .bf16⟩
  | .hbm, ⟨1, _⟩ => ⟨S2816x1024, .bf16⟩
  | .hbm, ⟨2, _⟩ => ⟨S8704x2816, .f32⟩
  | .hbm, ⟨3, _⟩ => ⟨S2816x1024, .f32⟩
  | .hbm, ⟨4, _⟩ => ⟨S8704x1024, .f32⟩
  | _, _ => ⟨S8704x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S8704x1024 : Shape := ⟨2, ![8704, 1024]⟩
abbrev S1024x1024 : Shape := ⟨2, ![1024, 1024]⟩
abbrev S1088x1024 : Shape := ⟨2, ![1088, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | .local _ .vmem, ⟨5, _⟩ => ⟨S8x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S8704x1024 : Shape := ⟨2, ![8704, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S1024x1024, .f32⟩
  | .hbm, ⟨4, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchAFwd.lean ====
abbrev S8704x512 : Shape := ⟨2, ![8704, 512]⟩
abbrev S512x1024 : Shape := ⟨2, ![512, 1024]⟩
abbrev S8704x1024 : Shape := ⟨2, ![8704, 1024]⟩
abbrev S1088x512 : Shape := ⟨2, ![1088, 512]⟩
abbrev S1088x1024 : Shape := ⟨2, ![1088, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x512, .bf16⟩
  | .hbm, ⟨1, _⟩ => ⟨S512x1024, .bf16⟩
  | .hbm, ⟨2, _⟩ => ⟨S8704x1024, .bf16⟩
  | .local _ .vmem, ⟨0, _⟩ => ⟨S1088x512, .bf16⟩
  | .local _ .vmem, ⟨1, _⟩ => ⟨S1088x512, .bf16⟩
  | .local _ .vmem, ⟨2, _⟩ => ⟨S512x1024, .bf16⟩
  | .local _ .vmem, ⟨3, _⟩ => ⟨S1088x1024, .bf16⟩
  | .local _ .vmem, ⟨4, _⟩ => ⟨S1088x1024, .bf16⟩
  | .local _ .vmem, ⟨5, _⟩ => ⟨S8x128, .f32⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAFwdRefIdeal.lean ====
abbrev S8704x512 : Shape := ⟨2, ![8704, 512]⟩
abbrev S512x1024 : Shape := ⟨2, ![512, 1024]⟩
abbrev S8704x1024 : Shape := ⟨2, ![8704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S512x1024, .bf16⟩
  | .hbm, ⟨2, _⟩ => ⟨S8704x512, .f32⟩
  | .hbm, ⟨3, _⟩ => ⟨S512x1024, .f32⟩
  | .hbm, ⟨4, _⟩ => ⟨S8704x1024, .f32⟩
  | .hbm, ⟨5, _⟩ => ⟨S8704x1024, .bf16⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchBFwd.lean ====
abbrev S512x8704 : Shape := ⟨2, ![512, 8704]⟩
abbrev S512x1024 : Shape := ⟨2, ![512, 1024]⟩
abbrev S8704x1024 : Shape := ⟨2, ![8704, 1024]⟩
abbrev S512x512 : Shape := ⟨2, ![512, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S512x8704, .bf16⟩
  | .hbm, ⟨1, _⟩ => ⟨S512x1024, .bf16⟩
  | .hbm, ⟨2, _⟩ => ⟨S8704x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S512x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBFwdRefIdeal.lean ====
abbrev S512x8704 : Shape := ⟨2, ![512, 8704]⟩
abbrev S512x1024 : Shape := ⟨2, ![512, 1024]⟩
abbrev S8704x512 : Shape := ⟨2, ![8704, 512]⟩
abbrev S8704x1024 : Shape := ⟨2, ![8704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x8704, .bf16⟩
  | .hbm, ⟨1, _⟩ => ⟨S512x1024, .bf16⟩
  | .hbm, ⟨2, _⟩ => ⟨S512x8704, .f32⟩
  | .hbm, ⟨3, _⟩ => ⟨S8704x512, .f32⟩
  | .hbm, ⟨4, _⟩ => ⟨S512x1024, .f32⟩
  | .hbm, ⟨5, _⟩ => ⟨S8704x1024, .f32⟩
  | .hbm, ⟨6, _⟩ => ⟨S8704x1024, .bf16⟩
  | _, _ => ⟨S512x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ForgetFwd.lean ====
abbrev S8704x1024 : Shape := ⟨2, ![8704, 1024]⟩
abbrev S1024x128 : Shape := ⟨2, ![1024, 128]⟩
abbrev S8704x128 : Shape := ⟨2, ![8704, 128]⟩
abbrev S1088x1024 : Shape := ⟨2, ![1088, 1024]⟩
abbrev S1088x128 : Shape := ⟨2, ![1088, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S1024x128, .bf16⟩
  | .hbm, ⟨2, _⟩ => ⟨S8704x128, .f32⟩
  | .local _ .vmem, ⟨0, _⟩ => ⟨S1088x1024, .bf16⟩
  | .local _ .vmem, ⟨1, _⟩ => ⟨S1088x1024, .bf16⟩
  | .local _ .vmem, ⟨2, _⟩ => ⟨S1024x128, .bf16⟩
  | .local _ .vmem, ⟨3, _⟩ => ⟨S1088x128, .f32⟩
  | .local _ .vmem, ⟨4, _⟩ => ⟨S1088x128, .f32⟩
  | .local _ .vmem, ⟨5, _⟩ => ⟨S8x128, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ForgetFwdRefIdeal.lean ====
abbrev S8704x1024 : Shape := ⟨2, ![8704, 1024]⟩
abbrev S1024x128 : Shape := ⟨2, ![1024, 128]⟩
abbrev S8704x128 : Shape := ⟨2, ![8704, 128]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x128, .bf16⟩
  | .hbm, ⟨2, _⟩ => ⟨S8704x1024, .f32⟩
  | .hbm, ⟨3, _⟩ => ⟨S1024x128, .f32⟩
  | .hbm, ⟨4, _⟩ => ⟨S8704x128, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamIn.lean ====
abbrev S1 : Shape := ⟨1, ![1]⟩
abbrev S1024x1410 : Shape := ⟨2, ![1024, 1410]⟩
abbrev S512x1410 : Shape := ⟨2, ![512, 1410]⟩
abbrev S128x1410 : Shape := ⟨2, ![128, 1410]⟩

abbrev nBuf : Space → Nat
  | .hbm => 9
  | .vmem => 18
  | .smem => 1
  | _ => 0

abbrev bufTy : (tb : Table) → Fin (tcTables nBuf tb) → BufTy
  | .hbm, ⟨0, _⟩ => ⟨S1024x1410, .f32⟩
  | .hbm, ⟨1, _⟩ => ⟨S512x1410, .f32⟩
  | .hbm, ⟨2, _⟩ => ⟨S512x1410, .f32⟩
  | .hbm, ⟨3, _⟩ => ⟨S1024x1410, .f32⟩
  | .hbm, ⟨4, _⟩ => ⟨S1024x1410, .f32⟩
  | .hbm, ⟨5, _⟩ => ⟨S1024x1410, .f32⟩
  | .hbm, ⟨6, _⟩ => ⟨S1024x1410, .f32⟩
  | .hbm, ⟨7, _⟩ => ⟨S1024x1410, .f32⟩
  | .hbm, ⟨8, _⟩ => ⟨S1024x1410, .f32⟩
  | .local _ .vmem, ⟨0, _⟩ => ⟨S128x1410, .f32⟩
  | .local _ .vmem, ⟨1, _⟩ => ⟨S128x1410, .f32⟩
  | .local _ .vmem, ⟨2, _⟩ => ⟨S128x1410, .f32⟩
  | .local _ .vmem, ⟨3, _⟩ => ⟨S128x1410, .f32⟩
  | .local _ .vmem, ⟨4, _⟩ => ⟨S128x1410, .f32⟩
  | .local _ .vmem, ⟨5, _⟩ => ⟨S128x1410, .f32⟩
  | .local _ .vmem, ⟨6, _⟩ => ⟨S128x1410, .f32⟩
  | .local _ .vmem, ⟨7, _⟩ => ⟨S128x1410, .f32⟩
  | .local _ .vmem, ⟨8, _⟩ => ⟨S128x1410, .f32⟩
  | .local _ .vmem, ⟨9, _⟩ => ⟨S128x1410, .f32⟩
  | .local _ .vmem, ⟨10, _⟩ => ⟨S128x1410, .f32⟩
  | .local _ .vmem, ⟨11, _⟩ => ⟨S128x1410, .f32⟩
  | .local _ .vmem, ⟨12, _⟩ => ⟨S128x1410, .f32⟩
  | .local _ .vmem, ⟨13, _⟩ => ⟨S128x1410, .f32⟩
  | .local _ .vmem, ⟨14, _⟩ => ⟨S128x1410, .f32⟩
  | .local _ .vmem, ⟨15, _⟩ => ⟨S128x1410, .f32⟩
  | .local _ .vmem, ⟨16, _⟩ => ⟨S128x1410, .f32⟩
  | .local _ .vmem, ⟨17, _⟩ => ⟨S128x1410, .f32⟩
  | .local _ .smem, ⟨0, _⟩ => ⟨S1, .i32⟩
  | _, _ => ⟨S1024x1410, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1410 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1410 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1410 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1410 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1410 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1410 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1410 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1410 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1410 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
abbrev S1 : Shape := ⟨1, ![1]⟩
abbrev S1024x1410 : Shape := ⟨2, ![1024, 1410]⟩
abbrev S512x1410 : Shape := ⟨2, ![512, 1410]⟩
abbrev S128x1410 : Shape := ⟨2, ![128, 1410]⟩

abbrev nBuf : Space → Nat
  | .hbm => 9
  | .vmem => 18
  | .smem => 1
  | _ => 0

abbrev bufTy : (tb : Table) → Fin (tcTables nBuf tb) → BufTy
  | .hbm, ⟨0, _⟩ => ⟨S1024x1410, .f32⟩
  | .hbm, ⟨1, _⟩ => ⟨S512x1410, .f32⟩
  | .hbm, ⟨2, _⟩ => ⟨S512x1410, .f32⟩
  | .hbm, ⟨3, _⟩ => ⟨S1024x1410, .f32⟩
  | .hbm, ⟨4, _⟩ => ⟨S1024x1410, .f32⟩
  | .hbm, ⟨5, _⟩ => ⟨S1024x1410, .f32⟩
  | .hbm, ⟨6, _⟩ => ⟨S1024x1410, .f32⟩
  | .hbm, ⟨7, _⟩ => ⟨S1024x1410, .f32⟩
  | .hbm, ⟨8, _⟩ => ⟨S1024x1410, .f32⟩
  | .local _ .vmem, ⟨0, _⟩ => ⟨S128x1410, .f32⟩
  | .local _ .vmem, ⟨1, _⟩ => ⟨S128x1410, .f32⟩
  | .local _ .vmem, ⟨2, _⟩ => ⟨S128x1410, .f32⟩
  | .local _ .vmem, ⟨3, _⟩ => ⟨S128x1410, .f32⟩
  | .local _ .vmem, ⟨4, _⟩ => ⟨S128x1410, .f32⟩
  | .local _ .vmem, ⟨5, _⟩ => ⟨S128x1410, .f32⟩
  | .local _ .vmem, ⟨6, _⟩ => ⟨S128x1410, .f32⟩
  | .local _ .vmem, ⟨7, _⟩ => ⟨S128x1410, .f32⟩
  | .local _ .vmem, ⟨8, _⟩ => ⟨S128x1410, .f32⟩
  | .local _ .vmem, ⟨9, _⟩ => ⟨S128x1410, .f32⟩
  | .local _ .vmem, ⟨10, _⟩ => ⟨S128x1410, .f32⟩
  | .local _ .vmem, ⟨11, _⟩ => ⟨S128x1410, .f32⟩
  | .local _ .vmem, ⟨12, _⟩ => ⟨S128x1410, .f32⟩
  | .local _ .vmem, ⟨13, _⟩ => ⟨S128x1410, .f32⟩
  | .local _ .vmem, ⟨14, _⟩ => ⟨S128x1410, .f32⟩
  | .local _ .vmem, ⟨15, _⟩ => ⟨S128x1410, .f32⟩
  | .local _ .vmem, ⟨16, _⟩ => ⟨S128x1410, .f32⟩
  | .local _ .vmem, ⟨17, _⟩ => ⟨S128x1410, .f32⟩
  | .local _ .smem, ⟨0, _⟩ => ⟨S1, .i32⟩
  | _, _ => ⟨S1024x1410, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1410 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1410 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1410 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1410 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1410 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1410 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1410 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1410 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1410 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S1 : Shape := ⟨1, ![1]⟩
abbrev S1024x1410 : Shape := ⟨2, ![1024, 1410]⟩
abbrev S512x1410 : Shape := ⟨2, ![512, 1410]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1410, .f32⟩
  | .hbm, ⟨2, _⟩ => ⟨S512x1410, .f32⟩
  | .hbm, ⟨3, _⟩ => ⟨S512x1410, .f32⟩
  | .hbm, ⟨4, _⟩ => ⟨S1024x1410, .f32⟩
  | .hbm, ⟨5, _⟩ => ⟨S1024x1410, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1410, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1410, .f32⟩
  | .hbm, ⟨14, _⟩ => ⟨S1024x1410, .f32⟩
  | .hbm, ⟨15, _⟩ => ⟨S_, .f32⟩
  | .hbm, ⟨16, _⟩ => ⟨S1024x1410, .f32⟩
  | .hbm, ⟨17, _⟩ => ⟨S1024x1410, .f32⟩
  | .hbm, ⟨18, _⟩ => ⟨S_, .f32⟩
  | .hbm, ⟨19, _⟩ => ⟨S1024x1410, .f32⟩
  | .hbm, ⟨20, _⟩ => ⟨S1024x1410, .f32⟩
  | .hbm, ⟨21, _⟩ => ⟨S1024x1410, .f32⟩
  | .hbm, ⟨22, _⟩ => ⟨S_, .f32⟩
  | .hbm, ⟨23, _⟩ => ⟨S1024x1410, .f32⟩
  | .hbm, ⟨24, _⟩ => ⟨S1024x1410, .f32⟩
  | .hbm, ⟨25, _⟩ => ⟨S1024x1410, .f32⟩
  | .hbm, ⟨26, _⟩ => ⟨S_, .f32⟩
  | .hbm, ⟨27, _⟩ => ⟨S1024x1410, .f32⟩
  | .hbm, ⟨28, _⟩ => ⟨S1024x1410, .f32⟩
  | .hbm, ⟨29, _⟩ => ⟨S1024x1410, .f32⟩
  | .hbm, ⟨30, _⟩ => ⟨S_, .f32⟩
  | .hbm, ⟨31, _⟩ => ⟨S1024x1410, .f32⟩
  | .hbm, ⟨32, _⟩ => ⟨S1024x1410, .f32⟩
  | .hbm, ⟨33, _⟩ => ⟨S_, .f32⟩
  | .hbm, ⟨34, _⟩ => ⟨S1024x1410, .f32⟩
  | .hbm, ⟨35, _⟩ => ⟨S1024x1410, .f32⟩
  | .hbm, ⟨36, _⟩ => ⟨S1024x1410, .f32⟩
  | .hbm, ⟨37, _⟩ => ⟨S_, .f32⟩
  | .hbm, ⟨38, _⟩ => ⟨S1024x1410, .f32⟩
  | .hbm, ⟨39, _⟩ => ⟨S1024x1410, .f32⟩
  | .hbm, ⟨40, _⟩ => ⟨S1024x1410, .f32⟩
  | .hbm, ⟨41, _⟩ => ⟨S_, .f32⟩
  | .hbm, ⟨42, _⟩ => ⟨S1024x1410, .f32⟩
  | .hbm, ⟨43, _⟩ => ⟨S1024x1410, .f32⟩
  | .hbm, ⟨44, _⟩ => ⟨S1024x1410, .f32⟩
  | .hbm, ⟨45, _⟩ => ⟨S_, .f32⟩
  | .hbm, ⟨46, _⟩ => ⟨S1024x1410, .f32⟩
  | .hbm, ⟨47, _⟩ => ⟨S1024x1410, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamBranch.lean ====
abbrev S1 : Shape := ⟨1, ![1]⟩
abbrev S512x256 : Shape := ⟨2, ![512, 256]⟩
abbrev S256x256 : Shape := ⟨2, ![256, 256]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBranchIdeal.lean ====
abbrev S1 : Shape := ⟨1, ![1]⟩
abbrev S512x256 : Shape := ⟨2, ![512, 256]⟩
abbrev S256x256 : Shape := ⟨2, ![256, 256]⟩

abbrev nBuf : Space → Nat
  | .hbm => 9
  | .vmem => 16
  | .smem => 1
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S256x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .smem, ⟨0, _⟩ => ⟨S1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBranchRefIdeal.lean ====
abbrev S1 : Shape := ⟨1, ![1]⟩
abbrev S512x256 : Shape := ⟨2, ![512, 256]⟩
abbrev S256x256 : Shape := ⟨2, ![256, 256]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x256, .f32⟩
  | .hbm, ⟨2, _⟩ => ⟨S256x256, .f32⟩
  | .hbm, ⟨3, _⟩ => ⟨S256x256, .f32⟩
  | .hbm, ⟨4, _⟩ => ⟨S512x256, .f32⟩
  | .hbm, ⟨5, _⟩ => ⟨S512x256, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x256, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S_, .f32⟩
  | .hbm, ⟨42, _⟩ => ⟨S512x256, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S512x256, .f32⟩
  | .hbm, ⟨47, _⟩ => ⟨S512x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamOut.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S1 : Shape := ⟨1, ![1]⟩
abbrev S256x1024 : Shape := ⟨2, ![256, 1024]⟩
abbrev S128x1024 : Shape := ⟨2, ![128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S1 : Shape := ⟨1, ![1]⟩
abbrev S256x1024 : Shape := ⟨2, ![256, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamUp.lean ====
abbrev S1 : Shape := ⟨1, ![1]⟩
abbrev S1024x1408 : Shape := ⟨2, ![1024, 1408]⟩
abbrev S512x1408 : Shape := ⟨2, ![512, 1408]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .smem, ⟨0, _⟩ => ⟨S1, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpIdeal.lean ====
abbrev S1 : Shape := ⟨1, ![1]⟩
abbrev S1024x1408 : Shape := ⟨2, ![1024, 1408]⟩
abbrev S512x1408 : Shape := ⟨2, ![512, 1408]⟩
abbrev S128x1408 : Shape := ⟨2, ![128, 1408]⟩

abbrev nBuf : Space → Nat
  | .hbm => 9
  | .vmem => 18
  | .smem => 1
  | _ => 0

abbrev bufTy : (tb : Table) → Fin (tcTables nBuf tb) → BufTy
  | .hbm, ⟨0, _⟩ => ⟨S1024x1408, .f32⟩
  | .hbm, ⟨1, _⟩ => ⟨S512x1408, .f32⟩
  | .hbm, ⟨2, _⟩ => ⟨S512x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .smem, ⟨0, _⟩ => ⟨S1, .i32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S1 : Shape := ⟨1, ![1]⟩
abbrev S1024x1408 : Shape := ⟨2, ![1024, 1408]⟩
abbrev S512x1408 : Shape := ⟨2, ![512, 1408]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1408, .f32⟩
  | .hbm, ⟨2, _⟩ => ⟨S512x1408, .f32⟩
  | .hbm, ⟨3, _⟩ => ⟨S512x1408, .f32⟩
  | .hbm, ⟨4, _⟩ => ⟨S1024x1408, .f32⟩
  | .hbm, ⟨5, _⟩ => ⟨S1024x1408, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S_, .f32⟩
  | .hbm, ⟨38, _⟩ => ⟨S1024x1408, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S1024x1408, .f32⟩
  | .hbm, ⟨43, _⟩ => ⟨S1024x1408, .f32⟩
  | .hbm, ⟨44, _⟩ => ⟨S1024x1408, .f32⟩
  | .hbm, ⟨45, _⟩ => ⟨S_, .f32⟩
  | .hbm, ⟨46, _⟩ => ⟨S1024x1408, .f32⟩
  | .hbm, ⟨47, _⟩ => ⟨S1024x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamDown.lean ====
abbrev S1 : Shape := ⟨1, ![1]⟩
abbrev S704x1024 : Shape := ⟨2, ![704, 1024]⟩
abbrev S352x1024 : Shape := ⟨2, ![352, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownIdeal.lean ====
abbrev S1 : Shape := ⟨1, ![1]⟩
abbrev S704x1024 : Shape := ⟨2, ![704, 1024]⟩
abbrev S352x1024 : Shape := ⟨2, ![352, 1024]⟩
abbrev S176x1024 : Shape := ⟨2, ![176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S352x1024, .f32⟩
  | .hbm, ⟨2, _⟩ => ⟨S352x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "first" => some (((5463681 / 8388608)⁻¹ : ℝ) : EReal)
  | "second" => some (((2672307 / 268435456)⁻¹ : ℝ) : EReal)
  | _ => none

abbrev grid0 : Pipeline.Grid := ⟨2, ![2, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S1 : Shape := ⟨1, ![1]⟩
abbrev S704x1024 : Shape := ⟨2, ![704, 1024]⟩
abbrev S352x1024 : Shape := ⟨2, ![352, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S352x1024, .f32⟩
  | .hbm, ⟨3, _⟩ => ⟨S352x1024, .f32⟩
  | .hbm, ⟨4, _⟩ => ⟨S704x1024, .f32⟩
  | .hbm, ⟨5, _⟩ => ⟨S704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamSmall.lean ====
abbrev S1 : Shape := ⟨1, ![1]⟩
abbrev S144x128 : Shape := ⟨2, ![144, 128]⟩
abbrev S72x128 : Shape := ⟨2, ![72, 128]⟩

abbrev nBuf : Space → Nat
  | .hbm => 9
  | .vmem => 16
  | .smem => 1
  | _ => 0

abbrev bufTy : (tb : Table) → Fin (tcTables nBuf tb) → BufTy
  | .hbm, ⟨0, _⟩ => ⟨S144x128, .f32⟩
  | .hbm, ⟨1, _⟩ => ⟨S72x128, .f32⟩
  | .hbm, ⟨2, _⟩ => ⟨S72x128, .f32⟩
  | .hbm, ⟨3, _⟩ => ⟨S144x128, .f32⟩
  | .hbm, ⟨4, _⟩ => ⟨S144x128, .f32⟩
  | .hbm, ⟨5, _⟩ => ⟨S144x128, .f32⟩
  | .hbm, ⟨6, _⟩ => ⟨S144x128, .f32⟩
  | .hbm, ⟨7, _⟩ => ⟨S144x128, .f32⟩
  | .hbm, ⟨8, _⟩ => ⟨S144x128, .f32⟩
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | .local _ .vmem, ⟨7, _⟩ => ⟨S72x128, .f32⟩
  | .local _ .vmem, ⟨8, _⟩ => ⟨S72x128, .f32⟩
  | .local _ .vmem, ⟨9, _⟩ => ⟨S72x128, .f32⟩
  | .local _ .vmem, ⟨10, _⟩ => ⟨S72x128, .f32⟩
  | .local _ .vmem, ⟨11, _⟩ => ⟨S72x128, .f32⟩
  | .local _ .vmem, ⟨12, _⟩ => ⟨S72x128, .f32⟩
  | .local _ .vmem, ⟨13, _⟩ => ⟨S72x128, .f32⟩
  | .local _ .vmem, ⟨14, _⟩ => ⟨S72x128, .f32⟩
  | .local _ .vmem, ⟨15, _⟩ => ⟨S72x128, .f32⟩
  | .local _ .smem, ⟨0, _⟩ => ⟨S1, .i32⟩
  | _, _ => ⟨S144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S72x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S72x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S72x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S72x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S72x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S72x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S72x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSmallIdeal.lean ====
variable {F : FTy → Type} [FloatOps F] [Named F]
def κ : String → Option EReal := fun
  | "first" => some (((5463681 / 8388608)⁻¹ : ℝ) : EReal)
  | "second" => some (((2672307 / 268435456)⁻¹ : ℝ) : EReal)
  | _ => none
-- ==== AdamSmallRefIdeal.lean ====
abbrev S1 : Shape := ⟨1, ![1]⟩
abbrev S144x128 : Shape := ⟨2, ![144, 128]⟩
abbrev S72x128 : Shape := ⟨2, ![72, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S144x128, .f32⟩
  | .hbm, ⟨2, _⟩ => ⟨S72x128, .f32⟩
  | .hbm, ⟨3, _⟩ => ⟨S72x128, .f32⟩
  | .hbm, ⟨4, _⟩ => ⟨S144x128, .f32⟩
  | .hbm, ⟨5, _⟩ => ⟨S144x128, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S72x128, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S72x128, .f32⟩
  | .hbm, ⟨14, _⟩ => ⟨S144x128, .f32⟩
  | .hbm, ⟨15, _⟩ => ⟨S_, .f32⟩
  | .hbm, ⟨16, _⟩ => ⟨S144x128, .f32⟩
  | .hbm, ⟨17, _⟩ => ⟨S144x128, .f32⟩
  | .hbm, ⟨18, _⟩ => ⟨S_, .f32⟩
  | .hbm, ⟨19, _⟩ => ⟨S144x128, .f32⟩
  | .hbm, ⟨20, _⟩ => ⟨S144x128, .f32⟩
  | .hbm, ⟨21, _⟩ => ⟨S144x128, .f32⟩
  | .hbm, ⟨22, _⟩ => ⟨S_, .f32⟩
  | .hbm, ⟨23, _⟩ => ⟨S144x128, .f32⟩
  | .hbm, ⟨24, _⟩ => ⟨S144x128, .f32⟩
  | .hbm, ⟨25, _⟩ => ⟨S144x128, .f32⟩
  | .hbm, ⟨26, _⟩ => ⟨S_, .f32⟩
  | .hbm, ⟨27, _⟩ => ⟨S144x128, .f32⟩
  | .hbm, ⟨28, _⟩ => ⟨S144x128, .f32⟩
  | .hbm, ⟨29, _⟩ => ⟨S144x128, .f32⟩
  | .hbm, ⟨30, _⟩ => ⟨S_, .f32⟩
  | .hbm, ⟨31, _⟩ => ⟨S144x128, .f32⟩
  | .hbm, ⟨32, _⟩ => ⟨S144x128, .f32⟩
  | .hbm, ⟨33, _⟩ => ⟨S_, .f32⟩
  | .hbm, ⟨34, _⟩ => ⟨S144x128, .f32⟩
  | .hbm, ⟨35, _⟩ => ⟨S144x128, .f32⟩
  | .hbm, ⟨36, _⟩ => ⟨S144x128, .f32⟩
  | .hbm, ⟨37, _⟩ => ⟨S_, .f32⟩
  | .hbm, ⟨38, _⟩ => ⟨S144x128, .f32⟩
  | .hbm, ⟨39, _⟩ => ⟨S144x128, .f32⟩
  | .hbm, ⟨40, _⟩ => ⟨S144x128, .f32⟩
  | .hbm, ⟨41, _⟩ => ⟨S_, .f32⟩
  | .hbm, ⟨42, _⟩ => ⟨S144x128, .f32⟩
  | .hbm, ⟨43, _⟩ => ⟨S144x128, .f32⟩
  | .hbm, ⟨44, _⟩ => ⟨S144x128, .f32⟩
  | .hbm, ⟨45, _⟩ => ⟨S_, .f32⟩
  | .hbm, ⟨46, _⟩ => ⟨S144x128, .f32⟩
  | .hbm, ⟨47, _⟩ => ⟨S144x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== LossHead.lean ====
abbrev S8704x1024 : Shape := ⟨2, ![8704, 1024]⟩
abbrev S2x4096x1024 : Shape := ⟨3, ![2, 4096, 1024]⟩
abbrev S8192x1024 : Shape := ⟨2, ![8192, 1024]⟩
abbrev S8x128 : Shape := ⟨2, ![8, 128]⟩
abbrev S256x1024 : Shape := ⟨2, ![256, 1024]⟩
abbrev S64x1024 : Shape := ⟨2, ![64, 1024]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 9
  | .vmem => 17
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S2x4096x1024, .f32⟩
  | .hbm, ⟨3, _⟩ => ⟨S8192x1024, .f32⟩
  | .hbm, ⟨4, _⟩ => ⟨S8x128, .f32⟩
  | .hbm, ⟨5, _⟩ => ⟨S8704x1024, .f32⟩
  | .hbm, ⟨6, _⟩ => ⟨S8704x1024, .bf16⟩
  | .hbm, ⟨7, _⟩ => ⟨S1x1, .f32⟩
  | .hbm, ⟨8, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S8x128, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let c0_i32 : BitVec 32 := 0#32
  let v2 : BitVec 32 := Scalar.addi v1 c0_i32
  let c1_i32 : BitVec 32 := 1#32
  let v3 : BitVec 32 := Scalar.subi v2 c1_i32
  let c0_i32_0 : BitVec 32 := 0#32
  let c63_i32 : BitVec 32 := 63#32
  let v4 : BitVec 32 := Scalar.maxsi c0_i32_0 v3
  let v5 : BitVec 32 := Scalar.minsi c63_i32 v4
  let v6 : BitVec 32 := Scalar.addi v0 v5
  let c0_i32_1 : BitVec 32 := 0#32
  let c0_i32_2 : BitVec 32 := 0#32
  ![v6.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let c1_i32 : BitVec 32 := 1#32
  let v2 : BitVec 32 := Scalar.addi v1 c1_i32
  let c1_i32_0 : BitVec 32 := 1#32
  let v3 : BitVec 32 := Scalar.subi v2 c1_i32_0
  let c0_i32 : BitVec 32 := 0#32
  let c63_i32 : BitVec 32 := 63#32
  let v4 : BitVec 32 := Scalar.maxsi c0_i32 v3
  let v5 : BitVec 32 := Scalar.minsi c63_i32 v4
  let v6 : BitVec 32 := Scalar.addi v0 v5
  let c0_i32_1 : BitVec 32 := 0#32
  let c0_i32_2 : BitVec 32 := 0#32
  ![v6.toNat, c0_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let c2_i32 : BitVec 32 := 2#32
  let v2 : BitVec 32 := Scalar.addi v1 c2_i32
  let c1_i32 : BitVec 32 := 1#32
  let v3 : BitVec 32 := Scalar.subi v2 c1_i32
  let c0_i32 : BitVec 32 := 0#32
  let c63_i32 : BitVec 32 := 63#32
  let v4 : BitVec 32 := Scalar.maxsi c0_i32 v3
  let v5 : BitVec 32 := Scalar.minsi c63_i32 v4
  let v6 : BitVec 32 := Scalar.addi v0 v5
  let c0_i32_0 : BitVec 32 := 0#32
  let c0_i32_1 : BitVec 32 := 0#32
  ![v6.toNat, c0_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c4_i32 : BitVec 32 := 4#32
  let v1 : BitVec 32 := Scalar.muli arg1 c4_i32
  let c3_i32 : BitVec 32 := 3#32
  let v2 : BitVec 32 := Scalar.addi v1 c3_i32
  let c1_i32 : BitVec 32 := 1#32
  let v3 : BitVec 32 := Scalar.subi v2 c1_i32
  let c0_i32 : BitVec 32 := 0#32
  let c63_i32 : BitVec 32 := 63#32
  let v4 : BitVec 32 := Scalar.maxsi c0_i32 v3
  let v5 : BitVec 32 := Scalar.minsi c63_i32 v4
  let v6 : BitVec 32 := Scalar.addi v0 v5
  let c0_i32_0 : BitVec 32 := 0#32
  let c0_i32_1 : BitVec 32 := 0#32
  ![v6.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LossHeadRefIdeal.lean ====
abbrev S8704x1024 : Shape := ⟨2, ![8704, 1024]⟩
abbrev S2x4096x1024 : Shape := ⟨3, ![2, 4096, 1024]⟩
abbrev S2x4352x1024 : Shape := ⟨3, ![2, 4352, 1024]⟩
abbrev S_ : Shape := ⟨0, ![]⟩
abbrev S2x4096 : Shape := ⟨2, ![2, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S2x4096x1024, .f32⟩
  | .hbm, ⟨3, _⟩ => ⟨S8704x1024, .f32⟩
  | .hbm, ⟨4, _⟩ => ⟨S2x4352x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x4096x1024, .f32⟩
  | .hbm, ⟨10, _⟩ => ⟨S2x4096x1024, .f32⟩
  | .hbm, ⟨11, _⟩ => ⟨S_, .f32⟩
  | .hbm, ⟨12, _⟩ => ⟨S2x4096, .f32⟩
  | .hbm, ⟨13, _⟩ => ⟨S_, .f32⟩
  | .hbm, ⟨14, _⟩ => ⟨S2x4096, .f32⟩
  | .hbm, ⟨15, _⟩ => ⟨S2x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4096, .f32⟩
  | .hbm, ⟨24, _⟩ => ⟨S_, .f32⟩
  | .hbm, ⟨25, _⟩ => ⟨S2x4096, .f32⟩
  | .hbm, ⟨26, _⟩ => ⟨S2x4096, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4352x1024, .f32⟩
  | .hbm, ⟨31, _⟩ => ⟨S8704x1024, .f32⟩
  | .hbm, ⟨32, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Ad.Step.lean ====
/- One AdamW step on one entry of a weight, over the extended reals. -/
module

public import Idealize.ShloMosaic.PureOps.Ideal

@[expose] public section

noncomputable section

namespace Cert.Adam

open Idealize.ShloMosaic

/-- The new first moment of an entry, from the old one and the gradient. -/
def first (m g : EReal) : EReal := Ideal.ofBits .f32 0x3F666666#32 * m + Ideal.ofBits .f32 0x3DCCCCCD#32 * g

/-- The new second moment of an entry, from the old one and the gradient. -/
def second (v g : EReal) : EReal := Ideal.ofBits .f32 0x3F7FBE77#32 * v + Ideal.ofBits .f32 0x3A83126F#32 * (g * g)

/-- The change of a weight's entry, from the entry and its new moments, by the inverses of the bias corrections. -/
def change (w m v : EReal) : EReal :=
  Ideal.ofBits .f32 0xBA83126F#32 *
    (Ideal.div (m * (((5463681 / 8388608)⁻¹ : ℝ) : EReal))
        (Ideal.sqrt (v * (((2672307 / 268435456)⁻¹ : ℝ) : EReal)) + Ideal.ofBits .f32 0x322BCC77#32)
      + Ideal.ofBits .f32 0x3C23D70A#32 * w)

/-- The first bias correction's word denotes its real. -/
theorem word_first : Ideal.ofBits .f32 0x3F26BD02#32 = ((5463681 / 8388608 : ℝ) : EReal) := by
  simp [Ideal.ofBits, Ideal.ieee, -EReal.coe_mul]; norm_num

/-- The second bias correction's word denotes its real. -/
theorem word_second : Ideal.ofBits .f32 0x3C231ACC#32 = ((2672307 / 268435456 : ℝ) : EReal) := by
  simp [Ideal.ofBits, Ideal.ieee, -EReal.coe_mul]; norm_num

/-- A quotient by the first correction is a product with its inverse. -/
theorem div_first (x : EReal) : Ideal.div x (Ideal.ofBits .f32 0x3F26BD02#32) = x * (((5463681 / 8388608)⁻¹ : ℝ) : EReal) := by
  rw [word_first, Ideal.div_coe (by norm_num), one_div]

/-- A quotient by the second correction is a product with its inverse. -/
theorem div_second (x : EReal) : Ideal.div x (Ideal.ofBits .f32 0x3C231ACC#32) = x * (((2672307 / 268435456)⁻¹ : ℝ) : EReal) := by
  rw [word_second, Ideal.div_coe (by norm_num), one_div]

end Cert.Adam

end
-- ==== Proof.Ad.AdamIn.lean ====
/- One AdamW step on the weight of the input projection: what the call leaves in its four result arrays. -/
module

public import proofs.«01_k».proof.Proof.Gen.AdamInIdeal.Frame
public import proofs.«01_k».proof.Proof.Ad.Step
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamInIdeal.Ad

open Cert.AdamInIdeal Cert.AdamInIdeal.Gen
open Idealize.ShloMosaic Idealize.ShloMosaic.TcCoe Idealize.SL.Sem
open Idealize.ShloMosaic.Pipeline (Dat)

variable (m : (ℓ : Loc nD τ sig) → Buf (Elt Ideal) ℓ)

/-- No index map reads the table. -/
theorem ok : Ok m := trivial

/-- The table as the memory holds it. -/
def ok' : (pcfg0 (F := Ideal)).Adm := adm m (ok m)

/-! ## The arrays that the call is to leave -/

/-- The table's one word: which half of the gradient's rows the core has summed itself. -/
def word (k : S1.Idx → BitVec 32) : BitVec 32 := k (Shape.Idx.first (s := S1) (by decide))

/-- The gradient, put together of the half that the core holds and the half that came to it. -/
def grad (k : S1.Idx → BitVec 32) (own other : FVec Ideal S512x1410 .f32) : FVec Ideal S1024x1410 .f32 := fun j =>
  if BitVec.ofNat 32 ((j 0).val / 512) = word k then own (ix2 ⟨(j 0).val % 512, Nat.mod_lt _ (by decide)⟩ (j 1))
  else other (ix2 ⟨(j 0).val % 512, Nat.mod_lt _ (by decide)⟩ (j 1))

/-- The new first moments. -/
def moment1 (k : S1.Idx → BitVec 32) (own other : FVec Ideal S512x1410 .f32) (x : FVec Ideal S1024x1410 .f32) : FVec Ideal S1024x1410 .f32 :=
  fun j => Adam.first (x j) (grad k own other j)

/-- The new second moments. -/
def moment2 (k : S1.Idx → BitVec 32) (own other : FVec Ideal S512x1410 .f32) (x : FVec Ideal S1024x1410 .f32) : FVec Ideal S1024x1410 .f32 :=
  fun j => Adam.second (x j) (grad k own other j)

/-- The change of the weight. -/
def change (k : S1.Idx → BitVec 32) (own other : FVec Ideal S512x1410 .f32) (w x y : FVec Ideal S1024x1410 .f32) : FVec Ideal S1024x1410 .f32 :=
  fun j => Adam.change (w j) (moment1 k own other x j) (moment2 k own other y j)

/-! ## Where the blocks lie -/

/-- Where each grid point's blocks lie. -/
theorem idx (a : (pcfg0 (F := Ideal)).Adm) : ∀ t : Fin grid0.N, (win0 a 0).index t = ![t.val, 0] ∧ (win0 a 1).index t = ![t.val % 4, 0] ∧ (win0 a 2).index t = ![t.val % 4, 0]
    ∧ (win0 a 3).index t = ![t.val, 0] ∧ (win0 a 4).index t = ![t.val, 0] ∧ (win0 a 5).index t = ![t.val, 0]
    ∧ (win0 a 6).index t = ![t.val, 0] ∧ (win0 a 7).index t = ![t.val, 0] ∧ (win0 a 8).index t = ![t.val, 0] :=
  (by decide +kernel : ∀ t : Fin grid0.N, cc0_transform_0 (grid0.coords t) = ![t.val, 0] ∧ cc0_transform_1 (grid0.coords t) = ![t.val % 4, 0] ∧ cc0_transform_2 (grid0.coords t) = ![t.val % 4, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0])

/-- The half of the rows that a grid point works on. -/
theorem side : ∀ t : Fin grid0.N, ((grid0.coords t) 0).val = t.val / 4 := by decide +kernel

/-- The place in the array of a block's entry. -/
def place (t : Fin grid0.N) (y : S128x1410.Idx) : S1024x1410.Idx :=
  ix2 ⟨t.val * 128 + (y 0).val, by have h : t.val < 8 := lt_of_lt_of_eq t.isLt N_0; have hy : (y 0).val < 128 := (y 0).isLt; omega⟩ (y 1)

/-- The place in its half of the rows. -/
def placeHalf (t : Fin grid0.N) (y : S128x1410.Idx) : S512x1410.Idx :=
  ix2 ⟨t.val % 4 * 128 + (y 0).val, by have h := Nat.mod_lt t.val (show 0 < 4 by decide); have hy : (y 0).val < 128 := (y 0).isLt; omega⟩ (y 1)

theorem emb0 (a : (pcfg0 (F := Ideal)).Adm) (t : Fin grid0.N) (y : S128x1410.Idx) : (((win0 a 0).rect t).emb y : S1024x1410.Idx) = place t y := by
  have h : ∀ k : Fin 2, ((((win0 a 0).rect t).emb y : S1024x1410.Idx) k : Nat) = (win0 a 0).index t k * (win0 a 0).size k + (y k : Nat) := fun k =>
    Pipeline.Window.rect_emb_val (win0 a 0) t y k rfl
  have e := (idx a t).1
  funext k; apply Fin.ext; refine (h k).trans ?_; rw [e]; fin_cases k
  · rfl
  · exact Nat.zero_add _

theorem emb1 (a : (pcfg0 (F := Ideal)).Adm) (t : Fin grid0.N) (y : S128x1410.Idx) : (((win0 a 1).rect t).emb y : S512x1410.Idx) = placeHalf t y := by
  have h : ∀ k : Fin 2, ((((win0 a 1).rect t).emb y : S512x1410.Idx) k : Nat) = (win0 a 1).index t k * (win0 a 1).size k + (y k : Nat) := fun k =>
    Pipeline.Window.rect_emb_val (win0 a 1) t y k rfl
  have e := (idx a t).2.1
  funext k; apply Fin.ext; refine (h k).trans ?_; rw [e]; fin_cases k
  · rfl
  · exact Nat.zero_add _

theorem emb2 (a : (pcfg0 (F := Ideal)).Adm) (t : Fin grid0.N) (y : S128x1410.Idx) : (((win0 a 2).rect t).emb y : S512x1410.Idx) = placeHalf t y := by
  have h : ∀ k : Fin 2, ((((win0 a 2).rect t).emb y : S512x1410.Idx) k : Nat) = (win0 a 2).index t k * (win0 a 2).size k + (y k : Nat) := fun k =>
    Pipeline.Window.rect_emb_val (win0 a 2) t y k rfl
  have e := (idx a t).2.2.1
  funext k; apply Fin.ext; refine (h k).trans ?_; rw [e]; fin_cases k
  · rfl
  · exact Nat.zero_add _

theorem emb3 (a : (pcfg0 (F := Ideal)).Adm) (t : Fin grid0.N) (y : S128x1410.Idx) : (((win0 a 3).rect t).emb y : S1024x1410.Idx) = place t y := by
  have h : ∀ k : Fin 2, ((((win0 a 3).rect t).emb y : S1024x1410.Idx) k : Nat) = (win0 a 3).index t k * (win0 a 3).size k + (y k : Nat) := fun k =>
    Pipeline.Window.rect_emb_val (win0 a 3) t y k rfl
  have e := (idx a t).2.2.2.1
  funext k; apply Fin.ext; refine (h k).trans ?_; rw [e]; fin_cases k
  · rfl
  · exact Nat.zero_add _

theorem emb4 (a : (pcfg0 (F := Ideal)).Adm) (t : Fin grid0.N) (y : S128x1410.Idx) : (((win0 a 4).rect t).emb y : S1024x1410.Idx) = place t y := by
  have h : ∀ k : Fin 2, ((((win0 a 4).rect t).emb y : S1024x1410.Idx) k : Nat) = (win0 a 4).index t k * (win0 a 4).size k + (y k : Nat) := fun k =>
    Pipeline.Window.rect_emb_val (win0 a 4) t y k rfl
  have e := (idx a t).2.2.2.2.1
  funext k; apply Fin.ext; refine (h k).trans ?_; rw [e]; fin_cases k
  · rfl
  · exact Nat.zero_add _

theorem emb5 (a : (pcfg0 (F := Ideal)).Adm) (t : Fin grid0.N) (y : S128x1410.Idx) : (((win0 a 5).rect t).emb y : S1024x1410.Idx) = place t y := by
  have h : ∀ k : Fin 2, ((((win0 a 5).rect t).emb y : S1024x1410.Idx) k : Nat) = (win0 a 5).index t k * (win0 a 5).size k + (y k : Nat) := fun k =>
    Pipeline.Window.rect_emb_val (win0 a 5) t y k rfl
  have e := (idx a t).2.2.2.2.2.1
  funext k; apply Fin.ext; refine (h k).trans ?_; rw [e]; fin_cases k
  · rfl
  · exact Nat.zero_add _

theorem emb6 (a : (pcfg0 (F := Ideal)).Adm) (t : Fin grid0.N) (y : S128x1410.Idx) : (((win0 a 6).rect t).emb y : S1024x1410.Idx) = place t y := by
  have h : ∀ k : Fin 2, ((((win0 a 6).rect t).emb y : S1024x1410.Idx) k : Nat) = (win0 a 6).index t k * (win0 a 6).size k + (y k : Nat) := fun k =>
    Pipeline.Window.rect_emb_val (win0 a 6) t y k rfl
  have e := (idx a t).2.2.2.2.2.2.1
  funext k; apply Fin.ext; refine (h k).trans ?_; rw [e]; fin_cases k
  · rfl
  · exact Nat.zero_add _

theorem emb7 (a : (pcfg0 (F := Ideal)).Adm) (t : Fin grid0.N) (y : S128x1410.Idx) : (((win0 a 7).rect t).emb y : S1024x1410.Idx) = place t y := by
  have h : ∀ k : Fin 2, ((((win0 a 7).rect t).emb y : S1024x1410.Idx) k : Nat) = (win0 a 7).index t k * (win0 a 7).size k + (y k : Nat) := fun k =>
    Pipeline.Window.rect_emb_val (win0 a 7) t y k rfl
  have e := (idx a t).2.2.2.2.2.2.2.1
  funext k; apply Fin.ext; refine (h k).trans ?_; rw [e]; fin_cases k
  · rfl
  · exact Nat.zero_add _

theorem emb8 (a : (pcfg0 (F := Ideal)).Adm) (t : Fin grid0.N) (y : S128x1410.Idx) : (((win0 a 8).rect t).emb y : S1024x1410.Idx) = place t y := by
  have h : ∀ k : Fin 2, ((((win0 a 8).rect t).emb y : S1024x1410.Idx) k : Nat) = (win0 a 8).index t k * (win0 a 8).size k + (y k : Nat) := fun k =>
    Pipeline.Window.rect_emb_val (win0 a 8) t y k rfl
  have e := (idx a t).2.2.2.2.2.2.2.2
  funext k; apply Fin.ext; refine (h k).trans ?_; rw [e]; fin_cases k
  · rfl
  · exact Nat.zero_add _

/-- A table to decide facts of the windows at, none of which reads it. -/
def a0 : (pcfg0 (F := Ideal)).Adm := ⟨fun | ⟨0, _⟩ => fun _ => (0 : BitVec 32), trivial⟩

theorem covers5 (a : (pcfg0 (F := Ideal)).Adm) : ((cfg0 a).win 5).Covers := (by decide +kernel : ((cfg0 a0).win 5).Covers)
theorem covers6 (a : (pcfg0 (F := Ideal)).Adm) : ((cfg0 a).win 6).Covers := (by decide +kernel : ((cfg0 a0).win 6).Covers)
theorem covers7 (a : (pcfg0 (F := Ideal)).Adm) : ((cfg0 a).win 7).Covers := (by decide +kernel : ((cfg0 a0).win 7).Covers)
theorem covers8 (a : (pcfg0 (F := Ideal)).Adm) : ((cfg0 a).win 8).Covers := (by decide +kernel : ((cfg0 a0).win 8).Covers)

/-! ## What the body leaves in its blocks -/

theorem hz2 : (![0, 0] : Fin 2 → Nat) = fun _ => 0 := by funext k; fin_cases k <;> rfl

theorem one (a b : S1.Idx) : a = b := by
  funext k; fin_cases k; exact Subsingleton.elim (α := Fin 1) _ _

/-- The gradient's entry that the body selects. -/
theorem pay1 (i : grid0.Coords) (k : BitVec 32) (x y : Vec Ideal S128x1410 .f32) (j : S128x1410.Idx) :
    k0_pay1 (F := Ideal) i k x y j = if BitVec.ofNat 32 (i 0).val = k then x j else y j := by
  unfold k0_pay1
  simp only [Scalar.select, Scalar.cmpi, IntOp.cmpi]
  by_cases h : BitVec.ofNat 32 (i 0).val = k
  · simp [h]
  · have : (BitVec.ofNat 32 (i 0).val == k) = false := by simpa using h
    simp [h, this]

theorem pay2 (i : grid0.Coords) (k : BitVec 32) (x y z : Vec Ideal S128x1410 .f32) (j : S128x1410.Idx) :
    k0_pay2 (F := Ideal) i k x y z j = Adam.first (z j) (k0_pay1 (F := Ideal) i k x y j) := by
  pointwise [k0_pay2, Adam.first]

theorem pay3 (i : grid0.Coords) (k : BitVec 32) (x y z : Vec Ideal S128x1410 .f32) (j : S128x1410.Idx) :
    k0_pay3 (F := Ideal) i k x y z j = Adam.second (z j) (k0_pay1 (F := Ideal) i k x y j) := by
  pointwise [k0_pay3, Adam.second]

theorem named_first : Named.named (F := Ideal) Cert.AdamInIdeal.κ "first" (φ := .f32) 0x3FC48605#32 = (((5463681 / 8388608)⁻¹ : ℝ) : EReal) :=
  IdealRules.named_const.ideal_named_scalar _ _ _ _ rfl

theorem named_second : Named.named (F := Ideal) Cert.AdamInIdeal.κ "second" (φ := .f32) 0x42C8E6D3#32 = (((2672307 / 268435456)⁻¹ : ℝ) : EReal) :=
  IdealRules.named_const.ideal_named_scalar _ _ _ _ rfl

theorem pay4 (i : grid0.Coords) (k : BitVec 32) (x y z u w : Vec Ideal S128x1410 .f32) (j : S128x1410.Idx) :
    k0_pay4 (F := Ideal) i k x y z u w j = Adam.change (w j) (k0_pay2 (F := Ideal) i k x y z j) (k0_pay3 (F := Ideal) i k x y u j) := by
  pointwise [k0_pay4, Adam.change, named_first, named_second]

/-- The word and the input blocks of a grid point. -/
def key : BitVec 32 := word (tbl m 0)
def blk0 (c : Dev nD) (t : Fin grid0.N) : Vec Ideal S128x1410 .f32 := iblk m (ok m) c 0 t
def blk1 (c : Dev nD) (t : Fin grid0.N) : Vec Ideal S128x1410 .f32 := iblk m (ok m) c 1 t
def blk2 (c : Dev nD) (t : Fin grid0.N) : Vec Ideal S128x1410 .f32 := iblk m (ok m) c 2 t
def blk3 (c : Dev nD) (t : Fin grid0.N) : Vec Ideal S128x1410 .f32 := iblk m (ok m) c 3 t
def blk4 (c : Dev nD) (t : Fin grid0.N) : Vec Ideal S128x1410 .f32 := iblk m (ok m) c 4 t

theorem out5 (c : Dev nD) (i : grid0.Coords) (a3 h3 a4 h4 a5 h5 a6 h6 a7 h7 a8 h8 a9 h9 a10 h10 a11 h11) (x0 x1 x2 x3 x4) (k : Vec Ideal S1 .i32) :
    out0_A_5 (F := Ideal) c i a3 h3 a4 h4 a5 h5 a6 h6 a7 h7 a8 h8 a9 h9 a10 h10 a11 h11 x0 x1 x2 x3 x4 k = k0_pay1 (F := Ideal) i (word k) x1 x2 := by
  unfold out0_A_5
  rw [View.read_writes_eq_canon _ _ _ (cover0_A_5 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1410) hz2]
  refine congrArg (fun q => k0_pay1 (F := Ideal) i q x1 x2) ?_
  unfold word
  exact congrArg k (one _ _)

theorem outs5 (c : Dev nD) (t : Fin grid0.N) : (outsAt0 m (ok m) c t).1 = k0_pay1 (F := Ideal) (grid0.coords t) (key m) (blk1 m c t) (blk2 m c t) := by
  unfold outsAt0
  dsimp only
  exact out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out6 (c : Dev nD) (i : grid0.Coords) (a3 h3 a4 h4 a5 h5 a6 h6 a7 h7 a8 h8 a9 h9 a10 h10 a11 h11) (x0 x1 x2 x3 x4) (k : Vec Ideal S1 .i32) :
    out0_A_6 (F := Ideal) c i a3 h3 a4 h4 a5 h5 a6 h6 a7 h7 a8 h8 a9 h9 a10 h10 a11 h11 x0 x1 x2 x3 x4 k = k0_pay4 (F := Ideal) i (word k) x1 x2 x3 x4 x0 := by
  unfold out0_A_6
  rw [View.read_writes_eq_canon _ _ _ (cover0_A_6 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1410) hz2]
  refine congrArg (fun q => k0_pay4 (F := Ideal) i q x1 x2 x3 x4 x0) ?_
  unfold word
  exact congrArg k (one _ _)

theorem outs6 (c : Dev nD) (t : Fin grid0.N) : (outsAt0 m (ok m) c t).2.1 = k0_pay4 (F := Ideal) (grid0.coords t) (key m) (blk1 m c t) (blk2 m c t) (blk3 m c t) (blk4 m c t) (blk0 m c t) := by
  unfold outsAt0
  dsimp only
  exact out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out7 (c : Dev nD) (i : grid0.Coords) (a3 h3 a4 h4 a5 h5 a6 h6 a7 h7 a8 h8 a9 h9 a10 h10 a11 h11) (x0 x1 x2 x3 x4) (k : Vec Ideal S1 .i32) :
    out0_A_7 (F := Ideal) c i a3 h3 a4 h4 a5 h5 a6 h6 a7 h7 a8 h8 a9 h9 a10 h10 a11 h11 x0 x1 x2 x3 x4 k = k0_pay2 (F := Ideal) i (word k) x1 x2 x3 := by
  unfold out0_A_7
  rw [View.read_writes_eq_canon _ _ _ (cover0_A_7 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1410) hz2]
  refine congrArg (fun q => k0_pay2 (F := Ideal) i q x1 x2 x3) ?_
  unfold word
  exact congrArg k (one _ _)

theorem outs7 (c : Dev nD) (t : Fin grid0.N) : (outsAt0 m (ok m) c t).2.2.1 = k0_pay2 (F := Ideal) (grid0.coords t) (key m) (blk1 m c t) (blk2 m c t) (blk3 m c t) := by
  unfold outsAt0
  dsimp only
  exact out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out8 (c : Dev nD) (i : grid0.Coords) (a3 h3 a4 h4 a5 h5 a6 h6 a7 h7 a8 h8 a9 h9 a10 h10 a11 h11) (x0 x1 x2 x3 x4) (k : Vec Ideal S1 .i32) :
    out0_A_8 (F := Ideal) c i a3 h3 a4 h4 a5 h5 a6 h6 a7 h7 a8 h8 a9 h9 a10 h10 a11 h11 x0 x1 x2 x3 x4 k = k0_pay3 (F := Ideal) i (word k) x1 x2 x4 := by
  unfold out0_A_8
  rw [View.read_writes_eq_canon _ _ _ (cover0_A_8 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1410) hz2]
  refine congrArg (fun q => k0_pay3 (F := Ideal) i q x1 x2 x4) ?_
  unfold word
  exact congrArg k (one _ _)

theorem outs8 (c : Dev nD) (t : Fin grid0.N) : (outsAt0 m (ok m) c t).2.2.2 = k0_pay3 (F := Ideal) (grid0.coords t) (key m) (blk1 m c t) (blk2 m c t) (blk4 m c t) := by
  unfold outsAt0
  dsimp only
  exact out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

/-! ## The blocks' entries in the arrays -/

/-- The word, read from the memory. -/
theorem key_eq (c : Dev nD) : key m = word (m ((c : Thread nD τ).loc main_arg0)) := by
  have h : c = (0 : Dev nD) := Subsingleton.elim _ _
  subst h
  unfold key tbl
  exact congrArg word (V_main_arg0 m 0)

theorem blk0_at (c : Dev nD) (t : Fin grid0.N) (y : S128x1410.Idx) :
    blk0 m c t y = (m ((c : Thread nD τ).loc main_arg1) : S1024x1410.Idx → EReal) (place t y) := by
  unfold blk0 iblk
  exact congrArg (m ((c : Thread nD τ).loc main_arg1) : S1024x1410.Idx → EReal) (emb0 (ok' m) t y)

theorem blk1_at (c : Dev nD) (t : Fin grid0.N) (y : S128x1410.Idx) :
    blk1 m c t y = (m ((c : Thread nD τ).loc main_arg2) : S512x1410.Idx → EReal) (placeHalf t y) := by
  unfold blk1 iblk
  exact congrArg (m ((c : Thread nD τ).loc main_arg2) : S512x1410.Idx → EReal) (emb1 (ok' m) t y)

theorem blk2_at (c : Dev nD) (t : Fin grid0.N) (y : S128x1410.Idx) :
    blk2 m c t y = (m ((c : Thread nD τ).loc main_arg3) : S512x1410.Idx → EReal) (placeHalf t y) := by
  unfold blk2 iblk
  exact congrArg (m ((c : Thread nD τ).loc main_arg3) : S512x1410.Idx → EReal) (emb2 (ok' m) t y)

theorem blk3_at (c : Dev nD) (t : Fin grid0.N) (y : S128x1410.Idx) :
    blk3 m c t y = (m ((c : Thread nD τ).loc main_arg4) : S1024x1410.Idx → EReal) (place t y) := by
  unfold blk3 iblk
  exact congrArg (m ((c : Thread nD τ).loc main_arg4) : S1024x1410.Idx → EReal) (emb3 (ok' m) t y)

theorem blk4_at (c : Dev nD) (t : Fin grid0.N) (y : S128x1410.Idx) :
    blk4 m c t y = (m ((c : Thread nD τ).loc main_arg5) : S1024x1410.Idx → EReal) (place t y) := by
  unfold blk4 iblk
  exact congrArg (m ((c : Thread nD τ).loc main_arg5) : S1024x1410.Idx → EReal) (emb4 (ok' m) t y)

/-- The gradient's block is the gradient's rows at its place. -/
theorem grad_at (c : Dev nD) (t : Fin grid0.N) (y : S128x1410.Idx) :
    k0_pay1 (F := Ideal) (grid0.coords t) (key m) (blk1 m c t) (blk2 m c t) y = grad (m ((c : Thread nD τ).loc main_arg0)) (m ((c : Thread nD τ).loc main_arg2)) (m ((c : Thread nD τ).loc main_arg3)) (place t y) := by
  have ht : t.val < 8 := lt_of_lt_of_eq t.isLt N_0
  have hy : (y 0).val < 128 := (y 0).isLt
  have hd : (place t y 0).val / 512 = t.val / 4 := by show (t.val * 128 + (y 0).val) / 512 = _; omega
  have hm : (place t y 0).val % 512 = t.val % 4 * 128 + (y 0).val := by show (t.val * 128 + (y 0).val) % 512 = _; omega
  have hp : (ix2 ⟨(place t y 0).val % 512, Nat.mod_lt _ (by decide)⟩ (place t y 1) : S512x1410.Idx) = placeHalf t y := by
    funext k; apply Fin.ext; fin_cases k
    · exact hm
    · rfl
  rw [pay1, blk1_at, blk2_at, side, key_eq m c]
  unfold grad
  rw [hp, hd]

theorem moment1_at (c : Dev nD) (t : Fin grid0.N) (y : S128x1410.Idx) :
    k0_pay2 (F := Ideal) (grid0.coords t) (key m) (blk1 m c t) (blk2 m c t) (blk3 m c t) y = moment1 (m ((c : Thread nD τ).loc main_arg0)) (m ((c : Thread nD τ).loc main_arg2)) (m ((c : Thread nD τ).loc main_arg3)) (m ((c : Thread nD τ).loc main_arg4)) (place t y) := by
  rw [pay2, grad_at, blk3_at]; rfl

theorem moment2_at (c : Dev nD) (t : Fin grid0.N) (y : S128x1410.Idx) :
    k0_pay3 (F := Ideal) (grid0.coords t) (key m) (blk1 m c t) (blk2 m c t) (blk4 m c t) y = moment2 (m ((c : Thread nD τ).loc main_arg0)) (m ((c : Thread nD τ).loc main_arg2)) (m ((c : Thread nD τ).loc main_arg3)) (m ((c : Thread nD τ).loc main_arg5)) (place t y) := by
  rw [pay3, grad_at, blk4_at]; rfl

theorem change_at (c : Dev nD) (t : Fin grid0.N) (y : S128x1410.Idx) :
    k0_pay4 (F := Ideal) (grid0.coords t) (key m) (blk1 m c t) (blk2 m c t) (blk3 m c t) (blk4 m c t) (blk0 m c t) y = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (place t y) := by
  rw [pay4, moment1_at, moment2_at, blk0_at]; rfl

/-! ## The result arrays after the run -/

theorem final5 (c : Dev nD) : (dats m (ok m) 0 c).arrAt 5 (cfgM m (ok m)).N = grad (m ((c : Thread nD τ).loc main_arg0)) (m ((c : Thread nD τ).loc main_arg2)) (m ((c : Thread nD τ).loc main_arg3)) := by
  refine (dats m (ok m) 0 c).arrAt_eq_of_covers 5 _ (covers5 _) fun t hf y => ?_
  rw [after0_5, outs5 m c t]
  exact (grad_at m c t y).trans (congrArg (grad (m ((c : Thread nD τ).loc main_arg0)) (m ((c : Thread nD τ).loc main_arg2)) (m ((c : Thread nD τ).loc main_arg3))) (emb5 (ok' m) t y).symm)

theorem final6 (c : Dev nD) : (dats m (ok m) 0 c).arrAt 6 (cfgM m (ok m)).N = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) := by
  refine (dats m (ok m) 0 c).arrAt_eq_of_covers 6 _ (covers6 _) fun t hf y => ?_
  rw [after0_6, outs6 m c t]
  exact (change_at m c t y).trans (congrArg (change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))) (emb6 (ok' m) t y).symm)

theorem final7 (c : Dev nD) : (dats m (ok m) 0 c).arrAt 7 (cfgM m (ok m)).N = moment1 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (covers7 _) fun t hf y => ?_
  rw [after0_7, outs7 m c t]
  exact (moment1_at m c t y).trans (congrArg (moment1 (m ((c : Thread nD τ).loc main_arg0)) (m ((c : Thread nD τ).loc main_arg2)) (m ((c : Thread nD τ).loc main_arg3)) (m ((c : Thread nD τ).loc main_arg4))) (emb7 (ok' m) t y).symm)

theorem final8 (c : Dev nD) : (dats m (ok m) 0 c).arrAt 8 (cfgM m (ok m)).N = moment2 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (covers8 _) fun t hf y => ?_
  rw [after0_8, outs8 m c t]
  exact (moment2_at m c t y).trans (congrArg (moment2 (m ((c : Thread nD τ).loc main_arg0)) (m ((c : Thread nD τ).loc main_arg2)) (m ((c : Thread nD τ).loc main_arg3)) (m ((c : Thread nD τ).loc main_arg5))) (emb8 (ok' m) t y).symm)

/-- The run's end: the results at their arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg2)) (m ((c : Thread nD τ).loc main_arg3))
      ∧ r.2.mem ((c : Thread nD τ).loc main_v0_1) = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))
      ∧ r.2.mem ((c : Thread nD τ).loc main_v0_2) = moment1 (m ((c : Thread nD τ).loc main_arg0)) (m ((c : Thread nD τ).loc main_arg2)) (m ((c : Thread nD τ).loc main_arg3)) (m ((c : Thread nD τ).loc main_arg4))
      ∧ r.2.mem ((c : Thread nD τ).loc main_v0_3) = moment2 (m ((c : Thread nD τ).loc main_arg0)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨((hr c).1 5).trans (final5 m c), ((hr c).1 6).trans (final6 m c),
      ((hr c).1 7).trans (final7 m c), ((hr c).1 8).trans (final8 m c),
      (hr c).2 main_arg0 (by decide : main_arg0 ∈ Pipeline.restRefs sig spec0),
      ((hr c).1 0).trans ((dats m (ok m) 0 c).arrAt_in 0 rfl _),
      ((hr c).1 1).trans ((dats m (ok m) 0 c).arrAt_in 1 rfl _),
      ((hr c).1 2).trans ((dats m (ok m) 0 c).arrAt_in 2 rfl _),
      ((hr c).1 3).trans ((dats m (ok m) 0 c).arrAt_in 3 rfl _),
      ((hr c).1 4).trans ((dats m (ok m) 0 c).arrAt_in 4 rfl _)⟩)
    (run_main m ρ (ok m))

end Cert.AdamInIdeal.Ad

end
-- ==== Proof.Ad.AdamBranch.lean ====
/- One AdamW step on the weight of a branch projection: what the call leaves in its four result arrays. -/
module

public import proofs.«01_k».proof.Proof.Gen.AdamBranchIdeal.Frame
public import proofs.«01_k».proof.Proof.Ad.Step
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamBranchIdeal.Ad

open Cert.AdamBranchIdeal Cert.AdamBranchIdeal.Gen
open Idealize.ShloMosaic Idealize.ShloMosaic.TcCoe Idealize.SL.Sem
open Idealize.ShloMosaic.Pipeline (Dat)

variable (m : (ℓ : Loc nD τ sig) → Buf (Elt Ideal) ℓ)

/-- No index map reads the table. -/
theorem ok : Ok m := trivial

/-- The table as the memory holds it. -/
def ok' : (pcfg0 (F := Ideal)).Adm := adm m (ok m)

/-! ## The arrays that the call is to leave -/

/-- The table's one word: which half of the gradient's rows the core has summed itself. -/
def word (k : S1.Idx → BitVec 32) : BitVec 32 := k (Shape.Idx.first (s := S1) (by decide))

/-- The gradient, put together of the half that the core holds and the half that came to it. -/
def grad (k : S1.Idx → BitVec 32) (own other : FVec Ideal S256x256 .f32) : FVec Ideal S512x256 .f32 := fun j =>
  if BitVec.ofNat 32 ((j 0).val / 256) = word k then own (ix2 ⟨(j 0).val % 256, Nat.mod_lt _ (by decide)⟩ (j 1))
  else other (ix2 ⟨(j 0).val % 256, Nat.mod_lt _ (by decide)⟩ (j 1))

/-- The new first moments. -/
def moment1 (k : S1.Idx → BitVec 32) (own other : FVec Ideal S256x256 .f32) (x : FVec Ideal S512x256 .f32) : FVec Ideal S512x256 .f32 :=
  fun j => Adam.first (x j) (grad k own other j)

/-- The new second moments. -/
def moment2 (k : S1.Idx → BitVec 32) (own other : FVec Ideal S256x256 .f32) (x : FVec Ideal S512x256 .f32) : FVec Ideal S512x256 .f32 :=
  fun j => Adam.second (x j) (grad k own other j)

/-- The change of the weight. -/
def change (k : S1.Idx → BitVec 32) (own other : FVec Ideal S256x256 .f32) (w x y : FVec Ideal S512x256 .f32) : FVec Ideal S512x256 .f32 :=
  fun j => Adam.change (w j) (moment1 k own other x j) (moment2 k own other y j)

/-! ## Where the blocks lie -/

/-- Where each grid point's blocks lie. -/
theorem idx (a : (pcfg0 (F := Ideal)).Adm) : ∀ t : Fin grid0.N, (win0 a 0).index t = ![t.val, 0] ∧ (win0 a 1).index t = ![0, 0] ∧ (win0 a 2).index t = ![0, 0]
    ∧ (win0 a 3).index t = ![t.val, 0] ∧ (win0 a 4).index t = ![t.val, 0] ∧ (win0 a 5).index t = ![t.val, 0]
    ∧ (win0 a 6).index t = ![t.val, 0] ∧ (win0 a 7).index t = ![t.val, 0] ∧ (win0 a 8).index t = ![t.val, 0] :=
  (by decide +kernel : ∀ t : Fin grid0.N, cc0_transform_0 (grid0.coords t) = ![t.val, 0] ∧ cc0_transform_1 (grid0.coords t) = ![0, 0] ∧ cc0_transform_2 (grid0.coords t) = ![0, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0])

/-- The half of the rows that a grid point works on. -/
theorem side : ∀ t : Fin grid0.N, ((grid0.coords t) 0).val = t.val / 1 := by decide +kernel

/-- The place in the array of a block's entry. -/
def place (t : Fin grid0.N) (y : S256x256.Idx) : S512x256.Idx :=
  ix2 ⟨t.val * 256 + (y 0).val, by have h : t.val < 2 := lt_of_lt_of_eq t.isLt N_0; have hy : (y 0).val < 256 := (y 0).isLt; omega⟩ (y 1)

/-- The place in its half of the rows. -/
def placeHalf (t : Fin grid0.N) (y : S256x256.Idx) : S256x256.Idx :=
  ix2 ⟨t.val % 1 * 256 + (y 0).val, by have h := Nat.mod_lt t.val (show 0 < 1 by decide); have hy : (y 0).val < 256 := (y 0).isLt; omega⟩ (y 1)

theorem emb0 (a : (pcfg0 (F := Ideal)).Adm) (t : Fin grid0.N) (y : S256x256.Idx) : (((win0 a 0).rect t).emb y : S512x256.Idx) = place t y := by
  have h : ∀ k : Fin 2, ((((win0 a 0).rect t).emb y : S512x256.Idx) k : Nat) = (win0 a 0).index t k * (win0 a 0).size k + (y k : Nat) := fun k =>
    Pipeline.Window.rect_emb_val (win0 a 0) t y k rfl
  have e := (idx a t).1
  funext k; apply Fin.ext; refine (h k).trans ?_; rw [e]; fin_cases k
  · rfl
  · exact Nat.zero_add _

theorem emb1 (a : (pcfg0 (F := Ideal)).Adm) (t : Fin grid0.N) (y : S256x256.Idx) : (((win0 a 1).rect t).emb y : S256x256.Idx) = placeHalf t y := by
  have h : ∀ k : Fin 2, ((((win0 a 1).rect t).emb y : S256x256.Idx) k : Nat) = (win0 a 1).index t k * (win0 a 1).size k + (y k : Nat) := fun k =>
    Pipeline.Window.rect_emb_val (win0 a 1) t y k rfl
  have e := (idx a t).2.1
  funext k; apply Fin.ext; refine (h k).trans ?_; rw [e]; fin_cases k
  · show 0 * 256 + (y 0).val = t.val % 1 * 256 + (y 0).val; rw [Nat.mod_one]
  · exact Nat.zero_add _

theorem emb2 (a : (pcfg0 (F := Ideal)).Adm) (t : Fin grid0.N) (y : S256x256.Idx) : (((win0 a 2).rect t).emb y : S256x256.Idx) = placeHalf t y := by
  have h : ∀ k : Fin 2, ((((win0 a 2).rect t).emb y : S256x256.Idx) k : Nat) = (win0 a 2).index t k * (win0 a 2).size k + (y k : Nat) := fun k =>
    Pipeline.Window.rect_emb_val (win0 a 2) t y k rfl
  have e := (idx a t).2.2.1
  funext k; apply Fin.ext; refine (h k).trans ?_; rw [e]; fin_cases k
  · show 0 * 256 + (y 0).val = t.val % 1 * 256 + (y 0).val; rw [Nat.mod_one]
  · exact Nat.zero_add _

theorem emb3 (a : (pcfg0 (F := Ideal)).Adm) (t : Fin grid0.N) (y : S256x256.Idx) : (((win0 a 3).rect t).emb y : S512x256.Idx) = place t y := by
  have h : ∀ k : Fin 2, ((((win0 a 3).rect t).emb y : S512x256.Idx) k : Nat) = (win0 a 3).index t k * (win0 a 3).size k + (y k : Nat) := fun k =>
    Pipeline.Window.rect_emb_val (win0 a 3) t y k rfl
  have e := (idx a t).2.2.2.1
  funext k; apply Fin.ext; refine (h k).trans ?_; rw [e]; fin_cases k
  · rfl
  · exact Nat.zero_add _

theorem emb4 (a : (pcfg0 (F := Ideal)).Adm) (t : Fin grid0.N) (y : S256x256.Idx) : (((win0 a 4).rect t).emb y : S512x256.Idx) = place t y := by
  have h : ∀ k : Fin 2, ((((win0 a 4).rect t).emb y : S512x256.Idx) k : Nat) = (win0 a 4).index t k * (win0 a 4).size k + (y k : Nat) := fun k =>
    Pipeline.Window.rect_emb_val (win0 a 4) t y k rfl
  have e := (idx a t).2.2.2.2.1
  funext k; apply Fin.ext; refine (h k).trans ?_; rw [e]; fin_cases k
  · rfl
  · exact Nat.zero_add _

theorem emb5 (a : (pcfg0 (F := Ideal)).Adm) (t : Fin grid0.N) (y : S256x256.Idx) : (((win0 a 5).rect t).emb y : S512x256.Idx) = place t y := by
  have h : ∀ k : Fin 2, ((((win0 a 5).rect t).emb y : S512x256.Idx) k : Nat) = (win0 a 5).index t k * (win0 a 5).size k + (y k : Nat) := fun k =>
    Pipeline.Window.rect_emb_val (win0 a 5) t y k rfl
  have e := (idx a t).2.2.2.2.2.1
  funext k; apply Fin.ext; refine (h k).trans ?_; rw [e]; fin_cases k
  · rfl
  · exact Nat.zero_add _

theorem emb6 (a : (pcfg0 (F := Ideal)).Adm) (t : Fin grid0.N) (y : S256x256.Idx) : (((win0 a 6).rect t).emb y : S512x256.Idx) = place t y := by
  have h : ∀ k : Fin 2, ((((win0 a 6).rect t).emb y : S512x256.Idx) k : Nat) = (win0 a 6).index t k * (win0 a 6).size k + (y k : Nat) := fun k =>
    Pipeline.Window.rect_emb_val (win0 a 6) t y k rfl
  have e := (idx a t).2.2.2.2.2.2.1
  funext k; apply Fin.ext; refine (h k).trans ?_; rw [e]; fin_cases k
  · rfl
  · exact Nat.zero_add _

theorem emb7 (a : (pcfg0 (F := Ideal)).Adm) (t : Fin grid0.N) (y : S256x256.Idx) : (((win0 a 7).rect t).emb y : S512x256.Idx) = place t y := by
  have h : ∀ k : Fin 2, ((((win0 a 7).rect t).emb y : S512x256.Idx) k : Nat) = (win0 a 7).index t k * (win0 a 7).size k + (y k : Nat) := fun k =>
    Pipeline.Window.rect_emb_val (win0 a 7) t y k rfl
  have e := (idx a t).2.2.2.2.2.2.2.1
  funext k; apply Fin.ext; refine (h k).trans ?_; rw [e]; fin_cases k
  · rfl
  · exact Nat.zero_add _

theorem emb8 (a : (pcfg0 (F := Ideal)).Adm) (t : Fin grid0.N) (y : S256x256.Idx) : (((win0 a 8).rect t).emb y : S512x256.Idx) = place t y := by
  have h : ∀ k : Fin 2, ((((win0 a 8).rect t).emb y : S512x256.Idx) k : Nat) = (win0 a 8).index t k * (win0 a 8).size k + (y k : Nat) := fun k =>
    Pipeline.Window.rect_emb_val (win0 a 8) t y k rfl
  have e := (idx a t).2.2.2.2.2.2.2.2
  funext k; apply Fin.ext; refine (h k).trans ?_; rw [e]; fin_cases k
  · rfl
  · exact Nat.zero_add _

/-- A table to decide facts of the windows at, none of which reads it. -/
def a0 : (pcfg0 (F := Ideal)).Adm := ⟨fun | ⟨0, _⟩ => fun _ => (0 : BitVec 32), trivial⟩

theorem covers5 (a : (pcfg0 (F := Ideal)).Adm) : ((cfg0 a).win 5).Covers := (by decide +kernel : ((cfg0 a0).win 5).Covers)
theorem covers6 (a : (pcfg0 (F := Ideal)).Adm) : ((cfg0 a).win 6).Covers := (by decide +kernel : ((cfg0 a0).win 6).Covers)
theorem covers7 (a : (pcfg0 (F := Ideal)).Adm) : ((cfg0 a).win 7).Covers := (by decide +kernel : ((cfg0 a0).win 7).Covers)
theorem covers8 (a : (pcfg0 (F := Ideal)).Adm) : ((cfg0 a).win 8).Covers := (by decide +kernel : ((cfg0 a0).win 8).Covers)

/-! ## What the body leaves in its blocks -/

theorem hz2 : (![0, 0] : Fin 2 → Nat) = fun _ => 0 := by funext k; fin_cases k <;> rfl

theorem one (a b : S1.Idx) : a = b := by
  funext k; fin_cases k; exact Subsingleton.elim (α := Fin 1) _ _

/-- The gradient's entry that the body selects. -/
theorem pay1 (i : grid0.Coords) (k : BitVec 32) (x y : Vec Ideal S256x256 .f32) (j : S256x256.Idx) :
    k0_pay1 (F := Ideal) i k x y j = if BitVec.ofNat 32 (i 0).val = k then x j else y j := by
  unfold k0_pay1
  simp only [Scalar.select, Scalar.cmpi, IntOp.cmpi]
  by_cases h : BitVec.ofNat 32 (i 0).val = k
  · simp [h]
  · have : (BitVec.ofNat 32 (i 0).val == k) = false := by simpa using h
    simp [h, this]

theorem pay2 (i : grid0.Coords) (k : BitVec 32) (x y z : Vec Ideal S256x256 .f32) (j : S256x256.Idx) :
    k0_pay2 (F := Ideal) i k x y z j = Adam.first (z j) (k0_pay1 (F := Ideal) i k x y j) := by
  pointwise [k0_pay2, Adam.first]

theorem pay3 (i : grid0.Coords) (k : BitVec 32) (x y z : Vec Ideal S256x256 .f32) (j : S256x256.Idx) :
    k0_pay3 (F := Ideal) i k x y z j = Adam.second (z j) (k0_pay1 (F := Ideal) i k x y j) := by
  pointwise [k0_pay3, Adam.second]

theorem named_first : Named.named (F := Ideal) Cert.AdamBranchIdeal.κ "first" (φ := .f32) 0x3FC48605#32 = (((5463681 / 8388608)⁻¹ : ℝ) : EReal) :=
  IdealRules.named_const.ideal_named_scalar _ _ _ _ rfl

theorem named_second : Named.named (F := Ideal) Cert.AdamBranchIdeal.κ "second" (φ := .f32) 0x42C8E6D3#32 = (((2672307 / 268435456)⁻¹ : ℝ) : EReal) :=
  IdealRules.named_const.ideal_named_scalar _ _ _ _ rfl

theorem pay4 (i : grid0.Coords) (k : BitVec 32) (x y z u w : Vec Ideal S256x256 .f32) (j : S256x256.Idx) :
    k0_pay4 (F := Ideal) i k x y z u w j = Adam.change (w j) (k0_pay2 (F := Ideal) i k x y z j) (k0_pay3 (F := Ideal) i k x y u j) := by
  pointwise [k0_pay4, Adam.change, named_first, named_second]

/-- The word and the input blocks of a grid point. -/
def key : BitVec 32 := word (tbl m 0)
def blk0 (c : Dev nD) (t : Fin grid0.N) : Vec Ideal S256x256 .f32 := iblk m (ok m) c 0 t
def blk1 (c : Dev nD) (t : Fin grid0.N) : Vec Ideal S256x256 .f32 := iblk m (ok m) c 1 t
def blk2 (c : Dev nD) (t : Fin grid0.N) : Vec Ideal S256x256 .f32 := iblk m (ok m) c 2 t
def blk3 (c : Dev nD) (t : Fin grid0.N) : Vec Ideal S256x256 .f32 := iblk m (ok m) c 3 t
def blk4 (c : Dev nD) (t : Fin grid0.N) : Vec Ideal S256x256 .f32 := iblk m (ok m) c 4 t

theorem out5 (c : Dev nD) (i : grid0.Coords) (a3 h3 a4 h4 a5 h5 a6 h6 a7 h7 a8 h8 a9 h9 a10 h10 a11 h11) (x0 x1 x2 x3 x4) (k : Vec Ideal S1 .i32) :
    out0_A_5 (F := Ideal) c i a3 h3 a4 h4 a5 h5 a6 h6 a7 h7 a8 h8 a9 h9 a10 h10 a11 h11 x0 x1 x2 x3 x4 k = k0_pay1 (F := Ideal) i (word k) x1 x2 := by
  unfold out0_A_5
  rw [View.read_writes_eq_canon _ _ _ (cover0_A_5 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S256x256) hz2]
  refine congrArg (fun q => k0_pay1 (F := Ideal) i q x1 x2) ?_
  unfold word
  exact congrArg k (one _ _)

theorem outs5 (c : Dev nD) (t : Fin grid0.N) : (outsAt0 m (ok m) c t).1 = k0_pay1 (F := Ideal) (grid0.coords t) (key m) (blk1 m c t) (blk2 m c t) := by
  unfold outsAt0
  dsimp only
  exact out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out6 (c : Dev nD) (i : grid0.Coords) (a3 h3 a4 h4 a5 h5 a6 h6 a7 h7 a8 h8 a9 h9 a10 h10 a11 h11) (x0 x1 x2 x3 x4) (k : Vec Ideal S1 .i32) :
    out0_A_6 (F := Ideal) c i a3 h3 a4 h4 a5 h5 a6 h6 a7 h7 a8 h8 a9 h9 a10 h10 a11 h11 x0 x1 x2 x3 x4 k = k0_pay4 (F := Ideal) i (word k) x1 x2 x3 x4 x0 := by
  unfold out0_A_6
  rw [View.read_writes_eq_canon _ _ _ (cover0_A_6 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S256x256) hz2]
  refine congrArg (fun q => k0_pay4 (F := Ideal) i q x1 x2 x3 x4 x0) ?_
  unfold word
  exact congrArg k (one _ _)

theorem outs6 (c : Dev nD) (t : Fin grid0.N) : (outsAt0 m (ok m) c t).2.1 = k0_pay4 (F := Ideal) (grid0.coords t) (key m) (blk1 m c t) (blk2 m c t) (blk3 m c t) (blk4 m c t) (blk0 m c t) := by
  unfold outsAt0
  dsimp only
  exact out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out7 (c : Dev nD) (i : grid0.Coords) (a3 h3 a4 h4 a5 h5 a6 h6 a7 h7 a8 h8 a9 h9 a10 h10 a11 h11) (x0 x1 x2 x3 x4) (k : Vec Ideal S1 .i32) :
    out0_A_7 (F := Ideal) c i a3 h3 a4 h4 a5 h5 a6 h6 a7 h7 a8 h8 a9 h9 a10 h10 a11 h11 x0 x1 x2 x3 x4 k = k0_pay2 (F := Ideal) i (word k) x1 x2 x3 := by
  unfold out0_A_7
  rw [View.read_writes_eq_canon _ _ _ (cover0_A_7 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S256x256) hz2]
  refine congrArg (fun q => k0_pay2 (F := Ideal) i q x1 x2 x3) ?_
  unfold word
  exact congrArg k (one _ _)

theorem outs7 (c : Dev nD) (t : Fin grid0.N) : (outsAt0 m (ok m) c t).2.2.1 = k0_pay2 (F := Ideal) (grid0.coords t) (key m) (blk1 m c t) (blk2 m c t) (blk3 m c t) := by
  unfold outsAt0
  dsimp only
  exact out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out8 (c : Dev nD) (i : grid0.Coords) (a3 h3 a4 h4 a5 h5 a6 h6 a7 h7 a8 h8 a9 h9 a10 h10 a11 h11) (x0 x1 x2 x3 x4) (k : Vec Ideal S1 .i32) :
    out0_A_8 (F := Ideal) c i a3 h3 a4 h4 a5 h5 a6 h6 a7 h7 a8 h8 a9 h9 a10 h10 a11 h11 x0 x1 x2 x3 x4 k = k0_pay3 (F := Ideal) i (word k) x1 x2 x4 := by
  unfold out0_A_8
  rw [View.read_writes_eq_canon _ _ _ (cover0_A_8 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S256x256) hz2]
  refine congrArg (fun q => k0_pay3 (F := Ideal) i q x1 x2 x4) ?_
  unfold word
  exact congrArg k (one _ _)

theorem outs8 (c : Dev nD) (t : Fin grid0.N) : (outsAt0 m (ok m) c t).2.2.2 = k0_pay3 (F := Ideal) (grid0.coords t) (key m) (blk1 m c t) (blk2 m c t) (blk4 m c t) := by
  unfold outsAt0
  dsimp only
  exact out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

/-! ## The blocks' entries in the arrays -/

/-- The word, read from the memory. -/
theorem key_eq (c : Dev nD) : key m = word (m ((c : Thread nD τ).loc main_arg0)) := by
  have h : c = (0 : Dev nD) := Subsingleton.elim _ _
  subst h
  unfold key tbl
  exact congrArg word (V_main_arg0 m 0)

theorem blk0_at (c : Dev nD) (t : Fin grid0.N) (y : S256x256.Idx) :
    blk0 m c t y = (m ((c : Thread nD τ).loc main_arg1) : S512x256.Idx → EReal) (place t y) := by
  unfold blk0 iblk
  exact congrArg (m ((c : Thread nD τ).loc main_arg1) : S512x256.Idx → EReal) (emb0 (ok' m) t y)

theorem blk1_at (c : Dev nD) (t : Fin grid0.N) (y : S256x256.Idx) :
    blk1 m c t y = (m ((c : Thread nD τ).loc main_arg2) : S256x256.Idx → EReal) (placeHalf t y) := by
  unfold blk1 iblk
  exact congrArg (m ((c : Thread nD τ).loc main_arg2) : S256x256.Idx → EReal) (emb1 (ok' m) t y)

theorem blk2_at (c : Dev nD) (t : Fin grid0.N) (y : S256x256.Idx) :
    blk2 m c t y = (m ((c : Thread nD τ).loc main_arg3) : S256x256.Idx → EReal) (placeHalf t y) := by
  unfold blk2 iblk
  exact congrArg (m ((c : Thread nD τ).loc main_arg3) : S256x256.Idx → EReal) (emb2 (ok' m) t y)

theorem blk3_at (c : Dev nD) (t : Fin grid0.N) (y : S256x256.Idx) :
    blk3 m c t y = (m ((c : Thread nD τ).loc main_arg4) : S512x256.Idx → EReal) (place t y) := by
  unfold blk3 iblk
  exact congrArg (m ((c : Thread nD τ).loc main_arg4) : S512x256.Idx → EReal) (emb3 (ok' m) t y)

theorem blk4_at (c : Dev nD) (t : Fin grid0.N) (y : S256x256.Idx) :
    blk4 m c t y = (m ((c : Thread nD τ).loc main_arg5) : S512x256.Idx → EReal) (place t y) := by
  unfold blk4 iblk
  exact congrArg (m ((c : Thread nD τ).loc main_arg5) : S512x256.Idx → EReal) (emb4 (ok' m) t y)

/-- The gradient's block is the gradient's rows at its place. -/
theorem grad_at (c : Dev nD) (t : Fin grid0.N) (y : S256x256.Idx) :
    k0_pay1 (F := Ideal) (grid0.coords t) (key m) (blk1 m c t) (blk2 m c t) y = grad (m ((c : Thread nD τ).loc main_arg0)) (m ((c : Thread nD τ).loc main_arg2)) (m ((c : Thread nD τ).loc main_arg3)) (place t y) := by
  have ht : t.val < 2 := lt_of_lt_of_eq t.isLt N_0
  have hy : (y 0).val < 256 := (y 0).isLt
  have hd : (place t y 0).val / 256 = t.val / 1 := by show (t.val * 256 + (y 0).val) / 256 = _; omega
  have hm : (place t y 0).val % 256 = t.val % 1 * 256 + (y 0).val := by show (t.val * 256 + (y 0).val) % 256 = _; omega
  have hp : (ix2 ⟨(place t y 0).val % 256, Nat.mod_lt _ (by decide)⟩ (place t y 1) : S256x256.Idx) = placeHalf t y := by
    funext k; apply Fin.ext; fin_cases k
    · exact hm
    · rfl
  rw [pay1, blk1_at, blk2_at, side, key_eq m c]
  unfold grad
  rw [hp, hd]

theorem moment1_at (c : Dev nD) (t : Fin grid0.N) (y : S256x256.Idx) :
    k0_pay2 (F := Ideal) (grid0.coords t) (key m) (blk1 m c t) (blk2 m c t) (blk3 m c t) y = moment1 (m ((c : Thread nD τ).loc main_arg0)) (m ((c : Thread nD τ).loc main_arg2)) (m ((c : Thread nD τ).loc main_arg3)) (m ((c : Thread nD τ).loc main_arg4)) (place t y) := by
  rw [pay2, grad_at, blk3_at]; rfl

theorem moment2_at (c : Dev nD) (t : Fin grid0.N) (y : S256x256.Idx) :
    k0_pay3 (F := Ideal) (grid0.coords t) (key m) (blk1 m c t) (blk2 m c t) (blk4 m c t) y = moment2 (m ((c : Thread nD τ).loc main_arg0)) (m ((c : Thread nD τ).loc main_arg2)) (m ((c : Thread nD τ).loc main_arg3)) (m ((c : Thread nD τ).loc main_arg5)) (place t y) := by
  rw [pay3, grad_at, blk4_at]; rfl

theorem change_at (c : Dev nD) (t : Fin grid0.N) (y : S256x256.Idx) :
    k0_pay4 (F := Ideal) (grid0.coords t) (key m) (blk1 m c t) (blk2 m c t) (blk3 m c t) (blk4 m c t) (blk0 m c t) y = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (place t y) := by
  rw [pay4, moment1_at, moment2_at, blk0_at]; rfl

/-! ## The result arrays after the run -/

theorem final5 (c : Dev nD) : (dats m (ok m) 0 c).arrAt 5 (cfgM m (ok m)).N = grad (m ((c : Thread nD τ).loc main_arg0)) (m ((c : Thread nD τ).loc main_arg2)) (m ((c : Thread nD τ).loc main_arg3)) := by
  refine (dats m (ok m) 0 c).arrAt_eq_of_covers 5 _ (covers5 _) fun t hf y => ?_
  rw [after0_5, outs5 m c t]
  exact (grad_at m c t y).trans (congrArg (grad (m ((c : Thread nD τ).loc main_arg0)) (m ((c : Thread nD τ).loc main_arg2)) (m ((c : Thread nD τ).loc main_arg3))) (emb5 (ok' m) t y).symm)

theorem final6 (c : Dev nD) : (dats m (ok m) 0 c).arrAt 6 (cfgM m (ok m)).N = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) := by
  refine (dats m (ok m) 0 c).arrAt_eq_of_covers 6 _ (covers6 _) fun t hf y => ?_
  rw [after0_6, outs6 m c t]
  exact (change_at m c t y).trans (congrArg (change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))) (emb6 (ok' m) t y).symm)

theorem final7 (c : Dev nD) : (dats m (ok m) 0 c).arrAt 7 (cfgM m (ok m)).N = moment1 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (covers7 _) fun t hf y => ?_
  rw [after0_7, outs7 m c t]
  exact (moment1_at m c t y).trans (congrArg (moment1 (m ((c : Thread nD τ).loc main_arg0)) (m ((c : Thread nD τ).loc main_arg2)) (m ((c : Thread nD τ).loc main_arg3)) (m ((c : Thread nD τ).loc main_arg4))) (emb7 (ok' m) t y).symm)

theorem final8 (c : Dev nD) : (dats m (ok m) 0 c).arrAt 8 (cfgM m (ok m)).N = moment2 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (covers8 _) fun t hf y => ?_
  rw [after0_8, outs8 m c t]
  exact (moment2_at m c t y).trans (congrArg (moment2 (m ((c : Thread nD τ).loc main_arg0)) (m ((c : Thread nD τ).loc main_arg2)) (m ((c : Thread nD τ).loc main_arg3)) (m ((c : Thread nD τ).loc main_arg5))) (emb8 (ok' m) t y).symm)

/-- The run's end: the results at their arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg2)) (m ((c : Thread nD τ).loc main_arg3))
      ∧ r.2.mem ((c : Thread nD τ).loc main_v0_1) = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))
      ∧ r.2.mem ((c : Thread nD τ).loc main_v0_2) = moment1 (m ((c : Thread nD τ).loc main_arg0)) (m ((c : Thread nD τ).loc main_arg2)) (m ((c : Thread nD τ).loc main_arg3)) (m ((c : Thread nD τ).loc main_arg4))
      ∧ r.2.mem ((c : Thread nD τ).loc main_v0_3) = moment2 (m ((c : Thread nD τ).loc main_arg0)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨((hr c).1 5).trans (final5 m c), ((hr c).1 6).trans (final6 m c),
      ((hr c).1 7).trans (final7 m c), ((hr c).1 8).trans (final8 m c),
      (hr c).2 main_arg0 (by decide : main_arg0 ∈ Pipeline.restRefs sig spec0),
      ((hr c).1 0).trans ((dats m (ok m) 0 c).arrAt_in 0 rfl _),
      ((hr c).1 1).trans ((dats m (ok m) 0 c).arrAt_in 1 rfl _),
      ((hr c).1 2).trans ((dats m (ok m) 0 c).arrAt_in 2 rfl _),
      ((hr c).1 3).trans ((dats m (ok m) 0 c).arrAt_in 3 rfl _),
      ((hr c).1 4).trans ((dats m (ok m) 0 c).arrAt_in 4 rfl _)⟩)
    (run_main m ρ (ok m))

end Cert.AdamBranchIdeal.Ad

end
-- ==== Proof.Ad.AdamOut.lean ====
/- One AdamW step on the weight of the output projection: what the call leaves in its four result arrays. -/
module

public import proofs.«01_k».proof.Proof.Gen.AdamOutIdeal.Frame
public import proofs.«01_k».proof.Proof.Ad.Step
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamOutIdeal.Ad

open Cert.AdamOutIdeal Cert.AdamOutIdeal.Gen
open Idealize.ShloMosaic Idealize.ShloMosaic.TcCoe Idealize.SL.Sem
open Idealize.ShloMosaic.Pipeline (Dat)

variable (m : (ℓ : Loc nD τ sig) → Buf (Elt Ideal) ℓ)

/-- No index map reads the table. -/
theorem ok : Ok m := trivial

/-- The table as the memory holds it. -/
def ok' : (pcfg0 (F := Ideal)).Adm := adm m (ok m)

/-! ## The arrays that the call is to leave -/

/-- The table's one word: which half of the gradient's rows the core has summed itself. -/
def word (k : S1.Idx → BitVec 32) : BitVec 32 := k (Shape.Idx.first (s := S1) (by decide))

/-- The gradient, put together of the half that the core holds and the half that came to it. -/
def grad (k : S1.Idx → BitVec 32) (own other : FVec Ideal S128x1024 .f32) : FVec Ideal S256x1024 .f32 := fun j =>
  if BitVec.ofNat 32 ((j 0).val / 128) = word k then own (ix2 ⟨(j 0).val % 128, Nat.mod_lt _ (by decide)⟩ (j 1))
  else other (ix2 ⟨(j 0).val % 128, Nat.mod_lt _ (by decide)⟩ (j 1))

/-- The new first moments. -/
def moment1 (k : S1.Idx → BitVec 32) (own other : FVec Ideal S128x1024 .f32) (x : FVec Ideal S256x1024 .f32) : FVec Ideal S256x1024 .f32 :=
  fun j => Adam.first (x j) (grad k own other j)

/-- The new second moments. -/
def moment2 (k : S1.Idx → BitVec 32) (own other : FVec Ideal S128x1024 .f32) (x : FVec Ideal S256x1024 .f32) : FVec Ideal S256x1024 .f32 :=
  fun j => Adam.second (x j) (grad k own other j)

/-- The change of the weight. -/
def change (k : S1.Idx → BitVec 32) (own other : FVec Ideal S128x1024 .f32) (w x y : FVec Ideal S256x1024 .f32) : FVec Ideal S256x1024 .f32 :=
  fun j => Adam.change (w j) (moment1 k own other x j) (moment2 k own other y j)

/-! ## Where the blocks lie -/

/-- Where each grid point's blocks lie. -/
theorem idx (a : (pcfg0 (F := Ideal)).Adm) : ∀ t : Fin grid0.N, (win0 a 0).index t = ![t.val, 0] ∧ (win0 a 1).index t = ![0, 0] ∧ (win0 a 2).index t = ![0, 0]
    ∧ (win0 a 3).index t = ![t.val, 0] ∧ (win0 a 4).index t = ![t.val, 0] ∧ (win0 a 5).index t = ![t.val, 0]
    ∧ (win0 a 6).index t = ![t.val, 0] ∧ (win0 a 7).index t = ![t.val, 0] ∧ (win0 a 8).index t = ![t.val, 0] :=
  (by decide +kernel : ∀ t : Fin grid0.N, cc0_transform_0 (grid0.coords t) = ![t.val, 0] ∧ cc0_transform_1 (grid0.coords t) = ![0, 0] ∧ cc0_transform_2 (grid0.coords t) = ![0, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0])

/-- The half of the rows that a grid point works on. -/
theorem side : ∀ t : Fin grid0.N, ((grid0.coords t) 0).val = t.val / 1 := by decide +kernel

/-- The place in the array of a block's entry. -/
def place (t : Fin grid0.N) (y : S128x1024.Idx) : S256x1024.Idx :=
  ix2 ⟨t.val * 128 + (y 0).val, by have h : t.val < 2 := lt_of_lt_of_eq t.isLt N_0; have hy : (y 0).val < 128 := (y 0).isLt; omega⟩ (y 1)

/-- The place in its half of the rows. -/
def placeHalf (t : Fin grid0.N) (y : S128x1024.Idx) : S128x1024.Idx :=
  ix2 ⟨t.val % 1 * 128 + (y 0).val, by have h := Nat.mod_lt t.val (show 0 < 1 by decide); have hy : (y 0).val < 128 := (y 0).isLt; omega⟩ (y 1)

theorem emb0 (a : (pcfg0 (F := Ideal)).Adm) (t : Fin grid0.N) (y : S128x1024.Idx) : (((win0 a 0).rect t).emb y : S256x1024.Idx) = place t y := by
  have h : ∀ k : Fin 2, ((((win0 a 0).rect t).emb y : S256x1024.Idx) k : Nat) = (win0 a 0).index t k * (win0 a 0).size k + (y k : Nat) := fun k =>
    Pipeline.Window.rect_emb_val (win0 a 0) t y k rfl
  have e := (idx a t).1
  funext k; apply Fin.ext; refine (h k).trans ?_; rw [e]; fin_cases k
  · rfl
  · exact Nat.zero_add _

theorem emb1 (a : (pcfg0 (F := Ideal)).Adm) (t : Fin grid0.N) (y : S128x1024.Idx) : (((win0 a 1).rect t).emb y : S128x1024.Idx) = placeHalf t y := by
  have h : ∀ k : Fin 2, ((((win0 a 1).rect t).emb y : S128x1024.Idx) k : Nat) = (win0 a 1).index t k * (win0 a 1).size k + (y k : Nat) := fun k =>
    Pipeline.Window.rect_emb_val (win0 a 1) t y k rfl
  have e := (idx a t).2.1
  funext k; apply Fin.ext; refine (h k).trans ?_; rw [e]; fin_cases k
  · show 0 * 128 + (y 0).val = t.val % 1 * 128 + (y 0).val; rw [Nat.mod_one]
  · exact Nat.zero_add _

theorem emb2 (a : (pcfg0 (F := Ideal)).Adm) (t : Fin grid0.N) (y : S128x1024.Idx) : (((win0 a 2).rect t).emb y : S128x1024.Idx) = placeHalf t y := by
  have h : ∀ k : Fin 2, ((((win0 a 2).rect t).emb y : S128x1024.Idx) k : Nat) = (win0 a 2).index t k * (win0 a 2).size k + (y k : Nat) := fun k =>
    Pipeline.Window.rect_emb_val (win0 a 2) t y k rfl
  have e := (idx a t).2.2.1
  funext k; apply Fin.ext; refine (h k).trans ?_; rw [e]; fin_cases k
  · show 0 * 128 + (y 0).val = t.val % 1 * 128 + (y 0).val; rw [Nat.mod_one]
  · exact Nat.zero_add _

theorem emb3 (a : (pcfg0 (F := Ideal)).Adm) (t : Fin grid0.N) (y : S128x1024.Idx) : (((win0 a 3).rect t).emb y : S256x1024.Idx) = place t y := by
  have h : ∀ k : Fin 2, ((((win0 a 3).rect t).emb y : S256x1024.Idx) k : Nat) = (win0 a 3).index t k * (win0 a 3).size k + (y k : Nat) := fun k =>
    Pipeline.Window.rect_emb_val (win0 a 3) t y k rfl
  have e := (idx a t).2.2.2.1
  funext k; apply Fin.ext; refine (h k).trans ?_; rw [e]; fin_cases k
  · rfl
  · exact Nat.zero_add _

theorem emb4 (a : (pcfg0 (F := Ideal)).Adm) (t : Fin grid0.N) (y : S128x1024.Idx) : (((win0 a 4).rect t).emb y : S256x1024.Idx) = place t y := by
  have h : ∀ k : Fin 2, ((((win0 a 4).rect t).emb y : S256x1024.Idx) k : Nat) = (win0 a 4).index t k * (win0 a 4).size k + (y k : Nat) := fun k =>
    Pipeline.Window.rect_emb_val (win0 a 4) t y k rfl
  have e := (idx a t).2.2.2.2.1
  funext k; apply Fin.ext; refine (h k).trans ?_; rw [e]; fin_cases k
  · rfl
  · exact Nat.zero_add _

theorem emb5 (a : (pcfg0 (F := Ideal)).Adm) (t : Fin grid0.N) (y : S128x1024.Idx) : (((win0 a 5).rect t).emb y : S256x1024.Idx) = place t y := by
  have h : ∀ k : Fin 2, ((((win0 a 5).rect t).emb y : S256x1024.Idx) k : Nat) = (win0 a 5).index t k * (win0 a 5).size k + (y k : Nat) := fun k =>
    Pipeline.Window.rect_emb_val (win0 a 5) t y k rfl
  have e := (idx a t).2.2.2.2.2.1
  funext k; apply Fin.ext; refine (h k).trans ?_; rw [e]; fin_cases k
  · rfl
  · exact Nat.zero_add _

theorem emb6 (a : (pcfg0 (F := Ideal)).Adm) (t : Fin grid0.N) (y : S128x1024.Idx) : (((win0 a 6).rect t).emb y : S256x1024.Idx) = place t y := by
  have h : ∀ k : Fin 2, ((((win0 a 6).rect t).emb y : S256x1024.Idx) k : Nat) = (win0 a 6).index t k * (win0 a 6).size k + (y k : Nat) := fun k =>
    Pipeline.Window.rect_emb_val (win0 a 6) t y k rfl
  have e := (idx a t).2.2.2.2.2.2.1
  funext k; apply Fin.ext; refine (h k).trans ?_; rw [e]; fin_cases k
  · rfl
  · exact Nat.zero_add _

theorem emb7 (a : (pcfg0 (F := Ideal)).Adm) (t : Fin grid0.N) (y : S128x1024.Idx) : (((win0 a 7).rect t).emb y : S256x1024.Idx) = place t y := by
  have h : ∀ k : Fin 2, ((((win0 a 7).rect t).emb y : S256x1024.Idx) k : Nat) = (win0 a 7).index t k * (win0 a 7).size k + (y k : Nat) := fun k =>
    Pipeline.Window.rect_emb_val (win0 a 7) t y k rfl
  have e := (idx a t).2.2.2.2.2.2.2.1
  funext k; apply Fin.ext; refine (h k).trans ?_; rw [e]; fin_cases k
  · rfl
  · exact Nat.zero_add _

theorem emb8 (a : (pcfg0 (F := Ideal)).Adm) (t : Fin grid0.N) (y : S128x1024.Idx) : (((win0 a 8).rect t).emb y : S256x1024.Idx) = place t y := by
  have h : ∀ k : Fin 2, ((((win0 a 8).rect t).emb y : S256x1024.Idx) k : Nat) = (win0 a 8).index t k * (win0 a 8).size k + (y k : Nat) := fun k =>
    Pipeline.Window.rect_emb_val (win0 a 8) t y k rfl
  have e := (idx a t).2.2.2.2.2.2.2.2
  funext k; apply Fin.ext; refine (h k).trans ?_; rw [e]; fin_cases k
  · rfl
  · exact Nat.zero_add _

/-- A table to decide facts of the windows at, none of which reads it. -/
def a0 : (pcfg0 (F := Ideal)).Adm := ⟨fun | ⟨0, _⟩ => fun _ => (0 : BitVec 32), trivial⟩

theorem covers5 (a : (pcfg0 (F := Ideal)).Adm) : ((cfg0 a).win 5).Covers := (by decide +kernel : ((cfg0 a0).win 5).Covers)
theorem covers6 (a : (pcfg0 (F := Ideal)).Adm) : ((cfg0 a).win 6).Covers := (by decide +kernel : ((cfg0 a0).win 6).Covers)
theorem covers7 (a : (pcfg0 (F := Ideal)).Adm) : ((cfg0 a).win 7).Covers := (by decide +kernel : ((cfg0 a0).win 7).Covers)
theorem covers8 (a : (pcfg0 (F := Ideal)).Adm) : ((cfg0 a).win 8).Covers := (by decide +kernel : ((cfg0 a0).win 8).Covers)

/-! ## What the body leaves in its blocks -/

theorem hz2 : (![0, 0] : Fin 2 → Nat) = fun _ => 0 := by funext k; fin_cases k <;> rfl

theorem one (a b : S1.Idx) : a = b := by
  funext k; fin_cases k; exact Subsingleton.elim (α := Fin 1) _ _

/-- The gradient's entry that the body selects. -/
theorem pay1 (i : grid0.Coords) (k : BitVec 32) (x y : Vec Ideal S128x1024 .f32) (j : S128x1024.Idx) :
    k0_pay1 (F := Ideal) i k x y j = if BitVec.ofNat 32 (i 0).val = k then x j else y j := by
  unfold k0_pay1
  simp only [Scalar.select, Scalar.cmpi, IntOp.cmpi]
  by_cases h : BitVec.ofNat 32 (i 0).val = k
  · simp [h]
  · have : (BitVec.ofNat 32 (i 0).val == k) = false := by simpa using h
    simp [h, this]

theorem pay2 (i : grid0.Coords) (k : BitVec 32) (x y z : Vec Ideal S128x1024 .f32) (j : S128x1024.Idx) :
    k0_pay2 (F := Ideal) i k x y z j = Adam.first (z j) (k0_pay1 (F := Ideal) i k x y j) := by
  pointwise [k0_pay2, Adam.first]

theorem pay3 (i : grid0.Coords) (k : BitVec 32) (x y z : Vec Ideal S128x1024 .f32) (j : S128x1024.Idx) :
    k0_pay3 (F := Ideal) i k x y z j = Adam.second (z j) (k0_pay1 (F := Ideal) i k x y j) := by
  pointwise [k0_pay3, Adam.second]

theorem named_first : Named.named (F := Ideal) Cert.AdamOutIdeal.κ "first" (φ := .f32) 0x3FC48605#32 = (((5463681 / 8388608)⁻¹ : ℝ) : EReal) :=
  IdealRules.named_const.ideal_named_scalar _ _ _ _ rfl

theorem named_second : Named.named (F := Ideal) Cert.AdamOutIdeal.κ "second" (φ := .f32) 0x42C8E6D3#32 = (((2672307 / 268435456)⁻¹ : ℝ) : EReal) :=
  IdealRules.named_const.ideal_named_scalar _ _ _ _ rfl

theorem pay4 (i : grid0.Coords) (k : BitVec 32) (x y z u w : Vec Ideal S128x1024 .f32) (j : S128x1024.Idx) :
    k0_pay4 (F := Ideal) i k x y z u w j = Adam.change (w j) (k0_pay2 (F := Ideal) i k x y z j) (k0_pay3 (F := Ideal) i k x y u j) := by
  pointwise [k0_pay4, Adam.change, named_first, named_second]

/-- The word and the input blocks of a grid point. -/
def key : BitVec 32 := word (tbl m 0)
def blk0 (c : Dev nD) (t : Fin grid0.N) : Vec Ideal S128x1024 .f32 := iblk m (ok m) c 0 t
def blk1 (c : Dev nD) (t : Fin grid0.N) : Vec Ideal S128x1024 .f32 := iblk m (ok m) c 1 t
def blk2 (c : Dev nD) (t : Fin grid0.N) : Vec Ideal S128x1024 .f32 := iblk m (ok m) c 2 t
def blk3 (c : Dev nD) (t : Fin grid0.N) : Vec Ideal S128x1024 .f32 := iblk m (ok m) c 3 t
def blk4 (c : Dev nD) (t : Fin grid0.N) : Vec Ideal S128x1024 .f32 := iblk m (ok m) c 4 t

theorem out5 (c : Dev nD) (i : grid0.Coords) (a3 h3 a4 h4 a5 h5 a6 h6 a7 h7 a8 h8 a9 h9 a10 h10 a11 h11) (x0 x1 x2 x3 x4) (k : Vec Ideal S1 .i32) :
    out0_A_5 (F := Ideal) c i a3 h3 a4 h4 a5 h5 a6 h6 a7 h7 a8 h8 a9 h9 a10 h10 a11 h11 x0 x1 x2 x3 x4 k = k0_pay1 (F := Ideal) i (word k) x1 x2 := by
  unfold out0_A_5
  rw [View.read_writes_eq_canon _ _ _ (cover0_A_5 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1024) hz2]
  refine congrArg (fun q => k0_pay1 (F := Ideal) i q x1 x2) ?_
  unfold word
  exact congrArg k (one _ _)

theorem outs5 (c : Dev nD) (t : Fin grid0.N) : (outsAt0 m (ok m) c t).1 = k0_pay1 (F := Ideal) (grid0.coords t) (key m) (blk1 m c t) (blk2 m c t) := by
  unfold outsAt0
  dsimp only
  exact out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out6 (c : Dev nD) (i : grid0.Coords) (a3 h3 a4 h4 a5 h5 a6 h6 a7 h7 a8 h8 a9 h9 a10 h10 a11 h11) (x0 x1 x2 x3 x4) (k : Vec Ideal S1 .i32) :
    out0_A_6 (F := Ideal) c i a3 h3 a4 h4 a5 h5 a6 h6 a7 h7 a8 h8 a9 h9 a10 h10 a11 h11 x0 x1 x2 x3 x4 k = k0_pay4 (F := Ideal) i (word k) x1 x2 x3 x4 x0 := by
  unfold out0_A_6
  rw [View.read_writes_eq_canon _ _ _ (cover0_A_6 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1024) hz2]
  refine congrArg (fun q => k0_pay4 (F := Ideal) i q x1 x2 x3 x4 x0) ?_
  unfold word
  exact congrArg k (one _ _)

theorem outs6 (c : Dev nD) (t : Fin grid0.N) : (outsAt0 m (ok m) c t).2.1 = k0_pay4 (F := Ideal) (grid0.coords t) (key m) (blk1 m c t) (blk2 m c t) (blk3 m c t) (blk4 m c t) (blk0 m c t) := by
  unfold outsAt0
  dsimp only
  exact out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out7 (c : Dev nD) (i : grid0.Coords) (a3 h3 a4 h4 a5 h5 a6 h6 a7 h7 a8 h8 a9 h9 a10 h10 a11 h11) (x0 x1 x2 x3 x4) (k : Vec Ideal S1 .i32) :
    out0_A_7 (F := Ideal) c i a3 h3 a4 h4 a5 h5 a6 h6 a7 h7 a8 h8 a9 h9 a10 h10 a11 h11 x0 x1 x2 x3 x4 k = k0_pay2 (F := Ideal) i (word k) x1 x2 x3 := by
  unfold out0_A_7
  rw [View.read_writes_eq_canon _ _ _ (cover0_A_7 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1024) hz2]
  refine congrArg (fun q => k0_pay2 (F := Ideal) i q x1 x2 x3) ?_
  unfold word
  exact congrArg k (one _ _)

theorem outs7 (c : Dev nD) (t : Fin grid0.N) : (outsAt0 m (ok m) c t).2.2.1 = k0_pay2 (F := Ideal) (grid0.coords t) (key m) (blk1 m c t) (blk2 m c t) (blk3 m c t) := by
  unfold outsAt0
  dsimp only
  exact out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out8 (c : Dev nD) (i : grid0.Coords) (a3 h3 a4 h4 a5 h5 a6 h6 a7 h7 a8 h8 a9 h9 a10 h10 a11 h11) (x0 x1 x2 x3 x4) (k : Vec Ideal S1 .i32) :
    out0_A_8 (F := Ideal) c i a3 h3 a4 h4 a5 h5 a6 h6 a7 h7 a8 h8 a9 h9 a10 h10 a11 h11 x0 x1 x2 x3 x4 k = k0_pay3 (F := Ideal) i (word k) x1 x2 x4 := by
  unfold out0_A_8
  rw [View.read_writes_eq_canon _ _ _ (cover0_A_8 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1024) hz2]
  refine congrArg (fun q => k0_pay3 (F := Ideal) i q x1 x2 x4) ?_
  unfold word
  exact congrArg k (one _ _)

theorem outs8 (c : Dev nD) (t : Fin grid0.N) : (outsAt0 m (ok m) c t).2.2.2 = k0_pay3 (F := Ideal) (grid0.coords t) (key m) (blk1 m c t) (blk2 m c t) (blk4 m c t) := by
  unfold outsAt0
  dsimp only
  exact out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

/-! ## The blocks' entries in the arrays -/

/-- The word, read from the memory. -/
theorem key_eq (c : Dev nD) : key m = word (m ((c : Thread nD τ).loc main_arg0)) := by
  have h : c = (0 : Dev nD) := Subsingleton.elim _ _
  subst h
  unfold key tbl
  exact congrArg word (V_main_arg0 m 0)

theorem blk0_at (c : Dev nD) (t : Fin grid0.N) (y : S128x1024.Idx) :
    blk0 m c t y = (m ((c : Thread nD τ).loc main_arg1) : S256x1024.Idx → EReal) (place t y) := by
  unfold blk0 iblk
  exact congrArg (m ((c : Thread nD τ).loc main_arg1) : S256x1024.Idx → EReal) (emb0 (ok' m) t y)

theorem blk1_at (c : Dev nD) (t : Fin grid0.N) (y : S128x1024.Idx) :
    blk1 m c t y = (m ((c : Thread nD τ).loc main_arg2) : S128x1024.Idx → EReal) (placeHalf t y) := by
  unfold blk1 iblk
  exact congrArg (m ((c : Thread nD τ).loc main_arg2) : S128x1024.Idx → EReal) (emb1 (ok' m) t y)

theorem blk2_at (c : Dev nD) (t : Fin grid0.N) (y : S128x1024.Idx) :
    blk2 m c t y = (m ((c : Thread nD τ).loc main_arg3) : S128x1024.Idx → EReal) (placeHalf t y) := by
  unfold blk2 iblk
  exact congrArg (m ((c : Thread nD τ).loc main_arg3) : S128x1024.Idx → EReal) (emb2 (ok' m) t y)

theorem blk3_at (c : Dev nD) (t : Fin grid0.N) (y : S128x1024.Idx) :
    blk3 m c t y = (m ((c : Thread nD τ).loc main_arg4) : S256x1024.Idx → EReal) (place t y) := by
  unfold blk3 iblk
  exact congrArg (m ((c : Thread nD τ).loc main_arg4) : S256x1024.Idx → EReal) (emb3 (ok' m) t y)

theorem blk4_at (c : Dev nD) (t : Fin grid0.N) (y : S128x1024.Idx) :
    blk4 m c t y = (m ((c : Thread nD τ).loc main_arg5) : S256x1024.Idx → EReal) (place t y) := by
  unfold blk4 iblk
  exact congrArg (m ((c : Thread nD τ).loc main_arg5) : S256x1024.Idx → EReal) (emb4 (ok' m) t y)

/-- The gradient's block is the gradient's rows at its place. -/
theorem grad_at (c : Dev nD) (t : Fin grid0.N) (y : S128x1024.Idx) :
    k0_pay1 (F := Ideal) (grid0.coords t) (key m) (blk1 m c t) (blk2 m c t) y = grad (m ((c : Thread nD τ).loc main_arg0)) (m ((c : Thread nD τ).loc main_arg2)) (m ((c : Thread nD τ).loc main_arg3)) (place t y) := by
  have ht : t.val < 2 := lt_of_lt_of_eq t.isLt N_0
  have hy : (y 0).val < 128 := (y 0).isLt
  have hd : (place t y 0).val / 128 = t.val / 1 := by show (t.val * 128 + (y 0).val) / 128 = _; omega
  have hm : (place t y 0).val % 128 = t.val % 1 * 128 + (y 0).val := by show (t.val * 128 + (y 0).val) % 128 = _; omega
  have hp : (ix2 ⟨(place t y 0).val % 128, Nat.mod_lt _ (by decide)⟩ (place t y 1) : S128x1024.Idx) = placeHalf t y := by
    funext k; apply Fin.ext; fin_cases k
    · exact hm
    · rfl
  rw [pay1, blk1_at, blk2_at, side, key_eq m c]
  unfold grad
  rw [hp, hd]

theorem moment1_at (c : Dev nD) (t : Fin grid0.N) (y : S128x1024.Idx) :
    k0_pay2 (F := Ideal) (grid0.coords t) (key m) (blk1 m c t) (blk2 m c t) (blk3 m c t) y = moment1 (m ((c : Thread nD τ).loc main_arg0)) (m ((c : Thread nD τ).loc main_arg2)) (m ((c : Thread nD τ).loc main_arg3)) (m ((c : Thread nD τ).loc main_arg4)) (place t y) := by
  rw [pay2, grad_at, blk3_at]; rfl

theorem moment2_at (c : Dev nD) (t : Fin grid0.N) (y : S128x1024.Idx) :
    k0_pay3 (F := Ideal) (grid0.coords t) (key m) (blk1 m c t) (blk2 m c t) (blk4 m c t) y = moment2 (m ((c : Thread nD τ).loc main_arg0)) (m ((c : Thread nD τ).loc main_arg2)) (m ((c : Thread nD τ).loc main_arg3)) (m ((c : Thread nD τ).loc main_arg5)) (place t y) := by
  rw [pay3, grad_at, blk4_at]; rfl

theorem change_at (c : Dev nD) (t : Fin grid0.N) (y : S128x1024.Idx) :
    k0_pay4 (F := Ideal) (grid0.coords t) (key m) (blk1 m c t) (blk2 m c t) (blk3 m c t) (blk4 m c t) (blk0 m c t) y = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (place t y) := by
  rw [pay4, moment1_at, moment2_at, blk0_at]; rfl

/-! ## The result arrays after the run -/

theorem final5 (c : Dev nD) : (dats m (ok m) 0 c).arrAt 5 (cfgM m (ok m)).N = grad (m ((c : Thread nD τ).loc main_arg0)) (m ((c : Thread nD τ).loc main_arg2)) (m ((c : Thread nD τ).loc main_arg3)) := by
  refine (dats m (ok m) 0 c).arrAt_eq_of_covers 5 _ (covers5 _) fun t hf y => ?_
  rw [after0_5, outs5 m c t]
  exact (grad_at m c t y).trans (congrArg (grad (m ((c : Thread nD τ).loc main_arg0)) (m ((c : Thread nD τ).loc main_arg2)) (m ((c : Thread nD τ).loc main_arg3))) (emb5 (ok' m) t y).symm)

theorem final6 (c : Dev nD) : (dats m (ok m) 0 c).arrAt 6 (cfgM m (ok m)).N = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) := by
  refine (dats m (ok m) 0 c).arrAt_eq_of_covers 6 _ (covers6 _) fun t hf y => ?_
  rw [after0_6, outs6 m c t]
  exact (change_at m c t y).trans (congrArg (change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))) (emb6 (ok' m) t y).symm)

theorem final7 (c : Dev nD) : (dats m (ok m) 0 c).arrAt 7 (cfgM m (ok m)).N = moment1 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (covers7 _) fun t hf y => ?_
  rw [after0_7, outs7 m c t]
  exact (moment1_at m c t y).trans (congrArg (moment1 (m ((c : Thread nD τ).loc main_arg0)) (m ((c : Thread nD τ).loc main_arg2)) (m ((c : Thread nD τ).loc main_arg3)) (m ((c : Thread nD τ).loc main_arg4))) (emb7 (ok' m) t y).symm)

theorem final8 (c : Dev nD) : (dats m (ok m) 0 c).arrAt 8 (cfgM m (ok m)).N = moment2 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (covers8 _) fun t hf y => ?_
  rw [after0_8, outs8 m c t]
  exact (moment2_at m c t y).trans (congrArg (moment2 (m ((c : Thread nD τ).loc main_arg0)) (m ((c : Thread nD τ).loc main_arg2)) (m ((c : Thread nD τ).loc main_arg3)) (m ((c : Thread nD τ).loc main_arg5))) (emb8 (ok' m) t y).symm)

/-- The run's end: the results at their arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg2)) (m ((c : Thread nD τ).loc main_arg3))
      ∧ r.2.mem ((c : Thread nD τ).loc main_v0_1) = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))
      ∧ r.2.mem ((c : Thread nD τ).loc main_v0_2) = moment1 (m ((c : Thread nD τ).loc main_arg0)) (m ((c : Thread nD τ).loc main_arg2)) (m ((c : Thread nD τ).loc main_arg3)) (m ((c : Thread nD τ).loc main_arg4))
      ∧ r.2.mem ((c : Thread nD τ).loc main_v0_3) = moment2 (m ((c : Thread nD τ).loc main_arg0)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨((hr c).1 5).trans (final5 m c), ((hr c).1 6).trans (final6 m c),
      ((hr c).1 7).trans (final7 m c), ((hr c).1 8).trans (final8 m c),
      (hr c).2 main_arg0 (by decide : main_arg0 ∈ Pipeline.restRefs sig spec0),
      ((hr c).1 0).trans ((dats m (ok m) 0 c).arrAt_in 0 rfl _),
      ((hr c).1 1).trans ((dats m (ok m) 0 c).arrAt_in 1 rfl _),
      ((hr c).1 2).trans ((dats m (ok m) 0 c).arrAt_in 2 rfl _),
      ((hr c).1 3).trans ((dats m (ok m) 0 c).arrAt_in 3 rfl _),
      ((hr c).1 4).trans ((dats m (ok m) 0 c).arrAt_in 4 rfl _)⟩)
    (run_main m ρ (ok m))

end Cert.AdamOutIdeal.Ad

end
-- ==== Proof.Ad.AdamUp.lean ====
/- One AdamW step on the weight of the up projection: what the call leaves in its four result arrays. -/
module

public import proofs.«01_k».proof.Proof.Gen.AdamUpIdeal.Frame
public import proofs.«01_k».proof.Proof.Ad.Step
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamUpIdeal.Ad

open Cert.AdamUpIdeal Cert.AdamUpIdeal.Gen
open Idealize.ShloMosaic Idealize.ShloMosaic.TcCoe Idealize.SL.Sem
open Idealize.ShloMosaic.Pipeline (Dat)

variable (m : (ℓ : Loc nD τ sig) → Buf (Elt Ideal) ℓ)

/-- No index map reads the table. -/
theorem ok : Ok m := trivial

/-- The table as the memory holds it. -/
def ok' : (pcfg0 (F := Ideal)).Adm := adm m (ok m)

/-! ## The arrays that the call is to leave -/

/-- The table's one word: which half of the gradient's rows the core has summed itself. -/
def word (k : S1.Idx → BitVec 32) : BitVec 32 := k (Shape.Idx.first (s := S1) (by decide))

/-- The gradient, put together of the half that the core holds and the half that came to it. -/
def grad (k : S1.Idx → BitVec 32) (own other : FVec Ideal S512x1408 .f32) : FVec Ideal S1024x1408 .f32 := fun j =>
  if BitVec.ofNat 32 ((j 0).val / 512) = word k then own (ix2 ⟨(j 0).val % 512, Nat.mod_lt _ (by decide)⟩ (j 1))
  else other (ix2 ⟨(j 0).val % 512, Nat.mod_lt _ (by decide)⟩ (j 1))

/-- The new first moments. -/
def moment1 (k : S1.Idx → BitVec 32) (own other : FVec Ideal S512x1408 .f32) (x : FVec Ideal S1024x1408 .f32) : FVec Ideal S1024x1408 .f32 :=
  fun j => Adam.first (x j) (grad k own other j)

/-- The new second moments. -/
def moment2 (k : S1.Idx → BitVec 32) (own other : FVec Ideal S512x1408 .f32) (x : FVec Ideal S1024x1408 .f32) : FVec Ideal S1024x1408 .f32 :=
  fun j => Adam.second (x j) (grad k own other j)

/-- The change of the weight. -/
def change (k : S1.Idx → BitVec 32) (own other : FVec Ideal S512x1408 .f32) (w x y : FVec Ideal S1024x1408 .f32) : FVec Ideal S1024x1408 .f32 :=
  fun j => Adam.change (w j) (moment1 k own other x j) (moment2 k own other y j)

/-! ## Where the blocks lie -/

/-- Where each grid point's blocks lie. -/
theorem idx (a : (pcfg0 (F := Ideal)).Adm) : ∀ t : Fin grid0.N, (win0 a 0).index t = ![t.val, 0] ∧ (win0 a 1).index t = ![t.val % 4, 0] ∧ (win0 a 2).index t = ![t.val % 4, 0]
    ∧ (win0 a 3).index t = ![t.val, 0] ∧ (win0 a 4).index t = ![t.val, 0] ∧ (win0 a 5).index t = ![t.val, 0]
    ∧ (win0 a 6).index t = ![t.val, 0] ∧ (win0 a 7).index t = ![t.val, 0] ∧ (win0 a 8).index t = ![t.val, 0] :=
  (by decide +kernel : ∀ t : Fin grid0.N, cc0_transform_0 (grid0.coords t) = ![t.val, 0] ∧ cc0_transform_1 (grid0.coords t) = ![t.val % 4, 0] ∧ cc0_transform_2 (grid0.coords t) = ![t.val % 4, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0])

/-- The half of the rows that a grid point works on. -/
theorem side : ∀ t : Fin grid0.N, ((grid0.coords t) 0).val = t.val / 4 := by decide +kernel

/-- The place in the array of a block's entry. -/
def place (t : Fin grid0.N) (y : S128x1408.Idx) : S1024x1408.Idx :=
  ix2 ⟨t.val * 128 + (y 0).val, by have h : t.val < 8 := lt_of_lt_of_eq t.isLt N_0; have hy : (y 0).val < 128 := (y 0).isLt; omega⟩ (y 1)

/-- The place in its half of the rows. -/
def placeHalf (t : Fin grid0.N) (y : S128x1408.Idx) : S512x1408.Idx :=
  ix2 ⟨t.val % 4 * 128 + (y 0).val, by have h := Nat.mod_lt t.val (show 0 < 4 by decide); have hy : (y 0).val < 128 := (y 0).isLt; omega⟩ (y 1)

theorem emb0 (a : (pcfg0 (F := Ideal)).Adm) (t : Fin grid0.N) (y : S128x1408.Idx) : (((win0 a 0).rect t).emb y : S1024x1408.Idx) = place t y := by
  have h : ∀ k : Fin 2, ((((win0 a 0).rect t).emb y : S1024x1408.Idx) k : Nat) = (win0 a 0).index t k * (win0 a 0).size k + (y k : Nat) := fun k =>
    Pipeline.Window.rect_emb_val (win0 a 0) t y k rfl
  have e := (idx a t).1
  funext k; apply Fin.ext; refine (h k).trans ?_; rw [e]; fin_cases k
  · rfl
  · exact Nat.zero_add _

theorem emb1 (a : (pcfg0 (F := Ideal)).Adm) (t : Fin grid0.N) (y : S128x1408.Idx) : (((win0 a 1).rect t).emb y : S512x1408.Idx) = placeHalf t y := by
  have h : ∀ k : Fin 2, ((((win0 a 1).rect t).emb y : S512x1408.Idx) k : Nat) = (win0 a 1).index t k * (win0 a 1).size k + (y k : Nat) := fun k =>
    Pipeline.Window.rect_emb_val (win0 a 1) t y k rfl
  have e := (idx a t).2.1
  funext k; apply Fin.ext; refine (h k).trans ?_; rw [e]; fin_cases k
  · rfl
  · exact Nat.zero_add _

theorem emb2 (a : (pcfg0 (F := Ideal)).Adm) (t : Fin grid0.N) (y : S128x1408.Idx) : (((win0 a 2).rect t).emb y : S512x1408.Idx) = placeHalf t y := by
  have h : ∀ k : Fin 2, ((((win0 a 2).rect t).emb y : S512x1408.Idx) k : Nat) = (win0 a 2).index t k * (win0 a 2).size k + (y k : Nat) := fun k =>
    Pipeline.Window.rect_emb_val (win0 a 2) t y k rfl
  have e := (idx a t).2.2.1
  funext k; apply Fin.ext; refine (h k).trans ?_; rw [e]; fin_cases k
  · rfl
  · exact Nat.zero_add _

theorem emb3 (a : (pcfg0 (F := Ideal)).Adm) (t : Fin grid0.N) (y : S128x1408.Idx) : (((win0 a 3).rect t).emb y : S1024x1408.Idx) = place t y := by
  have h : ∀ k : Fin 2, ((((win0 a 3).rect t).emb y : S1024x1408.Idx) k : Nat) = (win0 a 3).index t k * (win0 a 3).size k + (y k : Nat) := fun k =>
    Pipeline.Window.rect_emb_val (win0 a 3) t y k rfl
  have e := (idx a t).2.2.2.1
  funext k; apply Fin.ext; refine (h k).trans ?_; rw [e]; fin_cases k
  · rfl
  · exact Nat.zero_add _

theorem emb4 (a : (pcfg0 (F := Ideal)).Adm) (t : Fin grid0.N) (y : S128x1408.Idx) : (((win0 a 4).rect t).emb y : S1024x1408.Idx) = place t y := by
  have h : ∀ k : Fin 2, ((((win0 a 4).rect t).emb y : S1024x1408.Idx) k : Nat) = (win0 a 4).index t k * (win0 a 4).size k + (y k : Nat) := fun k =>
    Pipeline.Window.rect_emb_val (win0 a 4) t y k rfl
  have e := (idx a t).2.2.2.2.1
  funext k; apply Fin.ext; refine (h k).trans ?_; rw [e]; fin_cases k
  · rfl
  · exact Nat.zero_add _

theorem emb5 (a : (pcfg0 (F := Ideal)).Adm) (t : Fin grid0.N) (y : S128x1408.Idx) : (((win0 a 5).rect t).emb y : S1024x1408.Idx) = place t y := by
  have h : ∀ k : Fin 2, ((((win0 a 5).rect t).emb y : S1024x1408.Idx) k : Nat) = (win0 a 5).index t k * (win0 a 5).size k + (y k : Nat) := fun k =>
    Pipeline.Window.rect_emb_val (win0 a 5) t y k rfl
  have e := (idx a t).2.2.2.2.2.1
  funext k; apply Fin.ext; refine (h k).trans ?_; rw [e]; fin_cases k
  · rfl
  · exact Nat.zero_add _

theorem emb6 (a : (pcfg0 (F := Ideal)).Adm) (t : Fin grid0.N) (y : S128x1408.Idx) : (((win0 a 6).rect t).emb y : S1024x1408.Idx) = place t y := by
  have h : ∀ k : Fin 2, ((((win0 a 6).rect t).emb y : S1024x1408.Idx) k : Nat) = (win0 a 6).index t k * (win0 a 6).size k + (y k : Nat) := fun k =>
    Pipeline.Window.rect_emb_val (win0 a 6) t y k rfl
  have e := (idx a t).2.2.2.2.2.2.1
  funext k; apply Fin.ext; refine (h k).trans ?_; rw [e]; fin_cases k
  · rfl
  · exact Nat.zero_add _

theorem emb7 (a : (pcfg0 (F := Ideal)).Adm) (t : Fin grid0.N) (y : S128x1408.Idx) : (((win0 a 7).rect t).emb y : S1024x1408.Idx) = place t y := by
  have h : ∀ k : Fin 2, ((((win0 a 7).rect t).emb y : S1024x1408.Idx) k : Nat) = (win0 a 7).index t k * (win0 a 7).size k + (y k : Nat) := fun k =>
    Pipeline.Window.rect_emb_val (win0 a 7) t y k rfl
  have e := (idx a t).2.2.2.2.2.2.2.1
  funext k; apply Fin.ext; refine (h k).trans ?_; rw [e]; fin_cases k
  · rfl
  · exact Nat.zero_add _

theorem emb8 (a : (pcfg0 (F := Ideal)).Adm) (t : Fin grid0.N) (y : S128x1408.Idx) : (((win0 a 8).rect t).emb y : S1024x1408.Idx) = place t y := by
  have h : ∀ k : Fin 2, ((((win0 a 8).rect t).emb y : S1024x1408.Idx) k : Nat) = (win0 a 8).index t k * (win0 a 8).size k + (y k : Nat) := fun k =>
    Pipeline.Window.rect_emb_val (win0 a 8) t y k rfl
  have e := (idx a t).2.2.2.2.2.2.2.2
  funext k; apply Fin.ext; refine (h k).trans ?_; rw [e]; fin_cases k
  · rfl
  · exact Nat.zero_add _

/-- A table to decide facts of the windows at, none of which reads it. -/
def a0 : (pcfg0 (F := Ideal)).Adm := ⟨fun | ⟨0, _⟩ => fun _ => (0 : BitVec 32), trivial⟩

theorem covers5 (a : (pcfg0 (F := Ideal)).Adm) : ((cfg0 a).win 5).Covers := (by decide +kernel : ((cfg0 a0).win 5).Covers)
theorem covers6 (a : (pcfg0 (F := Ideal)).Adm) : ((cfg0 a).win 6).Covers := (by decide +kernel : ((cfg0 a0).win 6).Covers)
theorem covers7 (a : (pcfg0 (F := Ideal)).Adm) : ((cfg0 a).win 7).Covers := (by decide +kernel : ((cfg0 a0).win 7).Covers)
theorem covers8 (a : (pcfg0 (F := Ideal)).Adm) : ((cfg0 a).win 8).Covers := (by decide +kernel : ((cfg0 a0).win 8).Covers)

/-! ## What the body leaves in its blocks -/

theorem hz2 : (![0, 0] : Fin 2 → Nat) = fun _ => 0 := by funext k; fin_cases k <;> rfl

theorem one (a b : S1.Idx) : a = b := by
  funext k; fin_cases k; exact Subsingleton.elim (α := Fin 1) _ _

/-- The gradient's entry that the body selects. -/
theorem pay1 (i : grid0.Coords) (k : BitVec 32) (x y : Vec Ideal S128x1408 .f32) (j : S128x1408.Idx) :
    k0_pay1 (F := Ideal) i k x y j = if BitVec.ofNat 32 (i 0).val = k then x j else y j := by
  unfold k0_pay1
  simp only [Scalar.select, Scalar.cmpi, IntOp.cmpi]
  by_cases h : BitVec.ofNat 32 (i 0).val = k
  · simp [h]
  · have : (BitVec.ofNat 32 (i 0).val == k) = false := by simpa using h
    simp [h, this]

theorem pay2 (i : grid0.Coords) (k : BitVec 32) (x y z : Vec Ideal S128x1408 .f32) (j : S128x1408.Idx) :
    k0_pay2 (F := Ideal) i k x y z j = Adam.first (z j) (k0_pay1 (F := Ideal) i k x y j) := by
  pointwise [k0_pay2, Adam.first]

theorem pay3 (i : grid0.Coords) (k : BitVec 32) (x y z : Vec Ideal S128x1408 .f32) (j : S128x1408.Idx) :
    k0_pay3 (F := Ideal) i k x y z j = Adam.second (z j) (k0_pay1 (F := Ideal) i k x y j) := by
  pointwise [k0_pay3, Adam.second]

theorem named_first : Named.named (F := Ideal) Cert.AdamUpIdeal.κ "first" (φ := .f32) 0x3FC48605#32 = (((5463681 / 8388608)⁻¹ : ℝ) : EReal) :=
  IdealRules.named_const.ideal_named_scalar _ _ _ _ rfl

theorem named_second : Named.named (F := Ideal) Cert.AdamUpIdeal.κ "second" (φ := .f32) 0x42C8E6D3#32 = (((2672307 / 268435456)⁻¹ : ℝ) : EReal) :=
  IdealRules.named_const.ideal_named_scalar _ _ _ _ rfl

theorem pay4 (i : grid0.Coords) (k : BitVec 32) (x y z u w : Vec Ideal S128x1408 .f32) (j : S128x1408.Idx) :
    k0_pay4 (F := Ideal) i k x y z u w j = Adam.change (w j) (k0_pay2 (F := Ideal) i k x y z j) (k0_pay3 (F := Ideal) i k x y u j) := by
  pointwise [k0_pay4, Adam.change, named_first, named_second]

/-- The word and the input blocks of a grid point. -/
def key : BitVec 32 := word (tbl m 0)
def blk0 (c : Dev nD) (t : Fin grid0.N) : Vec Ideal S128x1408 .f32 := iblk m (ok m) c 0 t
def blk1 (c : Dev nD) (t : Fin grid0.N) : Vec Ideal S128x1408 .f32 := iblk m (ok m) c 1 t
def blk2 (c : Dev nD) (t : Fin grid0.N) : Vec Ideal S128x1408 .f32 := iblk m (ok m) c 2 t
def blk3 (c : Dev nD) (t : Fin grid0.N) : Vec Ideal S128x1408 .f32 := iblk m (ok m) c 3 t
def blk4 (c : Dev nD) (t : Fin grid0.N) : Vec Ideal S128x1408 .f32 := iblk m (ok m) c 4 t

theorem out5 (c : Dev nD) (i : grid0.Coords) (a3 h3 a4 h4 a5 h5 a6 h6 a7 h7 a8 h8 a9 h9 a10 h10 a11 h11) (x0 x1 x2 x3 x4) (k : Vec Ideal S1 .i32) :
    out0_A_5 (F := Ideal) c i a3 h3 a4 h4 a5 h5 a6 h6 a7 h7 a8 h8 a9 h9 a10 h10 a11 h11 x0 x1 x2 x3 x4 k = k0_pay1 (F := Ideal) i (word k) x1 x2 := by
  unfold out0_A_5
  rw [View.read_writes_eq_canon _ _ _ (cover0_A_5 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1408) hz2]
  refine congrArg (fun q => k0_pay1 (F := Ideal) i q x1 x2) ?_
  unfold word
  exact congrArg k (one _ _)

theorem outs5 (c : Dev nD) (t : Fin grid0.N) : (outsAt0 m (ok m) c t).1 = k0_pay1 (F := Ideal) (grid0.coords t) (key m) (blk1 m c t) (blk2 m c t) := by
  unfold outsAt0
  dsimp only
  exact out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out6 (c : Dev nD) (i : grid0.Coords) (a3 h3 a4 h4 a5 h5 a6 h6 a7 h7 a8 h8 a9 h9 a10 h10 a11 h11) (x0 x1 x2 x3 x4) (k : Vec Ideal S1 .i32) :
    out0_A_6 (F := Ideal) c i a3 h3 a4 h4 a5 h5 a6 h6 a7 h7 a8 h8 a9 h9 a10 h10 a11 h11 x0 x1 x2 x3 x4 k = k0_pay4 (F := Ideal) i (word k) x1 x2 x3 x4 x0 := by
  unfold out0_A_6
  rw [View.read_writes_eq_canon _ _ _ (cover0_A_6 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1408) hz2]
  refine congrArg (fun q => k0_pay4 (F := Ideal) i q x1 x2 x3 x4 x0) ?_
  unfold word
  exact congrArg k (one _ _)

theorem outs6 (c : Dev nD) (t : Fin grid0.N) : (outsAt0 m (ok m) c t).2.1 = k0_pay4 (F := Ideal) (grid0.coords t) (key m) (blk1 m c t) (blk2 m c t) (blk3 m c t) (blk4 m c t) (blk0 m c t) := by
  unfold outsAt0
  dsimp only
  exact out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out7 (c : Dev nD) (i : grid0.Coords) (a3 h3 a4 h4 a5 h5 a6 h6 a7 h7 a8 h8 a9 h9 a10 h10 a11 h11) (x0 x1 x2 x3 x4) (k : Vec Ideal S1 .i32) :
    out0_A_7 (F := Ideal) c i a3 h3 a4 h4 a5 h5 a6 h6 a7 h7 a8 h8 a9 h9 a10 h10 a11 h11 x0 x1 x2 x3 x4 k = k0_pay2 (F := Ideal) i (word k) x1 x2 x3 := by
  unfold out0_A_7
  rw [View.read_writes_eq_canon _ _ _ (cover0_A_7 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1408) hz2]
  refine congrArg (fun q => k0_pay2 (F := Ideal) i q x1 x2 x3) ?_
  unfold word
  exact congrArg k (one _ _)

theorem outs7 (c : Dev nD) (t : Fin grid0.N) : (outsAt0 m (ok m) c t).2.2.1 = k0_pay2 (F := Ideal) (grid0.coords t) (key m) (blk1 m c t) (blk2 m c t) (blk3 m c t) := by
  unfold outsAt0
  dsimp only
  exact out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out8 (c : Dev nD) (i : grid0.Coords) (a3 h3 a4 h4 a5 h5 a6 h6 a7 h7 a8 h8 a9 h9 a10 h10 a11 h11) (x0 x1 x2 x3 x4) (k : Vec Ideal S1 .i32) :
    out0_A_8 (F := Ideal) c i a3 h3 a4 h4 a5 h5 a6 h6 a7 h7 a8 h8 a9 h9 a10 h10 a11 h11 x0 x1 x2 x3 x4 k = k0_pay3 (F := Ideal) i (word k) x1 x2 x4 := by
  unfold out0_A_8
  rw [View.read_writes_eq_canon _ _ _ (cover0_A_8 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S128x1408) hz2]
  refine congrArg (fun q => k0_pay3 (F := Ideal) i q x1 x2 x4) ?_
  unfold word
  exact congrArg k (one _ _)

theorem outs8 (c : Dev nD) (t : Fin grid0.N) : (outsAt0 m (ok m) c t).2.2.2 = k0_pay3 (F := Ideal) (grid0.coords t) (key m) (blk1 m c t) (blk2 m c t) (blk4 m c t) := by
  unfold outsAt0
  dsimp only
  exact out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

/-! ## The blocks' entries in the arrays -/

/-- The word, read from the memory. -/
theorem key_eq (c : Dev nD) : key m = word (m ((c : Thread nD τ).loc main_arg0)) := by
  have h : c = (0 : Dev nD) := Subsingleton.elim _ _
  subst h
  unfold key tbl
  exact congrArg word (V_main_arg0 m 0)

theorem blk0_at (c : Dev nD) (t : Fin grid0.N) (y : S128x1408.Idx) :
    blk0 m c t y = (m ((c : Thread nD τ).loc main_arg1) : S1024x1408.Idx → EReal) (place t y) := by
  unfold blk0 iblk
  exact congrArg (m ((c : Thread nD τ).loc main_arg1) : S1024x1408.Idx → EReal) (emb0 (ok' m) t y)

theorem blk1_at (c : Dev nD) (t : Fin grid0.N) (y : S128x1408.Idx) :
    blk1 m c t y = (m ((c : Thread nD τ).loc main_arg2) : S512x1408.Idx → EReal) (placeHalf t y) := by
  unfold blk1 iblk
  exact congrArg (m ((c : Thread nD τ).loc main_arg2) : S512x1408.Idx → EReal) (emb1 (ok' m) t y)

theorem blk2_at (c : Dev nD) (t : Fin grid0.N) (y : S128x1408.Idx) :
    blk2 m c t y = (m ((c : Thread nD τ).loc main_arg3) : S512x1408.Idx → EReal) (placeHalf t y) := by
  unfold blk2 iblk
  exact congrArg (m ((c : Thread nD τ).loc main_arg3) : S512x1408.Idx → EReal) (emb2 (ok' m) t y)

theorem blk3_at (c : Dev nD) (t : Fin grid0.N) (y : S128x1408.Idx) :
    blk3 m c t y = (m ((c : Thread nD τ).loc main_arg4) : S1024x1408.Idx → EReal) (place t y) := by
  unfold blk3 iblk
  exact congrArg (m ((c : Thread nD τ).loc main_arg4) : S1024x1408.Idx → EReal) (emb3 (ok' m) t y)

theorem blk4_at (c : Dev nD) (t : Fin grid0.N) (y : S128x1408.Idx) :
    blk4 m c t y = (m ((c : Thread nD τ).loc main_arg5) : S1024x1408.Idx → EReal) (place t y) := by
  unfold blk4 iblk
  exact congrArg (m ((c : Thread nD τ).loc main_arg5) : S1024x1408.Idx → EReal) (emb4 (ok' m) t y)

/-- The gradient's block is the gradient's rows at its place. -/
theorem grad_at (c : Dev nD) (t : Fin grid0.N) (y : S128x1408.Idx) :
    k0_pay1 (F := Ideal) (grid0.coords t) (key m) (blk1 m c t) (blk2 m c t) y = grad (m ((c : Thread nD τ).loc main_arg0)) (m ((c : Thread nD τ).loc main_arg2)) (m ((c : Thread nD τ).loc main_arg3)) (place t y) := by
  have ht : t.val < 8 := lt_of_lt_of_eq t.isLt N_0
  have hy : (y 0).val < 128 := (y 0).isLt
  have hd : (place t y 0).val / 512 = t.val / 4 := by show (t.val * 128 + (y 0).val) / 512 = _; omega
  have hm : (place t y 0).val % 512 = t.val % 4 * 128 + (y 0).val := by show (t.val * 128 + (y 0).val) % 512 = _; omega
  have hp : (ix2 ⟨(place t y 0).val % 512, Nat.mod_lt _ (by decide)⟩ (place t y 1) : S512x1408.Idx) = placeHalf t y := by
    funext k; apply Fin.ext; fin_cases k
    · exact hm
    · rfl
  rw [pay1, blk1_at, blk2_at, side, key_eq m c]
  unfold grad
  rw [hp, hd]

theorem moment1_at (c : Dev nD) (t : Fin grid0.N) (y : S128x1408.Idx) :
    k0_pay2 (F := Ideal) (grid0.coords t) (key m) (blk1 m c t) (blk2 m c t) (blk3 m c t) y = moment1 (m ((c : Thread nD τ).loc main_arg0)) (m ((c : Thread nD τ).loc main_arg2)) (m ((c : Thread nD τ).loc main_arg3)) (m ((c : Thread nD τ).loc main_arg4)) (place t y) := by
  rw [pay2, grad_at, blk3_at]; rfl

theorem moment2_at (c : Dev nD) (t : Fin grid0.N) (y : S128x1408.Idx) :
    k0_pay3 (F := Ideal) (grid0.coords t) (key m) (blk1 m c t) (blk2 m c t) (blk4 m c t) y = moment2 (m ((c : Thread nD τ).loc main_arg0)) (m ((c : Thread nD τ).loc main_arg2)) (m ((c : Thread nD τ).loc main_arg3)) (m ((c : Thread nD τ).loc main_arg5)) (place t y) := by
  rw [pay3, grad_at, blk4_at]; rfl

theorem change_at (c : Dev nD) (t : Fin grid0.N) (y : S128x1408.Idx) :
    k0_pay4 (F := Ideal) (grid0.coords t) (key m) (blk1 m c t) (blk2 m c t) (blk3 m c t) (blk4 m c t) (blk0 m c t) y = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (place t y) := by
  rw [pay4, moment1_at, moment2_at, blk0_at]; rfl

/-! ## The result arrays after the run -/

theorem final5 (c : Dev nD) : (dats m (ok m) 0 c).arrAt 5 (cfgM m (ok m)).N = grad (m ((c : Thread nD τ).loc main_arg0)) (m ((c : Thread nD τ).loc main_arg2)) (m ((c : Thread nD τ).loc main_arg3)) := by
  refine (dats m (ok m) 0 c).arrAt_eq_of_covers 5 _ (covers5 _) fun t hf y => ?_
  rw [after0_5, outs5 m c t]
  exact (grad_at m c t y).trans (congrArg (grad (m ((c : Thread nD τ).loc main_arg0)) (m ((c : Thread nD τ).loc main_arg2)) (m ((c : Thread nD τ).loc main_arg3))) (emb5 (ok' m) t y).symm)

theorem final6 (c : Dev nD) : (dats m (ok m) 0 c).arrAt 6 (cfgM m (ok m)).N = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) := by
  refine (dats m (ok m) 0 c).arrAt_eq_of_covers 6 _ (covers6 _) fun t hf y => ?_
  rw [after0_6, outs6 m c t]
  exact (change_at m c t y).trans (congrArg (change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))) (emb6 (ok' m) t y).symm)

theorem final7 (c : Dev nD) : (dats m (ok m) 0 c).arrAt 7 (cfgM m (ok m)).N = moment1 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (covers7 _) fun t hf y => ?_
  rw [after0_7, outs7 m c t]
  exact (moment1_at m c t y).trans (congrArg (moment1 (m ((c : Thread nD τ).loc main_arg0)) (m ((c : Thread nD τ).loc main_arg2)) (m ((c : Thread nD τ).loc main_arg3)) (m ((c : Thread nD τ).loc main_arg4))) (emb7 (ok' m) t y).symm)

theorem final8 (c : Dev nD) : (dats m (ok m) 0 c).arrAt 8 (cfgM m (ok m)).N = moment2 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (covers8 _) fun t hf y => ?_
  rw [after0_8, outs8 m c t]
  exact (moment2_at m c t y).trans (congrArg (moment2 (m ((c : Thread nD τ).loc main_arg0)) (m ((c : Thread nD τ).loc main_arg2)) (m ((c : Thread nD τ).loc main_arg3)) (m ((c : Thread nD τ).loc main_arg5))) (emb8 (ok' m) t y).symm)

/-- The run's end: the results at their arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg2)) (m ((c : Thread nD τ).loc main_arg3))
      ∧ r.2.mem ((c : Thread nD τ).loc main_v0_1) = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))
      ∧ r.2.mem ((c : Thread nD τ).loc main_v0_2) = moment1 (m ((c : Thread nD τ).loc main_arg0)) (m ((c : Thread nD τ).loc main_arg2)) (m ((c : Thread nD τ).loc main_arg3)) (m ((c : Thread nD τ).loc main_arg4))
      ∧ r.2.mem ((c : Thread nD τ).loc main_v0_3) = moment2 (m ((c : Thread nD τ).loc main_arg0)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨((hr c).1 5).trans (final5 m c), ((hr c).1 6).trans (final6 m c),
      ((hr c).1 7).trans (final7 m c), ((hr c).1 8).trans (final8 m c),
      (hr c).2 main_arg0 (by decide : main_arg0 ∈ Pipeline.restRefs sig spec0),
      ((hr c).1 0).trans ((dats m (ok m) 0 c).arrAt_in 0 rfl _),
      ((hr c).1 1).trans ((dats m (ok m) 0 c).arrAt_in 1 rfl _),
      ((hr c).1 2).trans ((dats m (ok m) 0 c).arrAt_in 2 rfl _),
      ((hr c).1 3).trans ((dats m (ok m) 0 c).arrAt_in 3 rfl _),
      ((hr c).1 4).trans ((dats m (ok m) 0 c).arrAt_in 4 rfl _)⟩)
    (run_main m ρ (ok m))

end Cert.AdamUpIdeal.Ad

end
-- ==== Proof.Ad.AdamDown.lean ====
/- One AdamW step on the weight of the down projection: what the call leaves in its four result arrays. -/
module

public import proofs.«01_k».proof.Proof.Gen.AdamDownIdeal.Frame
public import proofs.«01_k».proof.Proof.Ad.Step
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamDownIdeal.Ad

open Cert.AdamDownIdeal Cert.AdamDownIdeal.Gen
open Idealize.ShloMosaic Idealize.ShloMosaic.TcCoe Idealize.SL.Sem
open Idealize.ShloMosaic.Pipeline (Dat)

variable (m : (ℓ : Loc nD τ sig) → Buf (Elt Ideal) ℓ)

/-- No index map reads the table. -/
theorem ok : Ok m := trivial

/-- The table as the memory holds it. -/
def ok' : (pcfg0 (F := Ideal)).Adm := adm m (ok m)

/-! ## The arrays that the call is to leave -/

/-- The table's one word: which half of the gradient's rows the core has summed itself. -/
def word (k : S1.Idx → BitVec 32) : BitVec 32 := k (Shape.Idx.first (s := S1) (by decide))

/-- The gradient, put together of the half that the core holds and the half that came to it. -/
def grad (k : S1.Idx → BitVec 32) (own other : FVec Ideal S352x1024 .f32) : FVec Ideal S704x1024 .f32 := fun j =>
  if BitVec.ofNat 32 ((j 0).val / 352) = word k then own (ix2 ⟨(j 0).val % 352, Nat.mod_lt _ (by decide)⟩ (j 1))
  else other (ix2 ⟨(j 0).val % 352, Nat.mod_lt _ (by decide)⟩ (j 1))

/-- The new first moments. -/
def moment1 (k : S1.Idx → BitVec 32) (own other : FVec Ideal S352x1024 .f32) (x : FVec Ideal S704x1024 .f32) : FVec Ideal S704x1024 .f32 :=
  fun j => Adam.first (x j) (grad k own other j)

/-- The new second moments. -/
def moment2 (k : S1.Idx → BitVec 32) (own other : FVec Ideal S352x1024 .f32) (x : FVec Ideal S704x1024 .f32) : FVec Ideal S704x1024 .f32 :=
  fun j => Adam.second (x j) (grad k own other j)

/-- The change of the weight. -/
def change (k : S1.Idx → BitVec 32) (own other : FVec Ideal S352x1024 .f32) (w x y : FVec Ideal S704x1024 .f32) : FVec Ideal S704x1024 .f32 :=
  fun j => Adam.change (w j) (moment1 k own other x j) (moment2 k own other y j)

/-! ## Where the blocks lie -/

/-- Where each grid point's blocks lie. -/
theorem idx (a : (pcfg0 (F := Ideal)).Adm) : ∀ t : Fin grid0.N, (win0 a 0).index t = ![t.val, 0] ∧ (win0 a 1).index t = ![t.val % 2, 0] ∧ (win0 a 2).index t = ![t.val % 2, 0]
    ∧ (win0 a 3).index t = ![t.val, 0] ∧ (win0 a 4).index t = ![t.val, 0] ∧ (win0 a 5).index t = ![t.val, 0]
    ∧ (win0 a 6).index t = ![t.val, 0] ∧ (win0 a 7).index t = ![t.val, 0] ∧ (win0 a 8).index t = ![t.val, 0] :=
  (by decide +kernel : ∀ t : Fin grid0.N, cc0_transform_0 (grid0.coords t) = ![t.val, 0] ∧ cc0_transform_1 (grid0.coords t) = ![t.val % 2, 0] ∧ cc0_transform_2 (grid0.coords t) = ![t.val % 2, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0])

/-- The half of the rows that a grid point works on. -/
theorem side : ∀ t : Fin grid0.N, ((grid0.coords t) 0).val = t.val / 2 := by decide +kernel

/-- The place in the array of a block's entry. -/
def place (t : Fin grid0.N) (y : S176x1024.Idx) : S704x1024.Idx :=
  ix2 ⟨t.val * 176 + (y 0).val, by have h : t.val < 4 := lt_of_lt_of_eq t.isLt N_0; have hy : (y 0).val < 176 := (y 0).isLt; omega⟩ (y 1)

/-- The place in its half of the rows. -/
def placeHalf (t : Fin grid0.N) (y : S176x1024.Idx) : S352x1024.Idx :=
  ix2 ⟨t.val % 2 * 176 + (y 0).val, by have h := Nat.mod_lt t.val (show 0 < 2 by decide); have hy : (y 0).val < 176 := (y 0).isLt; omega⟩ (y 1)

theorem emb0 (a : (pcfg0 (F := Ideal)).Adm) (t : Fin grid0.N) (y : S176x1024.Idx) : (((win0 a 0).rect t).emb y : S704x1024.Idx) = place t y := by
  have h : ∀ k : Fin 2, ((((win0 a 0).rect t).emb y : S704x1024.Idx) k : Nat) = (win0 a 0).index t k * (win0 a 0).size k + (y k : Nat) := fun k =>
    Pipeline.Window.rect_emb_val (win0 a 0) t y k rfl
  have e := (idx a t).1
  funext k; apply Fin.ext; refine (h k).trans ?_; rw [e]; fin_cases k
  · rfl
  · exact Nat.zero_add _

theorem emb1 (a : (pcfg0 (F := Ideal)).Adm) (t : Fin grid0.N) (y : S176x1024.Idx) : (((win0 a 1).rect t).emb y : S352x1024.Idx) = placeHalf t y := by
  have h : ∀ k : Fin 2, ((((win0 a 1).rect t).emb y : S352x1024.Idx) k : Nat) = (win0 a 1).index t k * (win0 a 1).size k + (y k : Nat) := fun k =>
    Pipeline.Window.rect_emb_val (win0 a 1) t y k rfl
  have e := (idx a t).2.1
  funext k; apply Fin.ext; refine (h k).trans ?_; rw [e]; fin_cases k
  · rfl
  · exact Nat.zero_add _

theorem emb2 (a : (pcfg0 (F := Ideal)).Adm) (t : Fin grid0.N) (y : S176x1024.Idx) : (((win0 a 2).rect t).emb y : S352x1024.Idx) = placeHalf t y := by
  have h : ∀ k : Fin 2, ((((win0 a 2).rect t).emb y : S352x1024.Idx) k : Nat) = (win0 a 2).index t k * (win0 a 2).size k + (y k : Nat) := fun k =>
    Pipeline.Window.rect_emb_val (win0 a 2) t y k rfl
  have e := (idx a t).2.2.1
  funext k; apply Fin.ext; refine (h k).trans ?_; rw [e]; fin_cases k
  · rfl
  · exact Nat.zero_add _

theorem emb3 (a : (pcfg0 (F := Ideal)).Adm) (t : Fin grid0.N) (y : S176x1024.Idx) : (((win0 a 3).rect t).emb y : S704x1024.Idx) = place t y := by
  have h : ∀ k : Fin 2, ((((win0 a 3).rect t).emb y : S704x1024.Idx) k : Nat) = (win0 a 3).index t k * (win0 a 3).size k + (y k : Nat) := fun k =>
    Pipeline.Window.rect_emb_val (win0 a 3) t y k rfl
  have e := (idx a t).2.2.2.1
  funext k; apply Fin.ext; refine (h k).trans ?_; rw [e]; fin_cases k
  · rfl
  · exact Nat.zero_add _

theorem emb4 (a : (pcfg0 (F := Ideal)).Adm) (t : Fin grid0.N) (y : S176x1024.Idx) : (((win0 a 4).rect t).emb y : S704x1024.Idx) = place t y := by
  have h : ∀ k : Fin 2, ((((win0 a 4).rect t).emb y : S704x1024.Idx) k : Nat) = (win0 a 4).index t k * (win0 a 4).size k + (y k : Nat) := fun k =>
    Pipeline.Window.rect_emb_val (win0 a 4) t y k rfl
  have e := (idx a t).2.2.2.2.1
  funext k; apply Fin.ext; refine (h k).trans ?_; rw [e]; fin_cases k
  · rfl
  · exact Nat.zero_add _

theorem emb5 (a : (pcfg0 (F := Ideal)).Adm) (t : Fin grid0.N) (y : S176x1024.Idx) : (((win0 a 5).rect t).emb y : S704x1024.Idx) = place t y := by
  have h : ∀ k : Fin 2, ((((win0 a 5).rect t).emb y : S704x1024.Idx) k : Nat) = (win0 a 5).index t k * (win0 a 5).size k + (y k : Nat) := fun k =>
    Pipeline.Window.rect_emb_val (win0 a 5) t y k rfl
  have e := (idx a t).2.2.2.2.2.1
  funext k; apply Fin.ext; refine (h k).trans ?_; rw [e]; fin_cases k
  · rfl
  · exact Nat.zero_add _

theorem emb6 (a : (pcfg0 (F := Ideal)).Adm) (t : Fin grid0.N) (y : S176x1024.Idx) : (((win0 a 6).rect t).emb y : S704x1024.Idx) = place t y := by
  have h : ∀ k : Fin 2, ((((win0 a 6).rect t).emb y : S704x1024.Idx) k : Nat) = (win0 a 6).index t k * (win0 a 6).size k + (y k : Nat) := fun k =>
    Pipeline.Window.rect_emb_val (win0 a 6) t y k rfl
  have e := (idx a t).2.2.2.2.2.2.1
  funext k; apply Fin.ext; refine (h k).trans ?_; rw [e]; fin_cases k
  · rfl
  · exact Nat.zero_add _

theorem emb7 (a : (pcfg0 (F := Ideal)).Adm) (t : Fin grid0.N) (y : S176x1024.Idx) : (((win0 a 7).rect t).emb y : S704x1024.Idx) = place t y := by
  have h : ∀ k : Fin 2, ((((win0 a 7).rect t).emb y : S704x1024.Idx) k : Nat) = (win0 a 7).index t k * (win0 a 7).size k + (y k : Nat) := fun k =>
    Pipeline.Window.rect_emb_val (win0 a 7) t y k rfl
  have e := (idx a t).2.2.2.2.2.2.2.1
  funext k; apply Fin.ext; refine (h k).trans ?_; rw [e]; fin_cases k
  · rfl
  · exact Nat.zero_add _

theorem emb8 (a : (pcfg0 (F := Ideal)).Adm) (t : Fin grid0.N) (y : S176x1024.Idx) : (((win0 a 8).rect t).emb y : S704x1024.Idx) = place t y := by
  have h : ∀ k : Fin 2, ((((win0 a 8).rect t).emb y : S704x1024.Idx) k : Nat) = (win0 a 8).index t k * (win0 a 8).size k + (y k : Nat) := fun k =>
    Pipeline.Window.rect_emb_val (win0 a 8) t y k rfl
  have e := (idx a t).2.2.2.2.2.2.2.2
  funext k; apply Fin.ext; refine (h k).trans ?_; rw [e]; fin_cases k
  · rfl
  · exact Nat.zero_add _

/-- A table to decide facts of the windows at, none of which reads it. -/
def a0 : (pcfg0 (F := Ideal)).Adm := ⟨fun | ⟨0, _⟩ => fun _ => (0 : BitVec 32), trivial⟩

theorem covers5 (a : (pcfg0 (F := Ideal)).Adm) : ((cfg0 a).win 5).Covers := (by decide +kernel : ((cfg0 a0).win 5).Covers)
theorem covers6 (a : (pcfg0 (F := Ideal)).Adm) : ((cfg0 a).win 6).Covers := (by decide +kernel : ((cfg0 a0).win 6).Covers)
theorem covers7 (a : (pcfg0 (F := Ideal)).Adm) : ((cfg0 a).win 7).Covers := (by decide +kernel : ((cfg0 a0).win 7).Covers)
theorem covers8 (a : (pcfg0 (F := Ideal)).Adm) : ((cfg0 a).win 8).Covers := (by decide +kernel : ((cfg0 a0).win 8).Covers)

/-! ## What the body leaves in its blocks -/

theorem hz2 : (![0, 0] : Fin 2 → Nat) = fun _ => 0 := by funext k; fin_cases k <;> rfl

theorem one (a b : S1.Idx) : a = b := by
  funext k; fin_cases k; exact Subsingleton.elim (α := Fin 1) _ _

/-- The gradient's entry that the body selects. -/
theorem pay1 (i : grid0.Coords) (k : BitVec 32) (x y : Vec Ideal S176x1024 .f32) (j : S176x1024.Idx) :
    k0_pay1 (F := Ideal) i k x y j = if BitVec.ofNat 32 (i 0).val = k then x j else y j := by
  unfold k0_pay1
  simp only [Scalar.select, Scalar.cmpi, IntOp.cmpi]
  by_cases h : BitVec.ofNat 32 (i 0).val = k
  · simp [h]
  · have : (BitVec.ofNat 32 (i 0).val == k) = false := by simpa using h
    simp [h, this]

theorem pay2 (i : grid0.Coords) (k : BitVec 32) (x y z : Vec Ideal S176x1024 .f32) (j : S176x1024.Idx) :
    k0_pay2 (F := Ideal) i k x y z j = Adam.first (z j) (k0_pay1 (F := Ideal) i k x y j) := by
  pointwise [k0_pay2, Adam.first]

theorem pay3 (i : grid0.Coords) (k : BitVec 32) (x y z : Vec Ideal S176x1024 .f32) (j : S176x1024.Idx) :
    k0_pay3 (F := Ideal) i k x y z j = Adam.second (z j) (k0_pay1 (F := Ideal) i k x y j) := by
  pointwise [k0_pay3, Adam.second]

theorem named_first : Named.named (F := Ideal) Cert.AdamDownIdeal.κ "first" (φ := .f32) 0x3FC48605#32 = (((5463681 / 8388608)⁻¹ : ℝ) : EReal) :=
  IdealRules.named_const.ideal_named_scalar _ _ _ _ rfl

theorem named_second : Named.named (F := Ideal) Cert.AdamDownIdeal.κ "second" (φ := .f32) 0x42C8E6D3#32 = (((2672307 / 268435456)⁻¹ : ℝ) : EReal) :=
  IdealRules.named_const.ideal_named_scalar _ _ _ _ rfl

theorem pay4 (i : grid0.Coords) (k : BitVec 32) (x y z u w : Vec Ideal S176x1024 .f32) (j : S176x1024.Idx) :
    k0_pay4 (F := Ideal) i k x y z u w j = Adam.change (w j) (k0_pay2 (F := Ideal) i k x y z j) (k0_pay3 (F := Ideal) i k x y u j) := by
  pointwise [k0_pay4, Adam.change, named_first, named_second]

/-- The word and the input blocks of a grid point. -/
def key : BitVec 32 := word (tbl m 0)
def blk0 (c : Dev nD) (t : Fin grid0.N) : Vec Ideal S176x1024 .f32 := iblk m (ok m) c 0 t
def blk1 (c : Dev nD) (t : Fin grid0.N) : Vec Ideal S176x1024 .f32 := iblk m (ok m) c 1 t
def blk2 (c : Dev nD) (t : Fin grid0.N) : Vec Ideal S176x1024 .f32 := iblk m (ok m) c 2 t
def blk3 (c : Dev nD) (t : Fin grid0.N) : Vec Ideal S176x1024 .f32 := iblk m (ok m) c 3 t
def blk4 (c : Dev nD) (t : Fin grid0.N) : Vec Ideal S176x1024 .f32 := iblk m (ok m) c 4 t

theorem out5 (c : Dev nD) (i : grid0.Coords) (a3 h3 a4 h4 a5 h5 a6 h6 a7 h7 a8 h8 a9 h9 a10 h10 a11 h11) (x0 x1 x2 x3 x4) (k : Vec Ideal S1 .i32) :
    out0_A_5 (F := Ideal) c i a3 h3 a4 h4 a5 h5 a6 h6 a7 h7 a8 h8 a9 h9 a10 h10 a11 h11 x0 x1 x2 x3 x4 k = k0_pay1 (F := Ideal) i (word k) x1 x2 := by
  unfold out0_A_5
  rw [View.read_writes_eq_canon _ _ _ (cover0_A_5 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S176x1024) hz2]
  refine congrArg (fun q => k0_pay1 (F := Ideal) i q x1 x2) ?_
  unfold word
  exact congrArg k (one _ _)

theorem outs5 (c : Dev nD) (t : Fin grid0.N) : (outsAt0 m (ok m) c t).1 = k0_pay1 (F := Ideal) (grid0.coords t) (key m) (blk1 m c t) (blk2 m c t) := by
  unfold outsAt0
  dsimp only
  exact out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out6 (c : Dev nD) (i : grid0.Coords) (a3 h3 a4 h4 a5 h5 a6 h6 a7 h7 a8 h8 a9 h9 a10 h10 a11 h11) (x0 x1 x2 x3 x4) (k : Vec Ideal S1 .i32) :
    out0_A_6 (F := Ideal) c i a3 h3 a4 h4 a5 h5 a6 h6 a7 h7 a8 h8 a9 h9 a10 h10 a11 h11 x0 x1 x2 x3 x4 k = k0_pay4 (F := Ideal) i (word k) x1 x2 x3 x4 x0 := by
  unfold out0_A_6
  rw [View.read_writes_eq_canon _ _ _ (cover0_A_6 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S176x1024) hz2]
  refine congrArg (fun q => k0_pay4 (F := Ideal) i q x1 x2 x3 x4 x0) ?_
  unfold word
  exact congrArg k (one _ _)

theorem outs6 (c : Dev nD) (t : Fin grid0.N) : (outsAt0 m (ok m) c t).2.1 = k0_pay4 (F := Ideal) (grid0.coords t) (key m) (blk1 m c t) (blk2 m c t) (blk3 m c t) (blk4 m c t) (blk0 m c t) := by
  unfold outsAt0
  dsimp only
  exact out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out7 (c : Dev nD) (i : grid0.Coords) (a3 h3 a4 h4 a5 h5 a6 h6 a7 h7 a8 h8 a9 h9 a10 h10 a11 h11) (x0 x1 x2 x3 x4) (k : Vec Ideal S1 .i32) :
    out0_A_7 (F := Ideal) c i a3 h3 a4 h4 a5 h5 a6 h6 a7 h7 a8 h8 a9 h9 a10 h10 a11 h11 x0 x1 x2 x3 x4 k = k0_pay2 (F := Ideal) i (word k) x1 x2 x3 := by
  unfold out0_A_7
  rw [View.read_writes_eq_canon _ _ _ (cover0_A_7 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S176x1024) hz2]
  refine congrArg (fun q => k0_pay2 (F := Ideal) i q x1 x2 x3) ?_
  unfold word
  exact congrArg k (one _ _)

theorem outs7 (c : Dev nD) (t : Fin grid0.N) : (outsAt0 m (ok m) c t).2.2.1 = k0_pay2 (F := Ideal) (grid0.coords t) (key m) (blk1 m c t) (blk2 m c t) (blk3 m c t) := by
  unfold outsAt0
  dsimp only
  exact out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out8 (c : Dev nD) (i : grid0.Coords) (a3 h3 a4 h4 a5 h5 a6 h6 a7 h7 a8 h8 a9 h9 a10 h10 a11 h11) (x0 x1 x2 x3 x4) (k : Vec Ideal S1 .i32) :
    out0_A_8 (F := Ideal) c i a3 h3 a4 h4 a5 h5 a6 h6 a7 h7 a8 h8 a9 h9 a10 h10 a11 h11 x0 x1 x2 x3 x4 k = k0_pay3 (F := Ideal) i (word k) x1 x2 x4 := by
  unfold out0_A_8
  rw [View.read_writes_eq_canon _ _ _ (cover0_A_8 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S176x1024) hz2]
  refine congrArg (fun q => k0_pay3 (F := Ideal) i q x1 x2 x4) ?_
  unfold word
  exact congrArg k (one _ _)

theorem outs8 (c : Dev nD) (t : Fin grid0.N) : (outsAt0 m (ok m) c t).2.2.2 = k0_pay3 (F := Ideal) (grid0.coords t) (key m) (blk1 m c t) (blk2 m c t) (blk4 m c t) := by
  unfold outsAt0
  dsimp only
  exact out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

/-! ## The blocks' entries in the arrays -/

/-- The word, read from the memory. -/
theorem key_eq (c : Dev nD) : key m = word (m ((c : Thread nD τ).loc main_arg0)) := by
  have h : c = (0 : Dev nD) := Subsingleton.elim _ _
  subst h
  unfold key tbl
  exact congrArg word (V_main_arg0 m 0)

theorem blk0_at (c : Dev nD) (t : Fin grid0.N) (y : S176x1024.Idx) :
    blk0 m c t y = (m ((c : Thread nD τ).loc main_arg1) : S704x1024.Idx → EReal) (place t y) := by
  unfold blk0 iblk
  exact congrArg (m ((c : Thread nD τ).loc main_arg1) : S704x1024.Idx → EReal) (emb0 (ok' m) t y)

theorem blk1_at (c : Dev nD) (t : Fin grid0.N) (y : S176x1024.Idx) :
    blk1 m c t y = (m ((c : Thread nD τ).loc main_arg2) : S352x1024.Idx → EReal) (placeHalf t y) := by
  unfold blk1 iblk
  exact congrArg (m ((c : Thread nD τ).loc main_arg2) : S352x1024.Idx → EReal) (emb1 (ok' m) t y)

theorem blk2_at (c : Dev nD) (t : Fin grid0.N) (y : S176x1024.Idx) :
    blk2 m c t y = (m ((c : Thread nD τ).loc main_arg3) : S352x1024.Idx → EReal) (placeHalf t y) := by
  unfold blk2 iblk
  exact congrArg (m ((c : Thread nD τ).loc main_arg3) : S352x1024.Idx → EReal) (emb2 (ok' m) t y)

theorem blk3_at (c : Dev nD) (t : Fin grid0.N) (y : S176x1024.Idx) :
    blk3 m c t y = (m ((c : Thread nD τ).loc main_arg4) : S704x1024.Idx → EReal) (place t y) := by
  unfold blk3 iblk
  exact congrArg (m ((c : Thread nD τ).loc main_arg4) : S704x1024.Idx → EReal) (emb3 (ok' m) t y)

theorem blk4_at (c : Dev nD) (t : Fin grid0.N) (y : S176x1024.Idx) :
    blk4 m c t y = (m ((c : Thread nD τ).loc main_arg5) : S704x1024.Idx → EReal) (place t y) := by
  unfold blk4 iblk
  exact congrArg (m ((c : Thread nD τ).loc main_arg5) : S704x1024.Idx → EReal) (emb4 (ok' m) t y)

/-- The gradient's block is the gradient's rows at its place. -/
theorem grad_at (c : Dev nD) (t : Fin grid0.N) (y : S176x1024.Idx) :
    k0_pay1 (F := Ideal) (grid0.coords t) (key m) (blk1 m c t) (blk2 m c t) y = grad (m ((c : Thread nD τ).loc main_arg0)) (m ((c : Thread nD τ).loc main_arg2)) (m ((c : Thread nD τ).loc main_arg3)) (place t y) := by
  have ht : t.val < 4 := lt_of_lt_of_eq t.isLt N_0
  have hy : (y 0).val < 176 := (y 0).isLt
  have hd : (place t y 0).val / 352 = t.val / 2 := by show (t.val * 176 + (y 0).val) / 352 = _; omega
  have hm : (place t y 0).val % 352 = t.val % 2 * 176 + (y 0).val := by show (t.val * 176 + (y 0).val) % 352 = _; omega
  have hp : (ix2 ⟨(place t y 0).val % 352, Nat.mod_lt _ (by decide)⟩ (place t y 1) : S352x1024.Idx) = placeHalf t y := by
    funext k; apply Fin.ext; fin_cases k
    · exact hm
    · rfl
  rw [pay1, blk1_at, blk2_at, side, key_eq m c]
  unfold grad
  rw [hp, hd]

theorem moment1_at (c : Dev nD) (t : Fin grid0.N) (y : S176x1024.Idx) :
    k0_pay2 (F := Ideal) (grid0.coords t) (key m) (blk1 m c t) (blk2 m c t) (blk3 m c t) y = moment1 (m ((c : Thread nD τ).loc main_arg0)) (m ((c : Thread nD τ).loc main_arg2)) (m ((c : Thread nD τ).loc main_arg3)) (m ((c : Thread nD τ).loc main_arg4)) (place t y) := by
  rw [pay2, grad_at, blk3_at]; rfl

theorem moment2_at (c : Dev nD) (t : Fin grid0.N) (y : S176x1024.Idx) :
    k0_pay3 (F := Ideal) (grid0.coords t) (key m) (blk1 m c t) (blk2 m c t) (blk4 m c t) y = moment2 (m ((c : Thread nD τ).loc main_arg0)) (m ((c : Thread nD τ).loc main_arg2)) (m ((c : Thread nD τ).loc main_arg3)) (m ((c : Thread nD τ).loc main_arg5)) (place t y) := by
  rw [pay3, grad_at, blk4_at]; rfl

theorem change_at (c : Dev nD) (t : Fin grid0.N) (y : S176x1024.Idx) :
    k0_pay4 (F := Ideal) (grid0.coords t) (key m) (blk1 m c t) (blk2 m c t) (blk3 m c t) (blk4 m c t) (blk0 m c t) y = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (place t y) := by
  rw [pay4, moment1_at, moment2_at, blk0_at]; rfl

/-! ## The result arrays after the run -/

theorem final5 (c : Dev nD) : (dats m (ok m) 0 c).arrAt 5 (cfgM m (ok m)).N = grad (m ((c : Thread nD τ).loc main_arg0)) (m ((c : Thread nD τ).loc main_arg2)) (m ((c : Thread nD τ).loc main_arg3)) := by
  refine (dats m (ok m) 0 c).arrAt_eq_of_covers 5 _ (covers5 _) fun t hf y => ?_
  rw [after0_5, outs5 m c t]
  exact (grad_at m c t y).trans (congrArg (grad (m ((c : Thread nD τ).loc main_arg0)) (m ((c : Thread nD τ).loc main_arg2)) (m ((c : Thread nD τ).loc main_arg3))) (emb5 (ok' m) t y).symm)

theorem final6 (c : Dev nD) : (dats m (ok m) 0 c).arrAt 6 (cfgM m (ok m)).N = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) := by
  refine (dats m (ok m) 0 c).arrAt_eq_of_covers 6 _ (covers6 _) fun t hf y => ?_
  rw [after0_6, outs6 m c t]
  exact (change_at m c t y).trans (congrArg (change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))) (emb6 (ok' m) t y).symm)

theorem final7 (c : Dev nD) : (dats m (ok m) 0 c).arrAt 7 (cfgM m (ok m)).N = moment1 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (covers7 _) fun t hf y => ?_
  rw [after0_7, outs7 m c t]
  exact (moment1_at m c t y).trans (congrArg (moment1 (m ((c : Thread nD τ).loc main_arg0)) (m ((c : Thread nD τ).loc main_arg2)) (m ((c : Thread nD τ).loc main_arg3)) (m ((c : Thread nD τ).loc main_arg4))) (emb7 (ok' m) t y).symm)

theorem final8 (c : Dev nD) : (dats m (ok m) 0 c).arrAt 8 (cfgM m (ok m)).N = moment2 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (covers8 _) fun t hf y => ?_
  rw [after0_8, outs8 m c t]
  exact (moment2_at m c t y).trans (congrArg (moment2 (m ((c : Thread nD τ).loc main_arg0)) (m ((c : Thread nD τ).loc main_arg2)) (m ((c : Thread nD τ).loc main_arg3)) (m ((c : Thread nD τ).loc main_arg5))) (emb8 (ok' m) t y).symm)

/-- The run's end: the results at their arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg2)) (m ((c : Thread nD τ).loc main_arg3))
      ∧ r.2.mem ((c : Thread nD τ).loc main_v0_1) = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))
      ∧ r.2.mem ((c : Thread nD τ).loc main_v0_2) = moment1 (m ((c : Thread nD τ).loc main_arg0)) (m ((c : Thread nD τ).loc main_arg2)) (m ((c : Thread nD τ).loc main_arg3)) (m ((c : Thread nD τ).loc main_arg4))
      ∧ r.2.mem ((c : Thread nD τ).loc main_v0_3) = moment2 (m ((c : Thread nD τ).loc main_arg0)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨((hr c).1 5).trans (final5 m c), ((hr c).1 6).trans (final6 m c),
      ((hr c).1 7).trans (final7 m c), ((hr c).1 8).trans (final8 m c),
      (hr c).2 main_arg0 (by decide : main_arg0 ∈ Pipeline.restRefs sig spec0),
      ((hr c).1 0).trans ((dats m (ok m) 0 c).arrAt_in 0 rfl _),
      ((hr c).1 1).trans ((dats m (ok m) 0 c).arrAt_in 1 rfl _),
      ((hr c).1 2).trans ((dats m (ok m) 0 c).arrAt_in 2 rfl _),
      ((hr c).1 3).trans ((dats m (ok m) 0 c).arrAt_in 3 rfl _),
      ((hr c).1 4).trans ((dats m (ok m) 0 c).arrAt_in 4 rfl _)⟩)
    (run_main m ρ (ok m))

end Cert.AdamDownIdeal.Ad

end
-- ==== Proof.Ad.AdamSmall.lean ====
/- One AdamW step on the array of the small leaves, packed in rows: what the call leaves in its four result arrays. -/
module

public import proofs.«01_k».proof.Proof.Gen.AdamSmallIdeal.Frame
public import proofs.«01_k».proof.Proof.Ad.Step
public import Idealize.ShloMosaic.Lib.Pipeline.ValueKit
public import Idealize.ShloMosaic.Lib.Pipeline.ReadBack
public import Idealize.ShloMosaic.Lib.Claim

@[expose] public section

set_option maxRecDepth 16384

noncomputable section

namespace Cert.AdamSmallIdeal.Ad

open Cert.AdamSmallIdeal Cert.AdamSmallIdeal.Gen
open Idealize.ShloMosaic Idealize.ShloMosaic.TcCoe Idealize.SL.Sem
open Idealize.ShloMosaic.Pipeline (Dat)

variable (m : (ℓ : Loc nD τ sig) → Buf (Elt Ideal) ℓ)

/-- No index map reads the table. -/
theorem ok : Ok m := trivial

/-- The table as the memory holds it. -/
def ok' : (pcfg0 (F := Ideal)).Adm := adm m (ok m)

/-! ## The arrays that the call is to leave -/

/-- The table's one word: which half of the gradient's rows the core has summed itself. -/
def word (k : S1.Idx → BitVec 32) : BitVec 32 := k (Shape.Idx.first (s := S1) (by decide))

/-- The gradient, put together of the half that the core holds and the half that came to it. -/
def grad (k : S1.Idx → BitVec 32) (own other : FVec Ideal S72x128 .f32) : FVec Ideal S144x128 .f32 := fun j =>
  if BitVec.ofNat 32 ((j 0).val / 72) = word k then own (ix2 ⟨(j 0).val % 72, Nat.mod_lt _ (by decide)⟩ (j 1))
  else other (ix2 ⟨(j 0).val % 72, Nat.mod_lt _ (by decide)⟩ (j 1))

/-- The new first moments. -/
def moment1 (k : S1.Idx → BitVec 32) (own other : FVec Ideal S72x128 .f32) (x : FVec Ideal S144x128 .f32) : FVec Ideal S144x128 .f32 :=
  fun j => Adam.first (x j) (grad k own other j)

/-- The new second moments. -/
def moment2 (k : S1.Idx → BitVec 32) (own other : FVec Ideal S72x128 .f32) (x : FVec Ideal S144x128 .f32) : FVec Ideal S144x128 .f32 :=
  fun j => Adam.second (x j) (grad k own other j)

/-- The change of the weight. -/
def change (k : S1.Idx → BitVec 32) (own other : FVec Ideal S72x128 .f32) (w x y : FVec Ideal S144x128 .f32) : FVec Ideal S144x128 .f32 :=
  fun j => Adam.change (w j) (moment1 k own other x j) (moment2 k own other y j)

/-! ## Where the blocks lie -/

/-- Where each grid point's blocks lie. -/
theorem idx (a : (pcfg0 (F := Ideal)).Adm) : ∀ t : Fin grid0.N, (win0 a 0).index t = ![t.val, 0] ∧ (win0 a 1).index t = ![0, 0] ∧ (win0 a 2).index t = ![0, 0]
    ∧ (win0 a 3).index t = ![t.val, 0] ∧ (win0 a 4).index t = ![t.val, 0] ∧ (win0 a 5).index t = ![t.val, 0]
    ∧ (win0 a 6).index t = ![t.val, 0] ∧ (win0 a 7).index t = ![t.val, 0] ∧ (win0 a 8).index t = ![t.val, 0] :=
  (by decide +kernel : ∀ t : Fin grid0.N, cc0_transform_0 (grid0.coords t) = ![t.val, 0] ∧ cc0_transform_1 (grid0.coords t) = ![0, 0] ∧ cc0_transform_2 (grid0.coords t) = ![0, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0])

/-- The half of the rows that a grid point works on. -/
theorem side : ∀ t : Fin grid0.N, ((grid0.coords t) 0).val = t.val / 1 := by decide +kernel

/-- The place in the array of a block's entry. -/
def place (t : Fin grid0.N) (y : S72x128.Idx) : S144x128.Idx :=
  ix2 ⟨t.val * 72 + (y 0).val, by have h : t.val < 2 := lt_of_lt_of_eq t.isLt N_0; have hy : (y 0).val < 72 := (y 0).isLt; omega⟩ (y 1)

/-- The place in its half of the rows. -/
def placeHalf (t : Fin grid0.N) (y : S72x128.Idx) : S72x128.Idx :=
  ix2 ⟨t.val % 1 * 72 + (y 0).val, by have h := Nat.mod_lt t.val (show 0 < 1 by decide); have hy : (y 0).val < 72 := (y 0).isLt; omega⟩ (y 1)

theorem emb0 (a : (pcfg0 (F := Ideal)).Adm) (t : Fin grid0.N) (y : S72x128.Idx) : (((win0 a 0).rect t).emb y : S144x128.Idx) = place t y := by
  have h : ∀ k : Fin 2, ((((win0 a 0).rect t).emb y : S144x128.Idx) k : Nat) = (win0 a 0).index t k * (win0 a 0).size k + (y k : Nat) := fun k =>
    Pipeline.Window.rect_emb_val (win0 a 0) t y k rfl
  have e := (idx a t).1
  funext k; apply Fin.ext; refine (h k).trans ?_; rw [e]; fin_cases k
  · rfl
  · exact Nat.zero_add _

theorem emb1 (a : (pcfg0 (F := Ideal)).Adm) (t : Fin grid0.N) (y : S72x128.Idx) : (((win0 a 1).rect t).emb y : S72x128.Idx) = placeHalf t y := by
  have h : ∀ k : Fin 2, ((((win0 a 1).rect t).emb y : S72x128.Idx) k : Nat) = (win0 a 1).index t k * (win0 a 1).size k + (y k : Nat) := fun k =>
    Pipeline.Window.rect_emb_val (win0 a 1) t y k rfl
  have e := (idx a t).2.1
  funext k; apply Fin.ext; refine (h k).trans ?_; rw [e]; fin_cases k
  · show 0 * 72 + (y 0).val = t.val % 1 * 72 + (y 0).val; rw [Nat.mod_one]
  · exact Nat.zero_add _

theorem emb2 (a : (pcfg0 (F := Ideal)).Adm) (t : Fin grid0.N) (y : S72x128.Idx) : (((win0 a 2).rect t).emb y : S72x128.Idx) = placeHalf t y := by
  have h : ∀ k : Fin 2, ((((win0 a 2).rect t).emb y : S72x128.Idx) k : Nat) = (win0 a 2).index t k * (win0 a 2).size k + (y k : Nat) := fun k =>
    Pipeline.Window.rect_emb_val (win0 a 2) t y k rfl
  have e := (idx a t).2.2.1
  funext k; apply Fin.ext; refine (h k).trans ?_; rw [e]; fin_cases k
  · show 0 * 72 + (y 0).val = t.val % 1 * 72 + (y 0).val; rw [Nat.mod_one]
  · exact Nat.zero_add _

theorem emb3 (a : (pcfg0 (F := Ideal)).Adm) (t : Fin grid0.N) (y : S72x128.Idx) : (((win0 a 3).rect t).emb y : S144x128.Idx) = place t y := by
  have h : ∀ k : Fin 2, ((((win0 a 3).rect t).emb y : S144x128.Idx) k : Nat) = (win0 a 3).index t k * (win0 a 3).size k + (y k : Nat) := fun k =>
    Pipeline.Window.rect_emb_val (win0 a 3) t y k rfl
  have e := (idx a t).2.2.2.1
  funext k; apply Fin.ext; refine (h k).trans ?_; rw [e]; fin_cases k
  · rfl
  · exact Nat.zero_add _

theorem emb4 (a : (pcfg0 (F := Ideal)).Adm) (t : Fin grid0.N) (y : S72x128.Idx) : (((win0 a 4).rect t).emb y : S144x128.Idx) = place t y := by
  have h : ∀ k : Fin 2, ((((win0 a 4).rect t).emb y : S144x128.Idx) k : Nat) = (win0 a 4).index t k * (win0 a 4).size k + (y k : Nat) := fun k =>
    Pipeline.Window.rect_emb_val (win0 a 4) t y k rfl
  have e := (idx a t).2.2.2.2.1
  funext k; apply Fin.ext; refine (h k).trans ?_; rw [e]; fin_cases k
  · rfl
  · exact Nat.zero_add _

theorem emb5 (a : (pcfg0 (F := Ideal)).Adm) (t : Fin grid0.N) (y : S72x128.Idx) : (((win0 a 5).rect t).emb y : S144x128.Idx) = place t y := by
  have h : ∀ k : Fin 2, ((((win0 a 5).rect t).emb y : S144x128.Idx) k : Nat) = (win0 a 5).index t k * (win0 a 5).size k + (y k : Nat) := fun k =>
    Pipeline.Window.rect_emb_val (win0 a 5) t y k rfl
  have e := (idx a t).2.2.2.2.2.1
  funext k; apply Fin.ext; refine (h k).trans ?_; rw [e]; fin_cases k
  · rfl
  · exact Nat.zero_add _

theorem emb6 (a : (pcfg0 (F := Ideal)).Adm) (t : Fin grid0.N) (y : S72x128.Idx) : (((win0 a 6).rect t).emb y : S144x128.Idx) = place t y := by
  have h : ∀ k : Fin 2, ((((win0 a 6).rect t).emb y : S144x128.Idx) k : Nat) = (win0 a 6).index t k * (win0 a 6).size k + (y k : Nat) := fun k =>
    Pipeline.Window.rect_emb_val (win0 a 6) t y k rfl
  have e := (idx a t).2.2.2.2.2.2.1
  funext k; apply Fin.ext; refine (h k).trans ?_; rw [e]; fin_cases k
  · rfl
  · exact Nat.zero_add _

theorem emb7 (a : (pcfg0 (F := Ideal)).Adm) (t : Fin grid0.N) (y : S72x128.Idx) : (((win0 a 7).rect t).emb y : S144x128.Idx) = place t y := by
  have h : ∀ k : Fin 2, ((((win0 a 7).rect t).emb y : S144x128.Idx) k : Nat) = (win0 a 7).index t k * (win0 a 7).size k + (y k : Nat) := fun k =>
    Pipeline.Window.rect_emb_val (win0 a 7) t y k rfl
  have e := (idx a t).2.2.2.2.2.2.2.1
  funext k; apply Fin.ext; refine (h k).trans ?_; rw [e]; fin_cases k
  · rfl
  · exact Nat.zero_add _

theorem emb8 (a : (pcfg0 (F := Ideal)).Adm) (t : Fin grid0.N) (y : S72x128.Idx) : (((win0 a 8).rect t).emb y : S144x128.Idx) = place t y := by
  have h : ∀ k : Fin 2, ((((win0 a 8).rect t).emb y : S144x128.Idx) k : Nat) = (win0 a 8).index t k * (win0 a 8).size k + (y k : Nat) := fun k =>
    Pipeline.Window.rect_emb_val (win0 a 8) t y k rfl
  have e := (idx a t).2.2.2.2.2.2.2.2
  funext k; apply Fin.ext; refine (h k).trans ?_; rw [e]; fin_cases k
  · rfl
  · exact Nat.zero_add _

/-- A table to decide facts of the windows at, none of which reads it. -/
def a0 : (pcfg0 (F := Ideal)).Adm := ⟨fun | ⟨0, _⟩ => fun _ => (0 : BitVec 32), trivial⟩

theorem covers5 (a : (pcfg0 (F := Ideal)).Adm) : ((cfg0 a).win 5).Covers := (by decide +kernel : ((cfg0 a0).win 5).Covers)
theorem covers6 (a : (pcfg0 (F := Ideal)).Adm) : ((cfg0 a).win 6).Covers := (by decide +kernel : ((cfg0 a0).win 6).Covers)
theorem covers7 (a : (pcfg0 (F := Ideal)).Adm) : ((cfg0 a).win 7).Covers := (by decide +kernel : ((cfg0 a0).win 7).Covers)
theorem covers8 (a : (pcfg0 (F := Ideal)).Adm) : ((cfg0 a).win 8).Covers := (by decide +kernel : ((cfg0 a0).win 8).Covers)

/-! ## What the body leaves in its blocks -/

theorem hz2 : (![0, 0] : Fin 2 → Nat) = fun _ => 0 := by funext k; fin_cases k <;> rfl

theorem one (a b : S1.Idx) : a = b := by
  funext k; fin_cases k; exact Subsingleton.elim (α := Fin 1) _ _

/-- The gradient's entry that the body selects. -/
theorem pay1 (i : grid0.Coords) (k : BitVec 32) (x y : Vec Ideal S72x128 .f32) (j : S72x128.Idx) :
    k0_pay1 (F := Ideal) i k x y j = if BitVec.ofNat 32 (i 0).val = k then x j else y j := by
  unfold k0_pay1
  simp only [Scalar.select, Scalar.cmpi, IntOp.cmpi]
  by_cases h : BitVec.ofNat 32 (i 0).val = k
  · simp [h]
  · have : (BitVec.ofNat 32 (i 0).val == k) = false := by simpa using h
    simp [h, this]

theorem pay2 (i : grid0.Coords) (k : BitVec 32) (x y z : Vec Ideal S72x128 .f32) (j : S72x128.Idx) :
    k0_pay2 (F := Ideal) i k x y z j = Adam.first (z j) (k0_pay1 (F := Ideal) i k x y j) := by
  pointwise [k0_pay2, Adam.first]

theorem pay3 (i : grid0.Coords) (k : BitVec 32) (x y z : Vec Ideal S72x128 .f32) (j : S72x128.Idx) :
    k0_pay3 (F := Ideal) i k x y z j = Adam.second (z j) (k0_pay1 (F := Ideal) i k x y j) := by
  pointwise [k0_pay3, Adam.second]

theorem named_first : Named.named (F := Ideal) Cert.AdamSmallIdeal.κ "first" (φ := .f32) 0x3FC48605#32 = (((5463681 / 8388608)⁻¹ : ℝ) : EReal) :=
  IdealRules.named_const.ideal_named_scalar _ _ _ _ rfl

theorem named_second : Named.named (F := Ideal) Cert.AdamSmallIdeal.κ "second" (φ := .f32) 0x42C8E6D3#32 = (((2672307 / 268435456)⁻¹ : ℝ) : EReal) :=
  IdealRules.named_const.ideal_named_scalar _ _ _ _ rfl

theorem pay4 (i : grid0.Coords) (k : BitVec 32) (x y z u w : Vec Ideal S72x128 .f32) (j : S72x128.Idx) :
    k0_pay4 (F := Ideal) i k x y z u w j = Adam.change (w j) (k0_pay2 (F := Ideal) i k x y z j) (k0_pay3 (F := Ideal) i k x y u j) := by
  pointwise [k0_pay4, Adam.change, named_first, named_second]

/-- The word and the input blocks of a grid point. -/
def key : BitVec 32 := word (tbl m 0)
def blk0 (c : Dev nD) (t : Fin grid0.N) : Vec Ideal S72x128 .f32 := iblk m (ok m) c 0 t
def blk1 (c : Dev nD) (t : Fin grid0.N) : Vec Ideal S72x128 .f32 := iblk m (ok m) c 1 t
def blk2 (c : Dev nD) (t : Fin grid0.N) : Vec Ideal S72x128 .f32 := iblk m (ok m) c 2 t
def blk3 (c : Dev nD) (t : Fin grid0.N) : Vec Ideal S72x128 .f32 := iblk m (ok m) c 3 t
def blk4 (c : Dev nD) (t : Fin grid0.N) : Vec Ideal S72x128 .f32 := iblk m (ok m) c 4 t

theorem out5 (c : Dev nD) (i : grid0.Coords) (a3 h3 a4 h4 a5 h5 a6 h6 a7 h7 a8 h8 a9 h9 a10 h10 a11 h11) (x0 x1 x2 x3 x4) (k : Vec Ideal S1 .i32) :
    out0_A_5 (F := Ideal) c i a3 h3 a4 h4 a5 h5 a6 h6 a7 h7 a8 h8 a9 h9 a10 h10 a11 h11 x0 x1 x2 x3 x4 k = k0_pay1 (F := Ideal) i (word k) x1 x2 := by
  unfold out0_A_5
  rw [View.read_writes_eq_canon _ _ _ (cover0_A_5 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S72x128) hz2]
  refine congrArg (fun q => k0_pay1 (F := Ideal) i q x1 x2) ?_
  unfold word
  exact congrArg k (one _ _)

theorem outs5 (c : Dev nD) (t : Fin grid0.N) : (outsAt0 m (ok m) c t).1 = k0_pay1 (F := Ideal) (grid0.coords t) (key m) (blk1 m c t) (blk2 m c t) := by
  unfold outsAt0
  dsimp only
  exact out5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out6 (c : Dev nD) (i : grid0.Coords) (a3 h3 a4 h4 a5 h5 a6 h6 a7 h7 a8 h8 a9 h9 a10 h10 a11 h11) (x0 x1 x2 x3 x4) (k : Vec Ideal S1 .i32) :
    out0_A_6 (F := Ideal) c i a3 h3 a4 h4 a5 h5 a6 h6 a7 h7 a8 h8 a9 h9 a10 h10 a11 h11 x0 x1 x2 x3 x4 k = k0_pay4 (F := Ideal) i (word k) x1 x2 x3 x4 x0 := by
  unfold out0_A_6
  rw [View.read_writes_eq_canon _ _ _ (cover0_A_6 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S72x128) hz2]
  refine congrArg (fun q => k0_pay4 (F := Ideal) i q x1 x2 x3 x4 x0) ?_
  unfold word
  exact congrArg k (one _ _)

theorem outs6 (c : Dev nD) (t : Fin grid0.N) : (outsAt0 m (ok m) c t).2.1 = k0_pay4 (F := Ideal) (grid0.coords t) (key m) (blk1 m c t) (blk2 m c t) (blk3 m c t) (blk4 m c t) (blk0 m c t) := by
  unfold outsAt0
  dsimp only
  exact out6 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out7 (c : Dev nD) (i : grid0.Coords) (a3 h3 a4 h4 a5 h5 a6 h6 a7 h7 a8 h8 a9 h9 a10 h10 a11 h11) (x0 x1 x2 x3 x4) (k : Vec Ideal S1 .i32) :
    out0_A_7 (F := Ideal) c i a3 h3 a4 h4 a5 h5 a6 h6 a7 h7 a8 h8 a9 h9 a10 h10 a11 h11 x0 x1 x2 x3 x4 k = k0_pay2 (F := Ideal) i (word k) x1 x2 x3 := by
  unfold out0_A_7
  rw [View.read_writes_eq_canon _ _ _ (cover0_A_7 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S72x128) hz2]
  refine congrArg (fun q => k0_pay2 (F := Ideal) i q x1 x2 x3) ?_
  unfold word
  exact congrArg k (one _ _)

theorem outs7 (c : Dev nD) (t : Fin grid0.N) : (outsAt0 m (ok m) c t).2.2.1 = k0_pay2 (F := Ideal) (grid0.coords t) (key m) (blk1 m c t) (blk2 m c t) (blk3 m c t) := by
  unfold outsAt0
  dsimp only
  exact out7 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

theorem out8 (c : Dev nD) (i : grid0.Coords) (a3 h3 a4 h4 a5 h5 a6 h6 a7 h7 a8 h8 a9 h9 a10 h10 a11 h11) (x0 x1 x2 x3 x4) (k : Vec Ideal S1 .i32) :
    out0_A_8 (F := Ideal) c i a3 h3 a4 h4 a5 h5 a6 h6 a7 h7 a8 h8 a9 h9 a10 h10 a11 h11 x0 x1 x2 x3 x4 k = k0_pay3 (F := Ideal) i (word k) x1 x2 x4 := by
  unfold out0_A_8
  rw [View.read_writes_eq_canon _ _ _ (cover0_A_8 c i a3 h3 a4 h4 a5 h5 a6 h6 a7 h7 a8 h8 a9 h9 a10 h10 a11 h11 x0 x1 x2 x3 x4 k)]
  unfold kernelRun0_A
  dsimp only
  sl_unfold_words
  rw [View.canon_unit_zero hz2]
  simp only [View.readAt_eq_ld, h3.read_unread, h4.read_unread, h5.read_unread, h6.read_unread, h7.read_unread, View.ld_unit_zero (S := S72x128) hz2]
  refine congrArg (fun q => k0_pay3 (F := Ideal) i q x1 x2 x4) ?_
  unfold word
  exact congrArg k (one _ _)

theorem outs8 (c : Dev nD) (t : Fin grid0.N) : (outsAt0 m (ok m) c t).2.2.2 = k0_pay3 (F := Ideal) (grid0.coords t) (key m) (blk1 m c t) (blk2 m c t) (blk4 m c t) := by
  unfold outsAt0
  dsimp only
  exact out8 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t) (ms0_6 m (ok m) t) (hs0_6 m (ok m) t) (ms0_7 m (ok m) t) (hs0_7 m (ok m) t) (ms0_8 m (ok m) t) (hs0_8 m (ok m) t) (iblk m (ok m) c 0 t) (iblk m (ok m) c 1 t) (iblk m (ok m) c 2 t) (iblk m (ok m) c 3 t) (iblk m (ok m) c 4 t) (tbl m 0)

/-! ## The blocks' entries in the arrays -/

/-- The word, read from the memory. -/
theorem key_eq (c : Dev nD) : key m = word (m ((c : Thread nD τ).loc main_arg0)) := by
  have h : c = (0 : Dev nD) := Subsingleton.elim _ _
  subst h
  unfold key tbl
  exact congrArg word (V_main_arg0 m 0)

theorem blk0_at (c : Dev nD) (t : Fin grid0.N) (y : S72x128.Idx) :
    blk0 m c t y = (m ((c : Thread nD τ).loc main_arg1) : S144x128.Idx → EReal) (place t y) := by
  unfold blk0 iblk
  exact congrArg (m ((c : Thread nD τ).loc main_arg1) : S144x128.Idx → EReal) (emb0 (ok' m) t y)

theorem blk1_at (c : Dev nD) (t : Fin grid0.N) (y : S72x128.Idx) :
    blk1 m c t y = (m ((c : Thread nD τ).loc main_arg2) : S72x128.Idx → EReal) (placeHalf t y) := by
  unfold blk1 iblk
  exact congrArg (m ((c : Thread nD τ).loc main_arg2) : S72x128.Idx → EReal) (emb1 (ok' m) t y)

theorem blk2_at (c : Dev nD) (t : Fin grid0.N) (y : S72x128.Idx) :
    blk2 m c t y = (m ((c : Thread nD τ).loc main_arg3) : S72x128.Idx → EReal) (placeHalf t y) := by
  unfold blk2 iblk
  exact congrArg (m ((c : Thread nD τ).loc main_arg3) : S72x128.Idx → EReal) (emb2 (ok' m) t y)

theorem blk3_at (c : Dev nD) (t : Fin grid0.N) (y : S72x128.Idx) :
    blk3 m c t y = (m ((c : Thread nD τ).loc main_arg4) : S144x128.Idx → EReal) (place t y) := by
  unfold blk3 iblk
  exact congrArg (m ((c : Thread nD τ).loc main_arg4) : S144x128.Idx → EReal) (emb3 (ok' m) t y)

theorem blk4_at (c : Dev nD) (t : Fin grid0.N) (y : S72x128.Idx) :
    blk4 m c t y = (m ((c : Thread nD τ).loc main_arg5) : S144x128.Idx → EReal) (place t y) := by
  unfold blk4 iblk
  exact congrArg (m ((c : Thread nD τ).loc main_arg5) : S144x128.Idx → EReal) (emb4 (ok' m) t y)

/-- The gradient's block is the gradient's rows at its place. -/
theorem grad_at (c : Dev nD) (t : Fin grid0.N) (y : S72x128.Idx) :
    k0_pay1 (F := Ideal) (grid0.coords t) (key m) (blk1 m c t) (blk2 m c t) y = grad (m ((c : Thread nD τ).loc main_arg0)) (m ((c : Thread nD τ).loc main_arg2)) (m ((c : Thread nD τ).loc main_arg3)) (place t y) := by
  have ht : t.val < 2 := lt_of_lt_of_eq t.isLt N_0
  have hy : (y 0).val < 72 := (y 0).isLt
  have hd : (place t y 0).val / 72 = t.val / 1 := by show (t.val * 72 + (y 0).val) / 72 = _; omega
  have hm : (place t y 0).val % 72 = t.val % 1 * 72 + (y 0).val := by show (t.val * 72 + (y 0).val) % 72 = _; omega
  have hp : (ix2 ⟨(place t y 0).val % 72, Nat.mod_lt _ (by decide)⟩ (place t y 1) : S72x128.Idx) = placeHalf t y := by
    funext k; apply Fin.ext; fin_cases k
    · exact hm
    · rfl
  rw [pay1, blk1_at, blk2_at, side, key_eq m c]
  unfold grad
  rw [hp, hd]

theorem moment1_at (c : Dev nD) (t : Fin grid0.N) (y : S72x128.Idx) :
    k0_pay2 (F := Ideal) (grid0.coords t) (key m) (blk1 m c t) (blk2 m c t) (blk3 m c t) y = moment1 (m ((c : Thread nD τ).loc main_arg0)) (m ((c : Thread nD τ).loc main_arg2)) (m ((c : Thread nD τ).loc main_arg3)) (m ((c : Thread nD τ).loc main_arg4)) (place t y) := by
  rw [pay2, grad_at, blk3_at]; rfl

theorem moment2_at (c : Dev nD) (t : Fin grid0.N) (y : S72x128.Idx) :
    k0_pay3 (F := Ideal) (grid0.coords t) (key m) (blk1 m c t) (blk2 m c t) (blk4 m c t) y = moment2 (m ((c : Thread nD τ).loc main_arg0)) (m ((c : Thread nD τ).loc main_arg2)) (m ((c : Thread nD τ).loc main_arg3)) (m ((c : Thread nD τ).loc main_arg5)) (place t y) := by
  rw [pay3, grad_at, blk4_at]; rfl

theorem change_at (c : Dev nD) (t : Fin grid0.N) (y : S72x128.Idx) :
    k0_pay4 (F := Ideal) (grid0.coords t) (key m) (blk1 m c t) (blk2 m c t) (blk3 m c t) (blk4 m c t) (blk0 m c t) y = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (place t y) := by
  rw [pay4, moment1_at, moment2_at, blk0_at]; rfl

/-! ## The result arrays after the run -/

theorem final5 (c : Dev nD) : (dats m (ok m) 0 c).arrAt 5 (cfgM m (ok m)).N = grad (m ((c : Thread nD τ).loc main_arg0)) (m ((c : Thread nD τ).loc main_arg2)) (m ((c : Thread nD τ).loc main_arg3)) := by
  refine (dats m (ok m) 0 c).arrAt_eq_of_covers 5 _ (covers5 _) fun t hf y => ?_
  rw [after0_5, outs5 m c t]
  exact (grad_at m c t y).trans (congrArg (grad (m ((c : Thread nD τ).loc main_arg0)) (m ((c : Thread nD τ).loc main_arg2)) (m ((c : Thread nD τ).loc main_arg3))) (emb5 (ok' m) t y).symm)

theorem final6 (c : Dev nD) : (dats m (ok m) 0 c).arrAt 6 (cfgM m (ok m)).N = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) := by
  refine (dats m (ok m) 0 c).arrAt_eq_of_covers 6 _ (covers6 _) fun t hf y => ?_
  rw [after0_6, outs6 m c t]
  exact (change_at m c t y).trans (congrArg (change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))) (emb6 (ok' m) t y).symm)

theorem final7 (c : Dev nD) : (dats m (ok m) 0 c).arrAt 7 (cfgM m (ok m)).N = moment1 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (covers7 _) fun t hf y => ?_
  rw [after0_7, outs7 m c t]
  exact (moment1_at m c t y).trans (congrArg (moment1 (m ((c : Thread nD τ).loc main_arg0)) (m ((c : Thread nD τ).loc main_arg2)) (m ((c : Thread nD τ).loc main_arg3)) (m ((c : Thread nD τ).loc main_arg4))) (emb7 (ok' m) t y).symm)

theorem final8 (c : Dev nD) : (dats m (ok m) 0 c).arrAt 8 (cfgM m (ok m)).N = moment2 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (covers8 _) fun t hf y => ?_
  rw [after0_8, outs8 m c t]
  exact (moment2_at m c t y).trans (congrArg (moment2 (m ((c : Thread nD τ).loc main_arg0)) (m ((c : Thread nD τ).loc main_arg2)) (m ((c : Thread nD τ).loc main_arg3)) (m ((c : Thread nD τ).loc main_arg5))) (emb8 (ok' m) t y).symm)

/-- The run's end: the results at their arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = grad (m ((c : Thread nD τ).loc main_arg0)) (m ((c : Thread nD τ).loc main_arg2)) (m ((c : Thread nD τ).loc main_arg3))
      ∧ r.2.mem ((c : Thread nD τ).loc main_v0_1) = change (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5))
      ∧ r.2.mem ((c : Thread nD τ).loc main_v0_2) = moment1 (m ((c : Thread nD τ).loc main_arg0)) (m ((c : Thread nD τ).loc main_arg2)) (m ((c : Thread nD τ).loc main_arg3)) (m ((c : Thread nD τ).loc main_arg4))
      ∧ r.2.mem ((c : Thread nD τ).loc main_v0_3) = moment2 (m ((c : Thread nD τ).loc main_arg0)) (m ((c : Thread nD τ).loc main_arg2)) (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ hr c => ⟨((hr c).1 5).trans (final5 m c), ((hr c).1 6).trans (final6 m c),
      ((hr c).1 7).trans (final7 m c), ((hr c).1 8).trans (final8 m c),
      (hr c).2 main_arg0 (by decide : main_arg0 ∈ Pipeline.restRefs sig spec0),
      ((hr c).1 0).trans ((dats m (ok m) 0 c).arrAt_in 0 rfl _),
      ((hr c).1 1).trans ((dats m (ok m) 0 c).arrAt_in 1 rfl _),
      ((hr c).1 2).trans ((dats m (ok m) 0 c).arrAt_in 2 rfl _),
      ((hr c).1 3).trans ((dats m (ok m) 0 c).arrAt_in 3 rfl _),
      ((hr c).1 4).trans ((dats m (ok m) 0 c).arrAt_in 4 rfl _)⟩)
    (run_main m ρ (ok m))

end Cert.AdamSmallIdeal.Ad

end
-- ==== Proof.Ad.Ties.lean ====
/- The optimiser calls' results are the references': entry by entry the same AdamW step. -/
module

public import proofs.«01_k».proof.Proof.Ad.AdamIn
public import proofs.«01_k».proof.Proof.Gen.AdamInRefIdeal
public import proofs.«01_k».proof.Proof.Ad.AdamBranch
public import proofs.«01_k».proof.Proof.Gen.AdamBranchRefIdeal
public import proofs.«01_k».proof.Proof.Ad.AdamOut
public import proofs.«01_k».proof.Proof.Gen.AdamOutRefIdeal
public import proofs.«01_k».proof.Proof.Ad.AdamUp
public import proofs.«01_k».proof.Proof.Gen.AdamUpRefIdeal
public import proofs.«01_k».proof.Proof.Ad.AdamDown
public import proofs.«01_k».proof.Proof.Gen.AdamDownRefIdeal
public import proofs.«01_k».proof.Proof.Ad.AdamSmall
public import proofs.«01_k».proof.Proof.Gen.AdamSmallRefIdeal
public import proofs.«01_k».proof.Defs
public import Idealize.ShloMosaic.Lib.Quiescent

@[expose] public section

set_option maxRecDepth 16384

noncomputable section

namespace Cert.Proof.Ad

open Idealize.ShloMosaic Idealize.SL.Sem

/-! ## AdamIn -/

/-- The half that the reference takes: the core's own where the table's word is the half's number. -/
theorem taken_AdamIn (k : Cert.AdamInIdeal.S1.Idx → BitVec 32) (b : BitVec 32) (own other : FVec Ideal Cert.AdamInIdeal.S512x1410 .f32) (h h') (j : Cert.AdamInIdeal.S512x1410.Idx) :
    select (broadcastInDim Cert.AdamInRefIdeal.S512x1410 ![] h (cmpi .eq (fun i => shapeCast Cert.AdamInRefIdeal.S_ k h' i) (constantI Cert.AdamInRefIdeal.S_ 32 b))) own other j
      = if b = Cert.AdamInIdeal.Ad.word k then own j else other j := by
  have e : shapeCast Cert.AdamInRefIdeal.S_ k h' = fun _ => Cert.AdamInIdeal.Ad.word k := by
    funext i; unfold Cert.AdamInIdeal.Ad.word shapeCast; exact congrArg k (Cert.AdamInIdeal.Ad.one _ _)
  show Scalar.select (IntOp.cmpi .eq (shapeCast Cert.AdamInRefIdeal.S_ k h' _) b) (own j) (other j) = _
  rw [e]
  simp only [Scalar.select, IntOp.cmpi]
  by_cases hb : b = Cert.AdamInIdeal.Ad.word k
  · simp [hb]
  · have hn : (Cert.AdamInIdeal.Ad.word k == b) = false := by simpa using fun h => hb h.symm
    simp [hb, hn]

/-- The reference's two halves, one upon the other, are the gradient. -/
theorem joined_AdamIn (k : Cert.AdamInIdeal.S1.Idx → BitVec 32) (own other L R : FVec Ideal Cert.AdamInIdeal.S512x1410 .f32) (h)
    (hL : ∀ j, L j = if 0#32 = Cert.AdamInIdeal.Ad.word k then own j else other j)
    (hR : ∀ j, R j = if 1#32 = Cert.AdamInIdeal.Ad.word k then own j else other j) :
    concatenate (α := Elt Ideal .f32) Cert.AdamInRefIdeal.S1024x1410 0 [⟨Cert.AdamInRefIdeal.S512x1410, L⟩, ⟨Cert.AdamInRefIdeal.S512x1410, R⟩] h = Cert.AdamInIdeal.Ad.grad k own other := by
  funext j
  obtain ⟨a, b, rfl⟩ : ∃ a b, j = ix2 a b := ⟨_, _, eq_ix2 j⟩
  have ha : a.val < 1024 := a.isLt
  unfold Cert.AdamInIdeal.Ad.grad
  rw [concatenate_pair_apply]
  by_cases hlt : a.val < 512
  · have hq : a.val / 512 = 0 := Nat.div_eq_of_lt hlt
    have hr : a.val % 512 = a.val := Nat.mod_eq_of_lt hlt
    refine (dif_pos (show _ < _ from hlt)).trans ?_
    refine (congrArg L (a₂ := ix2 ⟨a.val % 512, Nat.mod_lt _ (by decide)⟩ b) ?_).trans ((hL _).trans ?_)
    · funext k; apply Fin.ext; fin_cases k
      · exact hr.symm
      · rfl
    · show _ = if BitVec.ofNat 32 (a.val / 512) = _ then _ else _
      rw [hq]; rfl
  · have hq : a.val / 512 = 1 := by omega
    have hr : a.val % 512 = a.val - 512 := by omega
    refine (dif_neg (show ¬ _ < _ from hlt)).trans ?_
    refine (congrArg R (a₂ := ix2 ⟨a.val % 512, Nat.mod_lt _ (by decide)⟩ b) ?_).trans ((hR _).trans ?_)
    · funext k; apply Fin.ext; fin_cases k
      · exact hr.symm
      · rfl
    · show _ = if BitVec.ofNat 32 (a.val / 512) = _ then _ else _
      rw [hq]; rfl

theorem quiet_AdamIn : Cert.quiescent_AdamInRefIdeal := by
  intro m g hpre
  hlo_run
  · exact fun _ => ⟨trivial, trivial, trivial, trivial, trivial, trivial⟩
  · exact sem_eq_zero_of_no_sems (by decide) _

theorem equal_AdamIn : Cert.algebraic_AdamInIdeal_AdamInRefIdeal := by
  intro m g m' g' hpre hagree
  refine ⟨_, _, _, _, Cert.AdamInIdeal.Ad.run m g, ?_⟩
  hlo_run
  all_goals
    have e2 := (hagree c).2.2.1
    have e3 := (hagree c).2.2.2.1
    erw [joined_AdamIn (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) _ _ _
      (fun j => (taken_AdamIn _ 0#32 _ _ _ _ j).trans (by rw [e2, e3]; rfl))
      (fun j => (taken_AdamIn _ 1#32 _ _ _ _ j).trans (by rw [e2, e3]; rfl))]
    try clear e2 e3
  · funext j; pointwise [Cert.AdamInIdeal.Ad.change, Cert.AdamInIdeal.Ad.moment1, Cert.AdamInIdeal.Ad.moment2, Cert.Adam.change, Cert.Adam.first, Cert.Adam.second, Cert.Adam.div_first, Cert.Adam.div_second]
  · funext j; pointwise [Cert.AdamInIdeal.Ad.moment1, Cert.Adam.first]
  · funext j; pointwise [Cert.AdamInIdeal.Ad.moment2, Cert.Adam.second]

/-! ## AdamBranch -/

/-- The half that the reference takes: the core's own where the table's word is the half's number. -/
theorem taken_AdamBranch (k : Cert.AdamBranchIdeal.S1.Idx → BitVec 32) (b : BitVec 32) (own other : FVec Ideal Cert.AdamBranchIdeal.S256x256 .f32) (h h') (j : Cert.AdamBranchIdeal.S256x256.Idx) :
    select (broadcastInDim Cert.AdamBranchRefIdeal.S256x256 ![] h (cmpi .eq (fun i => shapeCast Cert.AdamBranchRefIdeal.S_ k h' i) (constantI Cert.AdamBranchRefIdeal.S_ 32 b))) own other j
      = if b = Cert.AdamBranchIdeal.Ad.word k then own j else other j := by
  have e : shapeCast Cert.AdamBranchRefIdeal.S_ k h' = fun _ => Cert.AdamBranchIdeal.Ad.word k := by
    funext i; unfold Cert.AdamBranchIdeal.Ad.word shapeCast; exact congrArg k (Cert.AdamBranchIdeal.Ad.one _ _)
  show Scalar.select (IntOp.cmpi .eq (shapeCast Cert.AdamBranchRefIdeal.S_ k h' _) b) (own j) (other j) = _
  rw [e]
  simp only [Scalar.select, IntOp.cmpi]
  by_cases hb : b = Cert.AdamBranchIdeal.Ad.word k
  · simp [hb]
  · have hn : (Cert.AdamBranchIdeal.Ad.word k == b) = false := by simpa using fun h => hb h.symm
    simp [hb, hn]

/-- The reference's two halves, one upon the other, are the gradient. -/
theorem joined_AdamBranch (k : Cert.AdamBranchIdeal.S1.Idx → BitVec 32) (own other L R : FVec Ideal Cert.AdamBranchIdeal.S256x256 .f32) (h)
    (hL : ∀ j, L j = if 0#32 = Cert.AdamBranchIdeal.Ad.word k then own j else other j)
    (hR : ∀ j, R j = if 1#32 = Cert.AdamBranchIdeal.Ad.word k then own j else other j) :
    concatenate (α := Elt Ideal .f32) Cert.AdamBranchRefIdeal.S512x256 0 [⟨Cert.AdamBranchRefIdeal.S256x256, L⟩, ⟨Cert.AdamBranchRefIdeal.S256x256, R⟩] h = Cert.AdamBranchIdeal.Ad.grad k own other := by
  funext j
  obtain ⟨a, b, rfl⟩ : ∃ a b, j = ix2 a b := ⟨_, _, eq_ix2 j⟩
  have ha : a.val < 512 := a.isLt
  unfold Cert.AdamBranchIdeal.Ad.grad
  rw [concatenate_pair_apply]
  by_cases hlt : a.val < 256
  · have hq : a.val / 256 = 0 := Nat.div_eq_of_lt hlt
    have hr : a.val % 256 = a.val := Nat.mod_eq_of_lt hlt
    refine (dif_pos (show _ < _ from hlt)).trans ?_
    refine (congrArg L (a₂ := ix2 ⟨a.val % 256, Nat.mod_lt _ (by decide)⟩ b) ?_).trans ((hL _).trans ?_)
    · funext k; apply Fin.ext; fin_cases k
      · exact hr.symm
      · rfl
    · show _ = if BitVec.ofNat 32 (a.val / 256) = _ then _ else _
      rw [hq]; rfl
  · have hq : a.val / 256 = 1 := by omega
    have hr : a.val % 256 = a.val - 256 := by omega
    refine (dif_neg (show ¬ _ < _ from hlt)).trans ?_
    refine (congrArg R (a₂ := ix2 ⟨a.val % 256, Nat.mod_lt _ (by decide)⟩ b) ?_).trans ((hR _).trans ?_)
    · funext k; apply Fin.ext; fin_cases k
      · exact hr.symm
      · rfl
    · show _ = if BitVec.ofNat 32 (a.val / 256) = _ then _ else _
      rw [hq]; rfl

theorem quiet_AdamBranch : Cert.quiescent_AdamBranchRefIdeal := by
  intro m g hpre
  hlo_run
  · exact fun _ => ⟨trivial, trivial, trivial, trivial, trivial, trivial⟩
  · exact sem_eq_zero_of_no_sems (by decide) _

theorem equal_AdamBranch : Cert.algebraic_AdamBranchIdeal_AdamBranchRefIdeal := by
  intro m g m' g' hpre hagree
  refine ⟨_, _, _, _, Cert.AdamBranchIdeal.Ad.run m g, ?_⟩
  hlo_run
  all_goals
    have e2 := (hagree c).2.2.1
    have e3 := (hagree c).2.2.2.1
    erw [joined_AdamBranch (m ((c.tc : Thread Cert.AdamBranchIdeal.nD Cert.AdamBranchIdeal.τ).loc Cert.AdamBranchIdeal.main_arg0)) (m ((c.tc : Thread Cert.AdamBranchIdeal.nD Cert.AdamBranchIdeal.τ).loc Cert.AdamBranchIdeal.main_arg2)) (m ((c.tc : Thread Cert.AdamBranchIdeal.nD Cert.AdamBranchIdeal.τ).loc Cert.AdamBranchIdeal.main_arg3)) _ _ _
      (fun j => (taken_AdamBranch _ 0#32 _ _ _ _ j).trans (by rw [e2, e3]; rfl))
      (fun j => (taken_AdamBranch _ 1#32 _ _ _ _ j).trans (by rw [e2, e3]; rfl))]
    try clear e2 e3
  · funext j; pointwise [Cert.AdamBranchIdeal.Ad.change, Cert.AdamBranchIdeal.Ad.moment1, Cert.AdamBranchIdeal.Ad.moment2, Cert.Adam.change, Cert.Adam.first, Cert.Adam.second, Cert.Adam.div_first, Cert.Adam.div_second]
  · funext j; pointwise [Cert.AdamBranchIdeal.Ad.moment1, Cert.Adam.first]
  · funext j; pointwise [Cert.AdamBranchIdeal.Ad.moment2, Cert.Adam.second]

/-! ## AdamOut -/

/-- The half that the reference takes: the core's own where the table's word is the half's number. -/
theorem taken_AdamOut (k : Cert.AdamOutIdeal.S1.Idx → BitVec 32) (b : BitVec 32) (own other : FVec Ideal Cert.AdamOutIdeal.S128x1024 .f32) (h h') (j : Cert.AdamOutIdeal.S128x1024.Idx) :
    select (broadcastInDim Cert.AdamOutRefIdeal.S128x1024 ![] h (cmpi .eq (fun i => shapeCast Cert.AdamOutRefIdeal.S_ k h' i) (constantI Cert.AdamOutRefIdeal.S_ 32 b))) own other j
      = if b = Cert.AdamOutIdeal.Ad.word k then own j else other j := by
  have e : shapeCast Cert.AdamOutRefIdeal.S_ k h' = fun _ => Cert.AdamOutIdeal.Ad.word k := by
    funext i; unfold Cert.AdamOutIdeal.Ad.word shapeCast; exact congrArg k (Cert.AdamOutIdeal.Ad.one _ _)
  show Scalar.select (IntOp.cmpi .eq (shapeCast Cert.AdamOutRefIdeal.S_ k h' _) b) (own j) (other j) = _
  rw [e]
  simp only [Scalar.select, IntOp.cmpi]
  by_cases hb : b = Cert.AdamOutIdeal.Ad.word k
  · simp [hb]
  · have hn : (Cert.AdamOutIdeal.Ad.word k == b) = false := by simpa using fun h => hb h.symm
    simp [hb, hn]

/-- The reference's two halves, one upon the other, are the gradient. -/
theorem joined_AdamOut (k : Cert.AdamOutIdeal.S1.Idx → BitVec 32) (own other L R : FVec Ideal Cert.AdamOutIdeal.S128x1024 .f32) (h)
    (hL : ∀ j, L j = if 0#32 = Cert.AdamOutIdeal.Ad.word k then own j else other j)
    (hR : ∀ j, R j = if 1#32 = Cert.AdamOutIdeal.Ad.word k then own j else other j) :
    concatenate (α := Elt Ideal .f32) Cert.AdamOutRefIdeal.S256x1024 0 [⟨Cert.AdamOutRefIdeal.S128x1024, L⟩, ⟨Cert.AdamOutRefIdeal.S128x1024, R⟩] h = Cert.AdamOutIdeal.Ad.grad k own other := by
  funext j
  obtain ⟨a, b, rfl⟩ : ∃ a b, j = ix2 a b := ⟨_, _, eq_ix2 j⟩
  have ha : a.val < 256 := a.isLt
  unfold Cert.AdamOutIdeal.Ad.grad
  rw [concatenate_pair_apply]
  by_cases hlt : a.val < 128
  · have hq : a.val / 128 = 0 := Nat.div_eq_of_lt hlt
    have hr : a.val % 128 = a.val := Nat.mod_eq_of_lt hlt
    refine (dif_pos (show _ < _ from hlt)).trans ?_
    refine (congrArg L (a₂ := ix2 ⟨a.val % 128, Nat.mod_lt _ (by decide)⟩ b) ?_).trans ((hL _).trans ?_)
    · funext k; apply Fin.ext; fin_cases k
      · exact hr.symm
      · rfl
    · show _ = if BitVec.ofNat 32 (a.val / 128) = _ then _ else _
      rw [hq]; rfl
  · have hq : a.val / 128 = 1 := by omega
    have hr : a.val % 128 = a.val - 128 := by omega
    refine (dif_neg (show ¬ _ < _ from hlt)).trans ?_
    refine (congrArg R (a₂ := ix2 ⟨a.val % 128, Nat.mod_lt _ (by decide)⟩ b) ?_).trans ((hR _).trans ?_)
    · funext k; apply Fin.ext; fin_cases k
      · exact hr.symm
      · rfl
    · show _ = if BitVec.ofNat 32 (a.val / 128) = _ then _ else _
      rw [hq]; rfl

theorem quiet_AdamOut : Cert.quiescent_AdamOutRefIdeal := by
  intro m g hpre
  hlo_run
  · exact fun _ => ⟨trivial, trivial, trivial, trivial, trivial, trivial⟩
  · exact sem_eq_zero_of_no_sems (by decide) _

theorem equal_AdamOut : Cert.algebraic_AdamOutIdeal_AdamOutRefIdeal := by
  intro m g m' g' hpre hagree
  refine ⟨_, _, _, _, Cert.AdamOutIdeal.Ad.run m g, ?_⟩
  hlo_run
  all_goals
    have e2 := (hagree c).2.2.1
    have e3 := (hagree c).2.2.2.1
    erw [joined_AdamOut (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) _ _ _
      (fun j => (taken_AdamOut _ 0#32 _ _ _ _ j).trans (by rw [e2, e3]; rfl))
      (fun j => (taken_AdamOut _ 1#32 _ _ _ _ j).trans (by rw [e2, e3]; rfl))]
    try clear e2 e3
  · funext j; pointwise [Cert.AdamOutIdeal.Ad.change, Cert.AdamOutIdeal.Ad.moment1, Cert.AdamOutIdeal.Ad.moment2, Cert.Adam.change, Cert.Adam.first, Cert.Adam.second, Cert.Adam.div_first, Cert.Adam.div_second]
  · funext j; pointwise [Cert.AdamOutIdeal.Ad.moment1, Cert.Adam.first]
  · funext j; pointwise [Cert.AdamOutIdeal.Ad.moment2, Cert.Adam.second]

/-! ## AdamUp -/

/-- The half that the reference takes: the core's own where the table's word is the half's number. -/
theorem taken_AdamUp (k : Cert.AdamUpIdeal.S1.Idx → BitVec 32) (b : BitVec 32) (own other : FVec Ideal Cert.AdamUpIdeal.S512x1408 .f32) (h h') (j : Cert.AdamUpIdeal.S512x1408.Idx) :
    select (broadcastInDim Cert.AdamUpRefIdeal.S512x1408 ![] h (cmpi .eq (fun i => shapeCast Cert.AdamUpRefIdeal.S_ k h' i) (constantI Cert.AdamUpRefIdeal.S_ 32 b))) own other j
      = if b = Cert.AdamUpIdeal.Ad.word k then own j else other j := by
  have e : shapeCast Cert.AdamUpRefIdeal.S_ k h' = fun _ => Cert.AdamUpIdeal.Ad.word k := by
    funext i; unfold Cert.AdamUpIdeal.Ad.word shapeCast; exact congrArg k (Cert.AdamUpIdeal.Ad.one _ _)
  show Scalar.select (IntOp.cmpi .eq (shapeCast Cert.AdamUpRefIdeal.S_ k h' _) b) (own j) (other j) = _
  rw [e]
  simp only [Scalar.select, IntOp.cmpi]
  by_cases hb : b = Cert.AdamUpIdeal.Ad.word k
  · simp [hb]
  · have hn : (Cert.AdamUpIdeal.Ad.word k == b) = false := by simpa using fun h => hb h.symm
    simp [hb, hn]

/-- The reference's two halves, one upon the other, are the gradient. -/
theorem joined_AdamUp (k : Cert.AdamUpIdeal.S1.Idx → BitVec 32) (own other L R : FVec Ideal Cert.AdamUpIdeal.S512x1408 .f32) (h)
    (hL : ∀ j, L j = if 0#32 = Cert.AdamUpIdeal.Ad.word k then own j else other j)
    (hR : ∀ j, R j = if 1#32 = Cert.AdamUpIdeal.Ad.word k then own j else other j) :
    concatenate (α := Elt Ideal .f32) Cert.AdamUpRefIdeal.S1024x1408 0 [⟨Cert.AdamUpRefIdeal.S512x1408, L⟩, ⟨Cert.AdamUpRefIdeal.S512x1408, R⟩] h = Cert.AdamUpIdeal.Ad.grad k own other := by
  funext j
  obtain ⟨a, b, rfl⟩ : ∃ a b, j = ix2 a b := ⟨_, _, eq_ix2 j⟩
  have ha : a.val < 1024 := a.isLt
  unfold Cert.AdamUpIdeal.Ad.grad
  rw [concatenate_pair_apply]
  by_cases hlt : a.val < 512
  · have hq : a.val / 512 = 0 := Nat.div_eq_of_lt hlt
    have hr : a.val % 512 = a.val := Nat.mod_eq_of_lt hlt
    refine (dif_pos (show _ < _ from hlt)).trans ?_
    refine (congrArg L (a₂ := ix2 ⟨a.val % 512, Nat.mod_lt _ (by decide)⟩ b) ?_).trans ((hL _).trans ?_)
    · funext k; apply Fin.ext; fin_cases k
      · exact hr.symm
      · rfl
    · show _ = if BitVec.ofNat 32 (a.val / 512) = _ then _ else _
      rw [hq]; rfl
  · have hq : a.val / 512 = 1 := by omega
    have hr : a.val % 512 = a.val - 512 := by omega
    refine (dif_neg (show ¬ _ < _ from hlt)).trans ?_
    refine (congrArg R (a₂ := ix2 ⟨a.val % 512, Nat.mod_lt _ (by decide)⟩ b) ?_).trans ((hR _).trans ?_)
    · funext k; apply Fin.ext; fin_cases k
      · exact hr.symm
      · rfl
    · show _ = if BitVec.ofNat 32 (a.val / 512) = _ then _ else _
      rw [hq]; rfl

theorem quiet_AdamUp : Cert.quiescent_AdamUpRefIdeal := by
  intro m g hpre
  hlo_run
  · exact fun _ => ⟨trivial, trivial, trivial, trivial, trivial, trivial⟩
  · exact sem_eq_zero_of_no_sems (by decide) _

theorem equal_AdamUp : Cert.algebraic_AdamUpIdeal_AdamUpRefIdeal := by
  intro m g m' g' hpre hagree
  refine ⟨_, _, _, _, Cert.AdamUpIdeal.Ad.run m g, ?_⟩
  hlo_run
  all_goals
    have e2 := (hagree c).2.2.1
    have e3 := (hagree c).2.2.2.1
    erw [joined_AdamUp (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) _ _ _
      (fun j => (taken_AdamUp _ 0#32 _ _ _ _ j).trans (by rw [e2, e3]; rfl))
      (fun j => (taken_AdamUp _ 1#32 _ _ _ _ j).trans (by rw [e2, e3]; rfl))]
    try clear e2 e3
  · funext j; pointwise [Cert.AdamUpIdeal.Ad.change, Cert.AdamUpIdeal.Ad.moment1, Cert.AdamUpIdeal.Ad.moment2, Cert.Adam.change, Cert.Adam.first, Cert.Adam.second, Cert.Adam.div_first, Cert.Adam.div_second]
  · funext j; pointwise [Cert.AdamUpIdeal.Ad.moment1, Cert.Adam.first]
  · funext j; pointwise [Cert.AdamUpIdeal.Ad.moment2, Cert.Adam.second]

/-! ## AdamDown -/

/-- The half that the reference takes: the core's own where the table's word is the half's number. -/
theorem taken_AdamDown (k : Cert.AdamDownIdeal.S1.Idx → BitVec 32) (b : BitVec 32) (own other : FVec Ideal Cert.AdamDownIdeal.S352x1024 .f32) (h h') (j : Cert.AdamDownIdeal.S352x1024.Idx) :
    select (broadcastInDim Cert.AdamDownRefIdeal.S352x1024 ![] h (cmpi .eq (fun i => shapeCast Cert.AdamDownRefIdeal.S_ k h' i) (constantI Cert.AdamDownRefIdeal.S_ 32 b))) own other j
      = if b = Cert.AdamDownIdeal.Ad.word k then own j else other j := by
  have e : shapeCast Cert.AdamDownRefIdeal.S_ k h' = fun _ => Cert.AdamDownIdeal.Ad.word k := by
    funext i; unfold Cert.AdamDownIdeal.Ad.word shapeCast; exact congrArg k (Cert.AdamDownIdeal.Ad.one _ _)
  show Scalar.select (IntOp.cmpi .eq (shapeCast Cert.AdamDownRefIdeal.S_ k h' _) b) (own j) (other j) = _
  rw [e]
  simp only [Scalar.select, IntOp.cmpi]
  by_cases hb : b = Cert.AdamDownIdeal.Ad.word k
  · simp [hb]
  · have hn : (Cert.AdamDownIdeal.Ad.word k == b) = false := by simpa using fun h => hb h.symm
    simp [hb, hn]

/-- The reference's two halves, one upon the other, are the gradient. -/
theorem joined_AdamDown (k : Cert.AdamDownIdeal.S1.Idx → BitVec 32) (own other L R : FVec Ideal Cert.AdamDownIdeal.S352x1024 .f32) (h)
    (hL : ∀ j, L j = if 0#32 = Cert.AdamDownIdeal.Ad.word k then own j else other j)
    (hR : ∀ j, R j = if 1#32 = Cert.AdamDownIdeal.Ad.word k then own j else other j) :
    concatenate (α := Elt Ideal .f32) Cert.AdamDownRefIdeal.S704x1024 0 [⟨Cert.AdamDownRefIdeal.S352x1024, L⟩, ⟨Cert.AdamDownRefIdeal.S352x1024, R⟩] h = Cert.AdamDownIdeal.Ad.grad k own other := by
  funext j
  obtain ⟨a, b, rfl⟩ : ∃ a b, j = ix2 a b := ⟨_, _, eq_ix2 j⟩
  have ha : a.val < 704 := a.isLt
  unfold Cert.AdamDownIdeal.Ad.grad
  rw [concatenate_pair_apply]
  by_cases hlt : a.val < 352
  · have hq : a.val / 352 = 0 := Nat.div_eq_of_lt hlt
    have hr : a.val % 352 = a.val := Nat.mod_eq_of_lt hlt
    refine (dif_pos (show _ < _ from hlt)).trans ?_
    refine (congrArg L (a₂ := ix2 ⟨a.val % 352, Nat.mod_lt _ (by decide)⟩ b) ?_).trans ((hL _).trans ?_)
    · funext k; apply Fin.ext; fin_cases k
      · exact hr.symm
      · rfl
    · show _ = if BitVec.ofNat 32 (a.val / 352) = _ then _ else _
      rw [hq]; rfl
  · have hq : a.val / 352 = 1 := by omega
    have hr : a.val % 352 = a.val - 352 := by omega
    refine (dif_neg (show ¬ _ < _ from hlt)).trans ?_
    refine (congrArg R (a₂ := ix2 ⟨a.val % 352, Nat.mod_lt _ (by decide)⟩ b) ?_).trans ((hR _).trans ?_)
    · funext k; apply Fin.ext; fin_cases k
      · exact hr.symm
      · rfl
    · show _ = if BitVec.ofNat 32 (a.val / 352) = _ then _ else _
      rw [hq]; rfl

theorem quiet_AdamDown : Cert.quiescent_AdamDownRefIdeal := by
  intro m g hpre
  hlo_run
  · exact fun _ => ⟨trivial, trivial, trivial, trivial, trivial, trivial⟩
  · exact sem_eq_zero_of_no_sems (by decide) _

theorem equal_AdamDown : Cert.algebraic_AdamDownIdeal_AdamDownRefIdeal := by
  intro m g m' g' hpre hagree
  refine ⟨_, _, _, _, Cert.AdamDownIdeal.Ad.run m g, ?_⟩
  hlo_run
  all_goals
    have e2 := (hagree c).2.2.1
    have e3 := (hagree c).2.2.2.1
    erw [joined_AdamDown (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) _ _ _
      (fun j => (taken_AdamDown _ 0#32 _ _ _ _ j).trans (by rw [e2, e3]; rfl))
      (fun j => (taken_AdamDown _ 1#32 _ _ _ _ j).trans (by rw [e2, e3]; rfl))]
    try clear e2 e3
  · funext j; pointwise [Cert.AdamDownIdeal.Ad.change, Cert.AdamDownIdeal.Ad.moment1, Cert.AdamDownIdeal.Ad.moment2, Cert.Adam.change, Cert.Adam.first, Cert.Adam.second, Cert.Adam.div_first, Cert.Adam.div_second]
  · funext j; pointwise [Cert.AdamDownIdeal.Ad.moment1, Cert.Adam.first]
  · funext j; pointwise [Cert.AdamDownIdeal.Ad.moment2, Cert.Adam.second]

/-! ## AdamSmall -/

/-- The half that the reference takes: the core's own where the table's word is the half's number. -/
theorem taken_AdamSmall (k : Cert.AdamSmallIdeal.S1.Idx → BitVec 32) (b : BitVec 32) (own other : FVec Ideal Cert.AdamSmallIdeal.S72x128 .f32) (h h') (j : Cert.AdamSmallIdeal.S72x128.Idx) :
    select (broadcastInDim Cert.AdamSmallRefIdeal.S72x128 ![] h (cmpi .eq (fun i => shapeCast Cert.AdamSmallRefIdeal.S_ k h' i) (constantI Cert.AdamSmallRefIdeal.S_ 32 b))) own other j
      = if b = Cert.AdamSmallIdeal.Ad.word k then own j else other j := by
  have e : shapeCast Cert.AdamSmallRefIdeal.S_ k h' = fun _ => Cert.AdamSmallIdeal.Ad.word k := by
    funext i; unfold Cert.AdamSmallIdeal.Ad.word shapeCast; exact congrArg k (Cert.AdamSmallIdeal.Ad.one _ _)
  show Scalar.select (IntOp.cmpi .eq (shapeCast Cert.AdamSmallRefIdeal.S_ k h' _) b) (own j) (other j) = _
  rw [e]
  simp only [Scalar.select, IntOp.cmpi]
  by_cases hb : b = Cert.AdamSmallIdeal.Ad.word k
  · simp [hb]
  · have hn : (Cert.AdamSmallIdeal.Ad.word k == b) = false := by simpa using fun h => hb h.symm
    simp [hb, hn]

/-- The reference's two halves, one upon the other, are the gradient. -/
theorem joined_AdamSmall (k : Cert.AdamSmallIdeal.S1.Idx → BitVec 32) (own other L R : FVec Ideal Cert.AdamSmallIdeal.S72x128 .f32) (h)
    (hL : ∀ j, L j = if 0#32 = Cert.AdamSmallIdeal.Ad.word k then own j else other j)
    (hR : ∀ j, R j = if 1#32 = Cert.AdamSmallIdeal.Ad.word k then own j else other j) :
    concatenate (α := Elt Ideal .f32) Cert.AdamSmallRefIdeal.S144x128 0 [⟨Cert.AdamSmallRefIdeal.S72x128, L⟩, ⟨Cert.AdamSmallRefIdeal.S72x128, R⟩] h = Cert.AdamSmallIdeal.Ad.grad k own other := by
  funext j
  obtain ⟨a, b, rfl⟩ : ∃ a b, j = ix2 a b := ⟨_, _, eq_ix2 j⟩
  have ha : a.val < 144 := a.isLt
  unfold Cert.AdamSmallIdeal.Ad.grad
  rw [concatenate_pair_apply]
  by_cases hlt : a.val < 72
  · have hq : a.val / 72 = 0 := Nat.div_eq_of_lt hlt
    have hr : a.val % 72 = a.val := Nat.mod_eq_of_lt hlt
    refine (dif_pos (show _ < _ from hlt)).trans ?_
    refine (congrArg L (a₂ := ix2 ⟨a.val % 72, Nat.mod_lt _ (by decide)⟩ b) ?_).trans ((hL _).trans ?_)
    · funext k; apply Fin.ext; fin_cases k
      · exact hr.symm
      · rfl
    · show _ = if BitVec.ofNat 32 (a.val / 72) = _ then _ else _
      rw [hq]; rfl
  · have hq : a.val / 72 = 1 := by omega
    have hr : a.val % 72 = a.val - 72 := by omega
    refine (dif_neg (show ¬ _ < _ from hlt)).trans ?_
    refine (congrArg R (a₂ := ix2 ⟨a.val % 72, Nat.mod_lt _ (by decide)⟩ b) ?_).trans ((hR _).trans ?_)
    · funext k; apply Fin.ext; fin_cases k
      · exact hr.symm
      · rfl
    · show _ = if BitVec.ofNat 32 (a.val / 72) = _ then _ else _
      rw [hq]; rfl

theorem quiet_AdamSmall : Cert.quiescent_AdamSmallRefIdeal := by
  intro m g hpre
  hlo_run
  · exact fun _ => ⟨trivial, trivial, trivial, trivial, trivial, trivial⟩
  · exact sem_eq_zero_of_no_sems (by decide) _

theorem equal_AdamSmall : Cert.algebraic_AdamSmallIdeal_AdamSmallRefIdeal := by
  intro m g m' g' hpre hagree
  refine ⟨_, _, _, _, Cert.AdamSmallIdeal.Ad.run m g, ?_⟩
  hlo_run
  all_goals
    have e2 := (hagree c).2.2.1
    have e3 := (hagree c).2.2.2.1
    erw [joined_AdamSmall (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) _ _ _
      (fun j => (taken_AdamSmall _ 0#32 _ _ _ _ j).trans (by rw [e2, e3]; rfl))
      (fun j => (taken_AdamSmall _ 1#32 _ _ _ _ j).trans (by rw [e2, e3]; rfl))]
    try clear e2 e3
  · funext j; pointwise [Cert.AdamSmallIdeal.Ad.change, Cert.AdamSmallIdeal.Ad.moment1, Cert.AdamSmallIdeal.Ad.moment2, Cert.Adam.change, Cert.Adam.first, Cert.Adam.second, Cert.Adam.div_first, Cert.Adam.div_second]
  · funext j; pointwise [Cert.AdamSmallIdeal.Ad.moment1, Cert.Adam.first]
  · funext j; pointwise [Cert.AdamSmallIdeal.Ad.moment2, Cert.Adam.second]

end Cert.Proof.Ad

end
-- ==== Proof.HgProg.lean ====
/- The two recurrences' kernel bodies as structured programs: columns of a head, heads of a sub-chunk, sub-chunks of
   a tile. -/
module

public import proofs.«01_k».proof.Proof.Gen.KernelIdeal

@[expose] public section

noncomputable section

namespace Cert.KernelIdeal.Hg

open Idealize.ShloMosaic Idealize.ShloMosaic.TcCoe
open Idealize.SL.Sem
open Cert.KernelIdeal Cert.KernelIdeal.Gen

variable {F : FTy → Type} [FloatOps F]

abbrev Pr (α : Type) := Prog (TpuEff nD τ sig (Elt F) Λ₀ .tc) α

theorem inbRow {p s h : ℕ} (hp : p < 3) (hs : s < 16) (hh : h < 4) :
    ∀ a, (![p, s, 128 * h] : Fin 3 → ℕ) a + S1x1x128.size a ≤ S3x16x512.size a := by
  intro a; fin_cases a <;> simp [S1x1x128, S3x16x512] <;> omega
theorem inbAcc {p s : ℕ} (hp : p < 3) (hs : s < 16) :
    ∀ a, (![p, s, 0] : Fin 3 → ℕ) a + S1x1x128.size a ≤ S3x16x128.size a := by
  intro a; fin_cases a <;> simp [S1x1x128, S3x16x128] <;> omega
theorem inbAcc16 {p : ℕ} (hp : p < 3) :
    ∀ a, (![p, 0, 0] : Fin 3 → ℕ) a + S1x16x128.size a ≤ S3x16x128.size a := by
  intro a; fin_cases a <;> simp [S1x16x128, S3x16x128] <;> omega
theorem inbSub {p h : ℕ} (hp : p < 3) (hh : h < 4) :
    ∀ a, (![p, 0, 128 * h] : Fin 3 → ℕ) a + S1x16x128.size a ≤ S3x16x512.size a := by
  intro a; fin_cases a <;> simp [S1x16x128, S3x16x512] <;> omega
theorem inbFull {p : ℕ} (hp : p < 3) :
    ∀ a, (![p, 0, 0] : Fin 3 → ℕ) a + S1x16x512.size a ≤ S3x16x512.size a := by
  intro a; fin_cases a <;> simp [S1x16x512, S3x16x512] <;> omega
theorem inbSt {h : ℕ} (hh : h < 4) :
    ∀ a, (![h, 0, 0] : Fin 3 → ℕ) a + S1x128x128.size a ≤ S4x128x128.size a := by
  intro a; fin_cases a <;> simp [S1x128x128, S4x128x128] <;> omega

abbrev V16 (F : FTy → Type) := FVec F S16x128 .f32
abbrev V1 (F : FTy → Type) := FVec F S1x128 .f32
abbrev VD (F : FTy → Type) := FVec F S128x128 .f32

/-! ### The vectors of one step -/

def up (x : V1 F) : V16 F := broadcastTo S16x128 x broadcasts_S1x128_S16x128
def live (r : IVec S16x1 32) (s : ℕ) : IVec S16x1 1 := cmpi .sge r (broadcast S16x1 (BitVec.ofNat 32 s))
def ev (r : IVec S16x1 32) (s : ℕ) (g : V16 F) (gs : V1 F) : V16 F :=
  select (broadcastTo S16x128 (shapeCast S16x1 (live r s) shapeCasts_S16x1_S16x1) broadcasts_S16x1_S16x128)
    (exp (minimumf (subf g (up gs)) (broadcast S16x128 (Scalar.ofBits .f32 0x00000000#32))))
    (broadcast S16x128 (Scalar.ofBits .f32 0x00000000#32))
def rowSum (x : V16 F) : FVec F S16x1 .f32 :=
  shapeCast S16x1 (multiReduction .add [1] S16 x 0x00000000#32 reduces_S16x128_S16 (.inl rfl) rfl) shapeCasts_S16_S16x1
def colSum (x : V16 F) : V1 F :=
  shapeCast S1x128 (multiReduction .add [0] S128 x 0x00000000#32 reduces_S16x128_S128 (.inl rfl) rfl) shapeCasts_S128_S1x128
def wide (x : FVec F S16x1 .f32) : V16 F := broadcastTo S16x128 x broadcasts_S16x1_S16x128
def row1 (x : Vec F S1x1x128 .f32) : V1 F := shapeCast S1x128 x shapeCasts_S1x1x128_S1x128
def lift1 (x : V1 F) : FVec F S1x1x128 .f32 := shapeCast S1x1x128 x shapeCasts_S1x128_S1x1x128

def qe (r : IVec S16x1 32) (s : ℕ) (q g : V16 F) (gs : V1 F) : V16 F := mulf q (ev r s g gs)
def av (r : IVec S16x1 32) (s : ℕ) (q g : V16 F) (ks gs : V1 F) : FVec F S16x1 .f32 := rowSum (mulf (qe r s q g gs) (up ks))
def dav (r : IVec S16x1 32) (s : ℕ) (d : V16 F) (vs : V1 F) : FVec F S16x1 .f32 :=
  select (live r s) (rowSum (mulf d (up vs))) (broadcast S16x1 (Scalar.ofBits .f32 0x00000000#32))
def t1v (r : IVec S16x1 32) (s : ℕ) (q g d : V16 F) (gs vs : V1 F) : V16 F := mulf (wide (dav r s d vs)) (qe r s q g gs)
def dkRow (r : IVec S16x1 32) (s : ℕ) (q g d : V16 F) (gs vs : V1 F) : V1 F := colSum (t1v r s q g d gs vs)
def dqNext (r : IVec S16x1 32) (s : ℕ) (g d : V16 F) (ks gs vs : V1 F) (dq : V16 F) : V16 F :=
  addf dq (mulf (wide (dav r s d vs)) (mulf (ev r s g gs) (up ks)))
def dgNext (r : IVec S16x1 32) (s : ℕ) (q g d : V16 F) (ks gs vs : V1 F) (dg : V16 F) : V16 F :=
  addf dg (mulf (t1v r s q g d gs vs) (up ks))
def dvRow (r : IVec S16x1 32) (s : ℕ) (q g d : V16 F) (ks gs : V1 F) : V1 F := colSum (mulf (wide (av r s q g ks gs)) d)

section
variable (sr : Memref sig .tc .vmem S3x16x512 .f32) (ra : Memref sig .tc .vmem S3x16x128 .f32)

/-- One column step of one head's sub-chunk. -/
def colStep (r : IVec S16x1 32) (q g d : V16 F) {h : ℕ} (hh : h < 4) {s : ℕ} (hs : s < 16) (a : V16 F × V16 F) : Pr (F := F) (V16 F × V16 F) := do
  let ks : Vec F S1x1x128 .f32 ← Prog.lift (.load sr (Rect.unit (s := S3x16x512) ![0, s, 128 * h] S1x1x128.size (inbRow (by decide) hs hh)).toLoadRect (View.loadsAt_vmem h_S1x1x128))
  let gs : Vec F S1x1x128 .f32 ← Prog.lift (.load sr (Rect.unit (s := S3x16x512) ![1, s, 128 * h] S1x1x128.size (inbRow (by decide) hs hh)).toLoadRect (View.loadsAt_vmem h_S1x1x128))
  let vs : Vec F S1x1x128 .f32 ← Prog.lift (.load sr (Rect.unit (s := S3x16x512) ![2, s, 128 * h] S1x1x128.size (inbRow (by decide) hs hh)).toLoadRect (View.loadsAt_vmem h_S1x1x128))
  let _ : Vec F S1x1x128 .f32 ← Prog.lift (.load ra (Rect.unit (s := S3x16x128) ![0, s, 0] S1x1x128.size (inbAcc (by decide) hs)).toLoadRect (View.loadsAt_vmem h_S1x1x128))
  Prog.lift (.store ra (Rect.unit (s := S3x16x128) ![0, s, 0] S1x1x128.size (inbAcc (by decide) hs)) (lift1 (dvRow r s q g d (row1 ks) (row1 gs))) Finset.univ (View.stores_vmem_bits_univ h_S1x1x128 rfl) (.inl rfl))
  let _ : Vec F S1x1x128 .f32 ← Prog.lift (.load ra (Rect.unit (s := S3x16x128) ![1, s, 0] S1x1x128.size (inbAcc (by decide) hs)).toLoadRect (View.loadsAt_vmem h_S1x1x128))
  Prog.lift (.store ra (Rect.unit (s := S3x16x128) ![1, s, 0] S1x1x128.size (inbAcc (by decide) hs)) (lift1 (dkRow r s q g d (row1 gs) (row1 vs))) Finset.univ (View.stores_vmem_bits_univ h_S1x1x128 rfl) (.inl rfl))
  let _ : Vec F S1x1x128 .f32 ← Prog.lift (.load ra (Rect.unit (s := S3x16x128) ![2, s, 0] S1x1x128.size (inbAcc (by decide) hs)).toLoadRect (View.loadsAt_vmem h_S1x1x128))
  Prog.lift (.store ra (Rect.unit (s := S3x16x128) ![2, s, 0] S1x1x128.size (inbAcc (by decide) hs)) (lift1 (mulf (row1 ks) (dkRow r s q g d (row1 gs) (row1 vs)))) Finset.univ (View.stores_vmem_bits_univ h_S1x1x128 rfl) (.inl rfl))
  pure (dqNext r s g d (row1 ks) (row1 gs) (row1 vs) a.1, dgNext r s q g d (row1 ks) (row1 gs) (row1 vs) a.2)

/-- The first `n` column steps. -/
def cols (r : IVec S16x1 32) (q g d : V16 F) {h : ℕ} (hh : h < 4) : (n : ℕ) → n ≤ 16 → V16 F × V16 F → Pr (F := F) (V16 F × V16 F)
  | 0, _, a => pure a
  | n + 1, hn, a => do
    let b ← cols r q g d hh n (Nat.le_of_succ_le hn) a
    colStep sr ra r q g d hh hn b

end

def zeroSt : FVec F S4x128x128 .f32 :=
  shapeCast S4x128x128 (broadcast S4x128x128 (Scalar.ofBits .f32 0x00000000#32) : FVec F S4x128x128 .f32) shapeCasts_S4x128x128_S4x128x128

/-- Clear a state scratch. -/
def reset (st : Memref sig .tc .vmem S4x128x128 .f32) : Pr (F := F) Unit := do
  let _ : Vec F S4x128x128 .f32 ← Prog.lift (.load st (Rect.unit (s := S4x128x128) ![0, 0, 0] S4x128x128.size inb_S4x128x128_S4x128x128_0_0_0).toLoadRect (View.loadsAt_vmem h_S4x128x128))
  Prog.lift (.store st (Rect.unit (s := S4x128x128) ![0, 0, 0] S4x128x128.size inb_S4x128x128_S4x128x128_0_0_0) zeroSt Finset.univ (View.stores_vmem_bits_univ h_S4x128x128 rfl) (.inl rfl))

/-- The grid's second coordinate is zero, as the bodies ask it. -/
def first (n : ℕ) : BitVec 1 := Scalar.cmpi .ne (Scalar.extui (Scalar.cmpi .eq (BitVec.ofNat 32 n) 0#32) : BitVec 32) 0#32

/-! ### One head -/

def blk1 (x : Vec F S1x16x128 .f32) : V16 F := shapeCast S16x128 x shapeCasts_S1x16x128_S16x128
def sq (x : Vec F S1x128x128 .f32) : VD F := shapeCast S128x128 x shapeCasts_S1x128x128_S128x128
def sq2 (x : Vec F S1x1x128x128 .f32) : VD F := shapeCast S128x128 x shapeCasts_S1x1x128x128_S128x128
def ekt (g : V16 F) (ge : V1 F) : V16 F := exp (subf (up ge) g)
def ktv (k g : V16 F) (ge : V1 F) : V16 F := mulf k (ekt g ge)
def bfD (x : VD F) : FVec F S128x128 .bf16 := truncf .bf16 x bitsLt_bf16_f32
def bf16v (x : V16 F) : FVec F S16x128 .bf16 := truncf .bf16 x bitsLt_bf16_f32
def dv0 (k g : V16 F) (ge : V1 F) (ds : VD F) : V16 F :=
  matmul dot_S16x128_S128x128_S16x128_1_1_0_0_n_n none (bf16v (ktv k g ge)) (bfD ds) (constant S16x128 .f32 0x00000000#32)
def dkt (v : V16 F) (ds : VD F) : V16 F :=
  matmul dot_S16x128_S128x128_S16x128_1_0_0_1_n_n none (bf16v v) (bfD ds) (constant S16x128 .f32 0x00000000#32)
def dk0 (v g : V16 F) (ge : V1 F) (ds : VD F) : V16 F := mulf (dkt v ds) (ekt g ge)
def ktdkt (k v g : V16 F) (ge : V1 F) (ds : VD F) : V16 F := mulf (ktv k g ge) (dkt v ds)
def colSumD (x : VD F) : V1 F :=
  shapeCast S1x128 (multiReduction .add [0] S128 x 0x00000000#32 reduces_S128x128_S128 (.inl rfl) rfl) shapeCasts_S128_S1x128
def dgEnd (k v g : V16 F) (ge : V1 F) (sp ds : VD F) : V1 F :=
  addf (colSum (ktdkt k v g ge ds)) (mulf (colSumD (mulf sp ds)) (exp ge))
def dgA (r : IVec S16x1 32) (k v g : V16 F) (ge : V1 F) (sp ds : VD F) : V16 F :=
  subf (select (broadcastTo S16x128 (shapeCast S16x1 (cmpi .eq r (broadcast S16x1 15#32)) shapeCasts_S16x1_S16x1) broadcasts_S16x1_S16x128)
    (broadcastTo S16x128 (shapeCast S1x128 (dgEnd k v g ge sp ds) shapeCasts_S1x128_S1x128) broadcasts_S1x128_S16x128)
    (broadcast S16x128 (Scalar.ofBits .f32 0x00000000#32))) (ktdkt k v g ge ds)
def dqt (d : V16 F) (sp : VD F) : V16 F :=
  matmul dot_S16x128_S128x128_S16x128_1_0_0_1_n_n none (bf16v d) (bfD sp) (constant S16x128 .f32 0x00000000#32)
def qtv (q g : V16 F) : V16 F := mulf q (exp g)
def dq0 (g d : V16 F) (sp : VD F) : V16 F := mulf (dqt d sp) (exp g)
def dg0 (r : IVec S16x1 32) (q k v g d : V16 F) (ge : V1 F) (sp ds : VD F) : V16 F :=
  addf (dgA r k v g ge sp ds) (mulf (qtv q g) (dqt d sp))
def dsNext (q g d : V16 F) (ge : V1 F) (ds : VD F) : VD F :=
  addf (mulf (broadcastTo S128x128 (exp ge) broadcasts_S1x128_S128x128) ds)
    (matmul dot_S16x128_S16x128_S128x128_0_0_1_1_n_n none (bf16v d) (bf16v (qtv q g)) (constant S128x128 .f32 0x00000000#32))
def upD (x : VD F) : FVec F S1x128x128 .f32 := shapeCast S1x128x128 x shapeCasts_S128x128_S1x128x128

section
variable (aq ado : Memref sig .tc .vmem S256x512 .f32) (ast : Memref sig .tc .vmem S16x4x128x128 .f32)
  (odq odk odv odg : Memref sig .tc .vmem S256x512 .f32) (dst : Memref sig .tc .vmem S4x128x128 .f32)
  (sr : Memref sig .tc .vmem S3x16x512 .f32) (ra : Memref sig .tc .vmem S3x16x128 .f32)

/-- One head of one sub-chunk. -/
def head (r : IVec S16x1 32) {h : ℕ} (hh : h < 4) (o2 : Fin 2 → ℕ) (ho2 : ∀ a, o2 a + S16x128.size a ≤ S256x512.size a)
    (o4 : Fin 4 → ℕ) (ho4 : ∀ a, o4 a + S1x1x128x128.size a ≤ S16x4x128x128.size a) : Pr (F := F) Unit := do
  let q : Vec F S16x128 .f32 ← Prog.lift (.load aq (Rect.unit (s := S256x512) o2 S16x128.size ho2).toLoadRect (View.loadsAt_vmem h_S16x128))
  let k : Vec F S1x16x128 .f32 ← Prog.lift (.load sr (Rect.unit (s := S3x16x512) ![0, 0, 128 * h] S1x16x128.size (inbSub (by decide) hh)).toLoadRect (View.loadsAt_vmem h_S1x16x128))
  let g : Vec F S1x16x128 .f32 ← Prog.lift (.load sr (Rect.unit (s := S3x16x512) ![1, 0, 128 * h] S1x16x128.size (inbSub (by decide) hh)).toLoadRect (View.loadsAt_vmem h_S1x16x128))
  let v : Vec F S1x16x128 .f32 ← Prog.lift (.load sr (Rect.unit (s := S3x16x512) ![2, 0, 128 * h] S1x16x128.size (inbSub (by decide) hh)).toLoadRect (View.loadsAt_vmem h_S1x16x128))
  let d : Vec F S16x128 .f32 ← Prog.lift (.load ado (Rect.unit (s := S256x512) o2 S16x128.size ho2).toLoadRect (View.loadsAt_vmem h_S16x128))
  let ge : Vec F S1x1x128 .f32 ← Prog.lift (.load sr (Rect.unit (s := S3x16x512) ![1, 15, 128 * h] S1x1x128.size (inbRow (by decide) (by decide) hh)).toLoadRect (View.loadsAt_vmem h_S1x1x128))
  let sp : Vec F S1x1x128x128 .f32 ← Prog.lift (.load ast (Rect.unit (s := S16x4x128x128) o4 S1x1x128x128.size ho4).toLoadRect (View.loadsAt_vmem h_S1x1x128x128))
  let ds : Vec F S1x128x128 .f32 ← Prog.lift (.load dst (Rect.unit (s := S4x128x128) ![h, 0, 0] S1x128x128.size (inbSt hh)).toLoadRect (View.loadsAt_vmem h_S1x128x128))
  let _ : Vec F S1x128x128 .f32 ← Prog.lift (.load dst (Rect.unit (s := S4x128x128) ![h, 0, 0] S1x128x128.size (inbSt hh)).toLoadRect (View.loadsAt_vmem h_S1x128x128))
  Prog.lift (.store dst (Rect.unit (s := S4x128x128) ![h, 0, 0] S1x128x128.size (inbSt hh)) (upD (dsNext q (blk1 g) d (row1 ge) (sq ds))) Finset.univ (View.stores_vmem_bits_univ h_S1x128x128 rfl) (.inl rfl))
  let b ← cols sr ra r q (blk1 g) d hh 16 (Nat.le_refl 16) (dq0 (blk1 g) d (sq2 sp), dg0 r q (blk1 k) (blk1 v) (blk1 g) d (row1 ge) (sq2 sp) (sq ds))
  let _ : Vec F S16x128 .f32 ← Prog.lift (.load odq (Rect.unit (s := S256x512) o2 S16x128.size ho2).toLoadRect (View.loadsAt_vmem h_S16x128))
  Prog.lift (.store odq (Rect.unit (s := S256x512) o2 S16x128.size ho2) b.1 Finset.univ (View.stores_vmem_bits_univ h_S16x128 rfl) (.inl rfl))
  let x1 : Vec F S1x16x128 .f32 ← Prog.lift (.load ra (Rect.unit (s := S3x16x128) ![1, 0, 0] S1x16x128.size (inbAcc16 (by decide))).toLoadRect (View.loadsAt_vmem h_S1x16x128))
  let _ : Vec F S16x128 .f32 ← Prog.lift (.load odk (Rect.unit (s := S256x512) o2 S16x128.size ho2).toLoadRect (View.loadsAt_vmem h_S16x128))
  Prog.lift (.store odk (Rect.unit (s := S256x512) o2 S16x128.size ho2) (addf (dk0 (blk1 v) (blk1 g) (row1 ge) (sq ds)) (blk1 x1)) Finset.univ (View.stores_vmem_bits_univ h_S16x128 rfl) (.inl rfl))
  let x0 : Vec F S1x16x128 .f32 ← Prog.lift (.load ra (Rect.unit (s := S3x16x128) ![0, 0, 0] S1x16x128.size (inbAcc16 (by decide))).toLoadRect (View.loadsAt_vmem h_S1x16x128))
  let _ : Vec F S16x128 .f32 ← Prog.lift (.load odv (Rect.unit (s := S256x512) o2 S16x128.size ho2).toLoadRect (View.loadsAt_vmem h_S16x128))
  Prog.lift (.store odv (Rect.unit (s := S256x512) o2 S16x128.size ho2) (addf (dv0 (blk1 k) (blk1 g) (row1 ge) (sq ds)) (blk1 x0)) Finset.univ (View.stores_vmem_bits_univ h_S16x128 rfl) (.inl rfl))
  let x2 : Vec F S1x16x128 .f32 ← Prog.lift (.load ra (Rect.unit (s := S3x16x128) ![2, 0, 0] S1x16x128.size (inbAcc16 (by decide))).toLoadRect (View.loadsAt_vmem h_S1x16x128))
  let _ : Vec F S16x128 .f32 ← Prog.lift (.load odg (Rect.unit (s := S256x512) o2 S16x128.size ho2).toLoadRect (View.loadsAt_vmem h_S16x128))
  Prog.lift (.store odg (Rect.unit (s := S256x512) o2 S16x128.size ho2) (subf b.2 (blk1 x2)) Finset.univ (View.stores_vmem_bits_univ h_S16x128 rfl) (.inl rfl))

def up512 (x : Vec F S16x512 .f32) : FVec F S1x16x512 .f32 := shapeCast S1x16x512 x shapeCasts_S16x512_S1x16x512

/-- Copy one row block into plane `p` of the row scratch. -/
def stage (a : Memref sig .tc .vmem S256x512 .f32) {p : ℕ} (hp : p < 3) (o2 : Fin 2 → ℕ) (ho2 : ∀ a, o2 a + S16x512.size a ≤ S256x512.size a) : Pr (F := F) Unit := do
  let x : Vec F S16x512 .f32 ← Prog.lift (.load a (Rect.unit (s := S256x512) o2 S16x512.size ho2).toLoadRect (View.loadsAt_vmem h_S16x512))
  let _ : Vec F S1x16x512 .f32 ← Prog.lift (.load sr (Rect.unit (s := S3x16x512) ![p, 0, 0] S1x16x512.size (inbFull hp)).toLoadRect (View.loadsAt_vmem h_S1x16x512))
  Prog.lift (.store sr (Rect.unit (s := S3x16x512) ![p, 0, 0] S1x16x512.size (inbFull hp)) (up512 x) Finset.univ (View.stores_vmem_bits_univ h_S1x16x512 rfl) (.inl rfl))

/-- One trip: one sub-chunk of sixteen rows. -/
def trip (ak ag av : Memref sig .tc .vmem S256x512 .f32) (r : IVec S16x1 32) (t : Fin k1_t1_loop.trips) : Pr (F := F) Unit := do
  stage sr ak (p := 0) (by decide) (k1_off1 t) (k1_off1_inb t)
  stage sr ag (p := 1) (by decide) (k1_off1 t) (k1_off1_inb t)
  stage sr av (p := 2) (by decide) (k1_off1 t) (k1_off1_inb t)
  head aq ado ast odq odk odv odg dst sr ra r (h := 0) (by decide) (k1_off2 t) (k1_off2_inb t) (k1_off3 t) (k1_off3_inb t)
  head aq ado ast odq odk odv odg dst sr ra r (h := 1) (by decide) (k1_off4 t) (k1_off4_inb t) (k1_off5 t) (k1_off5_inb t)
  head aq ado ast odq odk odv odg dst sr ra r (h := 2) (by decide) (k1_off6 t) (k1_off6_inb t) (k1_off7 t) (k1_off7_inb t)
  head aq ado ast odq odk odv odg dst sr ra r (h := 3) (by decide) (k1_off8 t) (k1_off8_inb t) (k1_off9 t) (k1_off9_inb t)

/-- The reverse kernel's body at second grid coordinate `n`. -/
def body (ak ag av : Memref sig .tc .vmem S256x512 .f32) (n : ℕ) : Pr (F := F) Unit := do
  if _h : first n = 1#1 then do
    reset dst
    pure ⟨⟩
  else do
    pure ⟨⟩
  Scf.Loop.for k1_t1_loop k1_t1_ok ⟨⟩ fun t _ => trip aq ado ast odq odk odv odg dst sr ra ak ag av (iota .tc S16x1 32 [0] iota_S16x1_d0_w32) t
  pure ⟨⟩

end

/-! ### The forward recurrence -/

def ow (q g : V16 F) (ks gs : V1 F) : V16 F :=
  mulf (mulf q (exp (minimumf (subf g (up gs)) (broadcast S16x128 (Scalar.ofBits .f32 0x00000000#32))))) (up ks)
def oa (r : IVec S16x1 32) (s : ℕ) (q g : V16 F) (ks gs : V1 F) : FVec F S16x1 .f32 :=
  select (live r s) (rowSum (ow q g ks gs)) (broadcast S16x1 (Scalar.ofBits .f32 0x00000000#32))
def oNext (r : IVec S16x1 32) (s : ℕ) (q g : V16 F) (ks gs vs : V1 F) (o : V16 F) : V16 F :=
  addf o (mulf (wide (oa r s q g ks gs)) (up vs))
def o0 (q g : V16 F) (sp : VD F) : V16 F :=
  matmul dot_S16x128_S128x128_S16x128_1_1_0_0_n_n none (bf16v (qtv q g)) (bfD sp) (constant S16x128 .f32 0x00000000#32)
def spNext (k g v : V16 F) (ge : V1 F) (sp : VD F) : VD F :=
  addf (mulf (broadcastTo S128x128 (exp ge) broadcasts_S1x128_S128x128) sp)
    (matmul dot_S16x128_S16x128_S128x128_0_0_1_1_n_n none (bf16v v) (bf16v (ktv k g ge)) (constant S128x128 .f32 0x00000000#32))
def upD4 (x : VD F) : FVec F S1x1x128x128 .f32 := shapeCast S1x1x128x128 x shapeCasts_S128x128_S1x1x128x128
section
variable (sr : Memref sig .tc .vmem S3x16x512 .f32)

/-- One column step of one head's sub-chunk. -/
def fcolStep (r : IVec S16x1 32) (q g : V16 F) {h : ℕ} (hh : h < 4) {s : ℕ} (hs : s < 16) (a : V16 F) : Pr (F := F) (V16 F) := do
  let ks : Vec F S1x1x128 .f32 ← Prog.lift (.load sr (Rect.unit (s := S3x16x512) ![0, s, 128 * h] S1x1x128.size (inbRow (by decide) hs hh)).toLoadRect (View.loadsAt_vmem h_S1x1x128))
  let gs : Vec F S1x1x128 .f32 ← Prog.lift (.load sr (Rect.unit (s := S3x16x512) ![1, s, 128 * h] S1x1x128.size (inbRow (by decide) hs hh)).toLoadRect (View.loadsAt_vmem h_S1x1x128))
  let vs : Vec F S1x1x128 .f32 ← Prog.lift (.load sr (Rect.unit (s := S3x16x512) ![2, s, 128 * h] S1x1x128.size (inbRow (by decide) hs hh)).toLoadRect (View.loadsAt_vmem h_S1x1x128))
  pure (oNext r s q g (row1 ks) (row1 gs) (row1 vs) a)

/-- The first `n` column steps. -/
def fcols (r : IVec S16x1 32) (q g : V16 F) {h : ℕ} (hh : h < 4) : (n : ℕ) → n ≤ 16 → V16 F → Pr (F := F) (V16 F)
  | 0, _, a => pure a
  | n + 1, hn, a => do
    let b ← fcols r q g hh n (Nat.le_of_succ_le hn) a
    fcolStep sr r q g hh hn b

variable (aq oo : Memref sig .tc .vmem S256x512 .f32) (ost : Memref sig .tc .vmem S16x4x128x128 .f32)
  (st : Memref sig .tc .vmem S4x128x128 .f32)

/-- One head of one sub-chunk. -/
def fhead (r : IVec S16x1 32) {h : ℕ} (hh : h < 4) (o2 : Fin 2 → ℕ) (ho2 : ∀ a, o2 a + S16x128.size a ≤ S256x512.size a)
    (o4 : Fin 4 → ℕ) (ho4 : ∀ a, o4 a + S1x1x128x128.size a ≤ S16x4x128x128.size a) : Pr (F := F) Unit := do
  let q : Vec F S16x128 .f32 ← Prog.lift (.load aq (Rect.unit (s := S256x512) o2 S16x128.size ho2).toLoadRect (View.loadsAt_vmem h_S16x128))
  let k : Vec F S1x16x128 .f32 ← Prog.lift (.load sr (Rect.unit (s := S3x16x512) ![0, 0, 128 * h] S1x16x128.size (inbSub (by decide) hh)).toLoadRect (View.loadsAt_vmem h_S1x16x128))
  let g : Vec F S1x16x128 .f32 ← Prog.lift (.load sr (Rect.unit (s := S3x16x512) ![1, 0, 128 * h] S1x16x128.size (inbSub (by decide) hh)).toLoadRect (View.loadsAt_vmem h_S1x16x128))
  let v : Vec F S1x16x128 .f32 ← Prog.lift (.load sr (Rect.unit (s := S3x16x512) ![2, 0, 128 * h] S1x16x128.size (inbSub (by decide) hh)).toLoadRect (View.loadsAt_vmem h_S1x16x128))
  let ge : Vec F S1x1x128 .f32 ← Prog.lift (.load sr (Rect.unit (s := S3x16x512) ![1, 15, 128 * h] S1x1x128.size (inbRow (by decide) (by decide) hh)).toLoadRect (View.loadsAt_vmem h_S1x1x128))
  let sp : Vec F S1x128x128 .f32 ← Prog.lift (.load st (Rect.unit (s := S4x128x128) ![h, 0, 0] S1x128x128.size (inbSt hh)).toLoadRect (View.loadsAt_vmem h_S1x128x128))
  let _ : Vec F S1x1x128x128 .f32 ← Prog.lift (.load ost (Rect.unit (s := S16x4x128x128) o4 S1x1x128x128.size ho4).toLoadRect (View.loadsAt_vmem h_S1x1x128x128))
  Prog.lift (.store ost (Rect.unit (s := S16x4x128x128) o4 S1x1x128x128.size ho4) (upD4 (sq sp)) Finset.univ (View.stores_vmem_bits_univ h_S1x1x128x128 rfl) (.inl rfl))
  let b ← fcols sr r q (blk1 g) hh 16 (Nat.le_refl 16) (o0 q (blk1 g) (sq sp))
  let _ : Vec F S16x128 .f32 ← Prog.lift (.load oo (Rect.unit (s := S256x512) o2 S16x128.size ho2).toLoadRect (View.loadsAt_vmem h_S16x128))
  Prog.lift (.store oo (Rect.unit (s := S256x512) o2 S16x128.size ho2) b Finset.univ (View.stores_vmem_bits_univ h_S16x128 rfl) (.inl rfl))
  let _ : Vec F S1x128x128 .f32 ← Prog.lift (.load st (Rect.unit (s := S4x128x128) ![h, 0, 0] S1x128x128.size (inbSt hh)).toLoadRect (View.loadsAt_vmem h_S1x128x128))
  Prog.lift (.store st (Rect.unit (s := S4x128x128) ![h, 0, 0] S1x128x128.size (inbSt hh)) (upD (spNext (blk1 k) (blk1 g) (blk1 v) (row1 ge) (sq sp))) Finset.univ (View.stores_vmem_bits_univ h_S1x128x128 rfl) (.inl rfl))

/-- One trip: one sub-chunk of sixteen rows. -/
def ftrip (ak ag av : Memref sig .tc .vmem S256x512 .f32) (r : IVec S16x1 32) (t : Fin k0_t1_loop.trips) : Pr (F := F) Unit := do
  stage sr ak (p := 0) (by decide) (k0_off1 t) (k0_off1_inb t)
  stage sr ag (p := 1) (by decide) (k0_off1 t) (k0_off1_inb t)
  stage sr av (p := 2) (by decide) (k0_off1 t) (k0_off1_inb t)
  fhead sr aq oo ost st r (h := 0) (by decide) (k0_off2 t) (k0_off2_inb t) (k0_off3 t) (k0_off3_inb t)
  fhead sr aq oo ost st r (h := 1) (by decide) (k0_off4 t) (k0_off4_inb t) (k0_off5 t) (k0_off5_inb t)
  fhead sr aq oo ost st r (h := 2) (by decide) (k0_off6 t) (k0_off6_inb t) (k0_off7 t) (k0_off7_inb t)
  fhead sr aq oo ost st r (h := 3) (by decide) (k0_off8 t) (k0_off8_inb t) (k0_off9 t) (k0_off9_inb t)

/-- The forward kernel's body at second grid coordinate `n`. -/
def fbody (ak ag av : Memref sig .tc .vmem S256x512 .f32) (n : ℕ) : Pr (F := F) Unit := do
  if _h : first n = 1#1 then do
    reset st
    pure ⟨⟩
  else do
    pure ⟨⟩
  Scf.Loop.for k0_t1_loop k0_t1_ok ⟨⟩ fun t _ => ftrip sr aq oo ost st ak ag av (iota .tc S16x1 32 [0] iota_S16x1_d0_w32) t
  pure ⟨⟩

end

end Cert.KernelIdeal.Hg

end
-- ==== Proof.HgEq.lean ====
/- The printed kernel bodies are the structured programs. -/
module

public import proofs.«01_k».proof.Proof.HgProg
public import Idealize.ShloMosaic.Lib.Tactic

@[expose] public section

set_option maxRecDepth 1000000
set_option maxHeartbeats 0

noncomputable section

namespace Cert.KernelIdeal.Hg

open Idealize.ShloMosaic Idealize.ShloMosaic.TcCoe
open Idealize.SL.Sem
open Cert.KernelIdeal Cert.KernelIdeal.Gen

variable {F : FTy → Type} [FloatOps F]

theorem fbody_eq (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S16x4x128x128 .f32) (harg7 : arg7.IsWhole) (arg8 : Memref sig .tc .vmem S4x128x128 .f32) (harg8 : arg8.IsWhole) (arg9 : Memref sig .tc .vmem S3x16x512 .f32) (harg9 : arg9.IsWhole) :
    cc0_hgrn_fwd (F := F) i arg2 harg2 arg3 harg3 arg4 harg4 arg5 harg5 arg6 harg6 arg7 harg7 arg8 harg8 arg9 harg9 = fbody arg9 arg2 arg6 arg7 arg8 arg3 arg4 arg5 (i 1).val := by sl_kernel_rfl

theorem body_eq (i : grid1.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S16x4x128x128 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S4x128x128 .f32) (harg12 : arg12.IsWhole) (arg13 : Memref sig .tc .vmem S3x16x512 .f32) (harg13 : arg13.IsWhole) (arg14 : Memref sig .tc .vmem S3x16x128 .f32) (harg14 : arg14.IsWhole) :
    cc1_hgrn_bwd (F := F) i arg2 harg2 arg3 harg3 arg4 harg4 arg5 harg5 arg6 harg6 arg7 harg7 arg8 harg8 arg9 harg9 arg10 harg10 arg11 harg11 arg12 harg12 arg13 harg13 arg14 harg14 = body arg2 arg6 arg7 arg8 arg9 arg10 arg11 arg12 arg13 arg14 arg3 arg4 arg5 (i 1).val := by sl_kernel_rfl

end Cert.KernelIdeal.Hg

end
-- ==== Proof.HgBlocks.lean ====
/- The blocks of the recurrences' buffers by coordinates: heads of a sub-chunk, planes of the row scratch, matrices of a
   state stack, each read and written as a window. -/
module

public import proofs.«01_k».proof.Proof.HgProg
public import Idealize.ShloMosaic.Lib.VecWindow
public import Idealize.ShloMosaic.Lib.ValueIdxCore
public import Idealize.ShloMosaic.Lib.ValueLayoutCasts
public import Idealize.ShloMosaic.Lib.Pointwise

@[expose] public section

noncomputable section

namespace Cert.KernelIdeal.Hg

open Idealize.ShloMosaic Idealize.ShloMosaic.TcCoe
open Idealize.SL.Sem
open Cert.KernelIdeal Cert.KernelIdeal.Gen

variable {F : FTy → Type} [FloatOps F]

/-- Sub-chunk `j`, head `h` of a tile. -/
def blk (A : S256x512.Idx → F .f32) (j h : ℕ) : V16 F :=
  fun y => A (ix2 (Fin.ofNat 256 (16 * j + (y 0).val)) (Fin.ofNat 512 (128 * h + (y 1).val)))
/-- A tile from its sub-chunks and heads. -/
def tileOf (f : ℕ → ℕ → V16 F) : S256x512.Idx → F .f32 :=
  fun y => f ((y 0).val / 16) ((y 1).val / 128) (ix2 (Fin.ofNat 16 (y 0).val) (Fin.ofNat 128 (y 1).val))
/-- A stack of four matrices. -/
def stk (D : ℕ → VD F) : S4x128x128.Idx → F .f32 := fun y => D (y 0).val (ix2 (y 1) (y 2))
def unstk (X : S4x128x128.Idx → F .f32) : ℕ → VD F := fun h z => X (ix3 (Fin.ofNat 4 h) (z 0) (z 1))
/-- A stack of sixteen by four matrices. -/
def stk4 (P : ℕ → ℕ → VD F) : S16x4x128x128.Idx → F .f32 := fun y => P (y 0).val (y 1).val (ix2 (y 2) (y 3))
def stAt (A : S16x4x128x128.Idx → F .f32) (j h : ℕ) : VD F := fun z => A (ix4 (Fin.ofNat 16 j) (Fin.ofNat 4 h) (z 0) (z 1))
/-- The row scratch once sub-chunk `j` of three tiles is staged. -/
def subRows (K G V : S256x512.Idx → F .f32) (j : ℕ) : S3x16x512.Idx → F .f32 :=
  fun y => (if (y 0).val = 0 then K else if (y 0).val = 1 then G else V) (ix2 (Fin.ofNat 256 (16 * j + (y 1).val)) (y 2))
/-- Row `s` of a sub-chunk. -/
def rowOf (x : V16 F) (s : ℕ) : V1 F := fun y => x (ix2 (Fin.ofNat 16 s) (y 1))
/-- A sub-chunk from its rows. -/
def rowsOf (f : ℕ → V1 F) : V16 F := fun y => f (y 0).val (ix2 0 (y 1))
def upd2 {α : Type} (f : ℕ → ℕ → α) (j h : ℕ) (w : α) : ℕ → ℕ → α := fun j' h' => if j' = j ∧ h' = h then w else f j' h'
def zeroD : VD F := fun _ => Scalar.ofBits .f32 0x00000000#32

theorem put_apply {α : Type} {s : Shape} (x : s.Idx → α) (off size : Fin s.rank → ℕ) (w : ((a : Fin s.rank) → Fin (size a)) → α) (y : s.Idx) :
    VecWindow.put x off size w y = if h : ∀ a, off a ≤ (y a).val ∧ (y a).val < off a + size a then w (Rect.unitLocal (s := s) (off := off) (size := size) y h) else x y := rfl

theorem window_blk (A : S256x512.Idx → F .f32) {j h : ℕ} (hj : j < 16) (hh : h < 4) (inb) :
    VecWindow.window A ![16 * j, 128 * h] S16x128.size inb = blk A j h := by
  funext y
  unfold blk VecWindow.window
  congr 1
  funext a
  have h0 := ValueIdx.idx2_lt0 y
  have h1 := ValueIdx.idx2_lt1 y
  match a with
  | ⟨0, _⟩ => refine Fin.ext ?_; show 16 * j + 1 * (y 0).val = (16 * j + (y 0).val) % 256; omega
  | ⟨1, _⟩ => refine Fin.ext ?_; show 128 * h + 1 * (y 1).val = (128 * h + (y 1).val) % 512; omega

theorem tileOf_blk (A : S256x512.Idx → F .f32) : tileOf (blk A) = A := by
  funext y
  have h0 := ValueIdx.idx2_lt0 y
  have h1 := ValueIdx.idx2_lt1 y
  unfold tileOf blk
  congr 1
  funext a
  match a with
  | ⟨0, _⟩ => refine Fin.ext ?_; show (16 * ((y 0).val / 16) + (y 0).val % 16) % 256 = (y 0).val; omega
  | ⟨1, _⟩ => refine Fin.ext ?_; show (128 * ((y 1).val / 128) + (y 1).val % 128) % 512 = (y 1).val; omega

theorem tileOf_congr {f g : ℕ → ℕ → V16 F} (h : ∀ j < 16, ∀ i < 4, f j i = g j i) : tileOf f = tileOf g := by
  funext y
  have h0 := ValueIdx.idx2_lt0 y
  have h1 := ValueIdx.idx2_lt1 y
  unfold tileOf
  rw [h _ (by omega) _ (by omega)]

theorem put_tileOf (f : ℕ → ℕ → V16 F) {j h : ℕ} (w : V16 F) :
    VecWindow.put (s := S256x512) (tileOf f) ![16 * j, 128 * h] S16x128.size w = tileOf (upd2 f j h w) := by
  funext y
  have h0 := ValueIdx.idx2_lt0 y
  have h1 := ValueIdx.idx2_lt1 y
  rw [put_apply]
  unfold tileOf upd2
  by_cases hc : (y 0).val / 16 = j ∧ (y 1).val / 128 = h
  · rw [if_pos hc, dif_pos]
    · congr 1
      funext a
      match a with
      | ⟨0, _⟩ => refine Fin.ext ?_; show (y 0).val - 16 * j = (y 0).val % 16; omega
      | ⟨1, _⟩ => refine Fin.ext ?_; show (y 1).val - 128 * h = (y 1).val % 128; omega
    · intro a
      match a with
      | ⟨0, _⟩ => show 16 * j ≤ (y 0).val ∧ (y 0).val < 16 * j + 16; omega
      | ⟨1, _⟩ => show 128 * h ≤ (y 1).val ∧ (y 1).val < 128 * h + 128; omega
  · rw [if_neg hc, dif_neg]
    intro hall
    have a0 : 16 * j ≤ (y 0).val ∧ (y 0).val < 16 * j + 16 := hall 0
    have a1 : 128 * h ≤ (y 1).val ∧ (y 1).val < 128 * h + 128 := hall 1
    omega

theorem sq_apply (x : Vec F S1x128x128 .f32) (z : S128x128.Idx) : sq x z = x (ix3 0 (z 0) (z 1)) := by
  unfold sq; pointwise
theorem sq2_apply (x : Vec F S1x1x128x128 .f32) (z : S128x128.Idx) : sq2 x z = x (ix4 0 0 (z 0) (z 1)) := by
  unfold sq2; pointwise
theorem upD_apply (x : VD F) (z : S1x128x128.Idx) : upD x z = x (ix2 (z 1) (z 2)) := by
  unfold upD; pointwise
theorem upD4_apply (x : VD F) (z : S1x1x128x128.Idx) : upD4 x z = x (ix2 (z 2) (z 3)) := by
  unfold upD4; pointwise
theorem blk1_apply (x : Vec F S1x16x128 .f32) (z : S16x128.Idx) : blk1 x z = x (ix3 0 (z 0) (z 1)) := by
  unfold blk1; pointwise
theorem row1_apply (x : Vec F S1x1x128 .f32) (z : S1x128.Idx) : row1 x z = x (ix3 0 0 (z 1)) := by
  unfold row1; pointwise
theorem lift1_apply (x : V1 F) (z : S1x1x128.Idx) : lift1 x z = x (ix2 0 (z 2)) := by
  unfold lift1; pointwise
theorem up512_apply (x : Vec F S16x512 .f32) (z : S1x16x512.Idx) : up512 x z = x (ix2 (z 1) (z 2)) := by
  unfold up512; pointwise

theorem sq_window_stk (D : ℕ → VD F) {h : ℕ} (hh : h < 4) (inb) :
    sq (VecWindow.window (stk D) ![h, 0, 0] S1x128x128.size inb) = D h := by
  funext z
  rw [sq_apply]
  unfold VecWindow.window stk
  have e : ((Rect.unit (s := S4x128x128) ![h, 0, 0] S1x128x128.size inb).emb (ix3 0 (z 0) (z 1)) 0).val = h := by
    show h + 1 * 0 = h; omega
  rw [e]
  congr 1
  funext a
  match a with
  | ⟨0, _⟩ => refine Fin.ext ?_; show 0 + 1 * (z 0).val = (z 0).val; omega
  | ⟨1, _⟩ => refine Fin.ext ?_; show 0 + 1 * (z 1).val = (z 1).val; omega

theorem stk_congr {f g : ℕ → VD F} (h : ∀ i < 4, f i = g i) : stk f = stk g := by
  funext y
  have h0 : (y 0).val < 4 := (y 0).isLt
  unfold stk
  rw [h _ h0]

theorem put_stk (D : ℕ → VD F) {h : ℕ} (x : VD F) :
    VecWindow.put (s := S4x128x128) (stk D) ![h, 0, 0] S1x128x128.size (upD x) = stk (Function.update D h x) := by
  funext y
  have h1 : (y 1).val < 128 := (y 1).isLt
  have h2 : (y 2).val < 128 := (y 2).isLt
  rw [put_apply]
  unfold stk
  by_cases hc : (y 0).val = h
  · rw [hc, Function.update_self, dif_pos]
    · rw [upD_apply]
      congr 1
    · intro a
      match a with
      | ⟨0, _⟩ => show h ≤ (y 0).val ∧ (y 0).val < h + 1; omega
      | ⟨1, _⟩ => show 0 ≤ (y 1).val ∧ (y 1).val < 0 + 128; omega
      | ⟨2, _⟩ => show 0 ≤ (y 2).val ∧ (y 2).val < 0 + 128; omega
  · rw [Function.update_of_ne hc, dif_neg]
    intro hall
    have a0 : h ≤ (y 0).val ∧ (y 0).val < h + 1 := hall 0
    omega

theorem stk_unstk (X : S4x128x128.Idx → F .f32) : stk (unstk X) = X := by
  funext y
  unfold stk unstk
  congr 1
  funext a
  match a with
  | ⟨0, _⟩ => refine Fin.ext ?_; show (y 0).val % 4 = (y 0).val; exact Nat.mod_eq_of_lt (y 0).isLt
  | ⟨1, _⟩ => rfl
  | ⟨2, _⟩ => rfl

theorem put_zeroSt (X : S4x128x128.Idx → F .f32) :
    VecWindow.put (s := S4x128x128) X ![0, 0, 0] S4x128x128.size zeroSt = stk fun _ => zeroD := by
  funext y
  have h0 : (y 0).val < 4 := (y 0).isLt
  have h1 : (y 1).val < 128 := (y 1).isLt
  have h2 : (y 2).val < 128 := (y 2).isLt
  rw [put_apply, dif_pos]
  · unfold zeroSt stk zeroD; pointwise
  · intro a
    match a with
    | ⟨0, _⟩ => show 0 ≤ (y 0).val ∧ (y 0).val < 0 + 4; omega
    | ⟨1, _⟩ => show 0 ≤ (y 1).val ∧ (y 1).val < 0 + 128; omega
    | ⟨2, _⟩ => show 0 ≤ (y 2).val ∧ (y 2).val < 0 + 128; omega

theorem sq2_window (A : S16x4x128x128.Idx → F .f32) {j h : ℕ} (hj : j < 16) (hh : h < 4) (inb) :
    sq2 (VecWindow.window A ![j, h, 0, 0] S1x1x128x128.size inb) = stAt A j h := by
  funext z
  rw [sq2_apply]
  unfold VecWindow.window stAt
  congr 1
  funext a
  match a with
  | ⟨0, _⟩ => refine Fin.ext ?_; show j + 1 * 0 = j % 16; omega
  | ⟨1, _⟩ => refine Fin.ext ?_; show h + 1 * 0 = h % 4; omega
  | ⟨2, _⟩ => refine Fin.ext ?_; show 0 + 1 * (z 0).val = (z 0).val; omega
  | ⟨3, _⟩ => refine Fin.ext ?_; show 0 + 1 * (z 1).val = (z 1).val; omega

theorem stk4_stAt (A : S16x4x128x128.Idx → F .f32) : stk4 (stAt A) = A := by
  funext y
  unfold stk4 stAt
  congr 1
  funext a
  match a with
  | ⟨0, _⟩ => refine Fin.ext ?_; show (y 0).val % 16 = (y 0).val; exact Nat.mod_eq_of_lt (y 0).isLt
  | ⟨1, _⟩ => refine Fin.ext ?_; show (y 1).val % 4 = (y 1).val; exact Nat.mod_eq_of_lt (y 1).isLt
  | ⟨2, _⟩ => rfl
  | ⟨3, _⟩ => rfl

theorem stk4_congr {f g : ℕ → ℕ → VD F} (h : ∀ j < 16, ∀ i < 4, f j i = g j i) : stk4 f = stk4 g := by
  funext y
  have h0 : (y 0).val < 16 := (y 0).isLt
  have h1 : (y 1).val < 4 := (y 1).isLt
  unfold stk4
  rw [h _ h0 _ h1]

/-- Four heads' values set in turn are the row of values. -/
theorem upd2_four {α : Type} (f : ℕ → ℕ → α) (j : ℕ) (w : ℕ → α) {j' i : ℕ} (hi : i < 4) :
    upd2 (upd2 (upd2 (upd2 f j 0 (w 0)) j 1 (w 1)) j 2 (w 2)) j 3 (w 3) j' i = if j' = j then w i else f j' i := by
  unfold upd2
  by_cases hj : j' = j
  · interval_cases i <;> simp [hj]
  · simp [hj]

theorem update_four {α : Type} (f : ℕ → α) (w : ℕ → α) {i : ℕ} (hi : i < 4) :
    Function.update (Function.update (Function.update (Function.update f 0 (w 0)) 1 (w 1)) 2 (w 2)) 3 (w 3) i = w i := by
  interval_cases i <;> simp [Function.update]

theorem put_stk4 (P : ℕ → ℕ → VD F) {j h : ℕ} (x : VD F) :
    VecWindow.put (s := S16x4x128x128) (stk4 P) ![j, h, 0, 0] S1x1x128x128.size (upD4 x) = stk4 (upd2 P j h x) := by
  funext y
  have h2 : (y 2).val < 128 := (y 2).isLt
  have h3 : (y 3).val < 128 := (y 3).isLt
  rw [put_apply]
  unfold stk4 upd2
  by_cases hc : (y 0).val = j ∧ (y 1).val = h
  · rw [if_pos hc, dif_pos]
    · rw [upD4_apply]
      congr 1
    · intro a
      match a with
      | ⟨0, _⟩ => show j ≤ (y 0).val ∧ (y 0).val < j + 1; omega
      | ⟨1, _⟩ => show h ≤ (y 1).val ∧ (y 1).val < h + 1; omega
      | ⟨2, _⟩ => show 0 ≤ (y 2).val ∧ (y 2).val < 0 + 128; omega
      | ⟨3, _⟩ => show 0 ≤ (y 3).val ∧ (y 3).val < 0 + 128; omega
  · rw [if_neg hc, dif_neg]
    intro hall
    have a0 : j ≤ (y 0).val ∧ (y 0).val < j + 1 := hall 0
    have a1 : h ≤ (y 1).val ∧ (y 1).val < h + 1 := hall 1
    omega

/-- Staging one plane of the row scratch. -/
theorem put_plane (X : S3x16x512.Idx → F .f32) (K : S256x512.Idx → F .f32) {j p : ℕ} (hj : j < 16) (inb) (y : S3x16x512.Idx) :
    VecWindow.put (s := S3x16x512) X ![p, 0, 0] S1x16x512.size (up512 (VecWindow.window K ![16 * j, 0] S16x512.size inb)) y
      = if (y 0).val = p then K (ix2 (Fin.ofNat 256 (16 * j + (y 1).val)) (y 2)) else X y := by
  have h1 : (y 1).val < 16 := (y 1).isLt
  have h2 : (y 2).val < 512 := (y 2).isLt
  rw [put_apply]
  by_cases hc : (y 0).val = p
  · rw [if_pos hc, dif_pos]
    · rw [up512_apply]
      unfold VecWindow.window
      congr 1
      funext a
      match a with
      | ⟨0, _⟩ => refine Fin.ext ?_; show 16 * j + 1 * ((y 1).val - 0) = (16 * j + (y 1).val) % 256; omega
      | ⟨1, _⟩ => refine Fin.ext ?_; show 0 + 1 * ((y 2).val - 0) = (y 2).val; omega
    · intro a
      match a with
      | ⟨0, _⟩ => show p ≤ (y 0).val ∧ (y 0).val < p + 1; omega
      | ⟨1, _⟩ => show 0 ≤ (y 1).val ∧ (y 1).val < 0 + 16; omega
      | ⟨2, _⟩ => show 0 ≤ (y 2).val ∧ (y 2).val < 0 + 512; omega
  · rw [if_neg hc, dif_neg]
    intro hall
    have a0 : p ≤ (y 0).val ∧ (y 0).val < p + 1 := hall 0
    omega

theorem staged (X : S3x16x512.Idx → F .f32) (K G V : S256x512.Idx → F .f32) {j : ℕ} (hj : j < 16) (i1 i2 i3) :
    VecWindow.put (s := S3x16x512) (VecWindow.put (s := S3x16x512) (VecWindow.put (s := S3x16x512) X
        ![0, 0, 0] S1x16x512.size (up512 (VecWindow.window K ![16 * j, 0] S16x512.size i1)))
        ![1, 0, 0] S1x16x512.size (up512 (VecWindow.window G ![16 * j, 0] S16x512.size i2)))
        ![2, 0, 0] S1x16x512.size (up512 (VecWindow.window V ![16 * j, 0] S16x512.size i3))
      = subRows K G V j := by
  funext y
  have h0 : (y 0).val < 3 := (y 0).isLt
  rw [put_plane _ _ hj, put_plane _ _ hj, put_plane _ _ hj]
  unfold subRows
  by_cases h2 : (y 0).val = 2
  · rw [if_pos h2, if_neg (by omega), if_neg (by omega)]
  by_cases h1 : (y 0).val = 1
  · rw [if_neg h2, if_pos h1, if_neg (by omega), if_pos h1]
  · rw [if_neg h2, if_neg h1, if_pos (by omega), if_pos (by omega)]

theorem blk1_subRows (K G V : S256x512.Idx → F .f32) {j p h : ℕ} (hj : j < 16) (hh : h < 4) (inb) :
    blk1 (VecWindow.window (subRows K G V j) ![p, 0, 128 * h] S1x16x128.size inb) = blk (if p = 0 then K else if p = 1 then G else V) j h := by
  funext z
  have h0 := ValueIdx.idx2_lt0 z
  have h1 := ValueIdx.idx2_lt1 z
  rw [blk1_apply]
  unfold VecWindow.window subRows blk
  have e : ((Rect.unit (s := S3x16x512) ![p, 0, 128 * h] S1x16x128.size inb).emb (ix3 0 (z 0) (z 1)) 0).val = p := by
    show p + 1 * 0 = p; omega
  rw [e]
  generalize (if p = 0 then K else if p = 1 then G else V) = A
  congr 1
  funext a
  match a with
  | ⟨0, _⟩ => refine Fin.ext ?_; show (16 * j + (0 + 1 * (z 0).val)) % 256 = (16 * j + (z 0).val) % 256; omega
  | ⟨1, _⟩ => refine Fin.ext ?_; show 128 * h + 1 * (z 1).val = (128 * h + (z 1).val) % 512; omega

theorem row1_subRows (K G V : S256x512.Idx → F .f32) {j p h s : ℕ} (hj : j < 16) (hh : h < 4) (hs : s < 16) (inb) :
    row1 (VecWindow.window (subRows K G V j) ![p, s, 128 * h] S1x1x128.size inb) = rowOf (blk (if p = 0 then K else if p = 1 then G else V) j h) s := by
  funext z
  have h1 := ValueIdx.idx2_lt1 z
  rw [row1_apply]
  unfold VecWindow.window subRows rowOf blk
  have e : ((Rect.unit (s := S3x16x512) ![p, s, 128 * h] S1x1x128.size inb).emb (ix3 0 0 (z 1)) 0).val = p := by
    show p + 1 * 0 = p; omega
  rw [e]
  generalize (if p = 0 then K else if p = 1 then G else V) = A
  congr 1
  funext a
  match a with
  | ⟨0, _⟩ => refine Fin.ext ?_; show (16 * j + (s + 1 * 0)) % 256 = (16 * j + s % 16) % 256; omega
  | ⟨1, _⟩ => refine Fin.ext ?_; show 128 * h + 1 * (z 1).val = (128 * h + (z 1).val) % 512; omega

theorem put_lift1 (X : S3x16x128.Idx → F .f32) {p s : ℕ} (x : V1 F) (y : S3x16x128.Idx) :
    VecWindow.put (s := S3x16x128) X ![p, s, 0] S1x1x128.size (lift1 x) y
      = if (y 0).val = p ∧ (y 1).val = s then x (ix2 0 (y 2)) else X y := by
  have h2 : (y 2).val < 128 := (y 2).isLt
  rw [put_apply]
  by_cases hc : (y 0).val = p ∧ (y 1).val = s
  · rw [if_pos hc, dif_pos]
    · rw [lift1_apply]
      congr 1
    · intro a
      match a with
      | ⟨0, _⟩ => show p ≤ (y 0).val ∧ (y 0).val < p + 1; omega
      | ⟨1, _⟩ => show s ≤ (y 1).val ∧ (y 1).val < s + 1; omega
      | ⟨2, _⟩ => show 0 ≤ (y 2).val ∧ (y 2).val < 0 + 128; omega
  · rw [if_neg hc, dif_neg]
    intro hall
    have a0 : p ≤ (y 0).val ∧ (y 0).val < p + 1 := hall 0
    have a1 : s ≤ (y 1).val ∧ (y 1).val < s + 1 := hall 1
    omega

theorem blk1_acc (X : S3x16x128.Idx → F .f32) {p : ℕ} (hp : p < 3) (inb) (z : S16x128.Idx) :
    blk1 (VecWindow.window X ![p, 0, 0] S1x16x128.size inb) z = X (ix3 ⟨p, hp⟩ (z 0) (z 1)) := by
  rw [blk1_apply]
  unfold VecWindow.window
  congr 1
  funext a
  match a with
  | ⟨0, _⟩ => refine Fin.ext ?_; show p + 1 * 0 = p; omega
  | ⟨1, _⟩ => refine Fin.ext ?_; show 0 + 1 * (z 0).val = (z 0).val; omega
  | ⟨2, _⟩ => refine Fin.ext ?_; show 0 + 1 * (z 1).val = (z 1).val; omega

end Cert.KernelIdeal.Hg

end
-- ==== Proof.Straight.lean ====
/- Programs that only load and store blocks of a fixed family of memrefs, as functions on what the memrefs hold. -/
module

public import Idealize.ShloMosaic.Lib.VecWindow
public import Idealize.ShloMosaic.Lib.Exec
public import Idealize.ShloMosaic.Lib.Tactic
public import Idealize.ShloMosaic.Lib.Scf
public import Idealize.ShloMosaic.Lib.Pipeline.Kit

@[expose] public section

noncomputable section

namespace Cert.Straight

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F] {Λ : Labels}
variable {Ix : Type} [DecidableEq Ix] {Name : Type} [DecidableEq Name] {U : Type} [RA.URA U] {Lvl : Type} [Preorder Lvl]

local notation "𝕄" => MT nD τ sig Ix (Elt F) Name U Lvl

section

variable {n : ℕ} {S : Fin n → Shape}

/-- What a family of vector memrefs holds: one vector each. -/
abbrev St (F : FTy → Type) {n : ℕ} (S : Fin n → Shape) := (i : Fin n) → (S i).Idx → F .f32

variable (defs : Defs nD τ sig (Elt F) Λ) (𝒱 : Variants) (c : Dev nD) (bd : Option 𝒱.V)
variable (M : (i : Fin n) → Memref sig .tc .vmem (S i) .f32)

/-- The family held, memref `i` at `σ i`. -/
def Held (σ : St F S) : sProp 𝕄 :=
  bigSep Finset.univ fun i => owns (c : Thread nD τ) (M i) fullShare (σ i : (S i).Idx → Elt F .f32)

/-- From the family at `σ` the program `p` returns `a` and leaves the family at `σ'`. -/
def Runs {α : Type} (p : Prog (TpuEff nD τ sig (Elt F) Λ .tc) α) (σ : St F S) (a : α) (σ' : St F S) : Prop :=
  ∀ (E : Set Name) (Q : α → sProp 𝕄),
    iprop(Held c M σ ∗ (Held c M σ' -∗ Q a)) ⊢ wp frame (wpE defs 𝒱 (c : Thread nD τ) bd) E p Q

variable {defs 𝒱 c bd M}

/-- The family but memref `i`. -/
def Rest (c : Dev nD) (M : (i : Fin n) → Memref sig .tc .vmem (S i) .f32) (i : Fin n) (σ : St F S) : sProp 𝕄 :=
  bigSep (Finset.univ.erase i) fun i => owns (c : Thread nD τ) (M i) fullShare (σ i : (S i).Idx → Elt F .f32)

theorem held_split (i : Fin n) (σ : St F S) :
    (Held c M σ : sProp 𝕄) = iprop(owns (c : Thread nD τ) (M i) fullShare (σ i : (S i).Idx → Elt F .f32) ∗ Rest c M i σ) :=
  bigSep_univ_split i

theorem rest_update (i : Fin n) (σ : St F S) (x : (S i).Idx → F .f32) :
    (Rest c M i (Function.update σ i x) : sProp 𝕄) = Rest c M i σ :=
  bigSep_congr fun j hj => by rw [Function.update_of_ne (Finset.ne_of_mem_erase hj)]

theorem Runs.pure {α : Type} (a : α) (σ : St F S) :
    Runs (Ix := Ix) (Name := Name) (U := U) (Lvl := Lvl) defs 𝒱 c bd M (pure a) σ a σ := by
  intro E Q
  iintro ⟨H, HQ⟩
  simp only [Prog.pure_eq_ret, wp_ret]
  imodintro
  iapply HQ $$ H

theorem Runs.bind {α β : Type} {p : Prog (TpuEff nD τ sig (Elt F) Λ .tc) α} {k : α → Prog (TpuEff nD τ sig (Elt F) Λ .tc) β}
    {σ σ' σ'' : St F S} {a : α} {b : β}
    (hp : Runs (Ix := Ix) (Name := Name) (U := U) (Lvl := Lvl) defs 𝒱 c bd M p σ a σ')
    (hk : Runs (Ix := Ix) (Name := Name) (U := U) (Lvl := Lvl) defs 𝒱 c bd M (k a) σ' b σ'') :
    Runs (Ix := Ix) (Name := Name) (U := U) (Lvl := Lvl) defs 𝒱 c bd M (p >>= k) σ b σ'' := by
  intro E Q
  rw [wp_bind]
  refine BIBase.Entails.trans ?_ (hp E _)
  iintro ⟨H, HQ⟩
  isplitl [H]; · iexact H
  iintro H
  iapply (hk E Q)
  isplitl [H]; · iexact H
  iexact HQ

theorem Runs.eq {α : Type} {p : Prog (TpuEff nD τ sig (Elt F) Λ .tc) α} {σ σ' σ'' : St F S} {a b : α}
    (hp : Runs (Ix := Ix) (Name := Name) (U := U) (Lvl := Lvl) defs 𝒱 c bd M p σ a σ') (hb : a = b) (hs : σ' = σ'') :
    Runs (Ix := Ix) (Name := Name) (U := U) (Lvl := Lvl) defs 𝒱 c bd M p σ b σ'' := hb ▸ hs ▸ hp

/-- A load of a block of memref `i` returns the window of what it holds. -/
theorem Runs.load (i : Fin n) (σ : St F S) {off off' size : Fin (S i).rank → ℕ} (inb : ∀ a, off a + size a ≤ (S i).size a)
    (hl : (M i).view.LoadsAt (Rect.unit off size inb).toLoadRect) (h : off = off') (inb' : ∀ a, off' a + size a ≤ (S i).size a) :
    Runs (Ix := Ix) (Name := Name) (U := U) (Lvl := Lvl) defs 𝒱 c bd M
      (Prog.lift (.load (M i) (Rect.unit off size inb).toLoadRect hl)) σ (VecWindow.window (σ i) off' size inb') σ := by
  intro E Q
  unfold Prog.lift
  rw [held_split i]
  iintro ⟨⟨Hi, Hr⟩, HQ⟩
  unfold owns
  icases Hi with ⟨%f, %hf, Hi⟩
  iapply (wp_load 𝒱 (c : Thread nD τ) bd E (m := M i) (S := (M i).view.set)
    (hS := View.setOn_subset_set _ _)) $$ [Hi]
  · iexact Hi
  iintro Hi
  rw [wp_ret, View.readAt_unit _ f inb h inb', hf]
  imodintro
  iapply HQ
  isplitl [Hi]
  · iexists f; isplitr; · ipureintro; exact hf
    iexact Hi
  iexact Hr

/-- An unmasked store of a block puts the payload there. -/
theorem Runs.store (i : Fin n) (σ : St F S) {off off' size : Fin (S i).rank → ℕ} (inb : ∀ a, off a + size a ≤ (S i).size a)
    (w : (Rect.unit off size inb).shape.Idx → Elt F .f32) (hx : ((M i).access (Rect.unit off size inb)).Stores Finset.univ)
    (hm : Finset.univ = Finset.univ ∨ ∀ a, (Rect.unit off size inb).stride a = 1) (h : off = off') :
    Runs (Ix := Ix) (Name := Name) (U := U) (Lvl := Lvl) defs 𝒱 c bd M
      (Prog.lift (.store (M i) (Rect.unit off size inb) w Finset.univ hx hm)) σ PUnit.unit
      (Function.update σ i (VecWindow.put (σ i) off' size w)) := by
  intro E Q
  unfold Prog.lift
  rw [held_split i, held_split i, rest_update]
  iintro ⟨⟨Hi, Hr⟩, HQ⟩
  unfold owns
  icases Hi with ⟨%f, %hf, Hi⟩
  iapply (wp_store 𝒱 (c : Thread nD τ) bd E (m := M i) (r := Rect.unit off size inb) (Mk := Finset.univ)
    (hS := Memref.setOn_access_subset (M i) _ _)) $$ [Hi]
  · iexact Hi
  iintro Hi
  rw [wp_ret]
  imodintro
  iapply HQ
  isplitl [Hi]
  · iexists _; isplitr; swap; · iexact Hi
    ipureintro
    rw [Function.update_self]
    have := View.read_writes_cons_put (M i).view f inb w [] h
    rw [View.writes_nil, hf] at this
    exact this
  iexact Hr

/-- The trips of a counted loop, by what holds of the family before each. -/
theorem Runs.forFrom {m : ℕ} (body : Fin m → PUnit → Prog (TpuEff nD τ sig (Elt F) Λ .tc) PUnit) (I : ℕ → St F S → Prop)
    (hbody : ∀ (t : Fin m) (σ : St F S), I t.val σ → ∃ σ', I (t.val + 1) σ' ∧
      Runs (Ix := Ix) (Name := Name) (U := U) (Lvl := Lvl) defs 𝒱 c bd M (body t ⟨⟩) σ ⟨⟩ σ') :
    ∀ (d k : ℕ), k + d = m → ∀ σ : St F S, I k σ → ∃ σ', I m σ' ∧
      Runs (Ix := Ix) (Name := Name) (U := U) (Lvl := Lvl) defs 𝒱 c bd M (Scf.forFrom body ((List.finRange m).drop k) ⟨⟩) σ ⟨⟩ σ' := by
  intro d
  induction d with
  | zero =>
    intro k hk σ hσ
    obtain rfl : k = m := by omega
    refine ⟨σ, hσ, ?_⟩
    rw [List.drop_of_length_le (by simp), Scf.forFrom_nil]
    exact Runs.pure _ _
  | succ d ih =>
    intro k hk σ hσ
    have hlt : k < m := by omega
    obtain ⟨σ₁, h₁, r₁⟩ := hbody ⟨k, hlt⟩ σ hσ
    obtain ⟨σ₂, h₂, r₂⟩ := ih (k + 1) (by omega) σ₁ h₁
    refine ⟨σ₂, h₂, ?_⟩
    rw [List.drop_eq_getElem_cons (by simpa using hlt), List.getElem_finRange, Fin.cast_mk, Scf.forFrom_cons]
    exact Runs.bind r₁ r₂

/-- A counted loop, by what holds of the family before each trip. -/
theorem Runs.for {w : ℕ} (lb ub st : BitVec w) (hok : Scf.OK lb ub st)
    (body : Fin (Scf.trips lb ub st) → PUnit → Prog (TpuEff nD τ sig (Elt F) Λ .tc) PUnit) (I : ℕ → St F S → Prop)
    (hbody : ∀ (t : Fin (Scf.trips lb ub st)) (σ : St F S), I t.val σ → ∃ σ', I (t.val + 1) σ' ∧
      Runs (Ix := Ix) (Name := Name) (U := U) (Lvl := Lvl) defs 𝒱 c bd M (body t ⟨⟩) σ ⟨⟩ σ')
    (σ : St F S) (hσ : I 0 σ) : ∃ σ', I (Scf.trips lb ub st) σ' ∧
      Runs (Ix := Ix) (Name := Name) (U := U) (Lvl := Lvl) defs 𝒱 c bd M (Scf.for lb ub st hok ⟨⟩ body) σ ⟨⟩ σ' := by
  rw [Scf.for_eq]
  exact Runs.forFrom body I hbody _ 0 (Nat.zero_add _) σ hσ

end

end Cert.Straight

end
-- ==== Proof.HgRuns.lean ====
/- What the reverse recurrence's kernel body leaves in its buffers: columns, heads, a sub-chunk, a tile. -/
module

public import proofs.«01_k».proof.Proof.HgBlocks
public import proofs.«01_k».proof.Proof.Straight

@[expose] public section

noncomputable section

namespace Cert.KernelIdeal.Hg

open Idealize.ShloMosaic Idealize.ShloMosaic.TcCoe
open Idealize.SL Idealize.SL.RA Idealize.SL.BI Idealize.SL.Sem
open Cert.KernelIdeal Cert.KernelIdeal.Gen Cert.Straight

variable {F : FTy → Type} [FloatOps F]

/-! ### The values of one head -/

def rr : IVec S16x1 32 := iota .tc S16x1 32 [0] iota_S16x1_d0_w32

def dqN (q k v g d : V16 F) (sp : VD F) : ℕ → V16 F
  | 0 => dq0 g d sp
  | s + 1 => dqNext rr s g d (rowOf k s) (rowOf g s) (rowOf v s) (dqN q k v g d sp s)
def dgN (q k v g d : V16 F) (sp ds : VD F) : ℕ → V16 F
  | 0 => dg0 rr q k v g d (rowOf g 15) sp ds
  | s + 1 => dgNext rr s q g d (rowOf k s) (rowOf g s) (rowOf v s) (dgN q k v g d sp ds s)
def accRow (q k v g d : V16 F) (p s : ℕ) : V1 F :=
  if p = 0 then dvRow rr s q g d (rowOf k s) (rowOf g s)
  else if p = 1 then dkRow rr s q g d (rowOf g s) (rowOf v s)
  else mulf (rowOf k s) (dkRow rr s q g d (rowOf g s) (rowOf v s))
def hdq (q k v g d : V16 F) (sp : VD F) : V16 F := dqN q k v g d sp 16
def hdk (q k v g d : V16 F) (ds : VD F) : V16 F := addf (dk0 v g (rowOf g 15) ds) (rowsOf (accRow q k v g d 1))
def hdv (q k v g d : V16 F) (ds : VD F) : V16 F := addf (dv0 k g (rowOf g 15) ds) (rowsOf (accRow q k v g d 0))
def hdg (q k v g d : V16 F) (sp ds : VD F) : V16 F := subf (dgN q k v g d sp ds 16) (rowsOf (accRow q k v g d 2))
def hds (q g d : V16 F) (ds : VD F) : VD F := dsNext q g d (rowOf g 15) ds

/-- One column's rows put into the accumulator scratch. -/
def put3 (x : S3x16x128.Idx → F .f32) (s : ℕ) (a b c : V1 F) : S3x16x128.Idx → F .f32 :=
  VecWindow.put (s := S3x16x128) (VecWindow.put (s := S3x16x128) (VecWindow.put (s := S3x16x128) x ![0, s, 0] S1x1x128.size (lift1 a))
    ![1, s, 0] S1x1x128.size (lift1 b)) ![2, s, 0] S1x1x128.size (lift1 c)

/-! ### The reverse kernel's buffers -/

abbrev bS : Fin 13 → Shape
  | 0 => S256x512 | 1 => S256x512 | 2 => S256x512 | 3 => S256x512 | 4 => S256x512 | 5 => S16x4x128x128
  | 6 => S256x512 | 7 => S256x512 | 8 => S256x512 | 9 => S256x512 | 10 => S4x128x128 | 11 => S3x16x512 | 12 => S3x16x128

section
variable (aq ak ag av ado : Memref sig .tc .vmem S256x512 .f32) (ast : Memref sig .tc .vmem S16x4x128x128 .f32)
  (odq odk odv odg : Memref sig .tc .vmem S256x512 .f32) (dst : Memref sig .tc .vmem S4x128x128 .f32)
  (sr : Memref sig .tc .vmem S3x16x512 .f32) (ra : Memref sig .tc .vmem S3x16x128 .f32)

/-- Its buffers … -/
@[reducible] def bM : (i : Fin 13) → Memref sig .tc .vmem (bS i) .f32
  | 0 => aq | 1 => ak | 2 => ag | 3 => av | 4 => ado | 5 => ast | 6 => odq | 7 => odk | 8 => odv | 9 => odg | 10 => dst | 11 => sr | 12 => ra
end

/-- … and what they hold. -/
@[reducible] def bσ (aq ak ag av ado : S256x512.Idx → F .f32) (ast : S16x4x128x128.Idx → F .f32)
    (odq odk odv odg : S256x512.Idx → F .f32) (dst : S4x128x128.Idx → F .f32) (sr : S3x16x512.Idx → F .f32) (ra : S3x16x128.Idx → F .f32) : St F bS
  | 0 => aq | 1 => ak | 2 => ag | 3 => av | 4 => ado | 5 => ast | 6 => odq | 7 => odk | 8 => odv | 9 => odg | 10 => dst | 11 => sr | 12 => ra

section
variable {A K G V O : S256x512.Idx → F .f32} {P : S16x4x128x128.Idx → F .f32} {y6 y7 y8 y9 : S256x512.Idx → F .f32}
  {y10 : S4x128x128.Idx → F .f32} {y11 : S3x16x512.Idx → F .f32} {y12 : S3x16x128.Idx → F .f32}

theorem bσ_set6 (x) : Function.update (bσ A K G V O P y6 y7 y8 y9 y10 y11 y12) 6 x = bσ A K G V O P x y7 y8 y9 y10 y11 y12 := by
  funext i; fin_cases i <;> rfl
theorem bσ_set7 (x) : Function.update (bσ A K G V O P y6 y7 y8 y9 y10 y11 y12) 7 x = bσ A K G V O P y6 x y8 y9 y10 y11 y12 := by
  funext i; fin_cases i <;> rfl
theorem bσ_set8 (x) : Function.update (bσ A K G V O P y6 y7 y8 y9 y10 y11 y12) 8 x = bσ A K G V O P y6 y7 x y9 y10 y11 y12 := by
  funext i; fin_cases i <;> rfl
theorem bσ_set9 (x) : Function.update (bσ A K G V O P y6 y7 y8 y9 y10 y11 y12) 9 x = bσ A K G V O P y6 y7 y8 x y10 y11 y12 := by
  funext i; fin_cases i <;> rfl
theorem bσ_set10 (x) : Function.update (bσ A K G V O P y6 y7 y8 y9 y10 y11 y12) 10 x = bσ A K G V O P y6 y7 y8 y9 x y11 y12 := by
  funext i; fin_cases i <;> rfl
theorem bσ_set11 (x) : Function.update (bσ A K G V O P y6 y7 y8 y9 y10 y11 y12) 11 x = bσ A K G V O P y6 y7 y8 y9 y10 x y12 := by
  funext i; fin_cases i <;> rfl
theorem bσ_set12 (x) : Function.update (bσ A K G V O P y6 y7 y8 y9 y10 y11 y12) 12 x = bσ A K G V O P y6 y7 y8 y9 y10 y11 x := by
  funext i; fin_cases i <;> rfl
end

section
variable {Ix : Type} [DecidableEq Ix] {Name : Type} [DecidableEq Name] {U : Type} [RA.URA U] {Lvl : Type} [Preorder Lvl]
variable (defs : Defs nD τ sig (Elt F) Λ₀) (𝒱 : Variants) (c : Dev nD) (bd : Option 𝒱.V)
variable (aq ak ag av ado : Memref sig .tc .vmem S256x512 .f32) (ast : Memref sig .tc .vmem S16x4x128x128 .f32)
  (odq odk odv odg : Memref sig .tc .vmem S256x512 .f32) (dst : Memref sig .tc .vmem S4x128x128 .f32)
  (sr : Memref sig .tc .vmem S3x16x512 .f32) (ra : Memref sig .tc .vmem S3x16x128 .f32)

/-- The reverse kernel's buffers taken from one content to another. -/
abbrev BRuns {α : Type} (p : Pr (F := F) α) (σ : St F bS) (a : α) (σ' : St F bS) : Prop :=
  Runs (Ix := Ix) (Name := Name) (U := U) (Lvl := Lvl) defs 𝒱 c bd (bM aq ak ag av ado ast odq odk odv odg dst sr ra) p σ a σ'

local notation "𝓡" => BRuns (Ix := Ix) (Name := Name) (U := U) (Lvl := Lvl) defs 𝒱 c bd aq ak ag av ado ast odq odk odv odg dst sr ra

variable {A K G V O : S256x512.Idx → F .f32} {P : S16x4x128x128.Idx → F .f32} {y6 y7 y8 y9 : S256x512.Idx → F .f32}
  {y10 : S4x128x128.Idx → F .f32} {y11 : S3x16x512.Idx → F .f32} {y12 : S3x16x128.Idx → F .f32}

theorem bload0 {off off' size : Fin S256x512.rank → ℕ} (inb : ∀ a, off a + size a ≤ S256x512.size a)
    (hl : aq.view.LoadsAt (Rect.unit (s := S256x512) off size inb).toLoadRect) (h : off = off') (inb' : ∀ a, off' a + size a ≤ S256x512.size a) :
    𝓡 (Prog.lift (.load aq (Rect.unit (s := S256x512) off size inb).toLoadRect hl)) (bσ A K G V O P y6 y7 y8 y9 y10 y11 y12)
      (VecWindow.window A off' size inb') (bσ A K G V O P y6 y7 y8 y9 y10 y11 y12) := Runs.load (M := bM aq ak ag av ado ast odq odk odv odg dst sr ra) 0 _ inb hl h inb'
theorem bload1 {off off' size : Fin S256x512.rank → ℕ} (inb : ∀ a, off a + size a ≤ S256x512.size a)
    (hl : ak.view.LoadsAt (Rect.unit (s := S256x512) off size inb).toLoadRect) (h : off = off') (inb' : ∀ a, off' a + size a ≤ S256x512.size a) :
    𝓡 (Prog.lift (.load ak (Rect.unit (s := S256x512) off size inb).toLoadRect hl)) (bσ A K G V O P y6 y7 y8 y9 y10 y11 y12)
      (VecWindow.window K off' size inb') (bσ A K G V O P y6 y7 y8 y9 y10 y11 y12) := Runs.load (M := bM aq ak ag av ado ast odq odk odv odg dst sr ra) 1 _ inb hl h inb'
theorem bload2 {off off' size : Fin S256x512.rank → ℕ} (inb : ∀ a, off a + size a ≤ S256x512.size a)
    (hl : ag.view.LoadsAt (Rect.unit (s := S256x512) off size inb).toLoadRect) (h : off = off') (inb' : ∀ a, off' a + size a ≤ S256x512.size a) :
    𝓡 (Prog.lift (.load ag (Rect.unit (s := S256x512) off size inb).toLoadRect hl)) (bσ A K G V O P y6 y7 y8 y9 y10 y11 y12)
      (VecWindow.window G off' size inb') (bσ A K G V O P y6 y7 y8 y9 y10 y11 y12) := Runs.load (M := bM aq ak ag av ado ast odq odk odv odg dst sr ra) 2 _ inb hl h inb'
theorem bload3 {off off' size : Fin S256x512.rank → ℕ} (inb : ∀ a, off a + size a ≤ S256x512.size a)
    (hl : av.view.LoadsAt (Rect.unit (s := S256x512) off size inb).toLoadRect) (h : off = off') (inb' : ∀ a, off' a + size a ≤ S256x512.size a) :
    𝓡 (Prog.lift (.load av (Rect.unit (s := S256x512) off size inb).toLoadRect hl)) (bσ A K G V O P y6 y7 y8 y9 y10 y11 y12)
      (VecWindow.window V off' size inb') (bσ A K G V O P y6 y7 y8 y9 y10 y11 y12) := Runs.load (M := bM aq ak ag av ado ast odq odk odv odg dst sr ra) 3 _ inb hl h inb'
theorem bload4 {off off' size : Fin S256x512.rank → ℕ} (inb : ∀ a, off a + size a ≤ S256x512.size a)
    (hl : ado.view.LoadsAt (Rect.unit (s := S256x512) off size inb).toLoadRect) (h : off = off') (inb' : ∀ a, off' a + size a ≤ S256x512.size a) :
    𝓡 (Prog.lift (.load ado (Rect.unit (s := S256x512) off size inb).toLoadRect hl)) (bσ A K G V O P y6 y7 y8 y9 y10 y11 y12)
      (VecWindow.window O off' size inb') (bσ A K G V O P y6 y7 y8 y9 y10 y11 y12) := Runs.load (M := bM aq ak ag av ado ast odq odk odv odg dst sr ra) 4 _ inb hl h inb'
theorem bload5 {off off' size : Fin S16x4x128x128.rank → ℕ} (inb : ∀ a, off a + size a ≤ S16x4x128x128.size a)
    (hl : ast.view.LoadsAt (Rect.unit (s := S16x4x128x128) off size inb).toLoadRect) (h : off = off') (inb' : ∀ a, off' a + size a ≤ S16x4x128x128.size a) :
    𝓡 (Prog.lift (.load ast (Rect.unit (s := S16x4x128x128) off size inb).toLoadRect hl)) (bσ A K G V O P y6 y7 y8 y9 y10 y11 y12)
      (VecWindow.window P off' size inb') (bσ A K G V O P y6 y7 y8 y9 y10 y11 y12) := Runs.load (M := bM aq ak ag av ado ast odq odk odv odg dst sr ra) 5 _ inb hl h inb'
theorem bload6 {off off' size : Fin S256x512.rank → ℕ} (inb : ∀ a, off a + size a ≤ S256x512.size a)
    (hl : odq.view.LoadsAt (Rect.unit (s := S256x512) off size inb).toLoadRect) (h : off = off') (inb' : ∀ a, off' a + size a ≤ S256x512.size a) :
    𝓡 (Prog.lift (.load odq (Rect.unit (s := S256x512) off size inb).toLoadRect hl)) (bσ A K G V O P y6 y7 y8 y9 y10 y11 y12)
      (VecWindow.window y6 off' size inb') (bσ A K G V O P y6 y7 y8 y9 y10 y11 y12) := Runs.load (M := bM aq ak ag av ado ast odq odk odv odg dst sr ra) 6 _ inb hl h inb'
theorem bload7 {off off' size : Fin S256x512.rank → ℕ} (inb : ∀ a, off a + size a ≤ S256x512.size a)
    (hl : odk.view.LoadsAt (Rect.unit (s := S256x512) off size inb).toLoadRect) (h : off = off') (inb' : ∀ a, off' a + size a ≤ S256x512.size a) :
    𝓡 (Prog.lift (.load odk (Rect.unit (s := S256x512) off size inb).toLoadRect hl)) (bσ A K G V O P y6 y7 y8 y9 y10 y11 y12)
      (VecWindow.window y7 off' size inb') (bσ A K G V O P y6 y7 y8 y9 y10 y11 y12) := Runs.load (M := bM aq ak ag av ado ast odq odk odv odg dst sr ra) 7 _ inb hl h inb'
theorem bload8 {off off' size : Fin S256x512.rank → ℕ} (inb : ∀ a, off a + size a ≤ S256x512.size a)
    (hl : odv.view.LoadsAt (Rect.unit (s := S256x512) off size inb).toLoadRect) (h : off = off') (inb' : ∀ a, off' a + size a ≤ S256x512.size a) :
    𝓡 (Prog.lift (.load odv (Rect.unit (s := S256x512) off size inb).toLoadRect hl)) (bσ A K G V O P y6 y7 y8 y9 y10 y11 y12)
      (VecWindow.window y8 off' size inb') (bσ A K G V O P y6 y7 y8 y9 y10 y11 y12) := Runs.load (M := bM aq ak ag av ado ast odq odk odv odg dst sr ra) 8 _ inb hl h inb'
theorem bload9 {off off' size : Fin S256x512.rank → ℕ} (inb : ∀ a, off a + size a ≤ S256x512.size a)
    (hl : odg.view.LoadsAt (Rect.unit (s := S256x512) off size inb).toLoadRect) (h : off = off') (inb' : ∀ a, off' a + size a ≤ S256x512.size a) :
    𝓡 (Prog.lift (.load odg (Rect.unit (s := S256x512) off size inb).toLoadRect hl)) (bσ A K G V O P y6 y7 y8 y9 y10 y11 y12)
      (VecWindow.window y9 off' size inb') (bσ A K G V O P y6 y7 y8 y9 y10 y11 y12) := Runs.load (M := bM aq ak ag av ado ast odq odk odv odg dst sr ra) 9 _ inb hl h inb'
theorem bload10 {off off' size : Fin S4x128x128.rank → ℕ} (inb : ∀ a, off a + size a ≤ S4x128x128.size a)
    (hl : dst.view.LoadsAt (Rect.unit (s := S4x128x128) off size inb).toLoadRect) (h : off = off') (inb' : ∀ a, off' a + size a ≤ S4x128x128.size a) :
    𝓡 (Prog.lift (.load dst (Rect.unit (s := S4x128x128) off size inb).toLoadRect hl)) (bσ A K G V O P y6 y7 y8 y9 y10 y11 y12)
      (VecWindow.window y10 off' size inb') (bσ A K G V O P y6 y7 y8 y9 y10 y11 y12) := Runs.load (M := bM aq ak ag av ado ast odq odk odv odg dst sr ra) 10 _ inb hl h inb'
theorem bload11 {off off' size : Fin S3x16x512.rank → ℕ} (inb : ∀ a, off a + size a ≤ S3x16x512.size a)
    (hl : sr.view.LoadsAt (Rect.unit (s := S3x16x512) off size inb).toLoadRect) (h : off = off') (inb' : ∀ a, off' a + size a ≤ S3x16x512.size a) :
    𝓡 (Prog.lift (.load sr (Rect.unit (s := S3x16x512) off size inb).toLoadRect hl)) (bσ A K G V O P y6 y7 y8 y9 y10 y11 y12)
      (VecWindow.window y11 off' size inb') (bσ A K G V O P y6 y7 y8 y9 y10 y11 y12) := Runs.load (M := bM aq ak ag av ado ast odq odk odv odg dst sr ra) 11 _ inb hl h inb'
theorem bload12 {off off' size : Fin S3x16x128.rank → ℕ} (inb : ∀ a, off a + size a ≤ S3x16x128.size a)
    (hl : ra.view.LoadsAt (Rect.unit (s := S3x16x128) off size inb).toLoadRect) (h : off = off') (inb' : ∀ a, off' a + size a ≤ S3x16x128.size a) :
    𝓡 (Prog.lift (.load ra (Rect.unit (s := S3x16x128) off size inb).toLoadRect hl)) (bσ A K G V O P y6 y7 y8 y9 y10 y11 y12)
      (VecWindow.window y12 off' size inb') (bσ A K G V O P y6 y7 y8 y9 y10 y11 y12) := Runs.load (M := bM aq ak ag av ado ast odq odk odv odg dst sr ra) 12 _ inb hl h inb'
theorem bstore6 {off off' size : Fin S256x512.rank → ℕ} (inb : ∀ a, off a + size a ≤ S256x512.size a)
    (w : (Rect.unit (s := S256x512) off size inb).shape.Idx → Elt F .f32) (hx : (odq.access (Rect.unit (s := S256x512) off size inb)).Stores Finset.univ)
    (hm : Finset.univ = Finset.univ ∨ ∀ a, (Rect.unit (s := S256x512) off size inb).stride a = 1) (h : off = off') :
    𝓡 (Prog.lift (.store odq (Rect.unit (s := S256x512) off size inb) w Finset.univ hx hm)) (bσ A K G V O P y6 y7 y8 y9 y10 y11 y12) PUnit.unit
      (bσ A K G V O P (VecWindow.put y6 off' size w) y7 y8 y9 y10 y11 y12) := (Runs.store (M := bM aq ak ag av ado ast odq odk odv odg dst sr ra) 6 _ inb w hx hm h).eq rfl (bσ_set6 _)
theorem bstore7 {off off' size : Fin S256x512.rank → ℕ} (inb : ∀ a, off a + size a ≤ S256x512.size a)
    (w : (Rect.unit (s := S256x512) off size inb).shape.Idx → Elt F .f32) (hx : (odk.access (Rect.unit (s := S256x512) off size inb)).Stores Finset.univ)
    (hm : Finset.univ = Finset.univ ∨ ∀ a, (Rect.unit (s := S256x512) off size inb).stride a = 1) (h : off = off') :
    𝓡 (Prog.lift (.store odk (Rect.unit (s := S256x512) off size inb) w Finset.univ hx hm)) (bσ A K G V O P y6 y7 y8 y9 y10 y11 y12) PUnit.unit
      (bσ A K G V O P y6 (VecWindow.put y7 off' size w) y8 y9 y10 y11 y12) := (Runs.store (M := bM aq ak ag av ado ast odq odk odv odg dst sr ra) 7 _ inb w hx hm h).eq rfl (bσ_set7 _)
theorem bstore8 {off off' size : Fin S256x512.rank → ℕ} (inb : ∀ a, off a + size a ≤ S256x512.size a)
    (w : (Rect.unit (s := S256x512) off size inb).shape.Idx → Elt F .f32) (hx : (odv.access (Rect.unit (s := S256x512) off size inb)).Stores Finset.univ)
    (hm : Finset.univ = Finset.univ ∨ ∀ a, (Rect.unit (s := S256x512) off size inb).stride a = 1) (h : off = off') :
    𝓡 (Prog.lift (.store odv (Rect.unit (s := S256x512) off size inb) w Finset.univ hx hm)) (bσ A K G V O P y6 y7 y8 y9 y10 y11 y12) PUnit.unit
      (bσ A K G V O P y6 y7 (VecWindow.put y8 off' size w) y9 y10 y11 y12) := (Runs.store (M := bM aq ak ag av ado ast odq odk odv odg dst sr ra) 8 _ inb w hx hm h).eq rfl (bσ_set8 _)
theorem bstore9 {off off' size : Fin S256x512.rank → ℕ} (inb : ∀ a, off a + size a ≤ S256x512.size a)
    (w : (Rect.unit (s := S256x512) off size inb).shape.Idx → Elt F .f32) (hx : (odg.access (Rect.unit (s := S256x512) off size inb)).Stores Finset.univ)
    (hm : Finset.univ = Finset.univ ∨ ∀ a, (Rect.unit (s := S256x512) off size inb).stride a = 1) (h : off = off') :
    𝓡 (Prog.lift (.store odg (Rect.unit (s := S256x512) off size inb) w Finset.univ hx hm)) (bσ A K G V O P y6 y7 y8 y9 y10 y11 y12) PUnit.unit
      (bσ A K G V O P y6 y7 y8 (VecWindow.put y9 off' size w) y10 y11 y12) := (Runs.store (M := bM aq ak ag av ado ast odq odk odv odg dst sr ra) 9 _ inb w hx hm h).eq rfl (bσ_set9 _)
theorem bstore10 {off off' size : Fin S4x128x128.rank → ℕ} (inb : ∀ a, off a + size a ≤ S4x128x128.size a)
    (w : (Rect.unit (s := S4x128x128) off size inb).shape.Idx → Elt F .f32) (hx : (dst.access (Rect.unit (s := S4x128x128) off size inb)).Stores Finset.univ)
    (hm : Finset.univ = Finset.univ ∨ ∀ a, (Rect.unit (s := S4x128x128) off size inb).stride a = 1) (h : off = off') :
    𝓡 (Prog.lift (.store dst (Rect.unit (s := S4x128x128) off size inb) w Finset.univ hx hm)) (bσ A K G V O P y6 y7 y8 y9 y10 y11 y12) PUnit.unit
      (bσ A K G V O P y6 y7 y8 y9 (VecWindow.put y10 off' size w) y11 y12) := (Runs.store (M := bM aq ak ag av ado ast odq odk odv odg dst sr ra) 10 _ inb w hx hm h).eq rfl (bσ_set10 _)
theorem bstore11 {off off' size : Fin S3x16x512.rank → ℕ} (inb : ∀ a, off a + size a ≤ S3x16x512.size a)
    (w : (Rect.unit (s := S3x16x512) off size inb).shape.Idx → Elt F .f32) (hx : (sr.access (Rect.unit (s := S3x16x512) off size inb)).Stores Finset.univ)
    (hm : Finset.univ = Finset.univ ∨ ∀ a, (Rect.unit (s := S3x16x512) off size inb).stride a = 1) (h : off = off') :
    𝓡 (Prog.lift (.store sr (Rect.unit (s := S3x16x512) off size inb) w Finset.univ hx hm)) (bσ A K G V O P y6 y7 y8 y9 y10 y11 y12) PUnit.unit
      (bσ A K G V O P y6 y7 y8 y9 y10 (VecWindow.put y11 off' size w) y12) := (Runs.store (M := bM aq ak ag av ado ast odq odk odv odg dst sr ra) 11 _ inb w hx hm h).eq rfl (bσ_set11 _)
theorem bstore12 {off off' size : Fin S3x16x128.rank → ℕ} (inb : ∀ a, off a + size a ≤ S3x16x128.size a)
    (w : (Rect.unit (s := S3x16x128) off size inb).shape.Idx → Elt F .f32) (hx : (ra.access (Rect.unit (s := S3x16x128) off size inb)).Stores Finset.univ)
    (hm : Finset.univ = Finset.univ ∨ ∀ a, (Rect.unit (s := S3x16x128) off size inb).stride a = 1) (h : off = off') :
    𝓡 (Prog.lift (.store ra (Rect.unit (s := S3x16x128) off size inb) w Finset.univ hx hm)) (bσ A K G V O P y6 y7 y8 y9 y10 y11 y12) PUnit.unit
      (bσ A K G V O P y6 y7 y8 y9 y10 y11 (VecWindow.put y12 off' size w)) := (Runs.store (M := bM aq ak ag av ado ast odq odk odv odg dst sr ra) 12 _ inb w hx hm h).eq rfl (bσ_set12 _)

variable (A K G V O P y6 y7 y8 y9 y10) in
theorem colStep_runs {j h s : ℕ} (hj : j < 16) (hh : h < 4) (hs : s < 16) (q d : V16 F) (a : V16 F × V16 F) (x : S3x16x128.Idx → F .f32)
    (hx : ∀ y : S3x16x128.Idx, (y 1).val < s → x y = accRow q (blk K j h) (blk V j h) (blk G j h) d (y 0).val (y 1).val (ix2 0 (y 2))) :
    ∃ x' : S3x16x128.Idx → F .f32,
      (∀ y : S3x16x128.Idx, (y 1).val < s + 1 → x' y = accRow q (blk K j h) (blk V j h) (blk G j h) d (y 0).val (y 1).val (ix2 0 (y 2))) ∧
      𝓡 (colStep sr ra rr q (blk G j h) d hh hs a) (bσ A K G V O P y6 y7 y8 y9 y10 (subRows K G V j) x)
        (dqNext rr s (blk G j h) d (rowOf (blk K j h) s) (rowOf (blk G j h) s) (rowOf (blk V j h) s) a.1,
          dgNext rr s q (blk G j h) d (rowOf (blk K j h) s) (rowOf (blk G j h) s) (rowOf (blk V j h) s) a.2)
        (bσ A K G V O P y6 y7 y8 y9 y10 (subRows K G V j) x') := by
  refine ⟨put3 x s (accRow q (blk K j h) (blk V j h) (blk G j h) d 0 s) (accRow q (blk K j h) (blk V j h) (blk G j h) d 1 s)
    (accRow q (blk K j h) (blk V j h) (blk G j h) d 2 s), ?_, ?_⟩
  · intro y hy
    have h0 : (y 0).val < 3 := (y 0).isLt
    unfold put3
    rw [put_lift1, put_lift1, put_lift1]
    by_cases hs' : (y 1).val = s
    · rw [← hs']
      by_cases h2 : (y 0).val = 2
      · rw [if_pos ⟨h2, rfl⟩, h2]
      · rw [if_neg fun e => h2 e.1]
        by_cases h1 : (y 0).val = 1
        · rw [if_pos ⟨h1, rfl⟩, h1]
        · rw [if_neg fun e => h1 e.1, if_pos ⟨by omega, rfl⟩, show (y 0).val = 0 by omega]
    · rw [if_neg fun e => hs' e.2, if_neg fun e => hs' e.2, if_neg fun e => hs' e.2]
      exact hx y (by omega)
  · unfold colStep
    refine Runs.bind (bload11 defs 𝒱 c bd aq ak ag av ado ast odq odk odv odg dst sr ra _ _ rfl (inbRow (by decide) hs hh)) ?_
    refine Runs.bind (bload11 defs 𝒱 c bd aq ak ag av ado ast odq odk odv odg dst sr ra _ _ rfl (inbRow (by decide) hs hh)) ?_
    refine Runs.bind (bload11 defs 𝒱 c bd aq ak ag av ado ast odq odk odv odg dst sr ra _ _ rfl (inbRow (by decide) hs hh)) ?_
    rw [row1_subRows K G V (p := 0) hj hh hs, row1_subRows K G V (p := 1) hj hh hs, row1_subRows K G V (p := 2) hj hh hs]
    refine Runs.bind (bload12 defs 𝒱 c bd aq ak ag av ado ast odq odk odv odg dst sr ra _ _ rfl (inbAcc (by decide) hs)) ?_
    refine Runs.bind (bstore12 defs 𝒱 c bd aq ak ag av ado ast odq odk odv odg dst sr ra _ _ _ _ rfl) ?_
    refine Runs.bind (bload12 defs 𝒱 c bd aq ak ag av ado ast odq odk odv odg dst sr ra _ _ rfl (inbAcc (by decide) hs)) ?_
    refine Runs.bind (bstore12 defs 𝒱 c bd aq ak ag av ado ast odq odk odv odg dst sr ra _ _ _ _ rfl) ?_
    refine Runs.bind (bload12 defs 𝒱 c bd aq ak ag av ado ast odq odk odv odg dst sr ra _ _ rfl (inbAcc (by decide) hs)) ?_
    refine Runs.bind (bstore12 defs 𝒱 c bd aq ak ag av ado ast odq odk odv odg dst sr ra _ _ _ _ rfl) ?_
    exact Runs.pure _ _

variable (A K G V O P y6 y7 y8 y9 y10) in
theorem cols_runs {j h : ℕ} (hj : j < 16) (hh : h < 4) (q d : V16 F) (sp ds : VD F) (x : S3x16x128.Idx → F .f32) :
    ∀ (n : ℕ) (hn : n ≤ 16), ∃ x' : S3x16x128.Idx → F .f32,
      (∀ y : S3x16x128.Idx, (y 1).val < n → x' y = accRow q (blk K j h) (blk V j h) (blk G j h) d (y 0).val (y 1).val (ix2 0 (y 2))) ∧
      𝓡 (cols sr ra rr q (blk G j h) d hh n hn
          (dqN q (blk K j h) (blk V j h) (blk G j h) d sp 0, dgN q (blk K j h) (blk V j h) (blk G j h) d sp ds 0))
        (bσ A K G V O P y6 y7 y8 y9 y10 (subRows K G V j) x)
        (dqN q (blk K j h) (blk V j h) (blk G j h) d sp n, dgN q (blk K j h) (blk V j h) (blk G j h) d sp ds n)
        (bσ A K G V O P y6 y7 y8 y9 y10 (subRows K G V j) x') := by
  intro n
  induction n with
  | zero => exact fun _ => ⟨x, fun y hy => absurd hy (Nat.not_lt_zero _), Runs.pure _ _⟩
  | succ n ih =>
    intro hn
    obtain ⟨x₁, h₁, r₁⟩ := ih (Nat.le_of_succ_le hn)
    obtain ⟨x₂, h₂, r₂⟩ := colStep_runs (Ix := Ix) (Name := Name) (U := U) (Lvl := Lvl) defs 𝒱 c bd aq ak ag av ado ast odq odk odv odg dst sr ra A K G V O P y6 y7 y8 y9 y10 hj hh hn q d
      (dqN q (blk K j h) (blk V j h) (blk G j h) d sp n, dgN q (blk K j h) (blk V j h) (blk G j h) d sp ds n) x₁ h₁
    exact ⟨x₂, h₂, Runs.bind r₁ r₂⟩

/-- The accumulator scratch's plane `p` once all columns are done. -/
theorem blk1_rows {X : S3x16x128.Idx → F .f32} {q k v g d : V16 F} {p : ℕ} (hp : p < 3) (inb)
    (hX : ∀ y : S3x16x128.Idx, (y 1).val < 16 → X y = accRow q k v g d (y 0).val (y 1).val (ix2 0 (y 2))) :
    blk1 (VecWindow.window X ![p, 0, 0] S1x16x128.size inb) = rowsOf (accRow q k v g d p) := by
  funext z
  rw [blk1_acc _ hp, hX _ (ValueIdx.idx2_lt0 z)]
  rfl

/-- One head's buffers. -/
abbrev headσ (A K G V O : S256x512.Idx → F .f32) (P : S16x4x128x128.Idx → F .f32) (fq fk fv fg : ℕ → ℕ → V16 F) (D : ℕ → VD F)
    (y11 : S3x16x512.Idx → F .f32) (y12 : S3x16x128.Idx → F .f32) : St F bS :=
  bσ A K G V O P (tileOf fq) (tileOf fk) (tileOf fv) (tileOf fg) (stk D) y11 y12

set_option maxHeartbeats 4000000 in
theorem head_runs {j h : ℕ} (hj : j < 16) (hh : h < 4) (fq fk fv fg : ℕ → ℕ → V16 F) (D : ℕ → VD F) (x : S3x16x128.Idx → F .f32)
    (o2 : Fin 2 → ℕ) (ho2) (o4 : Fin 4 → ℕ) (ho4) (e2 : o2 = ![16 * j, 128 * h]) (e4 : o4 = ![j, h, 0, 0]) :
    ∃ x' : S3x16x128.Idx → F .f32,
      𝓡 (head aq ado ast odq odk odv odg dst sr ra rr hh o2 ho2 o4 ho4)
        (headσ A K G V O P fq fk fv fg D (subRows K G V j) x) ⟨⟩
        (headσ A K G V O P (upd2 fq j h (hdq (blk A j h) (blk K j h) (blk V j h) (blk G j h) (blk O j h) (stAt P j h)))
          (upd2 fk j h (hdk (blk A j h) (blk K j h) (blk V j h) (blk G j h) (blk O j h) (D h)))
          (upd2 fv j h (hdv (blk A j h) (blk K j h) (blk V j h) (blk G j h) (blk O j h) (D h)))
          (upd2 fg j h (hdg (blk A j h) (blk K j h) (blk V j h) (blk G j h) (blk O j h) (stAt P j h) (D h)))
          (Function.update D h (hds (blk A j h) (blk G j h) (blk O j h) (D h))) (subRows K G V j) x') := by
  subst e2 e4
  obtain ⟨x', hx, rc⟩ := cols_runs (Ix := Ix) (Name := Name) (U := U) (Lvl := Lvl) defs 𝒱 c bd aq ak ag av ado ast odq odk odv odg dst sr ra A K G V O P (tileOf fq) (tileOf fk) (tileOf fv) (tileOf fg)
    (stk (Function.update D h (hds (blk A j h) (blk G j h) (blk O j h) (D h)))) hj hh (blk A j h) (blk O j h) (stAt P j h) (D h) x 16 (Nat.le_refl 16)
  refine ⟨x', ?_⟩
  unfold head
  refine Runs.bind (bload0 defs 𝒱 c bd aq ak ag av ado ast odq odk odv odg dst sr ra _ _ rfl ho2) ?_
  refine Runs.bind (bload11 defs 𝒱 c bd aq ak ag av ado ast odq odk odv odg dst sr ra _ _ rfl (inbSub (by decide) hh)) ?_
  refine Runs.bind (bload11 defs 𝒱 c bd aq ak ag av ado ast odq odk odv odg dst sr ra _ _ rfl (inbSub (by decide) hh)) ?_
  refine Runs.bind (bload11 defs 𝒱 c bd aq ak ag av ado ast odq odk odv odg dst sr ra _ _ rfl (inbSub (by decide) hh)) ?_
  refine Runs.bind (bload4 defs 𝒱 c bd aq ak ag av ado ast odq odk odv odg dst sr ra _ _ rfl ho2) ?_
  refine Runs.bind (bload11 defs 𝒱 c bd aq ak ag av ado ast odq odk odv odg dst sr ra _ _ rfl (inbRow (by decide) (by decide) hh)) ?_
  refine Runs.bind (bload5 defs 𝒱 c bd aq ak ag av ado ast odq odk odv odg dst sr ra _ _ rfl ho4) ?_
  refine Runs.bind (bload10 defs 𝒱 c bd aq ak ag av ado ast odq odk odv odg dst sr ra _ _ rfl (inbSt hh)) ?_
  refine Runs.bind (bload10 defs 𝒱 c bd aq ak ag av ado ast odq odk odv odg dst sr ra _ _ rfl (inbSt hh)) ?_
  rw [window_blk A hj hh, window_blk O hj hh, blk1_subRows K G V (p := 0) hj hh, blk1_subRows K G V (p := 1) hj hh,
    blk1_subRows K G V (p := 2) hj hh, row1_subRows K G V (p := 1) hj hh (by decide), sq2_window P hj hh, sq_window_stk D hh]
  refine Runs.bind ((bstore10 defs 𝒱 c bd aq ak ag av ado ast odq odk odv odg dst sr ra _ _ _ _ rfl).eq rfl (by rw [put_stk])) ?_
  refine Runs.bind rc ?_
  refine Runs.bind (bload6 defs 𝒱 c bd aq ak ag av ado ast odq odk odv odg dst sr ra _ _ rfl ho2) ?_
  refine Runs.bind ((bstore6 defs 𝒱 c bd aq ak ag av ado ast odq odk odv odg dst sr ra _ _ _ _ rfl).eq rfl (by rw [put_tileOf])) ?_
  refine Runs.bind (bload12 defs 𝒱 c bd aq ak ag av ado ast odq odk odv odg dst sr ra _ _ rfl (inbAcc16 (by decide))) ?_
  refine Runs.bind (bload7 defs 𝒱 c bd aq ak ag av ado ast odq odk odv odg dst sr ra _ _ rfl ho2) ?_
  rw [blk1_rows (by decide) _ hx]
  refine Runs.bind ((bstore7 defs 𝒱 c bd aq ak ag av ado ast odq odk odv odg dst sr ra _ _ _ _ rfl).eq rfl (by rw [put_tileOf])) ?_
  refine Runs.bind (bload12 defs 𝒱 c bd aq ak ag av ado ast odq odk odv odg dst sr ra _ _ rfl (inbAcc16 (by decide))) ?_
  refine Runs.bind (bload8 defs 𝒱 c bd aq ak ag av ado ast odq odk odv odg dst sr ra _ _ rfl ho2) ?_
  rw [blk1_rows (by decide) _ hx]
  refine Runs.bind ((bstore8 defs 𝒱 c bd aq ak ag av ado ast odq odk odv odg dst sr ra _ _ _ _ rfl).eq rfl (by rw [put_tileOf])) ?_
  refine Runs.bind (bload12 defs 𝒱 c bd aq ak ag av ado ast odq odk odv odg dst sr ra _ _ rfl (inbAcc16 (by decide))) ?_
  refine Runs.bind (bload9 defs 𝒱 c bd aq ak ag av ado ast odq odk odv odg dst sr ra _ _ rfl ho2) ?_
  rw [blk1_rows (by decide) _ hx]
  exact (bstore9 defs 𝒱 c bd aq ak ag av ado ast odq odk odv odg dst sr ra _ _ _ _ rfl).eq rfl (by rw [put_tileOf]; rfl)

end

end Cert.KernelIdeal.Hg

end
-- ==== Proof.HgTrip.lean ====
/- What the reverse recurrence's kernel body leaves in its buffers: a sub-chunk, a tile. -/
module

public import proofs.«01_k».proof.Proof.HgRuns

@[expose] public section

noncomputable section

namespace Cert.KernelIdeal.Hg

open Idealize.ShloMosaic Idealize.ShloMosaic.TcCoe
open Idealize.SL Idealize.SL.RA Idealize.SL.BI Idealize.SL.Sem
open Cert.KernelIdeal Cert.KernelIdeal.Gen Cert.Straight

variable {F : FTy → Type} [FloatOps F]

/-- The state gradients of the heads once the last `n` sub-chunks of a tile are done. -/
def dstA (A G O : S256x512.Idx → F .f32) (D : ℕ → VD F) : ℕ → ℕ → VD F
  | 0 => D
  | n + 1 => fun h => hds (blk A (15 - n) h) (blk G (15 - n) h) (blk O (15 - n) h) (dstA A G O D n h)

/-- One head of one sub-chunk of a tile's four gradients. -/
def vdq (A K G V O : S256x512.Idx → F .f32) (P : S16x4x128x128.Idx → F .f32) (j h : ℕ) : V16 F :=
  hdq (blk A j h) (blk K j h) (blk V j h) (blk G j h) (blk O j h) (stAt P j h)
def vdk (A K G V O : S256x512.Idx → F .f32) (D : ℕ → VD F) (j h : ℕ) : V16 F :=
  hdk (blk A j h) (blk K j h) (blk V j h) (blk G j h) (blk O j h) (dstA A G O D (15 - j) h)
def vdv (A K G V O : S256x512.Idx → F .f32) (D : ℕ → VD F) (j h : ℕ) : V16 F :=
  hdv (blk A j h) (blk K j h) (blk V j h) (blk G j h) (blk O j h) (dstA A G O D (15 - j) h)
def vdg (A K G V O : S256x512.Idx → F .f32) (P : S16x4x128x128.Idx → F .f32) (D : ℕ → VD F) (j h : ℕ) : V16 F :=
  hdg (blk A j h) (blk K j h) (blk V j h) (blk G j h) (blk O j h) (stAt P j h) (dstA A G O D (15 - j) h)
/-- A tile of which the last `t` sub-chunks are done. -/
def partTile (f g : ℕ → ℕ → V16 F) (t : ℕ) : S256x512.Idx → F .f32 := tileOf fun j h => if 16 ≤ j + t then g j h else f j h

theorem tileOf_step (f g : ℕ → ℕ → V16 F) {t : ℕ} (ht : t < 16) (w : ℕ → V16 F) (hw : ∀ i < 4, w i = g (15 - t) i) :
    tileOf (upd2 (upd2 (upd2 (upd2 (fun j h => if 16 ≤ j + t then g j h else f j h) (15 - t) 0 (w 0)) (15 - t) 1 (w 1)) (15 - t) 2 (w 2)) (15 - t) 3 (w 3))
      = partTile f g (t + 1) := by
  refine tileOf_congr fun j hj i hi => ?_
  rw [upd2_four _ _ _ hi]
  by_cases e : j = 15 - t
  · rw [if_pos e, if_pos (by omega), hw i hi, e]
  · rw [if_neg e]
    by_cases e' : 16 ≤ j + t
    · rw [if_pos e', if_pos (by omega)]
    · rw [if_neg e', if_neg (by omega)]

section
variable {Ix : Type} [DecidableEq Ix] {Name : Type} [DecidableEq Name] {U : Type} [RA.URA U] {Lvl : Type} [Preorder Lvl]
variable (defs : Defs nD τ sig (Elt F) Λ₀) (𝒱 : Variants) (c : Dev nD) (bd : Option 𝒱.V)
variable (aq ak ag av ado : Memref sig .tc .vmem S256x512 .f32) (ast : Memref sig .tc .vmem S16x4x128x128 .f32)
  (odq odk odv odg : Memref sig .tc .vmem S256x512 .f32) (dst : Memref sig .tc .vmem S4x128x128 .f32)
  (sr : Memref sig .tc .vmem S3x16x512 .f32) (ra : Memref sig .tc .vmem S3x16x128 .f32)

local notation "𝓡" => BRuns (Ix := Ix) (Name := Name) (U := U) (Lvl := Lvl) defs 𝒱 c bd aq ak ag av ado ast odq odk odv odg dst sr ra

variable {A K G V O : S256x512.Idx → F .f32} {P : S16x4x128x128.Idx → F .f32} {y6 y7 y8 y9 : S256x512.Idx → F .f32}
  {y10 : S4x128x128.Idx → F .f32} {y11 : S3x16x512.Idx → F .f32} {y12 : S3x16x128.Idx → F .f32}

omit [FloatOps F] in
theorem bσ_congr {z6 z7 z8 z9 : S256x512.Idx → F .f32} {z10 : S4x128x128.Idx → F .f32} (h6 : y6 = z6) (h7 : y7 = z7) (h8 : y8 = z8) (h9 : y9 = z9)
    (h10 : y10 = z10) : bσ A K G V O P y6 y7 y8 y9 y10 y11 y12 = bσ A K G V O P z6 z7 z8 z9 z10 y11 y12 := by
  subst h6 h7 h8 h9 h10; rfl

theorem stage_runs1 {p : ℕ} (hp : p < 3) (o2 : Fin 2 → ℕ) (ho2) {j : ℕ} (e2 : o2 = ![16 * j, 0]) (ho3) :
    𝓡 (stage sr ak hp o2 ho2) (bσ A K G V O P y6 y7 y8 y9 y10 y11 y12) ⟨⟩
      (bσ A K G V O P y6 y7 y8 y9 y10 (VecWindow.put y11 ![p, 0, 0] S1x16x512.size (up512 (VecWindow.window K ![16 * j, 0] S16x512.size ho3))) y12) := by
  unfold stage
  refine Runs.bind (bload1 defs 𝒱 c bd aq ak ag av ado ast odq odk odv odg dst sr ra _ _ e2 ho3) ?_
  refine Runs.bind (bload11 defs 𝒱 c bd aq ak ag av ado ast odq odk odv odg dst sr ra _ _ rfl (inbFull hp)) ?_
  exact bstore11 defs 𝒱 c bd aq ak ag av ado ast odq odk odv odg dst sr ra _ _ _ _ rfl
theorem stage_runs2 {p : ℕ} (hp : p < 3) (o2 : Fin 2 → ℕ) (ho2) {j : ℕ} (e2 : o2 = ![16 * j, 0]) (ho3) :
    𝓡 (stage sr ag hp o2 ho2) (bσ A K G V O P y6 y7 y8 y9 y10 y11 y12) ⟨⟩
      (bσ A K G V O P y6 y7 y8 y9 y10 (VecWindow.put y11 ![p, 0, 0] S1x16x512.size (up512 (VecWindow.window G ![16 * j, 0] S16x512.size ho3))) y12) := by
  unfold stage
  refine Runs.bind (bload2 defs 𝒱 c bd aq ak ag av ado ast odq odk odv odg dst sr ra _ _ e2 ho3) ?_
  refine Runs.bind (bload11 defs 𝒱 c bd aq ak ag av ado ast odq odk odv odg dst sr ra _ _ rfl (inbFull hp)) ?_
  exact bstore11 defs 𝒱 c bd aq ak ag av ado ast odq odk odv odg dst sr ra _ _ _ _ rfl
theorem stage_runs3 {p : ℕ} (hp : p < 3) (o2 : Fin 2 → ℕ) (ho2) {j : ℕ} (e2 : o2 = ![16 * j, 0]) (ho3) :
    𝓡 (stage sr av hp o2 ho2) (bσ A K G V O P y6 y7 y8 y9 y10 y11 y12) ⟨⟩
      (bσ A K G V O P y6 y7 y8 y9 y10 (VecWindow.put y11 ![p, 0, 0] S1x16x512.size (up512 (VecWindow.window V ![16 * j, 0] S16x512.size ho3))) y12) := by
  unfold stage
  refine Runs.bind (bload3 defs 𝒱 c bd aq ak ag av ado ast odq odk odv odg dst sr ra _ _ e2 ho3) ?_
  refine Runs.bind (bload11 defs 𝒱 c bd aq ak ag av ado ast odq odk odv odg dst sr ra _ _ rfl (inbFull hp)) ?_
  exact bstore11 defs 𝒱 c bd aq ak ag av ado ast odq odk odv odg dst sr ra _ _ _ _ rfl

theorem head_runs' {j h : ℕ} (hj : j < 16) (hh : h < 4) (fq fk fv fg : ℕ → ℕ → V16 F) (D : ℕ → VD F) (d : VD F) (hD : D h = d)
    (x : S3x16x128.Idx → F .f32) (o2 : Fin 2 → ℕ) (ho2) (o4 : Fin 4 → ℕ) (ho4) (e2 : o2 = ![16 * j, 128 * h]) (e4 : o4 = ![j, h, 0, 0]) :
    ∃ x' : S3x16x128.Idx → F .f32,
      𝓡 (head aq ado ast odq odk odv odg dst sr ra rr hh o2 ho2 o4 ho4)
        (headσ A K G V O P fq fk fv fg D (subRows K G V j) x) ⟨⟩
        (headσ A K G V O P (upd2 fq j h (hdq (blk A j h) (blk K j h) (blk V j h) (blk G j h) (blk O j h) (stAt P j h)))
          (upd2 fk j h (hdk (blk A j h) (blk K j h) (blk V j h) (blk G j h) (blk O j h) d))
          (upd2 fv j h (hdv (blk A j h) (blk K j h) (blk V j h) (blk G j h) (blk O j h) d))
          (upd2 fg j h (hdg (blk A j h) (blk K j h) (blk V j h) (blk G j h) (blk O j h) (stAt P j h) d))
          (Function.update D h (hds (blk A j h) (blk G j h) (blk O j h) d)) (subRows K G V j) x') := by
  subst hD
  exact head_runs defs 𝒱 c bd aq ak ag av ado ast odq odk odv odg dst sr ra hj hh fq fk fv fg D x o2 ho2 o4 ho4 e2 e4

theorem k1_off1_at : ∀ t : Fin k1_t1_loop.trips, k1_off1 t = ![16 * (15 - t.val), 0] := by decide +kernel
theorem k1_off2_at : ∀ t : Fin k1_t1_loop.trips, k1_off2 t = ![16 * (15 - t.val), 128 * 0] := by decide +kernel
theorem k1_off4_at : ∀ t : Fin k1_t1_loop.trips, k1_off4 t = ![16 * (15 - t.val), 128 * 1] := by decide +kernel
theorem k1_off6_at : ∀ t : Fin k1_t1_loop.trips, k1_off6 t = ![16 * (15 - t.val), 128 * 2] := by decide +kernel
theorem k1_off8_at : ∀ t : Fin k1_t1_loop.trips, k1_off8 t = ![16 * (15 - t.val), 128 * 3] := by decide +kernel
theorem inbTile {j : ℕ} (hj : j < 16) : ∀ a, (![16 * j, 0] : Fin 2 → ℕ) a + S16x512.size a ≤ S256x512.size a := by
  intro a; fin_cases a <;> simp [S16x512, S256x512] <;> omega
theorem trips1 : k1_t1_loop.trips = 16 := by decide +kernel

/-- What the buffers hold before trip `t`. -/
def binv (A K G V O : S256x512.Idx → F .f32) (P : S16x4x128x128.Idx → F .f32) (D : ℕ → VD F) (fq fk fv fg : ℕ → ℕ → V16 F) (t : ℕ) (σ : St F bS) : Prop :=
  ∃ y11 y12, σ = bσ A K G V O P (partTile fq (vdq A K G V O P) t) (partTile fk (vdk A K G V O D) t) (partTile fv (vdv A K G V O D) t)
    (partTile fg (vdg A K G V O P D) t) (stk (dstA A G O D t)) y11 y12

theorem trip_runs (D : ℕ → VD F) (fq fk fv fg : ℕ → ℕ → V16 F) (t : Fin k1_t1_loop.trips) (σ : St F bS) (hσ : binv A K G V O P D fq fk fv fg t.val σ) :
    ∃ σ', binv A K G V O P D fq fk fv fg (t.val + 1) σ' ∧
      𝓡 (trip aq ado ast odq odk odv odg dst sr ra ak ag av rr t) σ ⟨⟩ σ' := by
  obtain ⟨y11, y12, rfl⟩ := hσ
  have ht : t.val < 16 := trips1 ▸ t.isLt
  have hj : 15 - t.val < 16 := by omega
  obtain ⟨x0, r0⟩ := head_runs' (Ix := Ix) (Name := Name) (U := U) (Lvl := Lvl) defs 𝒱 c bd aq ak ag av ado ast odq odk odv odg dst sr ra (A := A) (K := K) (G := G) (V := V) (O := O) (P := P) hj (h := 0) (by decide)
    (fun j h => if 16 ≤ j + t.val then vdq A K G V O P j h else fq j h)
    (fun j h => if 16 ≤ j + t.val then vdk A K G V O D j h else fk j h)
    (fun j h => if 16 ≤ j + t.val then vdv A K G V O D j h else fv j h)
    (fun j h => if 16 ≤ j + t.val then vdg A K G V O P D j h else fg j h)
    (dstA A G O D t.val) (dstA A G O D t.val 0) rfl
    y12 _ (k1_off2_inb t) _ (k1_off3_inb t) (k1_off2_at t) (k1_off3_eq t)
  obtain ⟨x1, r1⟩ := head_runs' (Ix := Ix) (Name := Name) (U := U) (Lvl := Lvl) defs 𝒱 c bd aq ak ag av ado ast odq odk odv odg dst sr ra (A := A) (K := K) (G := G) (V := V) (O := O) (P := P) hj (h := 1) (by decide)
    (upd2 (fun j h => if 16 ≤ j + t.val then vdq A K G V O P j h else fq j h) (15 - t.val) 0 (hdq (blk A (15 - t.val) 0) (blk K (15 - t.val) 0) (blk V (15 - t.val) 0) (blk G (15 - t.val) 0) (blk O (15 - t.val) 0) (stAt P (15 - t.val) 0)))
    (upd2 (fun j h => if 16 ≤ j + t.val then vdk A K G V O D j h else fk j h) (15 - t.val) 0 (hdk (blk A (15 - t.val) 0) (blk K (15 - t.val) 0) (blk V (15 - t.val) 0) (blk G (15 - t.val) 0) (blk O (15 - t.val) 0) (dstA A G O D t.val 0)))
    (upd2 (fun j h => if 16 ≤ j + t.val then vdv A K G V O D j h else fv j h) (15 - t.val) 0 (hdv (blk A (15 - t.val) 0) (blk K (15 - t.val) 0) (blk V (15 - t.val) 0) (blk G (15 - t.val) 0) (blk O (15 - t.val) 0) (dstA A G O D t.val 0)))
    (upd2 (fun j h => if 16 ≤ j + t.val then vdg A K G V O P D j h else fg j h) (15 - t.val) 0 (hdg (blk A (15 - t.val) 0) (blk K (15 - t.val) 0) (blk V (15 - t.val) 0) (blk G (15 - t.val) 0) (blk O (15 - t.val) 0) (stAt P (15 - t.val) 0) (dstA A G O D t.val 0)))
    (Function.update (dstA A G O D t.val) 0 (hds (blk A (15 - t.val) 0) (blk G (15 - t.val) 0) (blk O (15 - t.val) 0) (dstA A G O D t.val 0))) (dstA A G O D t.val 1) (by simp [Function.update])
    x0 _ (k1_off4_inb t) _ (k1_off5_inb t) (k1_off4_at t) (k1_off5_eq t)
  obtain ⟨x2, r2⟩ := head_runs' (Ix := Ix) (Name := Name) (U := U) (Lvl := Lvl) defs 𝒱 c bd aq ak ag av ado ast odq odk odv odg dst sr ra (A := A) (K := K) (G := G) (V := V) (O := O) (P := P) hj (h := 2) (by decide)
    (upd2 (upd2 (fun j h => if 16 ≤ j + t.val then vdq A K G V O P j h else fq j h) (15 - t.val) 0 (hdq (blk A (15 - t.val) 0) (blk K (15 - t.val) 0) (blk V (15 - t.val) 0) (blk G (15 - t.val) 0) (blk O (15 - t.val) 0) (stAt P (15 - t.val) 0))) (15 - t.val) 1 (hdq (blk A (15 - t.val) 1) (blk K (15 - t.val) 1) (blk V (15 - t.val) 1) (blk G (15 - t.val) 1) (blk O (15 - t.val) 1) (stAt P (15 - t.val) 1)))
    (upd2 (upd2 (fun j h => if 16 ≤ j + t.val then vdk A K G V O D j h else fk j h) (15 - t.val) 0 (hdk (blk A (15 - t.val) 0) (blk K (15 - t.val) 0) (blk V (15 - t.val) 0) (blk G (15 - t.val) 0) (blk O (15 - t.val) 0) (dstA A G O D t.val 0))) (15 - t.val) 1 (hdk (blk A (15 - t.val) 1) (blk K (15 - t.val) 1) (blk V (15 - t.val) 1) (blk G (15 - t.val) 1) (blk O (15 - t.val) 1) (dstA A G O D t.val 1)))
    (upd2 (upd2 (fun j h => if 16 ≤ j + t.val then vdv A K G V O D j h else fv j h) (15 - t.val) 0 (hdv (blk A (15 - t.val) 0) (blk K (15 - t.val) 0) (blk V (15 - t.val) 0) (blk G (15 - t.val) 0) (blk O (15 - t.val) 0) (dstA A G O D t.val 0))) (15 - t.val) 1 (hdv (blk A (15 - t.val) 1) (blk K (15 - t.val) 1) (blk V (15 - t.val) 1) (blk G (15 - t.val) 1) (blk O (15 - t.val) 1) (dstA A G O D t.val 1)))
    (upd2 (upd2 (fun j h => if 16 ≤ j + t.val then vdg A K G V O P D j h else fg j h) (15 - t.val) 0 (hdg (blk A (15 - t.val) 0) (blk K (15 - t.val) 0) (blk V (15 - t.val) 0) (blk G (15 - t.val) 0) (blk O (15 - t.val) 0) (stAt P (15 - t.val) 0) (dstA A G O D t.val 0))) (15 - t.val) 1 (hdg (blk A (15 - t.val) 1) (blk K (15 - t.val) 1) (blk V (15 - t.val) 1) (blk G (15 - t.val) 1) (blk O (15 - t.val) 1) (stAt P (15 - t.val) 1) (dstA A G O D t.val 1)))
    (Function.update (Function.update (dstA A G O D t.val) 0 (hds (blk A (15 - t.val) 0) (blk G (15 - t.val) 0) (blk O (15 - t.val) 0) (dstA A G O D t.val 0))) 1 (hds (blk A (15 - t.val) 1) (blk G (15 - t.val) 1) (blk O (15 - t.val) 1) (dstA A G O D t.val 1))) (dstA A G O D t.val 2) (by simp [Function.update])
    x1 _ (k1_off6_inb t) _ (k1_off7_inb t) (k1_off6_at t) (k1_off7_eq t)
  obtain ⟨x3, r3⟩ := head_runs' (Ix := Ix) (Name := Name) (U := U) (Lvl := Lvl) defs 𝒱 c bd aq ak ag av ado ast odq odk odv odg dst sr ra (A := A) (K := K) (G := G) (V := V) (O := O) (P := P) hj (h := 3) (by decide)
    (upd2 (upd2 (upd2 (fun j h => if 16 ≤ j + t.val then vdq A K G V O P j h else fq j h) (15 - t.val) 0 (hdq (blk A (15 - t.val) 0) (blk K (15 - t.val) 0) (blk V (15 - t.val) 0) (blk G (15 - t.val) 0) (blk O (15 - t.val) 0) (stAt P (15 - t.val) 0))) (15 - t.val) 1 (hdq (blk A (15 - t.val) 1) (blk K (15 - t.val) 1) (blk V (15 - t.val) 1) (blk G (15 - t.val) 1) (blk O (15 - t.val) 1) (stAt P (15 - t.val) 1))) (15 - t.val) 2 (hdq (blk A (15 - t.val) 2) (blk K (15 - t.val) 2) (blk V (15 - t.val) 2) (blk G (15 - t.val) 2) (blk O (15 - t.val) 2) (stAt P (15 - t.val) 2)))
    (upd2 (upd2 (upd2 (fun j h => if 16 ≤ j + t.val then vdk A K G V O D j h else fk j h) (15 - t.val) 0 (hdk (blk A (15 - t.val) 0) (blk K (15 - t.val) 0) (blk V (15 - t.val) 0) (blk G (15 - t.val) 0) (blk O (15 - t.val) 0) (dstA A G O D t.val 0))) (15 - t.val) 1 (hdk (blk A (15 - t.val) 1) (blk K (15 - t.val) 1) (blk V (15 - t.val) 1) (blk G (15 - t.val) 1) (blk O (15 - t.val) 1) (dstA A G O D t.val 1))) (15 - t.val) 2 (hdk (blk A (15 - t.val) 2) (blk K (15 - t.val) 2) (blk V (15 - t.val) 2) (blk G (15 - t.val) 2) (blk O (15 - t.val) 2) (dstA A G O D t.val 2)))
    (upd2 (upd2 (upd2 (fun j h => if 16 ≤ j + t.val then vdv A K G V O D j h else fv j h) (15 - t.val) 0 (hdv (blk A (15 - t.val) 0) (blk K (15 - t.val) 0) (blk V (15 - t.val) 0) (blk G (15 - t.val) 0) (blk O (15 - t.val) 0) (dstA A G O D t.val 0))) (15 - t.val) 1 (hdv (blk A (15 - t.val) 1) (blk K (15 - t.val) 1) (blk V (15 - t.val) 1) (blk G (15 - t.val) 1) (blk O (15 - t.val) 1) (dstA A G O D t.val 1))) (15 - t.val) 2 (hdv (blk A (15 - t.val) 2) (blk K (15 - t.val) 2) (blk V (15 - t.val) 2) (blk G (15 - t.val) 2) (blk O (15 - t.val) 2) (dstA A G O D t.val 2)))
    (upd2 (upd2 (upd2 (fun j h => if 16 ≤ j + t.val then vdg A K G V O P D j h else fg j h) (15 - t.val) 0 (hdg (blk A (15 - t.val) 0) (blk K (15 - t.val) 0) (blk V (15 - t.val) 0) (blk G (15 - t.val) 0) (blk O (15 - t.val) 0) (stAt P (15 - t.val) 0) (dstA A G O D t.val 0))) (15 - t.val) 1 (hdg (blk A (15 - t.val) 1) (blk K (15 - t.val) 1) (blk V (15 - t.val) 1) (blk G (15 - t.val) 1) (blk O (15 - t.val) 1) (stAt P (15 - t.val) 1) (dstA A G O D t.val 1))) (15 - t.val) 2 (hdg (blk A (15 - t.val) 2) (blk K (15 - t.val) 2) (blk V (15 - t.val) 2) (blk G (15 - t.val) 2) (blk O (15 - t.val) 2) (stAt P (15 - t.val) 2) (dstA A G O D t.val 2)))
    (Function.update (Function.update (Function.update (dstA A G O D t.val) 0 (hds (blk A (15 - t.val) 0) (blk G (15 - t.val) 0) (blk O (15 - t.val) 0) (dstA A G O D t.val 0))) 1 (hds (blk A (15 - t.val) 1) (blk G (15 - t.val) 1) (blk O (15 - t.val) 1) (dstA A G O D t.val 1))) 2 (hds (blk A (15 - t.val) 2) (blk G (15 - t.val) 2) (blk O (15 - t.val) 2) (dstA A G O D t.val 2))) (dstA A G O D t.val 3) (by simp [Function.update])
    x2 _ (k1_off8_inb t) _ (k1_off9_inb t) (k1_off8_at t) (k1_off9_eq t)
  have e15 : 15 - (15 - t.val) = t.val := by omega
  refine ⟨bσ A K G V O P (partTile fq (vdq A K G V O P) (t.val + 1)) (partTile fk (vdk A K G V O D) (t.val + 1)) (partTile fv (vdv A K G V O D) (t.val + 1))
    (partTile fg (vdg A K G V O P D) (t.val + 1)) (stk (dstA A G O D (t.val + 1))) (subRows K G V (15 - t.val)) x3, ⟨_, _, rfl⟩, ?_⟩
  unfold trip
  refine Runs.bind (stage_runs1 defs 𝒱 c bd aq ak ag av ado ast odq odk odv odg dst sr ra (by decide) _ _ (k1_off1_at t) (inbTile hj)) ?_
  refine Runs.bind (stage_runs2 defs 𝒱 c bd aq ak ag av ado ast odq odk odv odg dst sr ra (by decide) _ _ (k1_off1_at t) (inbTile hj)) ?_
  refine Runs.bind (stage_runs3 defs 𝒱 c bd aq ak ag av ado ast odq odk odv odg dst sr ra (by decide) _ _ (k1_off1_at t) (inbTile hj)) ?_
  rw [staged _ _ _ _ hj]
  refine Runs.bind r0 ?_
  refine Runs.bind r1 ?_
  refine Runs.bind r2 ?_
  refine r3.eq rfl (bσ_congr ?_ ?_ ?_ ?_ ?_)
  · exact tileOf_step fq (vdq A K G V O P) ht (fun i => hdq (blk A (15 - t.val) i) (blk K (15 - t.val) i) (blk V (15 - t.val) i) (blk G (15 - t.val) i) (blk O (15 - t.val) i) (stAt P (15 - t.val) i)) fun i _ => rfl
  · exact tileOf_step fk (vdk A K G V O D) ht (fun i => hdk (blk A (15 - t.val) i) (blk K (15 - t.val) i) (blk V (15 - t.val) i) (blk G (15 - t.val) i) (blk O (15 - t.val) i) (dstA A G O D t.val i)) fun i _ => by unfold vdk; rw [e15]
  · exact tileOf_step fv (vdv A K G V O D) ht (fun i => hdv (blk A (15 - t.val) i) (blk K (15 - t.val) i) (blk V (15 - t.val) i) (blk G (15 - t.val) i) (blk O (15 - t.val) i) (dstA A G O D t.val i)) fun i _ => by unfold vdv; rw [e15]
  · exact tileOf_step fg (vdg A K G V O P D) ht (fun i => hdg (blk A (15 - t.val) i) (blk K (15 - t.val) i) (blk V (15 - t.val) i) (blk G (15 - t.val) i) (blk O (15 - t.val) i) (stAt P (15 - t.val) i) (dstA A G O D t.val i)) fun i _ => by unfold vdg; rw [e15]
  · exact stk_congr fun i hi => update_four _ (fun i => hds (blk A (15 - t.val) i) (blk G (15 - t.val) i) (blk O (15 - t.val) i) (dstA A G O D t.val i)) hi

end

end Cert.KernelIdeal.Hg

end
-- ==== Proof.HgBody.lean ====
/- What the reverse recurrence's kernel body leaves in its buffers at a grid point. -/
module

public import proofs.«01_k».proof.Proof.HgTrip

@[expose] public section

noncomputable section

namespace Cert.KernelIdeal.Hg

open Idealize.ShloMosaic Idealize.ShloMosaic.TcCoe
open Idealize.SL Idealize.SL.RA Idealize.SL.BI Idealize.SL.Sem
open Cert.KernelIdeal Cert.KernelIdeal.Gen Cert.Straight

variable {F : FTy → Type} [FloatOps F]

theorem partTile_zero (f g : ℕ → ℕ → V16 F) : partTile f g 0 = tileOf f :=
  tileOf_congr fun j hj i _ => if_neg (by omega)
theorem partTile_all (f g : ℕ → ℕ → V16 F) : partTile f g 16 = tileOf g :=
  tileOf_congr fun j _ i _ => if_pos (by omega)

theorem first_zero : first 0 = 1#1 := by decide
theorem first_succ : ∀ n : Fin 17, n.val ≠ 0 → ¬ first n.val = 1#1 := by decide +kernel

/-- The state gradients a tile starts from: zero at the first point of a batch. -/
def startD (n : ℕ) (X : S4x128x128.Idx → F .f32) : ℕ → VD F := if n = 0 then fun _ => zeroD else unstk X

section
variable {Ix : Type} [DecidableEq Ix] {Name : Type} [DecidableEq Name] {U : Type} [RA.URA U] {Lvl : Type} [Preorder Lvl]
variable (defs : Defs nD τ sig (Elt F) Λ₀) (𝒱 : Variants) (c : Dev nD) (bd : Option 𝒱.V)
variable (aq ak ag av ado : Memref sig .tc .vmem S256x512 .f32) (ast : Memref sig .tc .vmem S16x4x128x128 .f32)
  (odq odk odv odg : Memref sig .tc .vmem S256x512 .f32) (dst : Memref sig .tc .vmem S4x128x128 .f32)
  (sr : Memref sig .tc .vmem S3x16x512 .f32) (ra : Memref sig .tc .vmem S3x16x128 .f32)

local notation "𝓡" => BRuns (Ix := Ix) (Name := Name) (U := U) (Lvl := Lvl) defs 𝒱 c bd aq ak ag av ado ast odq odk odv odg dst sr ra

variable {A K G V O : S256x512.Idx → F .f32} {P : S16x4x128x128.Idx → F .f32} {y6 y7 y8 y9 : S256x512.Idx → F .f32}
  {y10 : S4x128x128.Idx → F .f32} {y11 : S3x16x512.Idx → F .f32} {y12 : S3x16x128.Idx → F .f32}

theorem reset_runs : 𝓡 (reset dst) (bσ A K G V O P y6 y7 y8 y9 y10 y11 y12) ⟨⟩ (bσ A K G V O P y6 y7 y8 y9 (stk fun _ => zeroD) y11 y12) := by
  unfold reset
  refine Runs.bind (bload10 defs 𝒱 c bd aq ak ag av ado ast odq odk odv odg dst sr ra _ _ rfl inb_S4x128x128_S4x128x128_0_0_0) ?_
  exact (bstore10 defs 𝒱 c bd aq ak ag av ado ast odq odk odv odg dst sr ra _ _ _ _ rfl).eq rfl (by rw [put_zeroSt])

theorem loop_runs (D : ℕ → VD F) : ∃ y11' y12',
    𝓡 (Scf.Loop.for k1_t1_loop k1_t1_ok ⟨⟩ fun t _ => trip aq ado ast odq odk odv odg dst sr ra ak ag av (iota .tc S16x1 32 [0] iota_S16x1_d0_w32) t)
      (bσ A K G V O P y6 y7 y8 y9 (stk D) y11 y12) ⟨⟩
      (bσ A K G V O P (tileOf (vdq A K G V O P)) (tileOf (vdk A K G V O D)) (tileOf (vdv A K G V O D)) (tileOf (vdg A K G V O P D))
        (stk (dstA A G O D 16)) y11' y12') := by
  obtain ⟨σ', ⟨y11', y12', rfl⟩, h⟩ := Runs.for (Ix := Ix) (Name := Name) (U := U) (Lvl := Lvl) (defs := defs) (𝒱 := 𝒱) (c := c) (bd := bd)
    (M := bM aq ak ag av ado ast odq odk odv odg dst sr ra) _ _ _ k1_t1_ok (fun t _ => trip aq ado ast odq odk odv odg dst sr ra ak ag av rr t)
    (binv A K G V O P D (blk y6) (blk y7) (blk y8) (blk y9)) (fun t σ hσ => trip_runs defs 𝒱 c bd aq ak ag av ado ast odq odk odv odg dst sr ra D _ _ _ _ t σ hσ)
    (bσ A K G V O P y6 y7 y8 y9 (stk D) y11 y12) ⟨y11, y12, by
      rw [partTile_zero, partTile_zero, partTile_zero, partTile_zero, tileOf_blk, tileOf_blk, tileOf_blk, tileOf_blk]; rfl⟩
  refine ⟨y11', y12', h.eq rfl ?_⟩
  rw [show Scf.trips k1_t1_loop.lb k1_t1_loop.ub k1_t1_loop.st = 16 from trips1, partTile_all, partTile_all, partTile_all, partTile_all]

theorem body_runs {n : ℕ} (hn : n < 17) : ∃ y11' y12',
    𝓡 (body aq ado ast odq odk odv odg dst sr ra ak ag av n) (bσ A K G V O P y6 y7 y8 y9 y10 y11 y12) ⟨⟩
      (bσ A K G V O P (tileOf (vdq A K G V O P)) (tileOf (vdk A K G V O (startD n y10))) (tileOf (vdv A K G V O (startD n y10)))
        (tileOf (vdg A K G V O P (startD n y10))) (stk (dstA A G O (startD n y10) 16)) y11' y12') := by
  obtain ⟨z11, z12, h⟩ := loop_runs (Ix := Ix) (Name := Name) (U := U) (Lvl := Lvl) defs 𝒱 c bd aq ak ag av ado ast odq odk odv odg dst sr ra (A := A) (K := K) (G := G) (V := V) (O := O) (P := P)
    (y6 := y6) (y7 := y7) (y8 := y8) (y9 := y9) (y11 := y11) (y12 := y12) (startD n y10)
  refine ⟨z11, z12, ?_⟩
  unfold body
  by_cases h0 : n = 0
  · subst h0
    rw [dif_pos first_zero]
    refine Runs.bind (reset_runs defs 𝒱 c bd aq ak ag av ado ast odq odk odv odg dst sr ra) ?_
    exact Runs.bind h (Runs.pure _ _)
  · rw [dif_neg (first_succ ⟨n, hn⟩ h0)]
    have e : stk (startD n y10) = y10 := by unfold startD; rw [if_neg h0, stk_unstk]
    rw [e] at h
    exact Runs.bind h (Runs.pure _ _)

end

end Cert.KernelIdeal.Hg

end
-- ==== Proof.HgFwd.lean ====
/- What the forward recurrence's kernel body leaves in its buffers: columns, heads, a sub-chunk, a tile. -/
module

public import proofs.«01_k».proof.Proof.HgBody

@[expose] public section

noncomputable section

namespace Cert.KernelIdeal.Hg

open Idealize.ShloMosaic Idealize.ShloMosaic.TcCoe
open Idealize.SL Idealize.SL.RA Idealize.SL.BI Idealize.SL.Sem
open Cert.KernelIdeal Cert.KernelIdeal.Gen Cert.Straight

variable {F : FTy → Type} [FloatOps F]

/-! ### The values of one head -/

def oN (q k v g : V16 F) (sp : VD F) : ℕ → V16 F
  | 0 => o0 q g sp
  | s + 1 => oNext rr s q g (rowOf k s) (rowOf g s) (rowOf v s) (oN q k v g sp s)
def ho (q k v g : V16 F) (sp : VD F) : V16 F := oN q k v g sp 16
def hsp (k v g : V16 F) (sp : VD F) : VD F := spNext k g v (rowOf g 15) sp

/-- The states of the heads before sub-chunk `n` of a tile. -/
def spA (K G V : S256x512.Idx → F .f32) (D : ℕ → VD F) : ℕ → ℕ → VD F
  | 0 => D
  | n + 1 => fun h => hsp (blk K n h) (blk V n h) (blk G n h) (spA K G V D n h)
/-- One head of one sub-chunk of a tile's output. -/
def vo (A K G V : S256x512.Idx → F .f32) (D : ℕ → VD F) (j h : ℕ) : V16 F := ho (blk A j h) (blk K j h) (blk V j h) (blk G j h) (spA K G V D j h)

/-! ### The forward kernel's buffers -/

abbrev fS : Fin 8 → Shape
  | 0 => S256x512 | 1 => S256x512 | 2 => S256x512 | 3 => S256x512 | 4 => S256x512 | 5 => S16x4x128x128 | 6 => S4x128x128 | 7 => S3x16x512

section
variable (aq ak ag av oo : Memref sig .tc .vmem S256x512 .f32) (ost : Memref sig .tc .vmem S16x4x128x128 .f32)
  (st : Memref sig .tc .vmem S4x128x128 .f32) (sr : Memref sig .tc .vmem S3x16x512 .f32)

/-- Its buffers … -/
@[reducible] def fM : (i : Fin 8) → Memref sig .tc .vmem (fS i) .f32
  | 0 => aq | 1 => ak | 2 => ag | 3 => av | 4 => oo | 5 => ost | 6 => st | 7 => sr
end

/-- … and what they hold. -/
@[reducible] def fσ (aq ak ag av oo : S256x512.Idx → F .f32) (ost : S16x4x128x128.Idx → F .f32)
    (st : S4x128x128.Idx → F .f32) (sr : S3x16x512.Idx → F .f32) : St F fS
  | 0 => aq | 1 => ak | 2 => ag | 3 => av | 4 => oo | 5 => ost | 6 => st | 7 => sr

section
variable {A K G V : S256x512.Idx → F .f32} {y4 : S256x512.Idx → F .f32} {y5 : S16x4x128x128.Idx → F .f32}
  {y6 : S4x128x128.Idx → F .f32} {y7 : S3x16x512.Idx → F .f32}
theorem fσ_set4 (x) : Function.update (fσ A K G V y4 y5 y6 y7) 4 x = fσ A K G V x y5 y6 y7 := by
  funext i; fin_cases i <;> rfl
theorem fσ_set5 (x) : Function.update (fσ A K G V y4 y5 y6 y7) 5 x = fσ A K G V y4 x y6 y7 := by
  funext i; fin_cases i <;> rfl
theorem fσ_set6 (x) : Function.update (fσ A K G V y4 y5 y6 y7) 6 x = fσ A K G V y4 y5 x y7 := by
  funext i; fin_cases i <;> rfl
theorem fσ_set7 (x) : Function.update (fσ A K G V y4 y5 y6 y7) 7 x = fσ A K G V y4 y5 y6 x := by
  funext i; fin_cases i <;> rfl
end

section
variable {Ix : Type} [DecidableEq Ix] {Name : Type} [DecidableEq Name] {U : Type} [RA.URA U] {Lvl : Type} [Preorder Lvl]
variable (defs : Defs nD τ sig (Elt F) Λ₀) (𝒱 : Variants) (c : Dev nD) (bd : Option 𝒱.V)
variable (aq ak ag av oo : Memref sig .tc .vmem S256x512 .f32) (ost : Memref sig .tc .vmem S16x4x128x128 .f32)
  (st : Memref sig .tc .vmem S4x128x128 .f32) (sr : Memref sig .tc .vmem S3x16x512 .f32)

/-- The forward kernel's buffers taken from one content to another. -/
abbrev FRuns {α : Type} (p : Pr (F := F) α) (σ : St F fS) (a : α) (σ' : St F fS) : Prop :=
  Runs (Ix := Ix) (Name := Name) (U := U) (Lvl := Lvl) defs 𝒱 c bd (fM aq ak ag av oo ost st sr) p σ a σ'

local notation "𝓡" => FRuns (Ix := Ix) (Name := Name) (U := U) (Lvl := Lvl) defs 𝒱 c bd aq ak ag av oo ost st sr

variable {A K G V : S256x512.Idx → F .f32} {y4 : S256x512.Idx → F .f32} {y5 : S16x4x128x128.Idx → F .f32}
  {y6 : S4x128x128.Idx → F .f32} {y7 : S3x16x512.Idx → F .f32}

theorem fload0 {off off' size : Fin S256x512.rank → ℕ} (inb : ∀ a, off a + size a ≤ S256x512.size a)
    (hl : aq.view.LoadsAt (Rect.unit (s := S256x512) off size inb).toLoadRect) (h : off = off') (inb' : ∀ a, off' a + size a ≤ S256x512.size a) :
    𝓡 (Prog.lift (.load aq (Rect.unit (s := S256x512) off size inb).toLoadRect hl)) (fσ A K G V y4 y5 y6 y7)
      (VecWindow.window A off' size inb') (fσ A K G V y4 y5 y6 y7) := Runs.load (M := fM aq ak ag av oo ost st sr) 0 _ inb hl h inb'
theorem fload1 {off off' size : Fin S256x512.rank → ℕ} (inb : ∀ a, off a + size a ≤ S256x512.size a)
    (hl : ak.view.LoadsAt (Rect.unit (s := S256x512) off size inb).toLoadRect) (h : off = off') (inb' : ∀ a, off' a + size a ≤ S256x512.size a) :
    𝓡 (Prog.lift (.load ak (Rect.unit (s := S256x512) off size inb).toLoadRect hl)) (fσ A K G V y4 y5 y6 y7)
      (VecWindow.window K off' size inb') (fσ A K G V y4 y5 y6 y7) := Runs.load (M := fM aq ak ag av oo ost st sr) 1 _ inb hl h inb'
theorem fload2 {off off' size : Fin S256x512.rank → ℕ} (inb : ∀ a, off a + size a ≤ S256x512.size a)
    (hl : ag.view.LoadsAt (Rect.unit (s := S256x512) off size inb).toLoadRect) (h : off = off') (inb' : ∀ a, off' a + size a ≤ S256x512.size a) :
    𝓡 (Prog.lift (.load ag (Rect.unit (s := S256x512) off size inb).toLoadRect hl)) (fσ A K G V y4 y5 y6 y7)
      (VecWindow.window G off' size inb') (fσ A K G V y4 y5 y6 y7) := Runs.load (M := fM aq ak ag av oo ost st sr) 2 _ inb hl h inb'
theorem fload3 {off off' size : Fin S256x512.rank → ℕ} (inb : ∀ a, off a + size a ≤ S256x512.size a)
    (hl : av.view.LoadsAt (Rect.unit (s := S256x512) off size inb).toLoadRect) (h : off = off') (inb' : ∀ a, off' a + size a ≤ S256x512.size a) :
    𝓡 (Prog.lift (.load av (Rect.unit (s := S256x512) off size inb).toLoadRect hl)) (fσ A K G V y4 y5 y6 y7)
      (VecWindow.window V off' size inb') (fσ A K G V y4 y5 y6 y7) := Runs.load (M := fM aq ak ag av oo ost st sr) 3 _ inb hl h inb'
theorem fload4 {off off' size : Fin S256x512.rank → ℕ} (inb : ∀ a, off a + size a ≤ S256x512.size a)
    (hl : oo.view.LoadsAt (Rect.unit (s := S256x512) off size inb).toLoadRect) (h : off = off') (inb' : ∀ a, off' a + size a ≤ S256x512.size a) :
    𝓡 (Prog.lift (.load oo (Rect.unit (s := S256x512) off size inb).toLoadRect hl)) (fσ A K G V y4 y5 y6 y7)
      (VecWindow.window y4 off' size inb') (fσ A K G V y4 y5 y6 y7) := Runs.load (M := fM aq ak ag av oo ost st sr) 4 _ inb hl h inb'
theorem fload5 {off off' size : Fin S16x4x128x128.rank → ℕ} (inb : ∀ a, off a + size a ≤ S16x4x128x128.size a)
    (hl : ost.view.LoadsAt (Rect.unit (s := S16x4x128x128) off size inb).toLoadRect) (h : off = off') (inb' : ∀ a, off' a + size a ≤ S16x4x128x128.size a) :
    𝓡 (Prog.lift (.load ost (Rect.unit (s := S16x4x128x128) off size inb).toLoadRect hl)) (fσ A K G V y4 y5 y6 y7)
      (VecWindow.window y5 off' size inb') (fσ A K G V y4 y5 y6 y7) := Runs.load (M := fM aq ak ag av oo ost st sr) 5 _ inb hl h inb'
theorem fload6 {off off' size : Fin S4x128x128.rank → ℕ} (inb : ∀ a, off a + size a ≤ S4x128x128.size a)
    (hl : st.view.LoadsAt (Rect.unit (s := S4x128x128) off size inb).toLoadRect) (h : off = off') (inb' : ∀ a, off' a + size a ≤ S4x128x128.size a) :
    𝓡 (Prog.lift (.load st (Rect.unit (s := S4x128x128) off size inb).toLoadRect hl)) (fσ A K G V y4 y5 y6 y7)
      (VecWindow.window y6 off' size inb') (fσ A K G V y4 y5 y6 y7) := Runs.load (M := fM aq ak ag av oo ost st sr) 6 _ inb hl h inb'
theorem fload7 {off off' size : Fin S3x16x512.rank → ℕ} (inb : ∀ a, off a + size a ≤ S3x16x512.size a)
    (hl : sr.view.LoadsAt (Rect.unit (s := S3x16x512) off size inb).toLoadRect) (h : off = off') (inb' : ∀ a, off' a + size a ≤ S3x16x512.size a) :
    𝓡 (Prog.lift (.load sr (Rect.unit (s := S3x16x512) off size inb).toLoadRect hl)) (fσ A K G V y4 y5 y6 y7)
      (VecWindow.window y7 off' size inb') (fσ A K G V y4 y5 y6 y7) := Runs.load (M := fM aq ak ag av oo ost st sr) 7 _ inb hl h inb'
theorem fstore4 {off off' size : Fin S256x512.rank → ℕ} (inb : ∀ a, off a + size a ≤ S256x512.size a)
    (w : (Rect.unit (s := S256x512) off size inb).shape.Idx → Elt F .f32) (hx : (oo.access (Rect.unit (s := S256x512) off size inb)).Stores Finset.univ)
    (hm : Finset.univ = Finset.univ ∨ ∀ a, (Rect.unit (s := S256x512) off size inb).stride a = 1) (h : off = off') :
    𝓡 (Prog.lift (.store oo (Rect.unit (s := S256x512) off size inb) w Finset.univ hx hm)) (fσ A K G V y4 y5 y6 y7) PUnit.unit
      (fσ A K G V (VecWindow.put y4 off' size w) y5 y6 y7) := (Runs.store (M := fM aq ak ag av oo ost st sr) 4 _ inb w hx hm h).eq rfl (fσ_set4 _)
theorem fstore5 {off off' size : Fin S16x4x128x128.rank → ℕ} (inb : ∀ a, off a + size a ≤ S16x4x128x128.size a)
    (w : (Rect.unit (s := S16x4x128x128) off size inb).shape.Idx → Elt F .f32) (hx : (ost.access (Rect.unit (s := S16x4x128x128) off size inb)).Stores Finset.univ)
    (hm : Finset.univ = Finset.univ ∨ ∀ a, (Rect.unit (s := S16x4x128x128) off size inb).stride a = 1) (h : off = off') :
    𝓡 (Prog.lift (.store ost (Rect.unit (s := S16x4x128x128) off size inb) w Finset.univ hx hm)) (fσ A K G V y4 y5 y6 y7) PUnit.unit
      (fσ A K G V y4 (VecWindow.put y5 off' size w) y6 y7) := (Runs.store (M := fM aq ak ag av oo ost st sr) 5 _ inb w hx hm h).eq rfl (fσ_set5 _)
theorem fstore6 {off off' size : Fin S4x128x128.rank → ℕ} (inb : ∀ a, off a + size a ≤ S4x128x128.size a)
    (w : (Rect.unit (s := S4x128x128) off size inb).shape.Idx → Elt F .f32) (hx : (st.access (Rect.unit (s := S4x128x128) off size inb)).Stores Finset.univ)
    (hm : Finset.univ = Finset.univ ∨ ∀ a, (Rect.unit (s := S4x128x128) off size inb).stride a = 1) (h : off = off') :
    𝓡 (Prog.lift (.store st (Rect.unit (s := S4x128x128) off size inb) w Finset.univ hx hm)) (fσ A K G V y4 y5 y6 y7) PUnit.unit
      (fσ A K G V y4 y5 (VecWindow.put y6 off' size w) y7) := (Runs.store (M := fM aq ak ag av oo ost st sr) 6 _ inb w hx hm h).eq rfl (fσ_set6 _)
theorem fstore7 {off off' size : Fin S3x16x512.rank → ℕ} (inb : ∀ a, off a + size a ≤ S3x16x512.size a)
    (w : (Rect.unit (s := S3x16x512) off size inb).shape.Idx → Elt F .f32) (hx : (sr.access (Rect.unit (s := S3x16x512) off size inb)).Stores Finset.univ)
    (hm : Finset.univ = Finset.univ ∨ ∀ a, (Rect.unit (s := S3x16x512) off size inb).stride a = 1) (h : off = off') :
    𝓡 (Prog.lift (.store sr (Rect.unit (s := S3x16x512) off size inb) w Finset.univ hx hm)) (fσ A K G V y4 y5 y6 y7) PUnit.unit
      (fσ A K G V y4 y5 y6 (VecWindow.put y7 off' size w)) := (Runs.store (M := fM aq ak ag av oo ost st sr) 7 _ inb w hx hm h).eq rfl (fσ_set7 _)

theorem fcolStep_runs {j h s : ℕ} (hj : j < 16) (hh : h < 4) (hs : s < 16) (q : V16 F) (a : V16 F) :
    𝓡 (fcolStep sr rr q (blk G j h) hh hs a) (fσ A K G V y4 y5 y6 (subRows K G V j))
      (oNext rr s q (blk G j h) (rowOf (blk K j h) s) (rowOf (blk G j h) s) (rowOf (blk V j h) s) a)
      (fσ A K G V y4 y5 y6 (subRows K G V j)) := by
  unfold fcolStep
  refine Runs.bind (fload7 defs 𝒱 c bd aq ak ag av oo ost st sr _ _ rfl (inbRow (by decide) hs hh)) ?_
  refine Runs.bind (fload7 defs 𝒱 c bd aq ak ag av oo ost st sr _ _ rfl (inbRow (by decide) hs hh)) ?_
  refine Runs.bind (fload7 defs 𝒱 c bd aq ak ag av oo ost st sr _ _ rfl (inbRow (by decide) hs hh)) ?_
  rw [row1_subRows K G V (p := 0) hj hh hs, row1_subRows K G V (p := 1) hj hh hs, row1_subRows K G V (p := 2) hj hh hs]
  exact Runs.pure _ _

theorem fcols_runs {j h : ℕ} (hj : j < 16) (hh : h < 4) (q : V16 F) (sp : VD F) : ∀ (n : ℕ) (hn : n ≤ 16),
    𝓡 (fcols sr rr q (blk G j h) hh n hn (o0 q (blk G j h) sp)) (fσ A K G V y4 y5 y6 (subRows K G V j))
      (oN q (blk K j h) (blk V j h) (blk G j h) sp n) (fσ A K G V y4 y5 y6 (subRows K G V j)) := by
  intro n
  induction n with
  | zero => exact fun _ => Runs.pure _ _
  | succ n ih => exact fun hn => Runs.bind (ih (Nat.le_of_succ_le hn)) (fcolStep_runs defs 𝒱 c bd aq ak ag av oo ost st sr hj hh hn q _)

/-- One head's buffers. -/
abbrev fheadσ (A K G V : S256x512.Idx → F .f32) (fo : ℕ → ℕ → V16 F) (fp : ℕ → ℕ → VD F) (D : ℕ → VD F) (y7 : S3x16x512.Idx → F .f32) : St F fS :=
  fσ A K G V (tileOf fo) (stk4 fp) (stk D) y7

set_option maxHeartbeats 4000000 in
theorem fhead_runs {j h : ℕ} (hj : j < 16) (hh : h < 4) (fo : ℕ → ℕ → V16 F) (fp : ℕ → ℕ → VD F) (D : ℕ → VD F) (d : VD F) (hD : D h = d)
    (o2 : Fin 2 → ℕ) (ho2) (o4 : Fin 4 → ℕ) (ho4) (e2 : o2 = ![16 * j, 128 * h]) (e4 : o4 = ![j, h, 0, 0]) :
    𝓡 (fhead sr aq oo ost st rr hh o2 ho2 o4 ho4) (fheadσ A K G V fo fp D (subRows K G V j)) ⟨⟩
      (fheadσ A K G V (upd2 fo j h (ho (blk A j h) (blk K j h) (blk V j h) (blk G j h) d)) (upd2 fp j h d) (Function.update D h (hsp (blk K j h) (blk V j h) (blk G j h) d)) (subRows K G V j)) := by
  subst hD e2 e4
  unfold fhead
  refine Runs.bind (fload0 defs 𝒱 c bd aq ak ag av oo ost st sr _ _ rfl ho2) ?_
  refine Runs.bind (fload7 defs 𝒱 c bd aq ak ag av oo ost st sr _ _ rfl (inbSub (by decide) hh)) ?_
  refine Runs.bind (fload7 defs 𝒱 c bd aq ak ag av oo ost st sr _ _ rfl (inbSub (by decide) hh)) ?_
  refine Runs.bind (fload7 defs 𝒱 c bd aq ak ag av oo ost st sr _ _ rfl (inbSub (by decide) hh)) ?_
  refine Runs.bind (fload7 defs 𝒱 c bd aq ak ag av oo ost st sr _ _ rfl (inbRow (by decide) (by decide) hh)) ?_
  refine Runs.bind (fload6 defs 𝒱 c bd aq ak ag av oo ost st sr _ _ rfl (inbSt hh)) ?_
  refine Runs.bind (fload5 defs 𝒱 c bd aq ak ag av oo ost st sr _ _ rfl ho4) ?_
  rw [window_blk A hj hh, blk1_subRows K G V (p := 0) hj hh, blk1_subRows K G V (p := 1) hj hh,
    blk1_subRows K G V (p := 2) hj hh, row1_subRows K G V (p := 1) hj hh (by decide), sq_window_stk D hh]
  refine Runs.bind ((fstore5 defs 𝒱 c bd aq ak ag av oo ost st sr _ _ _ _ rfl).eq rfl (by rw [put_stk4])) ?_
  refine Runs.bind (fcols_runs defs 𝒱 c bd aq ak ag av oo ost st sr hj hh _ _ 16 (Nat.le_refl 16)) ?_
  refine Runs.bind (fload4 defs 𝒱 c bd aq ak ag av oo ost st sr _ _ rfl ho2) ?_
  refine Runs.bind ((fstore4 defs 𝒱 c bd aq ak ag av oo ost st sr _ _ _ _ rfl).eq rfl (by rw [put_tileOf])) ?_
  refine Runs.bind (fload6 defs 𝒱 c bd aq ak ag av oo ost st sr _ _ rfl (inbSt hh)) ?_
  exact (fstore6 defs 𝒱 c bd aq ak ag av oo ost st sr _ _ _ _ rfl).eq rfl (by rw [put_stk]; rfl)

theorem fstage_runs1 {p : ℕ} (hp : p < 3) (o2 : Fin 2 → ℕ) (ho2) {j : ℕ} (e2 : o2 = ![16 * j, 0]) (ho3) :
    𝓡 (stage sr ak hp o2 ho2) (fσ A K G V y4 y5 y6 y7) ⟨⟩
      (fσ A K G V y4 y5 y6 (VecWindow.put y7 ![p, 0, 0] S1x16x512.size (up512 (VecWindow.window K ![16 * j, 0] S16x512.size ho3)))) := by
  unfold stage
  refine Runs.bind (fload1 defs 𝒱 c bd aq ak ag av oo ost st sr _ _ e2 ho3) ?_
  refine Runs.bind (fload7 defs 𝒱 c bd aq ak ag av oo ost st sr _ _ rfl (inbFull hp)) ?_
  exact fstore7 defs 𝒱 c bd aq ak ag av oo ost st sr _ _ _ _ rfl
theorem fstage_runs2 {p : ℕ} (hp : p < 3) (o2 : Fin 2 → ℕ) (ho2) {j : ℕ} (e2 : o2 = ![16 * j, 0]) (ho3) :
    𝓡 (stage sr ag hp o2 ho2) (fσ A K G V y4 y5 y6 y7) ⟨⟩
      (fσ A K G V y4 y5 y6 (VecWindow.put y7 ![p, 0, 0] S1x16x512.size (up512 (VecWindow.window G ![16 * j, 0] S16x512.size ho3)))) := by
  unfold stage
  refine Runs.bind (fload2 defs 𝒱 c bd aq ak ag av oo ost st sr _ _ e2 ho3) ?_
  refine Runs.bind (fload7 defs 𝒱 c bd aq ak ag av oo ost st sr _ _ rfl (inbFull hp)) ?_
  exact fstore7 defs 𝒱 c bd aq ak ag av oo ost st sr _ _ _ _ rfl
theorem fstage_runs3 {p : ℕ} (hp : p < 3) (o2 : Fin 2 → ℕ) (ho2) {j : ℕ} (e2 : o2 = ![16 * j, 0]) (ho3) :
    𝓡 (stage sr av hp o2 ho2) (fσ A K G V y4 y5 y6 y7) ⟨⟩
      (fσ A K G V y4 y5 y6 (VecWindow.put y7 ![p, 0, 0] S1x16x512.size (up512 (VecWindow.window V ![16 * j, 0] S16x512.size ho3)))) := by
  unfold stage
  refine Runs.bind (fload3 defs 𝒱 c bd aq ak ag av oo ost st sr _ _ e2 ho3) ?_
  refine Runs.bind (fload7 defs 𝒱 c bd aq ak ag av oo ost st sr _ _ rfl (inbFull hp)) ?_
  exact fstore7 defs 𝒱 c bd aq ak ag av oo ost st sr _ _ _ _ rfl

theorem k0_off1_at : ∀ t : Fin k0_t1_loop.trips, k0_off1 t = ![16 * t.val, 0] := by decide +kernel
theorem k0_off2_at : ∀ t : Fin k0_t1_loop.trips, k0_off2 t = ![16 * t.val, 128 * 0] := by decide +kernel
theorem k0_off4_at : ∀ t : Fin k0_t1_loop.trips, k0_off4 t = ![16 * t.val, 128 * 1] := by decide +kernel
theorem k0_off6_at : ∀ t : Fin k0_t1_loop.trips, k0_off6 t = ![16 * t.val, 128 * 2] := by decide +kernel
theorem k0_off8_at : ∀ t : Fin k0_t1_loop.trips, k0_off8 t = ![16 * t.val, 128 * 3] := by decide +kernel
theorem trips0 : k0_t1_loop.trips = 16 := by decide +kernel

omit [FloatOps F] in
theorem fσ_congr {z4 : S256x512.Idx → F .f32} {z5 : S16x4x128x128.Idx → F .f32} {z6 : S4x128x128.Idx → F .f32} (h4 : y4 = z4) (h5 : y5 = z5) (h6 : y6 = z6) :
    fσ A K G V y4 y5 y6 y7 = fσ A K G V z4 z5 z6 y7 := by
  subst h4 h5 h6; rfl

/-- What the buffers hold before trip `t`. -/
def finv (A K G V : S256x512.Idx → F .f32) (D : ℕ → VD F) (fo : ℕ → ℕ → V16 F) (fp : ℕ → ℕ → VD F) (t : ℕ) (σ : St F fS) : Prop :=
  ∃ y7, σ = fσ A K G V (tileOf fun j h => if j < t then vo A K G V D j h else fo j h) (stk4 fun j h => if j < t then spA K G V D j h else fp j h)
    (stk (spA K G V D t)) y7

theorem ftrip_runs (D : ℕ → VD F) (fo : ℕ → ℕ → V16 F) (fp : ℕ → ℕ → VD F) (t : Fin k0_t1_loop.trips) (σ : St F fS) (hσ : finv A K G V D fo fp t.val σ) :
    ∃ σ', finv A K G V D fo fp (t.val + 1) σ' ∧ 𝓡 (ftrip sr aq oo ost st ak ag av rr t) σ ⟨⟩ σ' := by
  obtain ⟨y7, rfl⟩ := hσ
  have hj : t.val < 16 := trips0 ▸ t.isLt
  have r0 := fhead_runs (Ix := Ix) (Name := Name) (U := U) (Lvl := Lvl) defs 𝒱 c bd aq ak ag av oo ost st sr (A := A) (K := K) (G := G) (V := V) hj (h := 0) (by decide)
    (fun j h => if j < t.val then vo A K G V D j h else fo j h)
    (fun j h => if j < t.val then spA K G V D j h else fp j h)
    (spA K G V D t.val) (spA K G V D t.val 0) rfl
    _ (k0_off2_inb t) _ (k0_off3_inb t) (k0_off2_at t) (k0_off3_eq t)
  have r1 := fhead_runs (Ix := Ix) (Name := Name) (U := U) (Lvl := Lvl) defs 𝒱 c bd aq ak ag av oo ost st sr (A := A) (K := K) (G := G) (V := V) hj (h := 1) (by decide)
    (upd2 (fun j h => if j < t.val then vo A K G V D j h else fo j h) t.val 0 (ho (blk A t.val 0) (blk K t.val 0) (blk V t.val 0) (blk G t.val 0) (spA K G V D t.val 0)))
    (upd2 (fun j h => if j < t.val then spA K G V D j h else fp j h) t.val 0 (spA K G V D t.val 0))
    (Function.update (spA K G V D t.val) 0 (hsp (blk K t.val 0) (blk V t.val 0) (blk G t.val 0) (spA K G V D t.val 0))) (spA K G V D t.val 1) (by simp [Function.update])
    _ (k0_off4_inb t) _ (k0_off5_inb t) (k0_off4_at t) (k0_off5_eq t)
  have r2 := fhead_runs (Ix := Ix) (Name := Name) (U := U) (Lvl := Lvl) defs 𝒱 c bd aq ak ag av oo ost st sr (A := A) (K := K) (G := G) (V := V) hj (h := 2) (by decide)
    (upd2 (upd2 (fun j h => if j < t.val then vo A K G V D j h else fo j h) t.val 0 (ho (blk A t.val 0) (blk K t.val 0) (blk V t.val 0) (blk G t.val 0) (spA K G V D t.val 0))) t.val 1 (ho (blk A t.val 1) (blk K t.val 1) (blk V t.val 1) (blk G t.val 1) (spA K G V D t.val 1)))
    (upd2 (upd2 (fun j h => if j < t.val then spA K G V D j h else fp j h) t.val 0 (spA K G V D t.val 0)) t.val 1 (spA K G V D t.val 1))
    (Function.update (Function.update (spA K G V D t.val) 0 (hsp (blk K t.val 0) (blk V t.val 0) (blk G t.val 0) (spA K G V D t.val 0))) 1 (hsp (blk K t.val 1) (blk V t.val 1) (blk G t.val 1) (spA K G V D t.val 1))) (spA K G V D t.val 2) (by simp [Function.update])
    _ (k0_off6_inb t) _ (k0_off7_inb t) (k0_off6_at t) (k0_off7_eq t)
  have r3 := fhead_runs (Ix := Ix) (Name := Name) (U := U) (Lvl := Lvl) defs 𝒱 c bd aq ak ag av oo ost st sr (A := A) (K := K) (G := G) (V := V) hj (h := 3) (by decide)
    (upd2 (upd2 (upd2 (fun j h => if j < t.val then vo A K G V D j h else fo j h) t.val 0 (ho (blk A t.val 0) (blk K t.val 0) (blk V t.val 0) (blk G t.val 0) (spA K G V D t.val 0))) t.val 1 (ho (blk A t.val 1) (blk K t.val 1) (blk V t.val 1) (blk G t.val 1) (spA K G V D t.val 1))) t.val 2 (ho (blk A t.val 2) (blk K t.val 2) (blk V t.val 2) (blk G t.val 2) (spA K G V D t.val 2)))
    (upd2 (upd2 (upd2 (fun j h => if j < t.val then spA K G V D j h else fp j h) t.val 0 (spA K G V D t.val 0)) t.val 1 (spA K G V D t.val 1)) t.val 2 (spA K G V D t.val 2))
    (Function.update (Function.update (Function.update (spA K G V D t.val) 0 (hsp (blk K t.val 0) (blk V t.val 0) (blk G t.val 0) (spA K G V D t.val 0))) 1 (hsp (blk K t.val 1) (blk V t.val 1) (blk G t.val 1) (spA K G V D t.val 1))) 2 (hsp (blk K t.val 2) (blk V t.val 2) (blk G t.val 2) (spA K G V D t.val 2))) (spA K G V D t.val 3) (by simp [Function.update])
    _ (k0_off8_inb t) _ (k0_off9_inb t) (k0_off8_at t) (k0_off9_eq t)

  refine ⟨_, ⟨subRows K G V t.val, rfl⟩, ?_⟩
  unfold ftrip
  refine Runs.bind (fstage_runs1 defs 𝒱 c bd aq ak ag av oo ost st sr (by decide) _ _ (k0_off1_at t) (inbTile hj)) ?_
  refine Runs.bind (fstage_runs2 defs 𝒱 c bd aq ak ag av oo ost st sr (by decide) _ _ (k0_off1_at t) (inbTile hj)) ?_
  refine Runs.bind (fstage_runs3 defs 𝒱 c bd aq ak ag av oo ost st sr (by decide) _ _ (k0_off1_at t) (inbTile hj)) ?_
  rw [staged _ _ _ _ hj]
  refine Runs.bind r0 ?_
  refine Runs.bind r1 ?_
  refine Runs.bind r2 ?_
  refine r3.eq rfl (fσ_congr ?_ ?_ ?_)
  · refine tileOf_congr fun j _ i hi => (upd2_four _ _ (fun i => ho (blk A t.val i) (blk K t.val i) (blk V t.val i) (blk G t.val i) (spA K G V D t.val i)) hi).trans ?_
    by_cases e : j = t.val
    · rw [if_pos e, if_pos (by omega), e]; rfl
    · rw [if_neg e]
      by_cases e' : j < t.val
      · rw [if_pos e', if_pos (by omega)]
      · rw [if_neg e', if_neg (by omega)]
  · refine stk4_congr fun j _ i hi => (upd2_four _ _ (fun i => spA K G V D t.val i) hi).trans ?_
    by_cases e : j = t.val
    · rw [if_pos e, if_pos (by omega), e]
    · rw [if_neg e]
      by_cases e' : j < t.val
      · rw [if_pos e', if_pos (by omega)]
      · rw [if_neg e', if_neg (by omega)]
  · exact stk_congr fun i hi => update_four _ (fun i => hsp (blk K t.val i) (blk V t.val i) (blk G t.val i) (spA K G V D t.val i)) hi

theorem freset_runs : 𝓡 (reset st) (fσ A K G V y4 y5 y6 y7) ⟨⟩ (fσ A K G V y4 y5 (stk fun _ => zeroD) y7) := by
  unfold reset
  refine Runs.bind (fload6 defs 𝒱 c bd aq ak ag av oo ost st sr _ _ rfl inb_S4x128x128_S4x128x128_0_0_0) ?_
  exact (fstore6 defs 𝒱 c bd aq ak ag av oo ost st sr _ _ _ _ rfl).eq rfl (by rw [put_zeroSt])

theorem floop_runs (D : ℕ → VD F) : ∃ y7',
    𝓡 (Scf.Loop.for k0_t1_loop k0_t1_ok ⟨⟩ fun t _ => ftrip sr aq oo ost st ak ag av (iota .tc S16x1 32 [0] iota_S16x1_d0_w32) t)
      (fσ A K G V y4 y5 (stk D) y7) ⟨⟩
      (fσ A K G V (tileOf (vo A K G V D)) (stk4 (spA K G V D)) (stk (spA K G V D 16)) y7') := by
  obtain ⟨σ', ⟨y7', rfl⟩, h⟩ := Runs.for (Ix := Ix) (Name := Name) (U := U) (Lvl := Lvl) (defs := defs) (𝒱 := 𝒱) (c := c) (bd := bd)
    (M := fM aq ak ag av oo ost st sr) _ _ _ k0_t1_ok (fun t _ => ftrip sr aq oo ost st ak ag av rr t)
    (finv A K G V D (blk y4) (stAt y5)) (fun t σ hσ => ftrip_runs defs 𝒱 c bd aq ak ag av oo ost st sr D _ _ t σ hσ)
    (fσ A K G V y4 y5 (stk D) y7) ⟨y7, by
      simp only [Nat.not_lt_zero, if_false]
      rw [show (fun j h => blk y4 j h) = blk y4 from rfl, show (fun j h => stAt y5 j h) = stAt y5 from rfl, tileOf_blk, stk4_stAt]; rfl⟩
  refine ⟨y7', h.eq rfl (fσ_congr ?_ ?_ ?_)⟩
  · rw [show Scf.trips k0_t1_loop.lb k0_t1_loop.ub k0_t1_loop.st = 16 from trips0]
    exact tileOf_congr fun j hj i _ => if_pos hj
  · rw [show Scf.trips k0_t1_loop.lb k0_t1_loop.ub k0_t1_loop.st = 16 from trips0]
    exact stk4_congr fun j hj i _ => if_pos hj
  · rw [show Scf.trips k0_t1_loop.lb k0_t1_loop.ub k0_t1_loop.st = 16 from trips0]

theorem fbody_runs {n : ℕ} (hn : n < 17) : ∃ y7',
    𝓡 (fbody sr aq oo ost st ak ag av n) (fσ A K G V y4 y5 y6 y7) ⟨⟩
      (fσ A K G V (tileOf (vo A K G V (startD n y6))) (stk4 (spA K G V (startD n y6))) (stk (spA K G V (startD n y6) 16)) y7') := by
  obtain ⟨z7, h⟩ := floop_runs (Ix := Ix) (Name := Name) (U := U) (Lvl := Lvl) defs 𝒱 c bd aq ak ag av oo ost st sr (A := A) (K := K) (G := G) (V := V)
    (y4 := y4) (y5 := y5) (y7 := y7) (startD n y6)
  refine ⟨z7, ?_⟩
  unfold fbody
  by_cases h0 : n = 0
  · subst h0
    rw [dif_pos first_zero]
    refine Runs.bind (freset_runs defs 𝒱 c bd aq ak ag av oo ost st sr) ?_
    exact Runs.bind h (Runs.pure _ _)
  · rw [dif_neg (first_succ ⟨n, hn⟩ h0)]
    have e : stk (startD n y6) = y6 := by unfold startD; rw [if_neg h0, stk_unstk]
    rw [e] at h
    exact Runs.bind h (Runs.pure _ _)

end

end Cert.KernelIdeal.Hg

end
-- ==== Proof.HgRegion0.lean ====
/- Kernel region 0: what its body leaves at every grid point, and the region entered from and left at whole-buffer contents. -/
module

public import proofs.«01_k».proof.Proof.Gen.KernelIdeal.Launch
public import proofs.«01_k».proof.Proof.Gen.KernelIdeal.Points
public import proofs.«01_k».proof.Proof.HgEq
public import proofs.«01_k».proof.Proof.HgFwd
public import Idealize.ShloMosaic.Lib.Pipeline.Frame
public import Idealize.ShloMosaic.Lib.Pipeline.FrameBody
public import Idealize.ShloMosaic.Lib.Pipeline.Regions
public import Idealize.ShloMosaic.Lib.Pipeline.RegionsLoop

@[expose] public section

set_option maxRecDepth 16384

noncomputable section

namespace Cert.KernelIdeal.Hg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Straight

variable {F : FTy → Type} [FloatOps F]

local notation "𝕄" => MT nD τ sig Unit (Elt F) ℕ (UR sig nD τ) ℕ

/-- The buffers' contents the region is entered at. -/
abbrev Vals0 (F : FTy → Type) : Type := (c : Dev nD) → (b : Ref sig .tc) → Buf (Elt F) ((c : Thread nD τ).loc b)

variable (V : Vals0 F)

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The states of the heads that point `n`'s tile starts from: each tile's last state goes to the next, zero at a batch's start. -/
def dst0 (c : Dev nD) : ℕ → ℕ → VD F
  | 0 => fun _ => zeroD
  | n + 1 => if h : n < cfg0.N then startD ((n + 1) % 17) (stk (spA (iblk0 V c 1 ⟨n, h⟩) (iblk0 V c 2 ⟨n, h⟩) (iblk0 V c 3 ⟨n, h⟩) (dst0 c n) 16)) else fun _ => zeroD

/-- The scratch before point `n`: the state at the head's start, the staged rows anything. -/
def Φ0 (c : Dev nD) (n : ℕ) : sProp 𝕄 :=
  iprop((∃ X : S4x128x128.Idx → Elt F .f32, ⌜startD (n % 17) X = dst0 V c n⌝ ∗ owns (c : Thread nD τ) (Memref.whole cc0_scratch0) fullShare X)
    ∗ (∃ f : S3x16x512.Idx → Elt F .f32, owns (c : Thread nD τ) (Memref.whole cc0_scratch1) fullShare f)
    ∗ Pipeline.scopedRestBut (Ix := Unit) (Name := ℕ) (U := UR sig nD τ) (Lvl := ℕ) (Val := Elt F) spec0 c [cc0_scratch0, cc0_scratch1])

/-- The region's proof data at an entry valuation. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => tileOf (vo (iblk0 V c 0 t) (iblk0 V c 1 t) (iblk0 V c 2 t) (iblk0 V c 3 t) (dst0 V c t.val))
    | ⟨5, _⟩ => stk4 (spA (iblk0 V c 1 t) (iblk0 V c 2 t) (iblk0 V c 3 t) (dst0 V c t.val))
  Φ t := Φ0 V c t.val
  q w := Pipeline.shareOf spec0 w
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = tileOf (vo (iblk0 V c 0 t) (iblk0 V c 1 t) (iblk0 V c 2 t) (iblk0 V c 3 t) (dst0 V c t.val)) := by dsimp only [dat0]
theorem after0_5 (c : Dev nD) (t : Fin cfg0.N) : (dat0 V c).after 5 t = stk4 (spA (iblk0 V c 1 t) (iblk0 V c 2 t) (iblk0 V c 3 t) (dst0 V c t.val)) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- The second grid coordinate of point `t`. -/
theorem coord0 : ∀ t : Fin grid0.N, ((grid0.coords t) 1).val = t.val % 17 := by decide +kernel

/-- The body's buffers held one by one. -/
theorem held0 (c : Dev nD) (aq ak ag av oo : Memref sig .tc .vmem S256x512 .f32) (ost : Memref sig .tc .vmem S16x4x128x128 .f32)
    (st : Memref sig .tc .vmem S4x128x128 .f32) (sr : Memref sig .tc .vmem S3x16x512 .f32) (σ : St F fS) :
    (Held (Ix := Unit) (Name := ℕ) (U := UR sig nD τ) (Lvl := ℕ) c (fM (aq := aq) (ak := ak) (ag := ag) (av := av) (oo := oo) (ost := ost) (st := st) (sr := sr)) σ : sProp 𝕄)
      = iprop(owns (c : Thread nD τ) aq fullShare (σ 0) ∗ owns (c : Thread nD τ) ak fullShare (σ 1) ∗ owns (c : Thread nD τ) ag fullShare (σ 2) ∗ owns (c : Thread nD τ) av fullShare (σ 3) ∗ owns (c : Thread nD τ) oo fullShare (σ 4) ∗ owns (c : Thread nD τ) ost fullShare (σ 5) ∗ owns (c : Thread nD τ) st fullShare (σ 6) ∗ owns (c : Thread nD τ) sr fullShare (σ 7)) :=
  bigSep_univ_eq_bigSepL [(0 : Fin 8), (1 : Fin 8), (2 : Fin 8), (3 : Fin 8), (4 : Fin 8), (5 : Fin 8), (6 : Fin 8), (7 : Fin 8)] (by decide) (by decide) _

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem Φ0_castSucc (c : Dev nD) (t : Fin cfg0.N) : (dat0 V c).Φ t.castSucc = Φ0 V c t.val := by dsimp only [dat0]; rfl
theorem Φ0_succ (c : Dev nD) (t : Fin cfg0.N) : (dat0 V c).Φ t.succ = Φ0 V c (t.val + 1) := by dsimp only [dat0]; rfl

set_option maxHeartbeats 2000000 in
/-- The body at a point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [fbody_eq, Φ0_castSucc, Φ0_succ,
    show (dat0 V c).owesAt () t.succ = (dat0 V c).owesAt () t.castSucc from rfl,
    after0_0, after0_1, after0_2, after0_3, after0_4, after0_5]
  simp only [before0_0, before0_1, before0_2, before0_3]
  unfold Φ0
  iintro ⟨⟨⟨%X, %hX, HX⟩, ⟨%s1, Hs1⟩, Hr⟩, Ho, ⟨%d0, H0⟩, ⟨%d1, H1⟩, ⟨%d2, H2⟩, ⟨%d3, H3⟩, ⟨%d4, H4⟩, ⟨%d5, H5⟩⟩
  have hn : ((grid0.coords t) 1).val < 17 := by rw [coord0 t]; exact Nat.mod_lt _ (by decide)
  obtain ⟨z0, hrun⟩ := fbody_runs (Ix := Unit) (Name := ℕ) (U := UR sig nD τ) (Lvl := ℕ) (defs₀ (F := F)) Variants.none c none (st0_0 t) (st0_1 t) (st0_2 t) (st0_3 t) (st0_4 t) (st0_5 t)
    (Memref.whole cc0_scratch0) (Memref.whole cc0_scratch1) (A := iblk0 V c 0 t) (K := iblk0 V c 1 t) (G := iblk0 V c 2 t) (V := iblk0 V c 3 t)
    (y4 := (dat0 V c).before 4 t d4) (y5 := (dat0 V c).before 5 t d5) (y6 := X) (y7 := s1) hn
  have e : startD ((grid0.coords t) 1).val X = dst0 V c t.val := by rw [coord0 t]; exact hX
  rw [e] at hrun
  iapply (hrun Set.univ _)
  rw [held0, held0]
  isplitl [H0 H1 H2 H3 H4 H5 HX Hs1]
  · isplitl [H0]; · iexact H0
    isplitl [H1]; · iexact H1
    isplitl [H2]; · iexact H2
    isplitl [H3]; · iexact H3
    isplitl [H4]; · iexact H4
    isplitl [H5]; · iexact H5
    isplitl [HX]; · iexact HX
    iexact Hs1
  iintro ⟨H0, H1, H2, H3, H4, H5, HX, Hs1⟩
  isplitl [HX Hs1 Hr]
  · isplitl [HX]
    · iexists _; isplitr; swap; (· iexact HX); ipureintro
      conv_rhs => rw [dst0]
      rw [dif_pos t.isLt]
    isplitl [Hs1]; · iexists _; iexact Hs1
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) : defs₀ (F := F) .tc cfg0.body (cfg0.bodyArgs t (cfg0.slots t)) = bodyAt0 t := by
  unfold defs₀; rw [Defs.onTc_tc]

/-- The pipeline's body obligation. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Hg

end
-- ==== Proof.HgRegion1.lean ====
/- Kernel region 1: what its body leaves at every grid point, and the region entered from and left at whole-buffer contents. -/
module

public import proofs.«01_k».proof.Proof.Gen.KernelIdeal.Launch
public import proofs.«01_k».proof.Proof.Gen.KernelIdeal.Points
public import proofs.«01_k».proof.Proof.HgEq
public import proofs.«01_k».proof.Proof.HgBody
public import Idealize.ShloMosaic.Lib.Pipeline.Frame
public import Idealize.ShloMosaic.Lib.Pipeline.FrameBody
public import Idealize.ShloMosaic.Lib.Pipeline.Regions
public import Idealize.ShloMosaic.Lib.Pipeline.RegionsLoop

@[expose] public section

set_option maxRecDepth 16384

noncomputable section

namespace Cert.KernelIdeal.Hg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Straight

variable {F : FTy → Type} [FloatOps F]

local notation "𝕄" => MT nD τ sig Unit (Elt F) ℕ (UR sig nD τ) ℕ

/-- The buffers' contents the region is entered at. -/
abbrev Vals1 (F : FTy → Type) : Type := (c : Dev nD) → (b : Ref sig .tc) → Buf (Elt F) ((c : Thread nD τ).loc b)

variable (V : Vals1 F)

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state gradients of the heads that point `n`'s tile starts from: each tile's last goes to the next, zero at a batch's end. -/
def dst1 (c : Dev nD) : ℕ → ℕ → VD F
  | 0 => fun _ => zeroD
  | n + 1 => if h : n < cfg1.N then startD ((n + 1) % 17) (stk (dstA (iblk1 V c 0 ⟨n, h⟩) (iblk1 V c 2 ⟨n, h⟩) (iblk1 V c 4 ⟨n, h⟩) (dst1 c n) 16)) else fun _ => zeroD

/-- The scratch before point `n`: the state at the head's start, the staged rows anything. -/
def Φ1 (c : Dev nD) (n : ℕ) : sProp 𝕄 :=
  iprop((∃ X : S4x128x128.Idx → Elt F .f32, ⌜startD (n % 17) X = dst1 V c n⌝ ∗ owns (c : Thread nD τ) (Memref.whole cc1_scratch0) fullShare X)
    ∗ (∃ f : S3x16x512.Idx → Elt F .f32, owns (c : Thread nD τ) (Memref.whole cc1_scratch1) fullShare f) ∗ (∃ f : S3x16x128.Idx → Elt F .f32, owns (c : Thread nD τ) (Memref.whole cc1_scratch2) fullShare f)
    ∗ Pipeline.scopedRestBut (Ix := Unit) (Name := ℕ) (U := UR sig nD τ) (Lvl := ℕ) (Val := Elt F) spec1 c [cc1_scratch0, cc1_scratch1, cc1_scratch2])

/-- The region's proof data at an entry valuation. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => tileOf (vdq (iblk1 V c 0 t) (iblk1 V c 1 t) (iblk1 V c 2 t) (iblk1 V c 3 t) (iblk1 V c 4 t) (iblk1 V c 5 t))
    | ⟨7, _⟩ => tileOf (vdk (iblk1 V c 0 t) (iblk1 V c 1 t) (iblk1 V c 2 t) (iblk1 V c 3 t) (iblk1 V c 4 t) (dst1 V c t.val))
    | ⟨8, _⟩ => tileOf (vdv (iblk1 V c 0 t) (iblk1 V c 1 t) (iblk1 V c 2 t) (iblk1 V c 3 t) (iblk1 V c 4 t) (dst1 V c t.val))
    | ⟨9, _⟩ => tileOf (vdg (iblk1 V c 0 t) (iblk1 V c 1 t) (iblk1 V c 2 t) (iblk1 V c 3 t) (iblk1 V c 4 t) (iblk1 V c 5 t) (dst1 V c t.val))
  Φ t := Φ1 V c t.val
  q w := Pipeline.shareOf spec1 w
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = tileOf (vdq (iblk1 V c 0 t) (iblk1 V c 1 t) (iblk1 V c 2 t) (iblk1 V c 3 t) (iblk1 V c 4 t) (iblk1 V c 5 t)) := by dsimp only [dat1]
theorem after1_7 (c : Dev nD) (t : Fin cfg1.N) : (dat1 V c).after 7 t = tileOf (vdk (iblk1 V c 0 t) (iblk1 V c 1 t) (iblk1 V c 2 t) (iblk1 V c 3 t) (iblk1 V c 4 t) (dst1 V c t.val)) := by dsimp only [dat1]
theorem after1_8 (c : Dev nD) (t : Fin cfg1.N) : (dat1 V c).after 8 t = tileOf (vdv (iblk1 V c 0 t) (iblk1 V c 1 t) (iblk1 V c 2 t) (iblk1 V c 3 t) (iblk1 V c 4 t) (dst1 V c t.val)) := by dsimp only [dat1]
theorem after1_9 (c : Dev nD) (t : Fin cfg1.N) : (dat1 V c).after 9 t = tileOf (vdg (iblk1 V c 0 t) (iblk1 V c 1 t) (iblk1 V c 2 t) (iblk1 V c 3 t) (iblk1 V c 4 t) (iblk1 V c 5 t) (dst1 V c t.val)) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- The second grid coordinate of point `t`. -/
theorem coord1 : ∀ t : Fin grid1.N, ((grid1.coords t) 1).val = t.val % 17 := by decide +kernel

/-- The body's buffers held one by one. -/
theorem held1 (c : Dev nD) (aq ak ag av ado : Memref sig .tc .vmem S256x512 .f32) (ast : Memref sig .tc .vmem S16x4x128x128 .f32)
    (odq odk odv odg : Memref sig .tc .vmem S256x512 .f32) (dst : Memref sig .tc .vmem S4x128x128 .f32)
    (sr : Memref sig .tc .vmem S3x16x512 .f32) (ra : Memref sig .tc .vmem S3x16x128 .f32) (σ : St F bS) :
    (Held (Ix := Unit) (Name := ℕ) (U := UR sig nD τ) (Lvl := ℕ) c (bM (aq := aq) (ak := ak) (ag := ag) (av := av) (ado := ado) (ast := ast) (odq := odq) (odk := odk) (odv := odv) (odg := odg) (dst := dst) (sr := sr) (ra := ra)) σ : sProp 𝕄)
      = iprop(owns (c : Thread nD τ) aq fullShare (σ 0) ∗ owns (c : Thread nD τ) ak fullShare (σ 1) ∗ owns (c : Thread nD τ) ag fullShare (σ 2) ∗ owns (c : Thread nD τ) av fullShare (σ 3) ∗ owns (c : Thread nD τ) ado fullShare (σ 4) ∗ owns (c : Thread nD τ) ast fullShare (σ 5) ∗ owns (c : Thread nD τ) odq fullShare (σ 6) ∗ owns (c : Thread nD τ) odk fullShare (σ 7) ∗ owns (c : Thread nD τ) odv fullShare (σ 8) ∗ owns (c : Thread nD τ) odg fullShare (σ 9) ∗ owns (c : Thread nD τ) dst fullShare (σ 10) ∗ owns (c : Thread nD τ) sr fullShare (σ 11) ∗ owns (c : Thread nD τ) ra fullShare (σ 12)) :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) _

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem Φ1_castSucc (c : Dev nD) (t : Fin cfg1.N) : (dat1 V c).Φ t.castSucc = Φ1 V c t.val := by dsimp only [dat1]; rfl
theorem Φ1_succ (c : Dev nD) (t : Fin cfg1.N) : (dat1 V c).Φ t.succ = Φ1 V c (t.val + 1) := by dsimp only [dat1]; rfl

set_option maxHeartbeats 2000000 in
/-- The body at a point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [body_eq, Φ1_castSucc, Φ1_succ,
    show (dat1 V c).owesAt () t.succ = (dat1 V c).owesAt () t.castSucc from rfl,
    after1_0, after1_1, after1_2, after1_3, after1_4, after1_5, after1_6, after1_7, after1_8, after1_9]
  simp only [before1_0, before1_1, before1_2, before1_3, before1_4, before1_5]
  unfold Φ1
  iintro ⟨⟨⟨%X, %hX, HX⟩, ⟨%s1, Hs1⟩, ⟨%s2, Hs2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hn : ((grid1.coords t) 1).val < 17 := by rw [coord1 t]; exact Nat.mod_lt _ (by decide)
  obtain ⟨z0, z1, hrun⟩ := body_runs (Ix := Unit) (Name := ℕ) (U := UR sig nD τ) (Lvl := ℕ) (defs₀ (F := F)) Variants.none c none (st1_0 t) (st1_1 t) (st1_2 t) (st1_3 t) (st1_4 t) (st1_5 t) (st1_6 t) (st1_7 t) (st1_8 t) (st1_9 t)
    (Memref.whole cc1_scratch0) (Memref.whole cc1_scratch1) (Memref.whole cc1_scratch2) (A := iblk1 V c 0 t) (K := iblk1 V c 1 t) (G := iblk1 V c 2 t) (V := iblk1 V c 3 t) (O := iblk1 V c 4 t) (P := iblk1 V c 5 t)
    (y6 := (dat1 V c).before 6 t d6) (y7 := (dat1 V c).before 7 t d7) (y8 := (dat1 V c).before 8 t d8) (y9 := (dat1 V c).before 9 t d9) (y10 := X) (y11 := s1) (y12 := s2) hn
  have e : startD ((grid1.coords t) 1).val X = dst1 V c t.val := by rw [coord1 t]; exact hX
  rw [e] at hrun
  iapply (hrun Set.univ _)
  rw [held1, held1]
  isplitl [H0 H1 H2 H3 H4 H5 H6 H7 H8 H9 HX Hs1 Hs2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HX]; · iexact HX
    isplitl [Hs1]; · iexact Hs1
    iexact Hs2
  iintro ⟨H0, H1, H2, H3, H4, H5, H6, H7, H8, H9, HX, Hs1, Hs2⟩
  isplitl [HX Hs1 Hs2 Hr]
  · isplitl [HX]
    · iexists _; isplitr; swap; (· iexact HX); ipureintro
      conv_rhs => rw [dst1]
      rw [dif_pos t.isLt]
    isplitl [Hs1]; · iexists _; iexact Hs1
    isplitl [Hs2]; · iexists _; iexact Hs2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row1 (t : Fin cfg1.N) : defs₀ (F := F) .tc cfg1.body (cfg1.bodyArgs t (cfg1.slots t)) = bodyAt1 t := by
  unfold defs₀; rw [Defs.onTc_tc]

/-- The pipeline's body obligation. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

end Cert.KernelIdeal.Hg

end
-- ==== Proof.HgRun.lean ====
/- The two kernel regions in order: every run ends, with every buffer at contents named here. -/
module

public import proofs.«01_k».proof.Proof.HgRegion0
public import proofs.«01_k».proof.Proof.HgRegion1

@[expose] public section

set_option maxRecDepth 16384

noncomputable section

namespace Cert.KernelIdeal.Hg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Straight

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 2) → (pcfgs (F := F) p).Adm := fun p => (cfgs p).toPCfg_adm

/-- Region 0's scoped buffers that are not staged, its scratch taken out. -/
theorem rest0_split (c : Dev nD) :
    (Pipeline.scopedRest (Ix := Unit) (Name := ℕ) (U := UR sig nD τ) (Lvl := ℕ) (Val := Elt F) spec0 c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

theorem Φ0_intro (V : Vals0 F) (c : Dev nD) :
    Pipeline.scopedRest (Ix := Unit) (Name := ℕ) (U := UR sig nD τ) (Lvl := ℕ) (Val := Elt F) spec0 c ⊢ (Φ0 V c 0 : sProp 𝕄) := by
  rw [rest0_split]; unfold Φ0
  iintro ⟨⟨⟨%f0, H0⟩, ⟨%f1, H1⟩⟩, Hr⟩
  isplitl [H0]
  · iexists f0; isplitr; · ipureintro; rfl
    rw [owns_whole]; iexact H0
  isplitl [H1]; · iexists f1; rw [owns_whole]; iexact H1
  iexact Hr

theorem Φ0_elim (V : Vals0 F) (c : Dev nD) (n : ℕ) :
    (Φ0 V c n : sProp 𝕄) ⊢ Pipeline.scopedRest (Ix := Unit) (Name := ℕ) (U := UR sig nD τ) (Lvl := ℕ) (Val := Elt F) spec0 c := by
  rw [rest0_split]; unfold Φ0
  simp only [owns_whole]
  iintro ⟨⟨%f0, -, H0⟩, ⟨%f1, H1⟩, Hr⟩
  isplitr [Hr]
  · isplitl [H0]; · iexists f0; iexact H0
    iexists f1; iexact H1
  iexact Hr

/-- Region 1's scoped buffers that are not staged, its scratch taken out. -/
theorem rest1_split (c : Dev nD) :
    (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
        ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

theorem Φ1_intro (V : Vals1 F) (c : Dev nD) :
    Pipeline.scopedRest (Ix := Unit) (Name := ℕ) (U := UR sig nD τ) (Lvl := ℕ) (Val := Elt F) spec1 c ⊢ (Φ1 V c 0 : sProp 𝕄) := by
  rw [rest1_split]; unfold Φ1
  iintro ⟨⟨⟨%f0, H0⟩, ⟨%f1, H1⟩, ⟨%f2, H2⟩⟩, Hr⟩
  isplitl [H0]
  · iexists f0; isplitr; · ipureintro; rfl
    rw [owns_whole]; iexact H0
  isplitl [H1]; · iexists f1; rw [owns_whole]; iexact H1
  isplitl [H2]; · iexists f2; rw [owns_whole]; iexact H2
  iexact Hr

theorem Φ1_elim (V : Vals1 F) (c : Dev nD) (n : ℕ) :
    (Φ1 V c n : sProp 𝕄) ⊢ Pipeline.scopedRest (Ix := Unit) (Name := ℕ) (U := UR sig nD τ) (Lvl := ℕ) (Val := Elt F) spec1 c := by
  rw [rest1_split]; unfold Φ1
  simp only [owns_whole]
  iintro ⟨⟨%f0, -, H0⟩, ⟨%f1, H1⟩, ⟨%f2, H2⟩, Hr⟩
  isplitr [Hr]
  · isplitl [H0]; · iexists f0; iexact H0
    isplitl [H1]; · iexists f1; iexact H1
    iexists f2; iexact H2
  iexact Hr

variable (m : (ℓ : Loc nD τ sig) → Buf (Elt F) ℓ) (ρ : Dev nD → PrngReg)

/-- The buffers at launch, -/
def W0 : Vals0 F := fun c b => m ((c : Thread nD τ).loc b)
/-- after the forward recurrence, -/
def W1 : Vals1 F := fun c => (Function.update (Function.update (W0 m c) main_v0_0 ((dat0 (W0 m) c).arrAt 4 cfg0.N)) main_v0_1 ((dat0 (W0 m) c).arrAt 5 cfg0.N))
/-- after the reverse recurrence. -/
def W2 : Vals1 F := fun c => (Function.update (Function.update (Function.update (Function.update (W1 m c) main_v1_0 ((dat1 (W1 m) c).arrAt 6 cfg1.N)) main_v1_1 ((dat1 (W1 m) c).arrAt 7 cfg1.N)) main_v1_2 ((dat1 (W1 m) c).arrAt 8 cfg1.N)) main_v1_3 ((dat1 (W1 m) c).arrAt 9 cfg1.N))

theorem W1_0 (c : Dev nD) : W1 m c main_v0_0 = (dat0 (W0 m) c).arrAt 4 cfg0.N := by unfold W1; rw [Function.update_of_ne (by decide), Function.update_self]
theorem W1_1 (c : Dev nD) : W1 m c main_v0_1 = (dat0 (W0 m) c).arrAt 5 cfg0.N := by unfold W1; rw [Function.update_self]
theorem W1_of (c : Dev nD) (b : Ref sig .tc) (h : b ∉ [main_v0_0, main_v0_1]) : W1 m c b = W0 m c b := by
  simp only [List.mem_cons, List.mem_nil_iff, _root_.or_false, not_or] at h
  unfold W1; rw [Function.update_of_ne h.2, Function.update_of_ne h.1]
theorem W2_0 (c : Dev nD) : W2 m c main_v1_0 = (dat1 (W1 m) c).arrAt 6 cfg1.N := by unfold W2; rw [Function.update_of_ne (by decide), Function.update_of_ne (by decide), Function.update_of_ne (by decide), Function.update_self]
theorem W2_1 (c : Dev nD) : W2 m c main_v1_1 = (dat1 (W1 m) c).arrAt 7 cfg1.N := by unfold W2; rw [Function.update_of_ne (by decide), Function.update_of_ne (by decide), Function.update_self]
theorem W2_2 (c : Dev nD) : W2 m c main_v1_2 = (dat1 (W1 m) c).arrAt 8 cfg1.N := by unfold W2; rw [Function.update_of_ne (by decide), Function.update_self]
theorem W2_3 (c : Dev nD) : W2 m c main_v1_3 = (dat1 (W1 m) c).arrAt 9 cfg1.N := by unfold W2; rw [Function.update_self]
theorem W2_of (c : Dev nD) (b : Ref sig .tc) (h : b ∉ [main_v1_0, main_v1_1, main_v1_2, main_v1_3]) : W2 m c b = W1 m c b := by
  simp only [List.mem_cons, List.mem_nil_iff, _root_.or_false, not_or] at h
  unfold W2; rw [Function.update_of_ne h.2.2.2, Function.update_of_ne h.2.2.1, Function.update_of_ne h.2.1, Function.update_of_ne h.1]

/-- Each region's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (W0 m) c
  | ⟨1, _⟩ => fun c => dat1 (W1 m) c

set_option backward.isDefEq.respectTransparency.types false in
/-- Region 0, entered with every buffer at `W0` and left with every buffer at `W1`. -/
def reg0 : Pipeline.RegionSeg (pcfgs (F := F)) adm (pdats m) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (W0 m) c).loose
  hwaits := Pipeline.hwaits_of_owed_zero _ _ _ _ L lv 0 fun _ _ => rfl
  pre c := iprop(unscopedBufs c (W0 m c) ∗ ∃ W, owes (c : Thread nD τ) (0 : CellTallies nD τ sig Unit) W)
  post c := iprop(unscopedBufs c (W1 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (W0 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (W0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Φ0 (W0 m) c 0 from rfl]
    iintro ⟨-, -, Hr⟩
    iapply (Φ0_intro (W0 m) c)
    iexact Hr
  hout c := by
    rw [Pipeline.ownSems0_none, show (pdats m 0 c).Φ (Fin.last _) = Φ0 (W0 m) c cfg0.N from rfl]
    iintro Hr
    isplitr; · iempintro
    isplitr; · iempintro
    iapply (Φ0_elim (W0 m) c cfg0.N)
    iexact Hr
  hexit c := by
    have hjoin := Pipeline.unscopedBufs_of_arrays_shared (p := 0) (pcfgs (F := F)) adm (Ix := Unit) (Name := ℕ) (U := UR sig nD τ) (Lvl := ℕ) launch₀0.win launch₀0.sharedIn launch₀0.arr_whole c
      (pdats m) (fun _ _ => rfl) (W0 m c) (W1 m c) ((pdats m 0 c).arrAt · cfg0.N)
      (fun w => by
        match w with
        | ⟨0, _⟩ => exact ((dat0 (W0 m) c).arrAt_in 0 rfl _).trans (W1_of m c main_arg0 (by decide)).symm
        | ⟨1, _⟩ => exact ((dat0 (W0 m) c).arrAt_in 1 rfl _).trans (W1_of m c main_arg1 (by decide)).symm
        | ⟨2, _⟩ => exact ((dat0 (W0 m) c).arrAt_in 2 rfl _).trans (W1_of m c main_arg2 (by decide)).symm
        | ⟨3, _⟩ => exact ((dat0 (W0 m) c).arrAt_in 3 rfl _).trans (W1_of m c main_arg0 (by decide)).symm
        | ⟨4, _⟩ => exact (W1_0 m c).symm
        | ⟨5, _⟩ => exact (W1_1 m c).symm)
      (fun b hb => W1_of m c b fun h => hb (by
        simp only [List.mem_cons, List.mem_nil_iff, _root_.or_false] at h
        rcases h with rfl | rfl
        · exact Finset.mem_image.mpr ⟨4, Finset.mem_univ _, rfl⟩
        · exact Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1, entered with every buffer at `W1` and left with every buffer at `W2`. -/
def reg1 : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (W1 m) c).loose
  hwaits := Pipeline.hwaits_of_owed_zero _ _ _ _ L lv 1 fun _ _ => rfl
  pre c := iprop(unscopedBufs c (W1 m c) ∗ ∃ W, owes (c : Thread nD τ) (0 : CellTallies nD τ sig Unit) W)
  post c := iprop(unscopedBufs c (W2 m c) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (W1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (W1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Φ1 (W1 m) c 0 from rfl]
    iintro ⟨-, -, Hr⟩
    iapply (Φ1_intro (W1 m) c)
    iexact Hr
  hout c := by
    rw [Pipeline.ownSems0_none, show (pdats m 1 c).Φ (Fin.last _) = Φ1 (W1 m) c cfg1.N from rfl]
    iintro Hr
    isplitr; · iempintro
    isplitr; · iempintro
    iapply (Φ1_elim (W1 m) c cfg1.N)
    iexact Hr
  hexit c := by
    have hjoin := Pipeline.unscopedBufs_of_arrays_shared (p := 1) (pcfgs (F := F)) adm (Ix := Unit) (Name := ℕ) (U := UR sig nD τ) (Lvl := ℕ) launch₀1.win launch₀1.sharedIn launch₀1.arr_whole c
      (pdats m) (fun _ _ => rfl) (W1 m c) (W2 m c) ((pdats m 1 c).arrAt · cfg1.N)
      (fun w => by
        match w with
        | ⟨0, _⟩ => exact ((dat1 (W1 m) c).arrAt_in 0 rfl _).trans (W2_of m c main_arg0 (by decide)).symm
        | ⟨1, _⟩ => exact ((dat1 (W1 m) c).arrAt_in 1 rfl _).trans (W2_of m c main_arg1 (by decide)).symm
        | ⟨2, _⟩ => exact ((dat1 (W1 m) c).arrAt_in 2 rfl _).trans (W2_of m c main_arg2 (by decide)).symm
        | ⟨3, _⟩ => exact ((dat1 (W1 m) c).arrAt_in 3 rfl _).trans (W2_of m c main_arg0 (by decide)).symm
        | ⟨4, _⟩ => exact ((dat1 (W1 m) c).arrAt_in 4 rfl _).trans (W2_of m c main_arg3 (by decide)).symm
        | ⟨5, _⟩ => exact ((dat1 (W1 m) c).arrAt_in 5 rfl _).trans (W2_of m c main_v0_1 (by decide)).symm
        | ⟨6, _⟩ => exact (W2_0 m c).symm
        | ⟨7, _⟩ => exact (W2_1 m c).symm
        | ⟨8, _⟩ => exact (W2_2 m c).symm
        | ⟨9, _⟩ => exact (W2_3 m c).symm)
      (fun b hb => W2_of m c b fun h => hb (by
        simp only [List.mem_cons, List.mem_nil_iff, _root_.or_false] at h
        rcases h with rfl | rfl | rfl | rfl
        · exact Finset.mem_image.mpr ⟨6, Finset.mem_univ _, rfl⟩
        · exact Finset.mem_image.mpr ⟨7, Finset.mem_univ _, rfl⟩
        · exact Finset.mem_image.mpr ⟨8, Finset.mem_univ _, rfl⟩
        · exact Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The launch element: the pipelines'. -/
def u₀ : UR sig nD τ := initOf (Pipeline.cells cfgs cellOf_inj) (Pipeline.launchToks cfgs cellOf_inj)

theorem regions_no_unscoped' : ∀ sm : SemLoc sig, sm.isScoped .tc = true := by decide

set_option backward.isDefEq.respectTransparency.types false in
/-- Every run ends, every unscoped buffer at `W2`, every counter at zero. -/
theorem run_main : θ_run defs (onTc (τ := τ) (main (F := F))) ⟨m, fun _ => 0, ρ⟩
    (fun r => (∀ (c : Dev nD) (b : Ref sig .tc), ¬ b.isScoped → r.2.mem ((c : Thread nD τ).loc b) = W2 m c b) ∧ r.2.sem = fun _ => 0) :=
  Pipeline.θ_run_regions_kit_sems (pcfgs (F := F)) adm (pdats m) () cellOf_inj emb₁ defs₀ 𝒱₀ L lv m ρ main [.region (reg0 m), .region (reg1 m)]
    (fun c Q => by rw [main_segs adm (pdats m) () 𝒱₀ L lv (reg0 m) (reg1 m) c])
    (by simp only [Pipeline.Seg.pipes_region, Pipeline.Seg.pipes_nil]; decide) (O₀ := 0) (hL := fun _ _ => rfl) (G := fun _ => iprop(emp)) (u₀ := u₀)
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (W0 m c) ∗ ∃ W, owes (c : Thread nD τ) (0 : CellTallies nD τ sig Unit) W)) (Tₙ := fun c => unscopedBufs c (W2 m c))
    (hch := ⟨fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b : Ref sig .tc, ¬ b.isScoped → s.mem ((c : Thread nD τ).loc b) = W2 m c b)
    (hfin := fun c s' => by
      unfold unscopedBufs
      iintro ⟨Hh, HSI⟩
      ihave Hr := (pointsTo_read_all (Finset.univ.filter fun b : Ref sig .tc => ¬ b.isScoped) (fun b => (c : Thread nD τ).loc b) (W2 m c) s') $$ [Hh HSI]
      · isplitl [Hh] <;> iassumption
      icases Hr with ⟨%h, HSI⟩
      imodintro
      isplitr
      · ipureintro; exact fun b hb => h b (Finset.mem_filter.mpr ⟨Finset.mem_univ b, hb⟩)
      iexact HSI)
    (hQ := fun _ h hz => ⟨h, funext fun g => hz g (.inr (regions_no_unscoped' g.2))⟩)

theorem W2_arg (c : Dev nD) (b : Ref sig .tc) (h : b ∈ [main_arg0, main_arg1, main_arg2, main_arg3]) : W2 m c b = m ((c : Thread nD τ).loc b) :=
  (W2_of m c b (by revert b; decide)).trans (W1_of m c b (by revert b; decide))

end Cert.KernelIdeal.Hg

end
-- ==== Proof.HgFrames.lean ====
/- The kernel's two frame claims, from the one run. -/
module

public import proofs.«01_k».proof.Defs
public import proofs.«01_k».proof.Proof.Gen.Kernel
public import proofs.«01_k».proof.Proof.HgRun

@[expose] public section

noncomputable section

namespace Cert.Proof.Hg

open Idealize.ShloMosaic Idealize.ShloMosaic.TcCoe Idealize.ShloMosaic.Tactic Idealize.SL.Sem
open Cert.KernelIdeal.Hg

/-- The run at any float values, the arguments read off it. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h =>
    ⟨fun c => ⟨(h.1 c _ (by decide)).trans (W2_arg m c _ (by decide)), (h.1 c _ (by decide)).trans (W2_arg m c _ (by decide)),
      (h.1 c _ (by decide)).trans (W2_arg m c _ (by decide)), (h.1 c _ (by decide)).trans (W2_arg m c _ (by decide))⟩, h.2⟩) (run_main m ρ)

theorem frame_ideal : Cert.quiescent_KernelIdeal := fun m ρ _ => frame_any m ρ

/-- The printed kernel and its ideal form are the same program, at any float values. -/
theorem quiet_eq : (∀ (m : (ℓ : Loc Cert.KernelIdeal.nD Cert.KernelIdeal.τ Cert.KernelIdeal.sig) → Buf (Elt Bits) ℓ) (ρ : Dev Cert.KernelIdeal.nD → PrngReg),
    Cert.Pre_Kernel m → θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) = Cert.quiescent_Kernel := by
  sl_kernel_rfl

theorem frame_kernel : Cert.quiescent_Kernel := quiet_eq.mp fun m ρ _ => frame_any m ρ

end Cert.Proof.Hg

end
-- ==== Proof.Loss.Run.lean ====
/- The loss head's run: what the blocks of its three results hold point by point, the run, and the frame.
The loss's block stays in place through all 34 points, zeroed at the first and added to at each later one; the two gradient blocks are written once each. -/
module

public import proofs.«01_k».proof.Proof.Gen.LossHeadIdeal.Frame.RunB
public import Idealize.ShloMosaic.Lib.Claim

@[expose] public section

set_option maxRecDepth 16384

noncomputable section

namespace Cert.LossHeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- At the first point the stores fill each result's block. -/
theorem cover0_A_6 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (y : S8x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S8x128.size (by sl_kernel_rfl) y

/-- What the first point leaves in each result's block. -/
def out0_A_6 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : cond0_0 i)
    (x0 : Vec F S256x1024 .f32) (x1 : Vec F S256x1024 .f32) (x2 : Vec F S64x1024 .f32) (x3 : Vec F S64x1024 .f32) (x4 : Vec F S64x1024 .f32) (x5 : Vec F S64x1024 .f32) : Vec F S8x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

theorem cover0_A_7 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (y : S256x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S256x1024.size (by sl_kernel_rfl) y

def out0_A_7 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : cond0_0 i)
    (x0 : Vec F S256x1024 .f32) (x1 : Vec F S256x1024 .f32) (x2 : Vec F S64x1024 .f32) (x3 : Vec F S64x1024 .f32) (x4 : Vec F S64x1024 .f32) (x5 : Vec F S64x1024 .f32) : Vec F S256x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

theorem cover0_A_8 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (y : S256x1024.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.2.1 S256x1024.size (by sl_kernel_rfl) y

def out0_A_8 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : cond0_0 i)
    (x0 : Vec F S256x1024 .f32) (x1 : Vec F S256x1024 .f32) (x2 : Vec F S64x1024 .f32) (x3 : Vec F S64x1024 .f32) (x4 : Vec F S64x1024 .f32) (x5 : Vec F S64x1024 .f32) : Vec F S256x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 x0 x1 x2 x3 x4 x5).2.2.1)

/-- At a later point the stores fill each result's block. -/
theorem cover0_B_6 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : ¬cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (xo6 : Vec F S8x128 .f32) (y : S8x128.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo6).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo6).1 S8x128.size (by sl_kernel_rfl) y

/-- What a later point leaves in each result's block. -/
def out0_B_6 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : ¬cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (xo6 : Vec F S8x128 .f32) : Vec F S8x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xo6).1)

theorem cover0_B_7 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : ¬cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (xo6 : Vec F S8x128 .f32) (y : S256x1024.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo6).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo6).2.1 S256x1024.size (by sl_kernel_rfl) y

def out0_B_7 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : ¬cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (xo6 : Vec F S8x128 .f32) : Vec F S256x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 xo6).2.1)

theorem cover0_B_8 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : ¬cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (xo6 : Vec F S8x128 .f32) (y : S256x1024.Idx) :
    ∃ pc ∈ (kernelRun0_B c i arg2 harg2 arg3 harg3 arg4 harg4 arg5 harg5 arg6 harg6 arg7 harg7 arg8 harg8 arg9 harg9 arg10 harg10 hc0 x0 x1 x2 x3 x4 x5 xo6).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xo6).2.2.1 S256x1024.size (by sl_kernel_rfl) y

def out0_B_8 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x128 .f32) (harg8 : arg8.IsWhole) (arg9 : Memref sig .tc .vmem S256x1024 .f32) (harg9 : arg9.IsWhole) (arg10 : Memref sig .tc .vmem S256x1024 .bf16) (harg10 : arg10.IsWhole) (hc0 : ¬cond0_0 i)
    (x0 : Vec F S256x1024 .f32) (x1 : Vec F S256x1024 .f32) (x2 : Vec F S64x1024 .f32) (x3 : Vec F S64x1024 .f32) (x4 : Vec F S64x1024 .f32) (x5 : Vec F S64x1024 .f32) (xo6 : Vec F S8x128 .f32) : Vec F S256x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 x0 x1 x2 x3 x4 x5 xo6).2.2.1)

/-- What the three results' blocks hold after each point of the grid. -/
def outsAt0 (c : Dev nD) : (n : ℕ) → n < cfg0.N → Vec F S8x128 .f32 × Vec F S256x1024 .f32 × Vec F S256x1024 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 34 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1)

/-- At the first point the loss starts from zero. -/
theorem outsAt0_A (c : Dev nD) (t : Fin cfg0.N) (h0 : t.val % 34 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => show outsAt0 m c (n + 1) hn = _; rw [outsAt0]; exact dif_pos h0

/-- At a later point it adds to what the point before left. -/
theorem outsAt0_B (c : Dev nD) (t : Fin cfg0.N) (h0 : ¬t.val % 34 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => show outsAt0 m c (n + 1) hn = _; rw [outsAt0]; exact dif_neg h0

/-- What each window holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2
  Φ _ := Pipeline.ΦA spec0 c
  q w := Pipeline.shareOf spec0 w
  owed _ := 0

/-- The arrays before the run. -/
theorem A_eq (c : Dev nD) (w : Fin cfg0.W) : (dats m 0 c).A w = V m c (Pipeline.arrRef spec0 w) := by
  dsimp only [dats]

/-- What each window holds after the body, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2 := by dsimp only [dats]

/-- What each argument window holds before the body is the block loaded from its array. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a later point the loss's block still holds what the point before left. -/
theorem before0_6_B (c : Dev nD) (t : Fin cfg0.N) (h0 : ¬t.val % 34 = 0) (d) :
    (dats m 0 c).before 6 t d = (outsAt0 m c (t.val - 1) (Nat.lt_of_le_of_lt (Nat.sub_le _ _) t.isLt)).1 := by
  have hN : t.val < 34 := lt_of_lt_of_eq t.isLt (show cfg0.N = 34 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body finds: its argument blocks loaded, its result blocks as the point before left them. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What the body leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: it leaves what `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 34 := lt_of_lt_of_eq t.isLt (show cfg0.N = 34 from N_0)
  by_cases h0 : t.val % 34 = 0
  · rw [outsAt0_A m c t h0]
    unfold out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B m c t h0]
    simp only [before0_6_B m c t h0]
    unfold out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _)

/-- The body of the call at a point. -/
theorem defs₀_row (t : Fin cfg0.N) :
    defs₀ (F := F) .tc cfg0.body (cfg0.bodyArgs t (cfg0.slots t)) = bodyAt0 t := by
  unfold defs₀; rw [Defs.onTc_tc]

/-- The same, in the form in which the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run ends with every array at what the points wrote, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.LossHeadIdeal.Gen

end
-- ==== Proof.Loss.Head.lean ====
/- The loss head: what the call leaves in its three result arrays. -/
module

public import proofs.«01_k».proof.Proof.Loss.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.LossHeadIdeal.Loss

open Cert.LossHeadIdeal Cert.LossHeadIdeal.Gen
open Idealize.ShloMosaic Idealize.ShloMosaic.TcCoe Idealize.SL.Sem
open Idealize.ShloMosaic.Pipeline (Dat)

variable (m : (ℓ : Loc nD τ sig) → Buf (Elt Ideal) ℓ)

/-- The word test of a row of a tile is the test of its number: between the first real row and the first after the last. -/
theorem test (k j : ℕ) (hk : k < 17) (hj : j < 256) :
    (IntOp.andi
        (IntOp.cmpi CmpIPredicate.sge
          (IntOp.addi (Scalar.muli (BitVec.ofNat 32 k) 256#32) (BitVec.ofNat 32 j)) 64#32)
        (IntOp.cmpi CmpIPredicate.slt
          (IntOp.addi (Scalar.muli (BitVec.ofNat 32 k) 256#32) (BitVec.ofNat 32 j)) 4160#32)) = BitVec.ofBool (decide (64 ≤ 256 * k + j ∧ 256 * k + j < 4160)) := by
  have e : IntOp.addi (Scalar.muli (BitVec.ofNat 32 k) 256#32) (BitVec.ofNat 32 j) = BitVec.ofNat 32 (256 * k + j) := by
    simp [IntOp.addi, Scalar.muli, IntOp.muli, BitVec.ofNat_add, BitVec.ofNat_mul, mul_comm]
  rw [e]
  have t : (BitVec.ofNat 32 (256 * k + j)).toInt = 256 * k + j := by
    rw [BitVec.toInt_ofNat']; simp [Int.bmod]; omega
  simp [IntOp.andi, IntOp.cmpi, BitVec.sle, BitVec.slt, t]
  have a : (64 ≤ 256 * (k : ℤ) + j) = (64 ≤ 256 * k + j) := propext (by omega)
  have b : (256 * (k : ℤ) + j < 4160) = (256 * k + j < 4160) := propext (by omega)
  simp only [a, b]

/-- An entry of a tile's error: the hidden row less the target's, and nothing outside the real rows. -/
theorem masked (i : grid0.Coords) (p q r s : FVec Ideal S64x1024 .f32) (x y : FVec Ideal S256x1024 .f32) (j : S256x1024.Idx) :
    k0_pay4 (F := Ideal) i p q r s x y j
      = if 64 ≤ 256 * (i 1).val + (j 0).val ∧ 256 * (i 1).val + (j 0).val < 4160 then
          x j + y j -
            if h : (j 0).val < 64 then p (ix2 ⟨(j 0).val, h⟩ (j 1))
            else if h : (j 0).val - 64 < 64 then q (ix2 ⟨(j 0).val - 64, h⟩ (j 1))
            else if h : (j 0).val - 64 - 64 < 64 then r (ix2 ⟨(j 0).val - 64 - 64, h⟩ (j 1))
            else s (ix2 ⟨(j 0).val - 64 - 64 - 64, by have : (j 0).val < 256 := (j 0).isLt; omega⟩ (j 1))
        else 0 := by
  pointwise [k0_pay4]
  have h1 : (i 1).val < 17 := (i 1).isLt
  have h2 : (j 0).val < 256 := (j 0).isLt
  rw [test _ _ h1 h2]
  by_cases hc : 64 ≤ 256 * (i 1).val + (j 0).val ∧ 256 * (i 1).val + (j 0).val < 4160 <;>
    simp [hc, Scalar.select]

/-- The stored gradient is the error times the inverse of the width. -/
theorem scaled (i : grid0.Coords) (p q r s : FVec Ideal S64x1024 .f32) (x y : FVec Ideal S256x1024 .f32) (j : S256x1024.Idx) :
    k0_pay5 (F := Ideal) i p q r s x y j = k0_pay4 (F := Ideal) i p q r s x y j * Ideal.ofBits .f32 0x3A800000#32 := by
  pointwise [k0_pay5]

/-- A cast between floats changes nothing. -/
theorem rounded (x : FVec Ideal S256x1024 .f32) (j : S256x1024.Idx) :
    k0_pay1 (F := Ideal) x j = x j := by
  pointwise [k0_pay1]

/-- A tile adds half the sum of its errors times their gradients. -/
theorem added (x y : FVec Ideal S256x1024 .f32) (z : FVec Ideal S8x128 .f32) (j : S8x128.Idx) :
    k0_pay2 (F := Ideal) x y z j = z j + Ideal.ofBits .f32 0x3F000000#32 * ∑ a, ∑ b, x (ix2 a b) * y (ix2 a b) := by
  pointwise [k0_pay2]

/-- Where each grid point's blocks lie. -/
theorem idx : ∀ t : Fin cfg0.N, win0_0.index t = ![t.val, 0] ∧ win0_1.index t = ![t.val, 0]
   ∧ win0_7.index t = ![t.val, 0] ∧ win0_8.index t = ![t.val, 0] ∧ win0_6.index t = ![0, 0]
   ∧ win0_2.index t = ![(t.val / 17) * 64 + min (t.val % 17 * 4 - 1) 63, 0]
   ∧ win0_3.index t = ![(t.val / 17) * 64 + min (t.val % 17 * 4) 63, 0]
   ∧ win0_4.index t = ![(t.val / 17) * 64 + min (t.val % 17 * 4 + 1) 63, 0]
   ∧ win0_5.index t = ![(t.val / 17) * 64 + min (t.val % 17 * 4 + 2) 63, 0]
   ∧ (grid0.coords t 1).val = t.val % 17 :=
  (by decide +kernel : ∀ t : Fin grid0.N, _)

/-- The error of all rows: the sum of the two hidden arrays less the target where the row is real, zero elsewhere. -/
def err (h k : FVec Ideal S8704x1024 .f32) (t : FVec Ideal S8192x1024 .f32) : FVec Ideal S8704x1024 .f32 := fun j =>
  if 64 ≤ (j 0).val % 4352 ∧ (j 0).val % 4352 < 4160 then
    h j + k j - t (ix2 ⟨((j 0).val / 4352 * 4096 + ((j 0).val % 4352 - 64)) % 8192, Nat.mod_lt _ (by decide)⟩ (j 1))
  else 0

/-- A row of the first hidden array's tile. -/
theorem row0 (c : Dev nD) (t : Fin cfg0.N) (y : S256x1024.Idx) (h : 256 * t.val + (y 0).val < 8704) :
    iblk m c 0 t y = V m c main_arg0 (ix2 ⟨256 * t.val + (y 0).val, h⟩ (y 1)) := by
  blk_point [iblk, idx t]

/-- A row of the second hidden array's tile. -/
theorem row1 (c : Dev nD) (t : Fin cfg0.N) (y : S256x1024.Idx) (h : 256 * t.val + (y 0).val < 8704) :
    iblk m c 1 t y = V m c main_arg1 (ix2 ⟨256 * t.val + (y 0).val, h⟩ (y 1)) := by
  blk_point [iblk, idx t]

/-- A row of the first quarter of the targets. -/
theorem row2 (c : Dev nD) (t : Fin cfg0.N) (y : S64x1024.Idx) (n : ℕ) (h : n < 8192) (e : n = 64 * ((t.val / 17) * 64 + min (t.val % 17 * 4 - 1) 63) + (y 0).val) :
    iblk m c 2 t y = V m c main_v0 (ix2 ⟨n, h⟩ (y 1)) := by
  subst e
  blk_point [iblk, idx t]

/-- A row of the second quarter of the targets. -/
theorem row3 (c : Dev nD) (t : Fin cfg0.N) (y : S64x1024.Idx) (n : ℕ) (h : n < 8192) (e : n = 64 * ((t.val / 17) * 64 + min (t.val % 17 * 4) 63) + (y 0).val) :
    iblk m c 3 t y = V m c main_v0 (ix2 ⟨n, h⟩ (y 1)) := by
  subst e
  blk_point [iblk, idx t]

/-- A row of the third quarter of the targets. -/
theorem row4 (c : Dev nD) (t : Fin cfg0.N) (y : S64x1024.Idx) (n : ℕ) (h : n < 8192) (e : n = 64 * ((t.val / 17) * 64 + min (t.val % 17 * 4 + 1) 63) + (y 0).val) :
    iblk m c 4 t y = V m c main_v0 (ix2 ⟨n, h⟩ (y 1)) := by
  subst e
  blk_point [iblk, idx t]

/-- A row of the last quarter of the targets. -/
theorem row5 (c : Dev nD) (t : Fin cfg0.N) (y : S64x1024.Idx) (n : ℕ) (h : n < 8192) (e : n = 64 * ((t.val / 17) * 64 + min (t.val % 17 * 4 + 2) 63) + (y 0).val) :
    iblk m c 5 t y = V m c main_v0 (ix2 ⟨n, h⟩ (y 1)) := by
  subst e
  blk_point [iblk, idx t]

/-- The loss's gradient. -/
def grad (h k : FVec Ideal S8704x1024 .f32) (t : FVec Ideal S8192x1024 .f32) : FVec Ideal S8704x1024 .f32 := fun j =>
  err h k t j * Ideal.ofBits .f32 0x3A800000#32

/-- A tile's error is the whole array's error at the tile's place. -/
theorem tile (c : Dev nD) (t : Fin cfg0.N) (y : S256x1024.Idx) (hb : 256 * t.val + (y 0).val < 8704) :
    k0_pay4 (F := Ideal) (grid0.coords t) (iblk m c 2 t) (iblk m c 3 t) (iblk m c 4 t) (iblk m c 5 t) (iblk m c 0 t) (iblk m c 1 t) y
      = err (V m c main_arg0) (V m c main_arg1) (V m c main_v0) (ix2 ⟨256 * t.val + (y 0).val, hb⟩ (y 1)) := by
  have hy : (y 0).val < 256 := (y 0).isLt
  rw [masked, (idx t).2.2.2.2.2.2.2.2.2, row0 m c t y hb, row1 m c t y hb]
  unfold err
  have hr : (256 * t.val + (y 0).val) % 4352 = 256 * (t.val % 17) + (y 0).val := by omega
  by_cases hc : 64 ≤ 256 * (t.val % 17) + (y 0).val ∧ 256 * (t.val % 17) + (y 0).val < 4160
  · rw [if_pos hc, if_pos (by show 64 ≤ (256 * t.val + (y 0).val) % 4352 ∧ (256 * t.val + (y 0).val) % 4352 < 4160; rw [hr]; exact hc)]
    have ht := lt_of_lt_of_eq t.isLt (show cfg0.N = 34 from N_0)
    have hn : (256 * t.val + (y 0).val) / 4352 * 4096 + ((256 * t.val + (y 0).val) % 4352 - 64) < 8192 := by omega
    have e : (⟨((256 * t.val + (y 0).val) / 4352 * 4096 + ((256 * t.val + (y 0).val) % 4352 - 64)) % 8192, Nat.mod_lt _ (by decide)⟩ : Fin 8192)
        = ⟨(256 * t.val + (y 0).val) / 4352 * 4096 + ((256 * t.val + (y 0).val) % 4352 - 64), hn⟩ := Fin.ext (Nat.mod_eq_of_lt hn)
    refine congrArg _ (Eq.trans ?_ (congrArg (fun r => V m c main_v0 (ix2 r (y 1))) e.symm))
    split_ifs with h1 h2 h3
    · exact row2 m c t _ _ hn (by show _ = _ + (y 0).val; omega)
    · exact row3 m c t _ _ hn (by show _ = _ + ((y 0).val - 64); omega)
    · exact row4 m c t _ _ hn (by show _ = _ + ((y 0).val - 64 - 64); omega)
    · exact row5 m c t _ _ hn (by show _ = _ + ((y 0).val - 64 - 64 - 64); omega)
  · rw [if_neg hc, if_neg (by show ¬ (64 ≤ (256 * t.val + (y 0).val) % 4352 ∧ (256 * t.val + (y 0).val) % 4352 < 4160); rw [hr]; exact hc)]

/-- What a point leaves in the gradient's block. -/
theorem fin7 (c : Dev nD) (t : Fin cfg0.N) (j : S256x1024.Idx) :
    (outsAt0 m c t.val t.isLt).2.1 j = k0_pay5 (F := Ideal) (grid0.coords t) (iblk m c 2 t) (iblk m c 3 t) (iblk m c 4 t) (iblk m c 5 t) (iblk m c 0 t) (iblk m c 1 t) j := by
  by_cases h : t.val % 34 = 0
  · rw [outsAt0_A m c t h]; frame_out
  · rw [outsAt0_B m c t h]; frame_out

/-- What a point leaves in the rounded gradient's block. -/
theorem fin8 (c : Dev nD) (t : Fin cfg0.N) (j : S256x1024.Idx) :
    (outsAt0 m c t.val t.isLt).2.2 j = k0_pay5 (F := Ideal) (grid0.coords t) (iblk m c 2 t) (iblk m c 3 t) (iblk m c 4 t) (iblk m c 5 t) (iblk m c 0 t) (iblk m c 1 t) j := by
  by_cases h : t.val % 34 = 0
  · rw [outsAt0_A m c t h]; frame_out; rw [rounded]
  · rw [outsAt0_B m c t h]; frame_out; rw [rounded]

/-- The place of an entry of the gradient's block. -/
theorem emb7 (t : Fin cfg0.N) (y : S256x1024.Idx) (hb : 256 * t.val + (y 0).val < 8704) :
    ((cfg0.win 7).blk t).view.emb y = (ix2 ⟨256 * t.val + (y 0).val, hb⟩ (y 1) : S8704x1024.Idx) := by
  have h : ∀ k : Fin 2, ((((win0 7).rect t).emb y : S8704x1024.Idx) k : Nat) = (win0 7).index t k * (win0 7).size k + (y k : Nat) := fun k =>
    Pipeline.Window.rect_emb_val (win0 7) t y k rfl
  have e := (idx t).2.2.1
  funext k; apply Fin.ext; refine (h k).trans ?_; rw [e]; fin_cases k
  · show t.val * 256 + (y 0).val = 256 * t.val + (y 0).val; omega
  · exact Nat.zero_add _

/-- The place of an entry of the rounded gradient's block. -/
theorem emb8 (t : Fin cfg0.N) (y : S256x1024.Idx) (hb : 256 * t.val + (y 0).val < 8704) :
    ((cfg0.win 8).blk t).view.emb y = (ix2 ⟨256 * t.val + (y 0).val, hb⟩ (y 1) : S8704x1024.Idx) := by
  have h : ∀ k : Fin 2, ((((win0 8).rect t).emb y : S8704x1024.Idx) k : Nat) = (win0 8).index t k * (win0 8).size k + (y k : Nat) := fun k =>
    Pipeline.Window.rect_emb_val (win0 8) t y k rfl
  have e := (idx t).2.2.2.1
  funext k; apply Fin.ext; refine (h k).trans ?_; rw [e]; fin_cases k
  · show t.val * 256 + (y 0).val = 256 * t.val + (y 0).val; omega
  · exact Nat.zero_add _

/-- The gradient after the run. -/
theorem final7 (c : Dev nD) : (dats m 0 c).arrAt 7 (cfgs 0).N = grad (V m c main_arg0) (V m c main_arg1) (V m c main_v0) := by
  refine (dats m 0 c).arrAt_eq_of_covers 7 _ (by decide +kernel) fun t hf y => ?_
  have hb : 256 * t.val + (y 0).val < 8704 := by have h := lt_of_lt_of_eq t.isLt (show cfg0.N = 34 from N_0); have : (y 0).val < 256 := (y 0).isLt; omega
  rw [after0_7]
  refine Eq.trans ?_ (congrArg (grad (V m c main_arg0) (V m c main_arg1) (V m c main_v0)) (emb7 t y hb).symm)
  show (outsAt0 m c t.val t.isLt).2.1 y = _
  rw [fin7, scaled, tile m c t y hb]
  rfl

/-- The rounded gradient after the run. -/
theorem final8 (c : Dev nD) : (dats m 0 c).arrAt 8 (cfgs 0).N = grad (V m c main_arg0) (V m c main_arg1) (V m c main_v0) := by
  refine (dats m 0 c).arrAt_eq_of_covers 8 _ (by decide +kernel) fun t hf y => ?_
  have hb : 256 * t.val + (y 0).val < 8704 := by have h := lt_of_lt_of_eq t.isLt (show cfg0.N = 34 from N_0); have : (y 0).val < 256 := (y 0).isLt; omega
  rw [after0_8]
  refine Eq.trans ?_ (congrArg (grad (V m c main_arg0) (V m c main_arg1) (V m c main_v0)) (emb8 t y hb).symm)
  show (outsAt0 m c t.val t.isLt).2.2 y = _
  rw [fin8, scaled, tile m c t y hb]
  rfl

/-- A constant that is a nonnegative real leaves a sum. -/
theorem out_of_sum {ι : Type} (s : Finset ι) (a : EReal) (h : 0 ≤ a) (h' : a ≠ ⊤) (f : ι → EReal) :
    ∑ i ∈ s, a * f i = a * ∑ i ∈ s, f i := by
  classical
  induction s using Finset.induction_on with
  | empty => simp
  | insert i s hi ih => rw [Finset.sum_insert hi, Finset.sum_insert hi, ih, EReal.left_distrib_of_nonneg_of_ne_top h h']

/-- The loss. -/
def total (h k : FVec Ideal S8704x1024 .f32) (t : FVec Ideal S8192x1024 .f32) : EReal :=
  Ideal.ofBits .f32 0x3F000000#32 * ∑ r : Fin 8704, ∑ d : Fin 1024, err h k t (ix2 r d) * grad h k t (ix2 r d)

/-- The word of one half. -/
theorem half : Ideal.ofBits .f32 0x3F000000#32 = ((1 / 2 : ℝ) : EReal) := by
  simp [Ideal.ofBits, Ideal.ieee, -EReal.coe_mul]; norm_num

/-- A tile's own share of the sum of squares. -/
def share (h k : FVec Ideal S8704x1024 .f32) (t : FVec Ideal S8192x1024 .f32) (n : ℕ) : EReal :=
  ∑ a : Fin 256, ∑ d : Fin 1024, err h k t (ix2 ⟨(256 * n + a.val) % 8704, Nat.mod_lt _ (by decide)⟩ d) * grad h k t (ix2 ⟨(256 * n + a.val) % 8704, Nat.mod_lt _ (by decide)⟩ d)

/-- A tile's sum is its share. -/
theorem part (c : Dev nD) (t : Fin cfg0.N) :
    (∑ a, ∑ b, k0_pay4 (F := Ideal) (grid0.coords t) (iblk m c 2 t) (iblk m c 3 t) (iblk m c 4 t) (iblk m c 5 t) (iblk m c 0 t) (iblk m c 1 t) (ix2 a b)
      * k0_pay5 (F := Ideal) (grid0.coords t) (iblk m c 2 t) (iblk m c 3 t) (iblk m c 4 t) (iblk m c 5 t) (iblk m c 0 t) (iblk m c 1 t) (ix2 a b))
      = share (V m c main_arg0) (V m c main_arg1) (V m c main_v0) t.val := by
  refine Finset.sum_congr rfl fun a _ => Finset.sum_congr rfl fun b _ => ?_
  have hb : 256 * t.val + a.val < 8704 := by have h := lt_of_lt_of_eq t.isLt (show cfg0.N = 34 from N_0); have := a.isLt; omega
  have e : (⟨(256 * t.val + a.val) % 8704, Nat.mod_lt _ (by decide)⟩ : Fin 8704) = ⟨256 * t.val + a.val, hb⟩ := Fin.ext (Nat.mod_eq_of_lt hb)
  rw [e, scaled, tile m c t (ix2 a b) hb]
  rfl

/-- The loss starts from zero. -/
theorem pay3 (j : S8x128.Idx) : k0_pay3 (F := Ideal) j = 0 := by
  pointwise [k0_pay3]

/-- After the last point the loss is the whole sum. -/
theorem run6 (c : Dev nD) (t : Fin cfg0.N) (hf : t.val % 34 = 33) (j : S8x128.Idx) :
    (outsAt0 m c t.val t.isLt).1 j = total (V m c main_arg0) (V m c main_arg1) (V m c main_v0) := by
  have ht := lt_of_lt_of_eq t.isLt (show cfg0.N = 34 from N_0)
  rw [Pipeline.eq_sum_fin_of_reset_step_apply_of_flush (fun n h => (outsAt0 m c n h).1) 34 (fun _ => (0 : EReal))
      (fun n _ => Ideal.ofBits .f32 0x3F000000#32 * share (V m c main_arg0) (V m c main_arg1) (V m c main_v0) n.val)
      (fun t h j => by rw [outsAt0_A m c t h]; frame_out; rw [added, part, pay3])
      (fun t h j => by rw [outsAt0_B m c t h]; frame_out; rw [added, part])
      t hf j, zero_add, out_of_sum _ _ (by rw [half]; exact EReal.coe_nonneg.mpr (by norm_num)) (by rw [half]; exact EReal.coe_ne_top _)]
  refine congrArg _ (Fin.sum_mul_add_congr fun s k hl => ?_)
  have e : (⟨(256 * (34 * (t.val / 34) + s.val) + k.val) % 8704, Nat.mod_lt _ (by decide)⟩ : Fin 8704) = ⟨s.val * 256 + k.val, hl⟩ := Fin.ext (by
    have h0 : t.val / 34 = 0 := by omega
    show (256 * (34 * (t.val / 34) + s.val) + k.val) % 8704 = s.val * 256 + k.val
    rw [h0]; omega)
  exact congrArg (fun r => ∑ d : Fin 1024, err (V m c main_arg0) (V m c main_arg1) (V m c main_v0) (ix2 r d) * grad (V m c main_arg0) (V m c main_arg1) (V m c main_v0) (ix2 r d)) e

/-- The loss's block after the run: the loss in every entry. -/
theorem final6 (c : Dev nD) : (dats m 0 c).arrAt 6 (cfgs 0).N = fun _ => total (V m c main_arg0) (V m c main_arg1) (V m c main_v0) := by
  refine (dats m 0 c).arrAt_eq_of_covers 6 _ (by decide +kernel) fun t hf y => ?_
  rw [after0_6]
  exact run6 m c t (by have := (flush0_6 t).mp hf; omega) y

end Cert.LossHeadIdeal.Loss
-- ==== Proof.Loss.Plain.lean ====
/- The loss head's reference: its results are the same functions of the arguments. -/
module

public import proofs.«01_k».proof.Proof.Loss.Head
public import proofs.«01_k».proof.Proof.Gen.LossHeadRefIdeal
public import Idealize.ShloMosaic.Lib.Claim

@[expose] public section

set_option maxRecDepth 16384

noncomputable section

namespace Cert.LossHeadRefIdeal.Loss

open Idealize.ShloMosaic
open Cert.LossHeadRefIdeal Cert.LossHeadRefIdeal.Gen
open Cert.LossHeadIdeal.Loss (err grad total out_of_sum half)

variable (h k : FVec Ideal S8704x1024 .f32) (y : FVec Ideal S2x4096x1024 .f32)

/-- The error of the real rows. -/
def gap : FVec Ideal S2x4096x1024 .f32 :=
  subf (extractStridedSlice S2x4096x1024 ![0, 64, 0] (fun i => shapeCast main_v1.ty.shape (addf h k) shapeCasts_S8704x1024_S2x4352x1024 i) slices_S2x4352x1024_S2x4096x1024_0_64_0) y

/-- The target with its two examples' rows one under the other. -/
def flat : FVec Ideal Cert.LossHeadIdeal.S8192x1024 .f32 := fun j =>
  y (ix3 ⟨(j 0).val / 4096 % 2, Nat.mod_lt _ (by decide)⟩ ⟨(j 0).val % 4096, Nat.mod_lt _ (by decide)⟩ (j 1))

/-- A real row's error, read in either layout. -/
theorem gap_at (a : Fin 2) (b : Fin 4096) (d : Fin 1024) (n : Fin 8704) (hn : n.val = a.val * 4352 + (64 + b.val)) :
    gap h k y (ix3 a b d) = err h k (flat y) (ix2 n d) := by
  have ha := a.isLt
  have hb := b.isLt
  have e : n = ⟨a.val * 4352 + (64 + b.val), by omega⟩ := Fin.ext hn
  have hc : 64 ≤ n.val % 4352 ∧ n.val % 4352 < 4160 := by omega
  unfold err
  rw [if_pos (show 64 ≤ ((ix2 n d : S8704x1024.Idx) 0).val % 4352 ∧ ((ix2 n d : S8704x1024.Idx) 0).val % 4352 < 4160 from hc)]
  have e1 : (⟨(n.val / 4352 * 4096 + (n.val % 4352 - 64)) % 8192 / 4096 % 2, Nat.mod_lt _ (by decide)⟩ : Fin 2) = a := Fin.ext (by show (n.val / 4352 * 4096 + (n.val % 4352 - 64)) % 8192 / 4096 % 2 = a.val; omega)
  have e2 : (⟨(n.val / 4352 * 4096 + (n.val % 4352 - 64)) % 8192 % 4096, Nat.mod_lt _ (by decide)⟩ : Fin 4096) = b := Fin.ext (by show (n.val / 4352 * 4096 + (n.val % 4352 - 64)) % 8192 % 4096 = b.val; omega)
  have e3 : flat y (ix2 ⟨(n.val / 4352 * 4096 + (n.val % 4352 - 64)) % 8192, Nat.mod_lt _ (by decide)⟩ d) = y (ix3 a b d) := by
    unfold flat
    exact congrArg₂ (fun p q => y (ix3 p q d)) e1 e2
  refine Eq.trans ?_ (congrArg (fun z => h (ix2 n d) + k (ix2 n d) - z) e3.symm)
  rw [e]
  pointwise [gap]

/-- The reference's loss. -/
def loss : FVec Ideal S_ .f32 :=
  mulf (constant S_ FTy.f32 1056964608#32)
      (Host.reduceAdd
        (Host.divf
          (Host.reduceAdd (mulf (gap h k y) (gap h k y)) (constant S_ FTy.f32 0#32) reducesTo_S2x4096x1024_S2x4096_d2 h_S_)
          (broadcastInDim S2x4096 ![] bcast_S_S2x4096 (constant S_ FTy.f32 1149239296#32)))
        (constant S_ FTy.f32 0#32) reducesTo_S2x4096_S_d0_1 h_S_)

/-- The word of the width of a row. -/
theorem width : Ideal.ofBits .f32 0x44800000#32 = ((1024 : ℝ) : EReal) := by
  simp [Ideal.ofBits, Ideal.ieee, -EReal.coe_mul]; norm_num

/-- The word of the inverse of the width. -/
theorem inverse : Ideal.ofBits .f32 0x3A800000#32 = ((1 / 1024 : ℝ) : EReal) := by
  simp [Ideal.ofBits, Ideal.ieee, -EReal.coe_mul]; norm_num

/-- The word of two. -/
theorem two : Ideal.ofBits .f32 0x40000000#32 = ((2 : ℝ) : EReal) := by
  simp [Ideal.ofBits, Ideal.ieee, -EReal.coe_mul]; norm_num

/-- The sum of a row's squares, divided by the row's width. -/
def row (n : ℕ) : EReal :=
  Ideal.ofBits .f32 0x3A800000#32 * ∑ d : Fin 1024, err h k (flat y) (ix2 ⟨n % 8704, Nat.mod_lt _ (by decide)⟩ d) * err h k (flat y) (ix2 ⟨n % 8704, Nat.mod_lt _ (by decide)⟩ d)

/-- Outside the real rows there is no error. -/
theorem row_zero (n : ℕ) (hn : n < 8704) (hc : ¬ (64 ≤ n % 4352 ∧ n % 4352 < 4160)) : row h k y n = 0 := by
  have z : ∀ d, err h k (flat y) (ix2 ⟨n % 8704, Nat.mod_lt _ (by decide)⟩ d) = 0 := fun d => by
    unfold err
    exact if_neg (by show ¬ (64 ≤ n % 8704 % 4352 ∧ n % 8704 % 4352 < 4160); rw [Nat.mod_eq_of_lt hn]; exact hc)
  unfold row
  simp [z]

/-- The sum over all rows is the sum over each example's real rows. -/
theorem rows : ∑ r : Fin 8704, row h k y r.val = ∑ a : Fin 2, ∑ b : Fin 4096, row h k y (a.val * 4352 + (64 + b.val)) := by
  rw [← Fin.sum_mul_add_congr (S := 2) (n := 4352) (F := fun a s => row h k y (a.val * 4352 + s.val)) (f := fun r => row h k y r.val) fun s k hl => rfl]
  refine Finset.sum_congr rfl fun a _ => ?_
  have ha := a.isLt
  have e : ∀ f : ℕ → EReal, ∑ s : Fin 4352, f s.val = ∑ s : Fin 64, f s.val + ∑ b : Fin 4096, f (64 + b.val) + ∑ s : Fin 192, f (4160 + s.val) := fun f => by
    have := Fin.sum_univ_add (a := 64 + 4096) (b := 192) (fun i => f i.val)
    rw [Fin.sum_univ_add (a := 64) (b := 4096)] at this
    exact this
  rw [e (fun s => row h k y (a.val * 4352 + s))]
  rw [Finset.sum_eq_zero fun (s : Fin 64) _ => row_zero h k y (a.val * 4352 + s.val) (by have := s.isLt; omega) (by have := s.isLt; omega),
    Finset.sum_eq_zero fun (s : Fin 192) _ => row_zero h k y (a.val * 4352 + (4160 + s.val)) (by have := s.isLt; omega) (by have := s.isLt; omega), zero_add, add_zero]

/-- The reference's loss is the sum that the tiles make. -/
theorem loss_at (j : S_.Idx) : loss h k y j = total h k (flat y) := by
  pointwise [loss]
  unfold total
  refine congrArg _ ?_
  have e : ∀ r : Fin 8704, ∑ d : Fin 1024, err h k (flat y) (ix2 r d) * grad h k (flat y) (ix2 r d) = row h k y r.val := fun r => by
    unfold row
    rw [← out_of_sum _ _ (by rw [inverse]; exact EReal.coe_nonneg.mpr (by norm_num)) (by rw [inverse]; exact EReal.coe_ne_top _)]
    refine Finset.sum_congr rfl fun d _ => ?_
    have er : (⟨r.val % 8704, Nat.mod_lt _ (by decide)⟩ : Fin 8704) = r := Fin.ext (Nat.mod_eq_of_lt r.isLt)
    rw [er]
    unfold grad
    rw [← mul_assoc, mul_comm]
  rw [Finset.sum_congr rfl fun r _ => e r, rows]
  refine Finset.sum_congr rfl fun a _ => Finset.sum_congr rfl fun b _ => ?_
  have ha := a.isLt
  have hb := b.isLt
  rw [width, Ideal.div_coe (by norm_num), ← inverse, mul_comm]
  unfold row
  refine congrArg _ (Finset.sum_congr rfl fun d _ => ?_)
  rw [gap_at h k y a b d ⟨(a.val * 4352 + (64 + b.val)) % 8704, Nat.mod_lt _ (by decide)⟩ (Nat.mod_eq_of_lt (by omega))]

/-- The reference's gradient. -/
def slope : FVec Ideal S8704x1024 .f32 :=
   (fun i =>
      shapeCast main_v19.ty.shape
        (pad S2x4352x1024 ![0, 64, 0] ![0, 192, 0] ![0, 0, 0]
          (mulf
            (broadcastInDim S2x4096x1024 ![0, 1] bcast_S2x4096_S2x4096x1024_0_1
              (Host.divf
                (broadcastInDim S2x4096 ![] bcast_S_S2x4096
                  (mulf (constant S_ FTy.f32 1056964608#32)
                    (constant S_ FTy.f32 1065353216#32)))
                (broadcastInDim S2x4096 ![] bcast_S_S2x4096 (constant S_ FTy.f32 1149239296#32))))
            (mulf
              (broadcastInDim S2x4096x1024 ![] bcast_S_S2x4096x1024 (constant S_ FTy.f32 1073741824#32))
              (gap h k y)))
          (constant S_ FTy.f32 0#32) pads_S2x4096x1024_S2x4352x1024_000_641920_000 h_S_) shapeCasts_S2x4352x1024_S8704x1024 i)

/-- The reference's gradient is the error times the inverse of the width. -/
theorem slope_at (a : Fin 8704) (b : Fin 1024) : slope h k y (ix2 a b) = grad h k (flat y) (ix2 a b) := by
  pointwise [slope]
  have ha := a.isLt
  unfold grad
  split_ifs with hc
  · rw [gap_at h k y _ _ b a (by show a.val = a.val / 4352 * 4352 + (64 + (a.val % 4352 - 64)); omega), half, width, two, inverse,
      Ideal.div_coe (by norm_num), ← mul_assoc, ← EReal.coe_mul, ← EReal.coe_mul, mul_comm]
    norm_num
  · unfold err
    rw [if_neg (by show ¬ (64 ≤ a.val % 4352 ∧ a.val % 4352 < 4160); omega), zero_mul]

end Cert.LossHeadRefIdeal.Loss
-- ==== Proof.Loss.Ties.lean ====
/- The loss head's results are the reference's. -/
module

public import proofs.«01_k».proof.Proof.Loss.Plain
public import proofs.«01_k».proof.Proof.Gen.LossHeadRefIdeal
public import proofs.«01_k».proof.Defs
public import Idealize.ShloMosaic.Lib.Quiescent

@[expose] public section

set_option maxRecDepth 16384

noncomputable section

namespace Cert.Proof.Loss

open Idealize.ShloMosaic Idealize.SL.Sem Idealize.ShloMosaic.TcCoe

open Cert.LossHeadIdeal Cert.LossHeadIdeal.Gen

/-- The call finds the target with its examples' rows one under the other. -/
theorem enter2 (m : (ℓ : Loc nD τ sig) → Buf (Elt Ideal) ℓ) (c : Dev nD) :
    V m c main_v0 = Cert.LossHeadRefIdeal.Loss.flat (m ((c.tc : Thread nD τ).loc main_arg2)) := by
  show StableHlo.after hostOps0 (fun b => m (c, b)) (Proc.tc.devRef main_v0) = _
  after_results
  funext j
  obtain ⟨a, b, rfl⟩ : ∃ a b, j = ix2 a b := ⟨_, _, eq_ix2 j⟩
  have ha := a.isLt
  generalize m _ = y
  pointwise [Cert.LossHeadRefIdeal.Loss.flat]
  exact congrArg (fun r => y (ix3 r ⟨a.val % 4096, Nat.mod_lt _ (by decide)⟩ b)) (Fin.ext (by show a.val / 4096 = a.val / 4096 % 2; omega))

/-- The program's first result is an entry of the loss's block. -/
theorem leave (m : (ℓ : Loc nD τ sig) → Buf (Elt Ideal) ℓ) (c : Dev nD) (z : EReal) (h : (dats m 0 c).arrAt 6 (cfgs 0).N = fun _ => z) :
    Pipeline.afterTail₀ cfgs (dats m) 0 (V0 m) [hostOps1] c main_v3 = fun _ => z := by
  unfold Pipeline.afterTail₀
  have e : Pipeline.withArrays (cfgs 0).spec c (V0 m c) (fun w => (dats m 0 c).arrAt w (cfgs 0).N) (Proc.devRef .tc main_v1_0) = fun _ => z :=
    (Pipeline.withArrays_arr_shared (cfgs 0).spec c (V0 m c) (fun w => (dats m 0 c).arrAt w (cfgs 0).N) (fun w w' hne he => by
      have hw : w = 2 ∨ w = 3 ∨ w = 4 ∨ w = 5 := (by decide : ∀ w w' : Fin 9, w ≠ w' → Pipeline.arrRef spec0 w = Pipeline.arrRef spec0 w' → w = 2 ∨ w = 3 ∨ w = 4 ∨ w = 5) w w' hne he
      rcases hw with rfl | rfl | rfl | rfl <;> exact ((dats m 0 c).arrAt_in _ rfl _).trans (A_eq m c _)) 6).trans h
  generalize Pipeline.withArrays (cfgs 0).spec c (V0 m c) (fun w => (dats m 0 c).arrAt w (cfgs 0).N) = W at e ⊢
  show StableHlo.after hostOps1 W (Proc.devRef .tc main_v3) = _
  after_results
  rw [e]
  rfl

/-- The reference runs and leaves its arguments. -/
theorem quiet_LossHead : Cert.quiescent_LossHeadRefIdeal := by
  intro m g hpre
  hlo_run
  · exact fun _ => ⟨trivial, trivial, trivial⟩
  · exact sem_eq_zero_of_no_sems (by decide) _

/-- Loss, gradient and rounded gradient are equal. -/
theorem equal_LossHead : Cert.algebraic_LossHeadIdeal_LossHeadRefIdeal := by
  pair_intro
  · run_from Cert.LossHeadIdeal.Gen.run_main m g
    exact W_main_arg2 m (dats m) c
  · hlo_run
    · rw [leave m c _ (Cert.LossHeadIdeal.Loss.final6 m c), enter2, V_main_arg0, V_main_arg1]
      generalize m _ = x
      generalize m _ = y
      generalize m _ = z
      funext j
      exact Cert.LossHeadRefIdeal.Loss.loss_at _ _ _ j
    · rw [Cert.LossHeadIdeal.Loss.final7, enter2, V_main_arg0, V_main_arg1]
      generalize m _ = x
      generalize m _ = y
      generalize m _ = z
      funext j
      obtain ⟨a, b, rfl⟩ : ∃ a b, j = ix2 a b := ⟨_, _, eq_ix2 j⟩
      exact Cert.LossHeadRefIdeal.Loss.slope_at _ _ _ a b
    · rw [Cert.LossHeadIdeal.Loss.final8, enter2, V_main_arg0, V_main_arg1]
      generalize m _ = x
      generalize m _ = y
      generalize m _ = z
      funext j
      obtain ⟨a, b, rfl⟩ : ∃ a b, j = ix2 a b := ⟨_, _, eq_ix2 j⟩
      exact Cert.LossHeadRefIdeal.Loss.slope_at _ _ _ a b

end Cert.Proof.Loss
-- ==== Proof.Mm.WideBwdX.lean ====
/- The gradient of the wide products' left factor: what the call leaves in its result array. -/
module

public import proofs.«01_k».proof.Proof.Gen.WideBwdXIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.WideBwdXIdeal.Mm

open Cert.WideBwdXIdeal Cert.WideBwdXIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x5632 .bf16) (y : FVec Ideal S1024x5632 .bf16) : FVec Ideal S8704x1024 .bf16 :=
  fun j => ∑ k : Fin 5632, x (ix2 (j 0) k) * y (ix2 (j 1) k)

/-- Where each grid point's blocks lie. -/
theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- A block's own product. -/
theorem first (x : FVec Ideal S1088x1408 .bf16) (y : FVec Ideal S1024x1408 .bf16) (j : S1088x1024.Idx) :
    k0_pay2 (F := Ideal) x y j = (0 : EReal) + ∑ k : Fin 1408, x (ix2 (j 0) k) * y (ix2 (j 1) k) := by
  pointwise [k0_pay2, k0_pay1]

/-- A block's product added to what is there. -/
theorem next (x : FVec Ideal S1088x1408 .bf16) (y : FVec Ideal S1024x1408 .bf16) (acc : FVec Ideal S1088x1024 .f32) (j : S1088x1024.Idx) :
    k0_pay3 (F := Ideal) x y acc j = acc j + ∑ k : Fin 1408, x (ix2 (j 0) k) * y (ix2 (j 1) k) := by
  pointwise [k0_pay3, k0_pay1]

/-- What the last block of a run leaves in the result is what it leaves in the accumulator. -/
theorem last (c : Dev nD) (t : Fin cfg0.N) (h : t.val % 4 = 3) (j : S1088x1024.Idx) :
    (outsAt0 m c t.val t.isLt).1 j = (outsAt0 m c t.val t.isLt).2 j := by
  rw [outsAt0_C m c t (by omega) (by omega) h]
  frame_out
  pointwise [k0_pay4]

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by rw [outsAt0_A m c t h (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.WideBwdXIdeal.Mm

end
-- ==== Proof.Mm.WideBwdW.lean ====
/- The gradient of the wide products' right factor: what the call leaves in its result array. -/
module

public import proofs.«01_k».proof.Proof.Gen.WideBwdWIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.WideBwdWIdeal.Mm

open Cert.WideBwdWIdeal Cert.WideBwdWIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S8704x5632 .bf16) : FVec Ideal S1024x5632 .f32 :=
  fun j => ∑ k : Fin 8704, x (ix2 k (j 0)) * y (ix2 k (j 1))

/-- Where each grid point's blocks lie. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- A block's own product. -/
theorem first (x : FVec Ideal S2176x1024 .bf16) (y : FVec Ideal S2176x1408 .bf16) (j : S1024x1408.Idx) :
    k0_pay2 (F := Ideal) x y j = (0 : EReal) + ∑ k : Fin 2176, x (ix2 k (j 0)) * y (ix2 k (j 1)) := by
  pointwise [k0_pay2, k0_pay1]

/-- A block's product added to what is there. -/
theorem next (x : FVec Ideal S2176x1024 .bf16) (y : FVec Ideal S2176x1408 .bf16) (acc : FVec Ideal S1024x1408 .f32) (j : S1024x1408.Idx) :
    k0_pay3 (F := Ideal) x y acc j = acc j + ∑ k : Fin 2176, x (ix2 k (j 0)) * y (ix2 k (j 1)) := by
  pointwise [k0_pay3, k0_pay1]

/-- What the last block of a run leaves in the result is what it leaves in the accumulator. -/
theorem last (c : Dev nD) (t : Fin cfg0.N) (h : t.val % 4 = 3) (j : S1024x1408.Idx) :
    (outsAt0 m c t.val t.isLt).1 j = (outsAt0 m c t.val t.isLt).2 j := by
  rw [outsAt0_C m c t (by omega) (by omega) h]
  frame_out

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by rw [outsAt0_A m c t h (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.WideBwdWIdeal.Mm

end
-- ==== Proof.Mm.UpBwdW.lean ====
/- The gradient of the wide products' right factor, one slab of columns for each chip: what the call leaves in its result array. -/
module

public import proofs.«01_k».proof.Proof.Gen.UpBwdWIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.UpBwdWIdeal.Mm

open Cert.UpBwdWIdeal Cert.UpBwdWIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S8704x5632 .bf16) : FVec Ideal S4x1024x1408 .f32 :=
  fun j => ∑ k : Fin 8704, x (ix2 k (j 1)) * y (ix2 k ⟨(j 0).val * 1408 + (j 2).val, by have := (j 0).isLt; have := (j 2).isLt; simp at *; omega⟩)

/-- Where each grid point's blocks lie. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- A block's own product. -/
theorem first (x : FVec Ideal S2176x1024 .bf16) (y : FVec Ideal S2176x1408 .bf16) (j : S1024x1408.Idx) :
    k0_pay2 (F := Ideal) x y j = (0 : EReal) + ∑ k : Fin 2176, x (ix2 k (j 0)) * y (ix2 k (j 1)) := by
  pointwise [k0_pay2, k0_pay1]

/-- A block's product added to what is there. -/
theorem next (x : FVec Ideal S2176x1024 .bf16) (y : FVec Ideal S2176x1408 .bf16) (acc : FVec Ideal S1024x1408 .f32) (j : S1024x1408.Idx) :
    k0_pay3 (F := Ideal) x y acc j = acc j + ∑ k : Fin 2176, x (ix2 k (j 0)) * y (ix2 k (j 1)) := by
  pointwise [k0_pay3, k0_pay1]

/-- What the last block of a run leaves in the result is what it leaves in the accumulator. -/
theorem last (c : Dev nD) (t : Fin cfg0.N) (h : t.val % 4 = 3) (j : S1x1024x1408.Idx) :
    (outsAt0 m c t.val t.isLt).1 j = (outsAt0 m c t.val t.isLt).2 (ix2 (j 1) (j 2)) := by
  rw [outsAt0_C m c t (by omega) (by omega) h]
  frame_out
  pointwise [k0_pay4]

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by rw [outsAt0_A m c t h (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.UpBwdWIdeal.Mm

end
-- ==== Proof.Mm.DownBwdX.lean ====
/- The gradient of the down product's left factor: what the call leaves in its result array. -/
module

public import proofs.«01_k».proof.Proof.Gen.DownBwdXIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.DownBwdXIdeal.Mm

open Cert.DownBwdXIdeal Cert.DownBwdXIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S2816x1024 .bf16) : FVec Ideal S8704x2816 .bf16 :=
  fun j => ∑ k : Fin 1024, x (ix2 (j 0) k) * y (ix2 (j 1) k)

/-- Where each grid point's blocks lie. -/
theorem idx : ∀ t : Fin cfg0.N, win0_0.index t = ![t.val, 0] ∧ win0_1.index t = ![0, 0] ∧ win0_2.index t = ![t.val, 0] :=
  (by decide +kernel : ∀ t : Fin grid0.N, _)

/-- A block's product. -/
theorem first (x : FVec Ideal S1088x1024 .bf16) (y : FVec Ideal S2816x1024 .bf16) (j : S1088x2816.Idx) : k0_pay1 (F := Ideal) x y j = ∑ k : Fin 1024, x (ix2 (j 0) k) * y (ix2 (j 1) k) := by
  have h : k0_pay1 (F := Ideal) x y j = (0 : EReal) + ∑ k : Fin 1024, x (ix2 (j 0) k) * y (ix2 (j 1) k) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.DownBwdXIdeal.Mm

end
-- ==== Proof.Mm.DownBwdW.lean ====
/- The gradient of the down product's right factor: what the call leaves in its result array. -/
module

public import proofs.«01_k».proof.Proof.Gen.DownBwdWIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.DownBwdWIdeal.Mm

open Cert.DownBwdWIdeal Cert.DownBwdWIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x2816 .bf16) (y : FVec Ideal S8704x1024 .bf16) : FVec Ideal S2816x1024 .f32 :=
  fun j => ∑ k : Fin 8704, x (ix2 k (j 0)) * y (ix2 k (j 1))

/-- Where each grid point's blocks lie. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- A block's own product. -/
theorem first (x : FVec Ideal S2176x1408 .bf16) (y : FVec Ideal S2176x1024 .bf16) (j : S1408x1024.Idx) :
    k0_pay2 (F := Ideal) x y j = (0 : EReal) + ∑ k : Fin 2176, x (ix2 k (j 0)) * y (ix2 k (j 1)) := by
  pointwise [k0_pay2, k0_pay1]

/-- A block's product added to what is there. -/
theorem next (x : FVec Ideal S2176x1408 .bf16) (y : FVec Ideal S2176x1024 .bf16) (acc : FVec Ideal S1408x1024 .f32) (j : S1408x1024.Idx) :
    k0_pay3 (F := Ideal) x y acc j = acc j + ∑ k : Fin 2176, x (ix2 k (j 0)) * y (ix2 k (j 1)) := by
  pointwise [k0_pay3, k0_pay1]

/-- What the last block of a run leaves in the result is what it leaves in the accumulator. -/
theorem last (c : Dev nD) (t : Fin cfg0.N) (h : t.val % 4 = 3) (j : S1408x1024.Idx) :
    (outsAt0 m c t.val t.isLt).1 j = (outsAt0 m c t.val t.isLt).2 j := by
  rw [outsAt0_C m c t (by omega) (by omega) h]
  frame_out

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by rw [outsAt0_A m c t h (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.DownBwdWIdeal.Mm

end
-- ==== Proof.Mm.WideFwd.lean ====
/- The wide product: what the call leaves in its result array. -/
module

public import proofs.«01_k».proof.Proof.Gen.WideFwdIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.WideFwdIdeal.Mm

open Cert.WideFwdIdeal Cert.WideFwdIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S1024x5632 .bf16) : FVec Ideal S8704x5632 .f32 :=
  fun j => ∑ k : Fin 1024, x (ix2 (j 0) k) * y (ix2 k (j 1))

/-- Where each grid point's blocks lie. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- A block's product. -/
theorem first (x : FVec Ideal S1088x1024 .bf16) (y : FVec Ideal S1024x2816 .bf16) (j : S1088x2816.Idx) : k0_pay1 (F := Ideal) x y j = ∑ k : Fin 1024, x (ix2 (j 0) k) * y (ix2 k (j 1)) := by
  have h : k0_pay1 (F := Ideal) x y j = (0 : EReal) + ∑ k : Fin 1024, x (ix2 (j 0) k) * y (ix2 k (j 1)) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.WideFwdIdeal.Mm

end
-- ==== Proof.Mm.DownFwd.lean ====
/- The down product: what the call leaves in its result array. -/
module

public import proofs.«01_k».proof.Proof.Gen.DownFwdIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.DownFwdIdeal.Mm

open Cert.DownFwdIdeal Cert.DownFwdIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x2816 .bf16) (y : FVec Ideal S2816x1024 .bf16) : FVec Ideal S8704x1024 .f32 :=
  fun j => ∑ k : Fin 2816, x (ix2 (j 0) k) * y (ix2 k (j 1))

/-- Where each grid point's blocks lie. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- A block's own product. -/
theorem first (x : FVec Ideal S1088x1408 .bf16) (y : FVec Ideal S1408x1024 .bf16) (j : S1088x1024.Idx) :
    k0_pay2 (F := Ideal) x y j = (0 : EReal) + ∑ k : Fin 1408, x (ix2 (j 0) k) * y (ix2 k (j 1)) := by
  pointwise [k0_pay2, k0_pay1]

/-- A block's product added to what is there. -/
theorem next (x : FVec Ideal S1088x1408 .bf16) (y : FVec Ideal S1408x1024 .bf16) (acc : FVec Ideal S1088x1024 .f32) (j : S1088x1024.Idx) :
    k0_pay3 (F := Ideal) x y acc j = acc j + ∑ k : Fin 1408, x (ix2 (j 0) k) * y (ix2 k (j 1)) := by
  pointwise [k0_pay3, k0_pay1]

/-- What the last block of a run leaves in the result is what it leaves in the accumulator. -/
theorem last (c : Dev nD) (t : Fin cfg0.N) (h : t.val % 2 = 1) (j : S1088x1024.Idx) :
    (outsAt0 m c t.val t.isLt).1 j = (outsAt0 m c t.val t.isLt).2 j := by
  rw [outsAt0_B m c t (by omega) (by omega) h]
  frame_out

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 2 (fun _ => (0 : EReal)) _
      (fun t h j => by rw [outsAt0_A m c t h (by omega) (by omega)]; frame_out; rw [first])
      (fun t h j => by
        rw [outsAt0_B m c t h (by omega) (by omega)]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.DownFwdIdeal.Mm

end
-- ==== Proof.Mm.OutBwdX.lean ====
/- The gradient of the output product's left factor: what the call leaves in its result array. -/
module

public import proofs.«01_k».proof.Proof.Gen.OutBwdXIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.OutBwdXIdeal.Mm

open Cert.OutBwdXIdeal Cert.OutBwdXIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S1024x1024 .bf16) : FVec Ideal S8704x1024 .bf16 :=
  fun j => ∑ k : Fin 1024, x (ix2 (j 0) k) * y (ix2 (j 1) k)

/-- Where each grid point's blocks lie. -/
theorem idx : ∀ t : Fin cfg0.N, win0_0.index t = ![t.val, 0] ∧ win0_1.index t = ![0, 0] ∧ win0_2.index t = ![t.val, 0] :=
  (by decide +kernel : ∀ t : Fin grid0.N, _)

/-- A block's product. -/
theorem first (x : FVec Ideal S1088x1024 .bf16) (y : FVec Ideal S1024x1024 .bf16) (j : S1088x1024.Idx) : k0_pay1 (F := Ideal) x y j = ∑ k : Fin 1024, x (ix2 (j 0) k) * y (ix2 (j 1) k) := by
  have h : k0_pay1 (F := Ideal) x y j = (0 : EReal) + ∑ k : Fin 1024, x (ix2 (j 0) k) * y (ix2 (j 1) k) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.OutBwdXIdeal.Mm

end
-- ==== Proof.Mm.OutBwdW.lean ====
/- The gradient of the output product's right factor: what the call leaves in its result array. -/
module

public import proofs.«01_k».proof.Proof.Gen.OutBwdWIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.OutBwdWIdeal.Mm

open Cert.OutBwdWIdeal Cert.OutBwdWIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S8704x1024 .bf16) : FVec Ideal S1024x1024 .f32 :=
  fun j => ∑ k : Fin 8704, x (ix2 k (j 0)) * y (ix2 k (j 1))

/-- Where each grid point's blocks lie. -/
theorem idx : ∀ t : Fin cfg0.N, win0_0.index t = ![t.val % 4, 0] ∧ win0_1.index t = ![t.val % 4, 0] ∧ win0_2.index t = ![0, 0] :=
  (by decide +kernel : ∀ t : Fin grid0.N, _)

/-- A block's own product. -/
theorem first (x : FVec Ideal S2176x1024 .bf16) (y : FVec Ideal S2176x1024 .bf16) (j : S1024x1024.Idx) :
    k0_pay2 (F := Ideal) x y j = (0 : EReal) + ∑ k : Fin 2176, x (ix2 k (j 0)) * y (ix2 k (j 1)) := by
  pointwise [k0_pay2, k0_pay1]

/-- A block's product added to what is there. -/
theorem next (x : FVec Ideal S2176x1024 .bf16) (y : FVec Ideal S2176x1024 .bf16) (acc : FVec Ideal S1024x1024 .f32) (j : S1024x1024.Idx) :
    k0_pay3 (F := Ideal) x y acc j = acc j + ∑ k : Fin 2176, x (ix2 k (j 0)) * y (ix2 k (j 1)) := by
  pointwise [k0_pay3, k0_pay1]

/-- What the last block of a run leaves in the result is what it leaves in the accumulator. -/
theorem last (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by
        have ht : t.val < 4 := lt_of_lt_of_eq t.isLt N_0
        rw [outsAt0_A m c t (by omega) (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.OutBwdWIdeal.Mm

end
-- ==== Proof.Mm.BranchBwdX.lean ====
/- The gradient of the branch products' left factor: what the call leaves in its result array. -/
module

public import proofs.«01_k».proof.Proof.Gen.BranchBwdXIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.BranchBwdXIdeal.Mm

open Cert.BranchBwdXIdeal Cert.BranchBwdXIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S512x1024 .bf16) : FVec Ideal S8704x512 .bf16 :=
  fun j => ∑ k : Fin 1024, x (ix2 (j 0) k) * y (ix2 (j 1) k)

/-- Where each grid point's blocks lie. -/
theorem idx : ∀ t : Fin cfg0.N, win0_0.index t = ![t.val, 0] ∧ win0_1.index t = ![0, 0] ∧ win0_2.index t = ![t.val, 0] :=
  (by decide +kernel : ∀ t : Fin grid0.N, _)

/-- A block's product. -/
theorem first (x : FVec Ideal S1088x1024 .bf16) (y : FVec Ideal S512x1024 .bf16) (j : S1088x512.Idx) : k0_pay1 (F := Ideal) x y j = ∑ k : Fin 1024, x (ix2 (j 0) k) * y (ix2 (j 1) k) := by
  have h : k0_pay1 (F := Ideal) x y j = (0 : EReal) + ∑ k : Fin 1024, x (ix2 (j 0) k) * y (ix2 (j 1) k) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.BranchBwdXIdeal.Mm

end
-- ==== Proof.Mm.BranchABwdW.lean ====
/- The gradient of the first branch product's right factor, one slab of columns for each chip: what the call leaves in its result array. -/
module

public import proofs.«01_k».proof.Proof.Gen.BranchABwdWIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.BranchABwdWIdeal.Mm

open Cert.BranchABwdWIdeal Cert.BranchABwdWIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x512 .bf16) (y : FVec Ideal S8704x1024 .bf16) : FVec Ideal S4x512x256 .f32 :=
  fun j => ∑ k : Fin 8704, x (ix2 k (j 1)) * y (ix2 k ⟨(j 0).val * 256 + (j 2).val, by have := (j 0).isLt; have := (j 2).isLt; simp at *; omega⟩)

/-- Where each grid point's blocks lie. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- A block's own product. -/
theorem first (x : FVec Ideal S2176x512 .bf16) (y : FVec Ideal S2176x256 .bf16) (j : S512x256.Idx) :
    k0_pay2 (F := Ideal) x y j = (0 : EReal) + ∑ k : Fin 2176, x (ix2 k (j 0)) * y (ix2 k (j 1)) := by
  pointwise [k0_pay2, k0_pay1]

/-- A block's product added to what is there. -/
theorem next (x : FVec Ideal S2176x512 .bf16) (y : FVec Ideal S2176x256 .bf16) (acc : FVec Ideal S512x256 .f32) (j : S512x256.Idx) :
    k0_pay3 (F := Ideal) x y acc j = acc j + ∑ k : Fin 2176, x (ix2 k (j 0)) * y (ix2 k (j 1)) := by
  pointwise [k0_pay3, k0_pay1]

/-- What the last block of a run leaves in the result is what it leaves in the accumulator. -/
theorem last (c : Dev nD) (t : Fin cfg0.N) (h : t.val % 4 = 3) (j : S1x512x256.Idx) :
    (outsAt0 m c t.val t.isLt).1 j = (outsAt0 m c t.val t.isLt).2 (ix2 (j 1) (j 2)) := by
  rw [outsAt0_C m c t (by omega) (by omega) h]
  frame_out
  pointwise [k0_pay4]

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by rw [outsAt0_A m c t h (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.BranchABwdWIdeal.Mm

end
-- ==== Proof.Mm.BranchBBwdW.lean ====
/- The gradient of the second branch product's right factor, one slab of columns for each chip, from the left factor held transposed: what the call leaves in its result array. -/
module

public import proofs.«01_k».proof.Proof.Gen.BranchBBwdWIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.BranchBBwdWIdeal.Mm

open Cert.BranchBBwdWIdeal Cert.BranchBBwdWIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S512x8704 .bf16) (y : FVec Ideal S8704x1024 .bf16) : FVec Ideal S4x512x256 .f32 :=
  fun j => ∑ k : Fin 8704, x (ix2 (j 1) k) * y (ix2 k ⟨(j 0).val * 256 + (j 2).val, by have := (j 0).isLt; have := (j 2).isLt; simp at *; omega⟩)

/-- Where each grid point's blocks lie. -/
theorem idx : ∀ t : Fin cfg0.N, win0_0.index t = ![0, t.val % 4] ∧ win0_1.index t = ![t.val % 4, t.val / 4] ∧ win0_2.index t = ![t.val / 4, 0, 0] :=
  (by decide +kernel : ∀ t : Fin grid0.N, _)

/-- A block's own product. -/
theorem first (x : FVec Ideal S512x2176 .bf16) (y : FVec Ideal S2176x256 .bf16) (j : S512x256.Idx) :
    k0_pay2 (F := Ideal) x y j = (0 : EReal) + ∑ k : Fin 2176, x (ix2 (j 0) k) * y (ix2 k (j 1)) := by
  pointwise [k0_pay2, k0_pay1]

/-- A block's product added to what is there. -/
theorem next (x : FVec Ideal S512x2176 .bf16) (y : FVec Ideal S2176x256 .bf16) (acc : FVec Ideal S512x256 .f32) (j : S512x256.Idx) :
    k0_pay3 (F := Ideal) x y acc j = acc j + ∑ k : Fin 2176, x (ix2 (j 0) k) * y (ix2 k (j 1)) := by
  pointwise [k0_pay3, k0_pay1]

/-- What the last block of a run leaves in the result is what it leaves in the accumulator. -/
theorem last (c : Dev nD) (t : Fin cfg0.N) (h : t.val % 4 = 3) (j : S1x512x256.Idx) :
    (outsAt0 m c t.val t.isLt).1 j = (outsAt0 m c t.val t.isLt).2 (ix2 (j 1) (j 2)) := by
  rw [outsAt0_C m c t (by omega) (by omega) h]
  frame_out
  pointwise [k0_pay4]

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by rw [outsAt0_A m c t h (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.BranchBBwdWIdeal.Mm

end
-- ==== Proof.Mm.ForgetBwdX.lean ====
/- The gradient of the forget logits' product's left factor: what the call leaves in its result array. -/
module

public import proofs.«01_k».proof.Proof.Gen.ForgetBwdXIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.ForgetBwdXIdeal.Mm

open Cert.ForgetBwdXIdeal Cert.ForgetBwdXIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x128 .bf16) (y : FVec Ideal S1024x128 .bf16) : FVec Ideal S8704x1024 .bf16 :=
  fun j => ∑ k : Fin 128, x (ix2 (j 0) k) * y (ix2 (j 1) k)

/-- Where each grid point's blocks lie. -/
theorem idx : ∀ t : Fin cfg0.N, win0_0.index t = ![t.val, 0] ∧ win0_1.index t = ![0, 0] ∧ win0_2.index t = ![t.val, 0] :=
  (by decide +kernel : ∀ t : Fin grid0.N, _)

/-- A block's product. -/
theorem first (x : FVec Ideal S1088x128 .bf16) (y : FVec Ideal S1024x128 .bf16) (j : S1088x1024.Idx) : k0_pay1 (F := Ideal) x y j = ∑ k : Fin 128, x (ix2 (j 0) k) * y (ix2 (j 1) k) := by
  have h : k0_pay1 (F := Ideal) x y j = (0 : EReal) + ∑ k : Fin 128, x (ix2 (j 0) k) * y (ix2 (j 1) k) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.ForgetBwdXIdeal.Mm

end
-- ==== Proof.Mm.ForgetBwdW.lean ====
/- The gradient of the forget logits' product's right factor: what the call leaves in its result array. -/
module

public import proofs.«01_k».proof.Proof.Gen.ForgetBwdWIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.ForgetBwdWIdeal.Mm

open Cert.ForgetBwdWIdeal Cert.ForgetBwdWIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S8704x128 .bf16) : FVec Ideal S1024x128 .f32 :=
  fun j => ∑ k : Fin 8704, x (ix2 k (j 0)) * y (ix2 k (j 1))

/-- Where each grid point's blocks lie. -/
theorem idx : ∀ t : Fin cfg0.N, win0_0.index t = ![t.val % 4, 0] ∧ win0_1.index t = ![t.val % 4, 0] ∧ win0_2.index t = ![0, 0] :=
  (by decide +kernel : ∀ t : Fin grid0.N, _)

/-- A block's own product. -/
theorem first (x : FVec Ideal S2176x1024 .bf16) (y : FVec Ideal S2176x128 .bf16) (j : S1024x128.Idx) :
    k0_pay2 (F := Ideal) x y j = (0 : EReal) + ∑ k : Fin 2176, x (ix2 k (j 0)) * y (ix2 k (j 1)) := by
  pointwise [k0_pay2, k0_pay1]

/-- A block's product added to what is there. -/
theorem next (x : FVec Ideal S2176x1024 .bf16) (y : FVec Ideal S2176x128 .bf16) (acc : FVec Ideal S1024x128 .f32) (j : S1024x128.Idx) :
    k0_pay3 (F := Ideal) x y acc j = acc j + ∑ k : Fin 2176, x (ix2 k (j 0)) * y (ix2 k (j 1)) := by
  pointwise [k0_pay3, k0_pay1]

/-- What the last block of a run leaves in the result is what it leaves in the accumulator. -/
theorem last (c : Dev nD) (t : Fin cfg0.N) (h : t.val % 4 = 3) (j : S1024x128.Idx) :
    (outsAt0 m c t.val t.isLt).1 j = (outsAt0 m c t.val t.isLt).2 j := by
  rw [outsAt0_C m c t (by omega) (by omega) h]
  frame_out

/-- The result array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => (0 : EReal)) _
      (fun t h j => by
        have ht : t.val < 4 := lt_of_lt_of_eq t.isLt N_0
        rw [outsAt0_A m c t (by omega) (by omega) (by omega)]; frame_out; rw [first])
      (fun t h j => by
        by_cases h3 : t.val % 4 = 3
        · rw [outsAt0_C m c t h (by omega) h3]; frame_out; simp only [read_unread_whole]; rw [next]
        · rw [outsAt0_B m c t h (by omega) h3]; frame_out; simp only [read_unread_whole]; rw [next])
      t ((flush0_2 t).mp hf) _, zero_add]
  refine Fin.sum_mul_add_congr fun s k hl => ?_
  blk_point [iblk, V, prod, idx t, idx ⟨_, Pipeline.run_point_lt_of_flush t ((flush0_2 t).mp hf) s⟩]

end Cert.ForgetBwdWIdeal.Mm

end
-- ==== Proof.Mm.OutFwd.lean ====
/- The output product: what the call leaves in its result array. -/
module

public import proofs.«01_k».proof.Proof.Gen.OutFwdIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.OutFwdIdeal.Mm

open Cert.OutFwdIdeal Cert.OutFwdIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S1024x1024 .bf16) : FVec Ideal S8704x1024 .f32 :=
  fun j => ∑ k : Fin 1024, x (ix2 (j 0) k) * y (ix2 k (j 1))

/-- Where each grid point's blocks lie. -/
theorem idx : ∀ t : Fin cfg0.N, win0_0.index t = ![t.val, 0] ∧ win0_1.index t = ![0, 0] ∧ win0_2.index t = ![t.val, 0] :=
  (by decide +kernel : ∀ t : Fin grid0.N, _)

/-- A block's product. -/
theorem first (x : FVec Ideal S1088x1024 .bf16) (y : FVec Ideal S1024x1024 .bf16) (j : S1088x1024.Idx) : k0_pay1 (F := Ideal) x y j = ∑ k : Fin 1024, x (ix2 (j 0) k) * y (ix2 k (j 1)) := by
  have h : k0_pay1 (F := Ideal) x y j = (0 : EReal) + ∑ k : Fin 1024, x (ix2 (j 0) k) * y (ix2 k (j 1)) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.OutFwdIdeal.Mm

end
-- ==== Proof.Mm.BranchAFwd.lean ====
/- The first branch product: what the call leaves in its result array. -/
module

public import proofs.«01_k».proof.Proof.Gen.BranchAFwdIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.BranchAFwdIdeal.Mm

open Cert.BranchAFwdIdeal Cert.BranchAFwdIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x512 .bf16) (y : FVec Ideal S512x1024 .bf16) : FVec Ideal S8704x1024 .bf16 :=
  fun j => ∑ k : Fin 512, x (ix2 (j 0) k) * y (ix2 k (j 1))

/-- Where each grid point's blocks lie. -/
theorem idx : ∀ t : Fin cfg0.N, win0_0.index t = ![t.val, 0] ∧ win0_1.index t = ![0, 0] ∧ win0_2.index t = ![t.val, 0] :=
  (by decide +kernel : ∀ t : Fin grid0.N, _)

/-- A block's product. -/
theorem first (x : FVec Ideal S1088x512 .bf16) (y : FVec Ideal S512x1024 .bf16) (j : S1088x1024.Idx) : k0_pay1 (F := Ideal) x y j = ∑ k : Fin 512, x (ix2 (j 0) k) * y (ix2 k (j 1)) := by
  have h : k0_pay1 (F := Ideal) x y j = (0 : EReal) + ∑ k : Fin 512, x (ix2 (j 0) k) * y (ix2 k (j 1)) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.BranchAFwdIdeal.Mm

end
-- ==== Proof.Mm.BranchBFwd.lean ====
/- The second branch product, from the left factor held transposed: what the call leaves in its result array. -/
module

public import proofs.«01_k».proof.Proof.Gen.BranchBFwdIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.BranchBFwdIdeal.Mm

open Cert.BranchBFwdIdeal Cert.BranchBFwdIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S512x8704 .bf16) (y : FVec Ideal S512x1024 .bf16) : FVec Ideal S8704x1024 .bf16 :=
  fun j => ∑ k : Fin 512, x (ix2 k (j 0)) * y (ix2 k (j 1))

/-- Where each grid point's blocks lie. -/
theorem idx : ∀ t : Fin cfg0.N, win0_0.index t = ![0, t.val] ∧ win0_1.index t = ![0, 0] ∧ win0_2.index t = ![t.val, 0] :=
  (by decide +kernel : ∀ t : Fin grid0.N, _)

/-- A block's product. -/
theorem first (x : FVec Ideal S512x512 .bf16) (y : FVec Ideal S512x1024 .bf16) (j : S512x1024.Idx) : k0_pay1 (F := Ideal) x y j = ∑ k : Fin 512, x (ix2 k (j 0)) * y (ix2 k (j 1)) := by
  have h : k0_pay1 (F := Ideal) x y j = (0 : EReal) + ∑ k : Fin 512, x (ix2 k (j 0)) * y (ix2 k (j 1)) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.BranchBFwdIdeal.Mm

end
-- ==== Proof.Mm.ForgetFwd.lean ====
/- The forget logits' product: what the call leaves in its result array. -/
module

public import proofs.«01_k».proof.Proof.Gen.ForgetFwdIdeal.Frame
public import Idealize.ShloMosaic.Lib.Pipeline.ValueKit
public import Idealize.ShloMosaic.Lib.Pipeline.ReadBack
public import Idealize.ShloMosaic.Lib.Claim

@[expose] public section

set_option maxRecDepth 16384

noncomputable section

namespace Cert.ForgetFwdIdeal.Mm

open Cert.ForgetFwdIdeal Cert.ForgetFwdIdeal.Gen
open Idealize.ShloMosaic Idealize.ShloMosaic.TcCoe Idealize.SL.Sem
open Idealize.ShloMosaic.Pipeline (Dat)

variable (m : (ℓ : Loc nD τ sig) → Buf (Elt Ideal) ℓ)

/-- What the array is to hold: the product, at each index a sum over the whole contracted axis. -/
def prod (x : FVec Ideal S8704x1024 .bf16) (y : FVec Ideal S1024x128 .bf16) : FVec Ideal S8704x128 .f32 :=
  fun j => ∑ k : Fin 1024, x (ix2 (j 0) k) * y (ix2 k (j 1))

/-- Where each grid point's blocks lie. -/
theorem idx : ∀ t : Fin cfg0.N, win0_0.index t = ![t.val, 0] ∧ win0_1.index t = ![0, 0] ∧ win0_2.index t = ![t.val, 0] :=
  (by decide +kernel : ∀ t : Fin grid0.N, _)

/-- A block's product. -/
theorem first (x : FVec Ideal S1088x1024 .bf16) (y : FVec Ideal S1024x128 .bf16) (j : S1088x128.Idx) : k0_pay1 (F := Ideal) x y j = ∑ k : Fin 1024, x (ix2 (j 0) k) * y (ix2 k (j 1)) := by
  have h : k0_pay1 (F := Ideal) x y j = (0 : EReal) + ∑ k : Fin 1024, x (ix2 (j 0) k) * y (ix2 k (j 1)) := by pointwise [k0_pay1]
  rw [h, zero_add]

/-- The result array after the run: every point writes its own block, a product over the whole contracted axis. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [first]
  show (∑ _, _ : EReal) = ∑ _, _
  refine Finset.sum_congr rfl fun k _ => ?_
  blk_point [iblk, V, prod, idx t]

end Cert.ForgetFwdIdeal.Mm

end
-- ==== Proof.Mm.Ties.lean ====
/- The calls' results are the references': each reference's product, read at an index, is the same sum. -/
module

public import proofs.«01_k».proof.Proof.Mm.WideBwdX
public import proofs.«01_k».proof.Proof.Gen.WideBwdXRefIdeal
public import proofs.«01_k».proof.Proof.Mm.WideBwdW
public import proofs.«01_k».proof.Proof.Gen.WideBwdWRefIdeal
public import proofs.«01_k».proof.Proof.Mm.UpBwdW
public import proofs.«01_k».proof.Proof.Gen.UpBwdWRefIdeal
public import proofs.«01_k».proof.Proof.Mm.DownBwdX
public import proofs.«01_k».proof.Proof.Gen.DownBwdXRefIdeal
public import proofs.«01_k».proof.Proof.Mm.DownBwdW
public import proofs.«01_k».proof.Proof.Gen.DownBwdWRefIdeal
public import proofs.«01_k».proof.Proof.Mm.WideFwd
public import proofs.«01_k».proof.Proof.Gen.WideFwdRefIdeal
public import proofs.«01_k».proof.Proof.Mm.DownFwd
public import proofs.«01_k».proof.Proof.Gen.DownFwdRefIdeal
public import proofs.«01_k».proof.Proof.Mm.OutBwdX
public import proofs.«01_k».proof.Proof.Gen.OutBwdXRefIdeal
public import proofs.«01_k».proof.Proof.Mm.OutBwdW
public import proofs.«01_k».proof.Proof.Gen.OutBwdWRefIdeal
public import proofs.«01_k».proof.Proof.Mm.BranchBwdX
public import proofs.«01_k».proof.Proof.Gen.BranchBwdXRefIdeal
public import proofs.«01_k».proof.Proof.Mm.BranchABwdW
public import proofs.«01_k».proof.Proof.Gen.BranchABwdWRefIdeal
public import proofs.«01_k».proof.Proof.Mm.BranchBBwdW
public import proofs.«01_k».proof.Proof.Gen.BranchBBwdWRefIdeal
public import proofs.«01_k».proof.Proof.Mm.ForgetBwdX
public import proofs.«01_k».proof.Proof.Gen.ForgetBwdXRefIdeal
public import proofs.«01_k».proof.Proof.Mm.ForgetBwdW
public import proofs.«01_k».proof.Proof.Gen.ForgetBwdWRefIdeal
public import proofs.«01_k».proof.Proof.Mm.OutFwd
public import proofs.«01_k».proof.Proof.Gen.OutFwdRefIdeal
public import proofs.«01_k».proof.Proof.Mm.BranchAFwd
public import proofs.«01_k».proof.Proof.Gen.BranchAFwdRefIdeal
public import proofs.«01_k».proof.Proof.Mm.BranchBFwd
public import proofs.«01_k».proof.Proof.Gen.BranchBFwdRefIdeal
public import proofs.«01_k».proof.Proof.Mm.ForgetFwd
public import proofs.«01_k».proof.Proof.Gen.ForgetFwdRefIdeal
public import proofs.«01_k».proof.Defs
public import Idealize.ShloMosaic.Lib.Quiescent

@[expose] public section

set_option maxRecDepth 16384

noncomputable section

namespace Cert.Proof.Mm

open Idealize.ShloMosaic Idealize.SL.Sem

theorem quiet_WideBwdX : Cert.quiescent_WideBwdXRefIdeal := by
  intro m g hpre
  hlo_run
  · exact fun _ => ⟨trivial, trivial⟩
  · exact sem_eq_zero_of_no_sems (by decide) _

theorem equal_WideBwdX : Cert.algebraic_WideBwdXIdeal_WideBwdXRefIdeal := by
  pair_intro
  · run_from Cert.WideBwdXIdeal.Gen.run_main m g
  · hlo_run
    rw [Cert.WideBwdXIdeal.Mm.final m c]
    generalize m _ = x
    generalize m _ = y
    funext j
    obtain ⟨a, b, rfl⟩ : ∃ a b, j = ix2 a b := ⟨_, _, eq_ix2 j⟩
    pointwise [Cert.WideBwdXIdeal.Mm.prod]

theorem quiet_WideBwdW : Cert.quiescent_WideBwdWRefIdeal := by
  intro m g hpre
  hlo_run
  · exact fun _ => ⟨trivial, trivial⟩
  · exact sem_eq_zero_of_no_sems (by decide) _

theorem equal_WideBwdW : Cert.algebraic_WideBwdWIdeal_WideBwdWRefIdeal := by
  pair_intro
  · run_from Cert.WideBwdWIdeal.Gen.run_main m g
  · hlo_run
    rw [Cert.WideBwdWIdeal.Mm.final m c]
    generalize m _ = x
    generalize m _ = y
    funext j
    obtain ⟨a, b, rfl⟩ : ∃ a b, j = ix2 a b := ⟨_, _, eq_ix2 j⟩
    pointwise [Cert.WideBwdWIdeal.Mm.prod]
    exact Finset.sum_congr rfl fun k _ => mul_comm _ _

theorem quiet_UpBwdW : Cert.quiescent_UpBwdWRefIdeal := by
  intro m g hpre
  hlo_run
  · exact fun _ => ⟨trivial, trivial⟩
  · exact sem_eq_zero_of_no_sems (by decide) _

theorem equal_UpBwdW : Cert.algebraic_UpBwdWIdeal_UpBwdWRefIdeal := by
  pair_intro
  · run_from Cert.UpBwdWIdeal.Gen.run_main m g
  · hlo_run
    rw [Cert.UpBwdWIdeal.Mm.final m c]
    generalize m _ = x
    generalize m _ = y
    funext j
    obtain ⟨a, b, e, rfl⟩ : ∃ a b e, j = ix3 a b e := ⟨_, _, _, eq_ix3 j⟩
    pointwise [Cert.UpBwdWIdeal.Mm.prod]
    exact Finset.sum_congr rfl fun k _ => mul_comm _ _

theorem quiet_DownBwdX : Cert.quiescent_DownBwdXRefIdeal := by
  intro m g hpre
  hlo_run
  · exact fun _ => ⟨trivial, trivial⟩
  · exact sem_eq_zero_of_no_sems (by decide) _

theorem equal_DownBwdX : Cert.algebraic_DownBwdXIdeal_DownBwdXRefIdeal := by
  pair_intro
  · run_from Cert.DownBwdXIdeal.Gen.run_main m g
  · hlo_run
    rw [Cert.DownBwdXIdeal.Mm.final m c]
    generalize m _ = x
    generalize m _ = y
    funext j
    obtain ⟨a, b, rfl⟩ : ∃ a b, j = ix2 a b := ⟨_, _, eq_ix2 j⟩
    pointwise [Cert.DownBwdXIdeal.Mm.prod]

theorem quiet_DownBwdW : Cert.quiescent_DownBwdWRefIdeal := by
  intro m g hpre
  hlo_run
  · exact fun _ => ⟨trivial, trivial⟩
  · exact sem_eq_zero_of_no_sems (by decide) _

theorem equal_DownBwdW : Cert.algebraic_DownBwdWIdeal_DownBwdWRefIdeal := by
  pair_intro
  · run_from Cert.DownBwdWIdeal.Gen.run_main m g
  · hlo_run
    rw [Cert.DownBwdWIdeal.Mm.final m c]
    generalize m _ = x
    generalize m _ = y
    funext j
    obtain ⟨a, b, rfl⟩ : ∃ a b, j = ix2 a b := ⟨_, _, eq_ix2 j⟩
    pointwise [Cert.DownBwdWIdeal.Mm.prod]
    exact Finset.sum_congr rfl fun k _ => mul_comm _ _

theorem quiet_WideFwd : Cert.quiescent_WideFwdRefIdeal := by
  intro m g hpre
  hlo_run
  · exact fun _ => ⟨trivial, trivial⟩
  · exact sem_eq_zero_of_no_sems (by decide) _

theorem equal_WideFwd : Cert.algebraic_WideFwdIdeal_WideFwdRefIdeal := by
  pair_intro
  · run_from Cert.WideFwdIdeal.Gen.run_main m g
  · hlo_run
    rw [Cert.WideFwdIdeal.Mm.final m c]
    generalize m _ = x
    generalize m _ = y
    funext j
    obtain ⟨a, b, rfl⟩ : ∃ a b, j = ix2 a b := ⟨_, _, eq_ix2 j⟩
    pointwise [Cert.WideFwdIdeal.Mm.prod]

theorem quiet_DownFwd : Cert.quiescent_DownFwdRefIdeal := by
  intro m g hpre
  hlo_run
  · exact fun _ => ⟨trivial, trivial⟩
  · exact sem_eq_zero_of_no_sems (by decide) _

theorem equal_DownFwd : Cert.algebraic_DownFwdIdeal_DownFwdRefIdeal := by
  pair_intro
  · run_from Cert.DownFwdIdeal.Gen.run_main m g
  · hlo_run
    rw [Cert.DownFwdIdeal.Mm.final m c]
    generalize m _ = x
    generalize m _ = y
    funext j
    obtain ⟨a, b, rfl⟩ : ∃ a b, j = ix2 a b := ⟨_, _, eq_ix2 j⟩
    pointwise [Cert.DownFwdIdeal.Mm.prod]

theorem quiet_OutBwdX : Cert.quiescent_OutBwdXRefIdeal := by
  intro m g hpre
  hlo_run
  · exact fun _ => ⟨trivial, trivial⟩
  · exact sem_eq_zero_of_no_sems (by decide) _

theorem equal_OutBwdX : Cert.algebraic_OutBwdXIdeal_OutBwdXRefIdeal := by
  pair_intro
  · run_from Cert.OutBwdXIdeal.Gen.run_main m g
  · hlo_run
    rw [Cert.OutBwdXIdeal.Mm.final m c]
    generalize m _ = x
    generalize m _ = y
    funext j
    obtain ⟨a, b, rfl⟩ : ∃ a b, j = ix2 a b := ⟨_, _, eq_ix2 j⟩
    pointwise [Cert.OutBwdXIdeal.Mm.prod]

theorem quiet_OutBwdW : Cert.quiescent_OutBwdWRefIdeal := by
  intro m g hpre
  hlo_run
  · exact fun _ => ⟨trivial, trivial⟩
  · exact sem_eq_zero_of_no_sems (by decide) _

theorem equal_OutBwdW : Cert.algebraic_OutBwdWIdeal_OutBwdWRefIdeal := by
  pair_intro
  · run_from Cert.OutBwdWIdeal.Gen.run_main m g
  · hlo_run
    rw [Cert.OutBwdWIdeal.Mm.final m c]
    generalize m _ = x
    generalize m _ = y
    funext j
    obtain ⟨a, b, rfl⟩ : ∃ a b, j = ix2 a b := ⟨_, _, eq_ix2 j⟩
    pointwise [Cert.OutBwdWIdeal.Mm.prod]
    exact Finset.sum_congr rfl fun k _ => mul_comm _ _

theorem quiet_BranchBwdX : Cert.quiescent_BranchBwdXRefIdeal := by
  intro m g hpre
  hlo_run
  · exact fun _ => ⟨trivial, trivial⟩
  · exact sem_eq_zero_of_no_sems (by decide) _

theorem equal_BranchBwdX : Cert.algebraic_BranchBwdXIdeal_BranchBwdXRefIdeal := by
  pair_intro
  · run_from Cert.BranchBwdXIdeal.Gen.run_main m g
  · hlo_run
    rw [Cert.BranchBwdXIdeal.Mm.final m c]
    generalize m _ = x
    generalize m _ = y
    funext j
    obtain ⟨a, b, rfl⟩ : ∃ a b, j = ix2 a b := ⟨_, _, eq_ix2 j⟩
    pointwise [Cert.BranchBwdXIdeal.Mm.prod]

theorem quiet_BranchABwdW : Cert.quiescent_BranchABwdWRefIdeal := by
  intro m g hpre
  hlo_run
  · exact fun _ => ⟨trivial, trivial⟩
  · exact sem_eq_zero_of_no_sems (by decide) _

theorem equal_BranchABwdW : Cert.algebraic_BranchABwdWIdeal_BranchABwdWRefIdeal := by
  pair_intro
  · run_from Cert.BranchABwdWIdeal.Gen.run_main m g
  · hlo_run
    rw [Cert.BranchABwdWIdeal.Mm.final m c]
    generalize m _ = x
    generalize m _ = y
    funext j
    obtain ⟨a, b, e, rfl⟩ : ∃ a b e, j = ix3 a b e := ⟨_, _, _, eq_ix3 j⟩
    pointwise [Cert.BranchABwdWIdeal.Mm.prod]
    exact Finset.sum_congr rfl fun k _ => mul_comm _ _

theorem quiet_BranchBBwdW : Cert.quiescent_BranchBBwdWRefIdeal := by
  intro m g hpre
  hlo_run
  · exact fun _ => ⟨trivial, trivial⟩
  · exact sem_eq_zero_of_no_sems (by decide) _

theorem equal_BranchBBwdW : Cert.algebraic_BranchBBwdWIdeal_BranchBBwdWRefIdeal := by
  pair_intro
  · run_from Cert.BranchBBwdWIdeal.Gen.run_main m g
  · hlo_run
    rw [Cert.BranchBBwdWIdeal.Mm.final m c]
    generalize m _ = x
    generalize m _ = y
    funext j
    obtain ⟨a, b, e, rfl⟩ : ∃ a b e, j = ix3 a b e := ⟨_, _, _, eq_ix3 j⟩
    pointwise [Cert.BranchBBwdWIdeal.Mm.prod]
    exact Finset.sum_congr rfl fun k _ => mul_comm _ _

theorem quiet_ForgetBwdX : Cert.quiescent_ForgetBwdXRefIdeal := by
  intro m g hpre
  hlo_run
  · exact fun _ => ⟨trivial, trivial⟩
  · exact sem_eq_zero_of_no_sems (by decide) _

theorem equal_ForgetBwdX : Cert.algebraic_ForgetBwdXIdeal_ForgetBwdXRefIdeal := by
  pair_intro
  · run_from Cert.ForgetBwdXIdeal.Gen.run_main m g
  · hlo_run
    rw [Cert.ForgetBwdXIdeal.Mm.final m c]
    generalize m _ = x
    generalize m _ = y
    funext j
    obtain ⟨a, b, rfl⟩ : ∃ a b, j = ix2 a b := ⟨_, _, eq_ix2 j⟩
    pointwise [Cert.ForgetBwdXIdeal.Mm.prod]

theorem quiet_ForgetBwdW : Cert.quiescent_ForgetBwdWRefIdeal := by
  intro m g hpre
  hlo_run
  · exact fun _ => ⟨trivial, trivial⟩
  · exact sem_eq_zero_of_no_sems (by decide) _

theorem equal_ForgetBwdW : Cert.algebraic_ForgetBwdWIdeal_ForgetBwdWRefIdeal := by
  pair_intro
  · run_from Cert.ForgetBwdWIdeal.Gen.run_main m g
  · hlo_run
    rw [Cert.ForgetBwdWIdeal.Mm.final m c]
    generalize m _ = x
    generalize m _ = y
    funext j
    obtain ⟨a, b, rfl⟩ : ∃ a b, j = ix2 a b := ⟨_, _, eq_ix2 j⟩
    pointwise [Cert.ForgetBwdWIdeal.Mm.prod]
    exact Finset.sum_congr rfl fun k _ => mul_comm _ _

theorem quiet_OutFwd : Cert.quiescent_OutFwdRefIdeal := by
  intro m g hpre
  hlo_run
  · exact fun _ => ⟨trivial, trivial⟩
  · exact sem_eq_zero_of_no_sems (by decide) _

theorem equal_OutFwd : Cert.algebraic_OutFwdIdeal_OutFwdRefIdeal := by
  pair_intro
  · run_from Cert.OutFwdIdeal.Gen.run_main m g
  · hlo_run
    rw [Cert.OutFwdIdeal.Mm.final m c]
    generalize m _ = x
    generalize m _ = y
    funext j
    obtain ⟨a, b, rfl⟩ : ∃ a b, j = ix2 a b := ⟨_, _, eq_ix2 j⟩
    pointwise [Cert.OutFwdIdeal.Mm.prod]

theorem quiet_BranchAFwd : Cert.quiescent_BranchAFwdRefIdeal := by
  intro m g hpre
  hlo_run
  · exact fun _ => ⟨trivial, trivial⟩
  · exact sem_eq_zero_of_no_sems (by decide) _

theorem equal_BranchAFwd : Cert.algebraic_BranchAFwdIdeal_BranchAFwdRefIdeal := by
  pair_intro
  · run_from Cert.BranchAFwdIdeal.Gen.run_main m g
  · hlo_run
    rw [Cert.BranchAFwdIdeal.Mm.final m c]
    generalize m _ = x
    generalize m _ = y
    funext j
    obtain ⟨a, b, rfl⟩ : ∃ a b, j = ix2 a b := ⟨_, _, eq_ix2 j⟩
    pointwise [Cert.BranchAFwdIdeal.Mm.prod]

theorem quiet_BranchBFwd : Cert.quiescent_BranchBFwdRefIdeal := by
  intro m g hpre
  hlo_run
  · exact fun _ => ⟨trivial, trivial⟩
  · exact sem_eq_zero_of_no_sems (by decide) _

theorem equal_BranchBFwd : Cert.algebraic_BranchBFwdIdeal_BranchBFwdRefIdeal := by
  pair_intro
  · run_from Cert.BranchBFwdIdeal.Gen.run_main m g
  · hlo_run
    rw [Cert.BranchBFwdIdeal.Mm.final m c]
    generalize m _ = x
    generalize m _ = y
    funext j
    obtain ⟨a, b, rfl⟩ : ∃ a b, j = ix2 a b := ⟨_, _, eq_ix2 j⟩
    pointwise [Cert.BranchBFwdIdeal.Mm.prod]

theorem quiet_ForgetFwd : Cert.quiescent_ForgetFwdRefIdeal := by
  intro m g hpre
  hlo_run
  · exact fun _ => ⟨trivial, trivial⟩
  · exact sem_eq_zero_of_no_sems (by decide) _

theorem equal_ForgetFwd : Cert.algebraic_ForgetFwdIdeal_ForgetFwdRefIdeal := by
  pair_intro
  · run_from Cert.ForgetFwdIdeal.Gen.run_main m g
  · hlo_run
    rw [Cert.ForgetFwdIdeal.Mm.final m c]
    generalize m _ = x
    generalize m _ = y
    funext j
    obtain ⟨a, b, rfl⟩ : ∃ a b, j = ix2 a b := ⟨_, _, eq_ix2 j⟩
    pointwise [Cert.ForgetFwdIdeal.Mm.prod]

end Cert.Proof.Mm

end
-- ==== Proof.lean ====
/- The certificate: every claim, each by the theorem that proves it. -/
module

public import proofs.«01_k».proof.Defs
public import proofs.«01_k».proof.Proof.Ad.Ties
public import proofs.«01_k».proof.Proof.Gen.AdamBranch
public import proofs.«01_k».proof.Proof.Gen.AdamBranch.Frame
public import proofs.«01_k».proof.Proof.Gen.AdamBranchIdeal
public import proofs.«01_k».proof.Proof.Gen.AdamBranchIdeal.Frame
public import proofs.«01_k».proof.Proof.Gen.AdamBranchRefIdeal
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownRefIdeal
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutRefIdeal
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpRefIdeal
public import proofs.«01_k».proof.Proof.Gen.BranchABwdW
public import proofs.«01_k».proof.Proof.Gen.BranchABwdW.Frame
public import proofs.«01_k».proof.Proof.Gen.BranchABwdWIdeal
public import proofs.«01_k».proof.Proof.Gen.BranchABwdWIdeal.Frame
public import proofs.«01_k».proof.Proof.Gen.BranchABwdWRefIdeal
public import proofs.«01_k».proof.Proof.Gen.BranchAFwd
public import proofs.«01_k».proof.Proof.Gen.BranchAFwd.Frame
public import proofs.«01_k».proof.Proof.Gen.BranchAFwdIdeal
public import proofs.«01_k».proof.Proof.Gen.BranchAFwdIdeal.Frame
public import proofs.«01_k».proof.Proof.Gen.BranchAFwdRefIdeal
public import proofs.«01_k».proof.Proof.Gen.BranchBBwdW
public import proofs.«01_k».proof.Proof.Gen.BranchBBwdW.Frame
public import proofs.«01_k».proof.Proof.Gen.BranchBBwdWIdeal
public import proofs.«01_k».proof.Proof.Gen.BranchBBwdWIdeal.Frame
public import proofs.«01_k».proof.Proof.Gen.BranchBBwdWRefIdeal
public import proofs.«01_k».proof.Proof.Gen.BranchBFwd
public import proofs.«01_k».proof.Proof.Gen.BranchBFwd.Frame
public import proofs.«01_k».proof.Proof.Gen.BranchBFwdIdeal
public import proofs.«01_k».proof.Proof.Gen.BranchBFwdIdeal.Frame
public import proofs.«01_k».proof.Proof.Gen.BranchBFwdRefIdeal
public import proofs.«01_k».proof.Proof.Gen.BranchBwdX
public import proofs.«01_k».proof.Proof.Gen.BranchBwdX.Frame
public import proofs.«01_k».proof.Proof.Gen.BranchBwdXIdeal
public import proofs.«01_k».proof.Proof.Gen.BranchBwdXIdeal.Frame
public import proofs.«01_k».proof.Proof.Gen.BranchBwdXRefIdeal
public import proofs.«01_k».proof.Proof.Gen.DownBwdW
public import proofs.«01_k».proof.Proof.Gen.DownBwdW.Frame
public import proofs.«01_k».proof.Proof.Gen.DownBwdWIdeal
public import proofs.«01_k».proof.Proof.Gen.DownBwdWIdeal.Frame
public import proofs.«01_k».proof.Proof.Gen.DownBwdWRefIdeal
public import proofs.«01_k».proof.Proof.Gen.DownBwdX
public import proofs.«01_k».proof.Proof.Gen.DownBwdX.Frame
public import proofs.«01_k».proof.Proof.Gen.DownBwdXIdeal
public import proofs.«01_k».proof.Proof.Gen.DownBwdXIdeal.Frame
public import proofs.«01_k».proof.Proof.Gen.DownBwdXRefIdeal
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdRefIdeal
public import proofs.«01_k».proof.Proof.Gen.ForgetBwdW
public import proofs.«01_k».proof.Proof.Gen.ForgetBwdW.Frame
public import proofs.«01_k».proof.Proof.Gen.ForgetBwdWIdeal
public import proofs.«01_k».proof.Proof.Gen.ForgetBwdWIdeal.Frame
public import proofs.«01_k».proof.Proof.Gen.ForgetBwdWRefIdeal
public import proofs.«01_k».proof.Proof.Gen.ForgetBwdX
public import proofs.«01_k».proof.Proof.Gen.ForgetBwdX.Frame
public import proofs.«01_k».proof.Proof.Gen.ForgetBwdXIdeal
public import proofs.«01_k».proof.Proof.Gen.ForgetBwdXIdeal.Frame
public import proofs.«01_k».proof.Proof.Gen.ForgetBwdXRefIdeal
public import proofs.«01_k».proof.Proof.Gen.ForgetFwd
public import proofs.«01_k».proof.Proof.Gen.ForgetFwd.Frame
public import proofs.«01_k».proof.Proof.Gen.ForgetFwdIdeal
public import proofs.«01_k».proof.Proof.Gen.ForgetFwdIdeal.Frame
public import proofs.«01_k».proof.Proof.Gen.ForgetFwdRefIdeal
public import proofs.«01_k».proof.Proof.Gen.Kernel
public import proofs.«01_k».proof.Proof.Gen.KernelIdeal
public import proofs.«01_k».proof.Proof.Gen.LossHead
public import proofs.«01_k».proof.Proof.Gen.LossHeadIdeal
public import proofs.«01_k».proof.Proof.Gen.LossHeadRefIdeal
public import proofs.«01_k».proof.Proof.Gen.OutBwdW
public import proofs.«01_k».proof.Proof.Gen.OutBwdW.Frame
public import proofs.«01_k».proof.Proof.Gen.OutBwdWIdeal
public import proofs.«01_k».proof.Proof.Gen.OutBwdWIdeal.Frame
public import proofs.«01_k».proof.Proof.Gen.OutBwdWRefIdeal
public import proofs.«01_k».proof.Proof.Gen.OutBwdX
public import proofs.«01_k».proof.Proof.Gen.OutBwdX.Frame
public import proofs.«01_k».proof.Proof.Gen.OutBwdXIdeal
public import proofs.«01_k».proof.Proof.Gen.OutBwdXIdeal.Frame
public import proofs.«01_k».proof.Proof.Gen.OutBwdXRefIdeal
public import proofs.«01_k».proof.Proof.Gen.OutFwd
public import proofs.«01_k».proof.Proof.Gen.OutFwd.Frame
public import proofs.«01_k».proof.Proof.Gen.OutFwdIdeal
public import proofs.«01_k».proof.Proof.Gen.OutFwdIdeal.Frame
public import proofs.«01_k».proof.Proof.Gen.OutFwdRefIdeal
public import proofs.«01_k».proof.Proof.Gen.UpBwdW
public import proofs.«01_k».proof.Proof.Gen.UpBwdW.Frame
public import proofs.«01_k».proof.Proof.Gen.UpBwdWIdeal
public import proofs.«01_k».proof.Proof.Gen.UpBwdWIdeal.Frame
public import proofs.«01_k».proof.Proof.Gen.UpBwdWRefIdeal
public import proofs.«01_k».proof.Proof.Gen.WideBwdW
public import proofs.«01_k».proof.Proof.Gen.WideBwdW.Frame
public import proofs.«01_k».proof.Proof.Gen.WideBwdWIdeal
public import proofs.«01_k».proof.Proof.Gen.WideBwdWIdeal.Frame
public import proofs.«01_k».proof.Proof.Gen.WideBwdWRefIdeal
public import proofs.«01_k».proof.Proof.Gen.WideBwdX
public import proofs.«01_k».proof.Proof.Gen.WideBwdX.Frame
public import proofs.«01_k».proof.Proof.Gen.WideBwdXIdeal
public import proofs.«01_k».proof.Proof.Gen.WideBwdXIdeal.Frame
public import proofs.«01_k».proof.Proof.Gen.WideBwdXRefIdeal
public import proofs.«01_k».proof.Proof.Gen.WideFwd
public import proofs.«01_k».proof.Proof.Gen.WideFwd.Frame
public import proofs.«01_k».proof.Proof.Gen.WideFwdIdeal
public import proofs.«01_k».proof.Proof.Gen.WideFwdIdeal.Frame
public import proofs.«01_k».proof.Proof.Gen.WideFwdRefIdeal
public import proofs.«01_k».proof.Proof.HgFrames
public import proofs.«01_k».proof.Proof.Loss.Run
public import proofs.«01_k».proof.Proof.Loss.RunBits
public import proofs.«01_k».proof.Proof.Loss.Ties
public import proofs.«01_k».proof.Proof.Mm.Ties

@[expose] public section

noncomputable section

namespace Cert.Proof

open Idealize.ShloMosaic Idealize.SL.Sem

theorem claim : Cert.Claim := ⟨Cert.Kernel.Gen.facts,
  Cert.KernelIdeal.Gen.facts,
  Cert.WideBwdX.Gen.facts,
  Cert.WideBwdXIdeal.Gen.facts,
  Cert.WideBwdXRefIdeal.Gen.facts,
  Cert.WideBwdW.Gen.facts,
  Cert.WideBwdWIdeal.Gen.facts,
  Cert.WideBwdWRefIdeal.Gen.facts,
  Cert.UpBwdW.Gen.facts,
  Cert.UpBwdWIdeal.Gen.facts,
  Cert.UpBwdWRefIdeal.Gen.facts,
  Cert.DownBwdX.Gen.facts,
  Cert.DownBwdXIdeal.Gen.facts,
  Cert.DownBwdXRefIdeal.Gen.facts,
  Cert.DownBwdW.Gen.facts,
  Cert.DownBwdWIdeal.Gen.facts,
  Cert.DownBwdWRefIdeal.Gen.facts,
  Cert.OutBwdX.Gen.facts,
  Cert.OutBwdXIdeal.Gen.facts,
  Cert.OutBwdXRefIdeal.Gen.facts,
  Cert.OutBwdW.Gen.facts,
  Cert.OutBwdWIdeal.Gen.facts,
  Cert.OutBwdWRefIdeal.Gen.facts,
  Cert.BranchBwdX.Gen.facts,
  Cert.BranchBwdXIdeal.Gen.facts,
  Cert.BranchBwdXRefIdeal.Gen.facts,
  Cert.BranchABwdW.Gen.facts,
  Cert.BranchABwdWIdeal.Gen.facts,
  Cert.BranchABwdWRefIdeal.Gen.facts,
  Cert.BranchBBwdW.Gen.facts,
  Cert.BranchBBwdWIdeal.Gen.facts,
  Cert.BranchBBwdWRefIdeal.Gen.facts,
  Cert.ForgetBwdX.Gen.facts,
  Cert.ForgetBwdXIdeal.Gen.facts,
  Cert.ForgetBwdXRefIdeal.Gen.facts,
  Cert.ForgetBwdW.Gen.facts,
  Cert.ForgetBwdWIdeal.Gen.facts,
  Cert.ForgetBwdWRefIdeal.Gen.facts,
  Cert.WideFwd.Gen.facts,
  Cert.WideFwdIdeal.Gen.facts,
  Cert.WideFwdRefIdeal.Gen.facts,
  Cert.DownFwd.Gen.facts,
  Cert.DownFwdIdeal.Gen.facts,
  Cert.DownFwdRefIdeal.Gen.facts,
  Cert.OutFwd.Gen.facts,
  Cert.OutFwdIdeal.Gen.facts,
  Cert.OutFwdRefIdeal.Gen.facts,
  Cert.BranchAFwd.Gen.facts,
  Cert.BranchAFwdIdeal.Gen.facts,
  Cert.BranchAFwdRefIdeal.Gen.facts,
  Cert.BranchBFwd.Gen.facts,
  Cert.BranchBFwdIdeal.Gen.facts,
  Cert.BranchBFwdRefIdeal.Gen.facts,
  Cert.ForgetFwd.Gen.facts,
  Cert.ForgetFwdIdeal.Gen.facts,
  Cert.ForgetFwdRefIdeal.Gen.facts,
  Cert.AdamIn.Gen.facts,
  Cert.AdamInIdeal.Gen.facts,
  Cert.AdamInRefIdeal.Gen.facts,
  Cert.AdamBranch.Gen.facts,
  Cert.AdamBranchIdeal.Gen.facts,
  Cert.AdamBranchRefIdeal.Gen.facts,
  Cert.AdamOut.Gen.facts,
  Cert.AdamOutIdeal.Gen.facts,
  Cert.AdamOutRefIdeal.Gen.facts,
  Cert.AdamUp.Gen.facts,
  Cert.AdamUpIdeal.Gen.facts,
  Cert.AdamUpRefIdeal.Gen.facts,
  Cert.AdamDown.Gen.facts,
  Cert.AdamDownIdeal.Gen.facts,
  Cert.AdamDownRefIdeal.Gen.facts,
  Cert.AdamSmall.Gen.facts,
  Cert.AdamSmallIdeal.Gen.facts,
  Cert.AdamSmallRefIdeal.Gen.facts,
  Cert.LossHead.Gen.facts,
  Cert.LossHeadIdeal.Gen.facts,
  Cert.LossHeadRefIdeal.Gen.facts,
  Cert.Proof.Hg.frame_kernel,
  Cert.Proof.Hg.frame_ideal,
  fun m ρ _ => Cert.WideBwdX.Gen.frame m ρ,
  fun m ρ _ => Cert.WideBwdXIdeal.Gen.frame m ρ,
  Cert.Proof.Mm.quiet_WideBwdX,
  fun m ρ _ => Cert.WideBwdW.Gen.frame m ρ,
  fun m ρ _ => Cert.WideBwdWIdeal.Gen.frame m ρ,
  Cert.Proof.Mm.quiet_WideBwdW,
  fun m ρ _ => Cert.UpBwdW.Gen.frame m ρ,
  fun m ρ _ => Cert.UpBwdWIdeal.Gen.frame m ρ,
  Cert.Proof.Mm.quiet_UpBwdW,
  fun m ρ _ => Cert.DownBwdX.Gen.frame m ρ,
  fun m ρ _ => Cert.DownBwdXIdeal.Gen.frame m ρ,
  Cert.Proof.Mm.quiet_DownBwdX,
  fun m ρ _ => Cert.DownBwdW.Gen.frame m ρ,
  fun m ρ _ => Cert.DownBwdWIdeal.Gen.frame m ρ,
  Cert.Proof.Mm.quiet_DownBwdW,
  fun m ρ _ => Cert.OutBwdX.Gen.frame m ρ,
  fun m ρ _ => Cert.OutBwdXIdeal.Gen.frame m ρ,
  Cert.Proof.Mm.quiet_OutBwdX,
  fun m ρ _ => Cert.OutBwdW.Gen.frame m ρ,
  fun m ρ _ => Cert.OutBwdWIdeal.Gen.frame m ρ,
  Cert.Proof.Mm.quiet_OutBwdW,
  fun m ρ _ => Cert.BranchBwdX.Gen.frame m ρ,
  fun m ρ _ => Cert.BranchBwdXIdeal.Gen.frame m ρ,
  Cert.Proof.Mm.quiet_BranchBwdX,
  fun m ρ _ => Cert.BranchABwdW.Gen.frame m ρ,
  fun m ρ _ => Cert.BranchABwdWIdeal.Gen.frame m ρ,
  Cert.Proof.Mm.quiet_BranchABwdW,
  fun m ρ _ => Cert.BranchBBwdW.Gen.frame m ρ,
  fun m ρ _ => Cert.BranchBBwdWIdeal.Gen.frame m ρ,
  Cert.Proof.Mm.quiet_BranchBBwdW,
  fun m ρ _ => Cert.ForgetBwdX.Gen.frame m ρ,
  fun m ρ _ => Cert.ForgetBwdXIdeal.Gen.frame m ρ,
  Cert.Proof.Mm.quiet_ForgetBwdX,
  fun m ρ _ => Cert.ForgetBwdW.Gen.frame m ρ,
  fun m ρ _ => Cert.ForgetBwdWIdeal.Gen.frame m ρ,
  Cert.Proof.Mm.quiet_ForgetBwdW,
  fun m ρ _ => Cert.WideFwd.Gen.frame m ρ,
  fun m ρ _ => Cert.WideFwdIdeal.Gen.frame m ρ,
  Cert.Proof.Mm.quiet_WideFwd,
  fun m ρ _ => Cert.DownFwd.Gen.frame m ρ,
  fun m ρ _ => Cert.DownFwdIdeal.Gen.frame m ρ,
  Cert.Proof.Mm.quiet_DownFwd,
  fun m ρ _ => Cert.OutFwd.Gen.frame m ρ,
  fun m ρ _ => Cert.OutFwdIdeal.Gen.frame m ρ,
  Cert.Proof.Mm.quiet_OutFwd,
  fun m ρ _ => Cert.BranchAFwd.Gen.frame m ρ,
  fun m ρ _ => Cert.BranchAFwdIdeal.Gen.frame m ρ,
  Cert.Proof.Mm.quiet_BranchAFwd,
  fun m ρ _ => Cert.BranchBFwd.Gen.frame m ρ,
  fun m ρ _ => Cert.BranchBFwdIdeal.Gen.frame m ρ,
  Cert.Proof.Mm.quiet_BranchBFwd,
  fun m ρ _ => Cert.ForgetFwd.Gen.frame m ρ,
  fun m ρ _ => Cert.ForgetFwdIdeal.Gen.frame m ρ,
  Cert.Proof.Mm.quiet_ForgetFwd,
  fun m ρ _ => Cert.AdamIn.Gen.frame m ρ trivial,
  fun m ρ _ => Cert.AdamInIdeal.Gen.frame m ρ trivial,
  Cert.Proof.Ad.quiet_AdamIn,
  fun m ρ _ => Cert.AdamBranch.Gen.frame m ρ trivial,
  fun m ρ _ => Cert.AdamBranchIdeal.Gen.frame m ρ trivial,
  Cert.Proof.Ad.quiet_AdamBranch,
  fun m ρ _ => Cert.AdamOut.Gen.frame m ρ trivial,
  fun m ρ _ => Cert.AdamOutIdeal.Gen.frame m ρ trivial,
  Cert.Proof.Ad.quiet_AdamOut,
  fun m ρ _ => Cert.AdamUp.Gen.frame m ρ trivial,
  fun m ρ _ => Cert.AdamUpIdeal.Gen.frame m ρ trivial,
  Cert.Proof.Ad.quiet_AdamUp,
  fun m ρ _ => Cert.AdamDown.Gen.frame m ρ trivial,
  fun m ρ _ => Cert.AdamDownIdeal.Gen.frame m ρ trivial,
  Cert.Proof.Ad.quiet_AdamDown,
  fun m ρ _ => Cert.AdamSmall.Gen.frame m ρ trivial,
  fun m ρ _ => Cert.AdamSmallIdeal.Gen.frame m ρ trivial,
  Cert.Proof.Ad.quiet_AdamSmall,
  fun m ρ _ => Cert.LossHead.Gen.frame m ρ,
  fun m ρ _ => Cert.LossHeadIdeal.Gen.frame m ρ,
  Cert.Proof.Loss.quiet_LossHead,
  trivial,
  trivial,
  Cert.Proof.Mm.equal_WideBwdX,
  trivial,
  Cert.Proof.Mm.equal_WideBwdW,
  trivial,
  Cert.Proof.Mm.equal_UpBwdW,
  trivial,
  Cert.Proof.Mm.equal_DownBwdX,
  trivial,
  Cert.Proof.Mm.equal_DownBwdW,
  trivial,
  Cert.Proof.Mm.equal_OutBwdX,
  trivial,
  Cert.Proof.Mm.equal_OutBwdW,
  trivial,
  Cert.Proof.Mm.equal_BranchBwdX,
  trivial,
  Cert.Proof.Mm.equal_BranchABwdW,
  trivial,
  Cert.Proof.Mm.equal_BranchBBwdW,
  trivial,
  Cert.Proof.Mm.equal_ForgetBwdX,
  trivial,
  Cert.Proof.Mm.equal_ForgetBwdW,
  trivial,
  Cert.Proof.Mm.equal_WideFwd,
  trivial,
  Cert.Proof.Mm.equal_DownFwd,
  trivial,
  Cert.Proof.Mm.equal_OutFwd,
  trivial,
  Cert.Proof.Mm.equal_BranchAFwd,
  trivial,
  Cert.Proof.Mm.equal_BranchBFwd,
  trivial,
  Cert.Proof.Mm.equal_ForgetFwd,
  ⟨IdealRules.named_const.statement Cert.AdamInIdeal.κ "first" .f32 0x3FC48605#32 (((5463681 / 8388608)⁻¹ : ℝ) : EReal) rfl,
    IdealRules.named_const.statement Cert.AdamInIdeal.κ "second" .f32 0x42C8E6D3#32 (((2672307 / 268435456)⁻¹ : ℝ) : EReal) rfl⟩,
  Cert.Proof.Ad.equal_AdamIn,
  ⟨IdealRules.named_const.statement Cert.AdamBranchIdeal.κ "first" .f32 0x3FC48605#32 (((5463681 / 8388608)⁻¹ : ℝ) : EReal) rfl,
    IdealRules.named_const.statement Cert.AdamBranchIdeal.κ "second" .f32 0x42C8E6D3#32 (((2672307 / 268435456)⁻¹ : ℝ) : EReal) rfl⟩,
  Cert.Proof.Ad.equal_AdamBranch,
  ⟨IdealRules.named_const.statement Cert.AdamOutIdeal.κ "first" .f32 0x3FC48605#32 (((5463681 / 8388608)⁻¹ : ℝ) : EReal) rfl,
    IdealRules.named_const.statement Cert.AdamOutIdeal.κ "second" .f32 0x42C8E6D3#32 (((2672307 / 268435456)⁻¹ : ℝ) : EReal) rfl⟩,
  Cert.Proof.Ad.equal_AdamOut,
  ⟨IdealRules.named_const.statement Cert.AdamUpIdeal.κ "first" .f32 0x3FC48605#32 (((5463681 / 8388608)⁻¹ : ℝ) : EReal) rfl,
    IdealRules.named_const.statement Cert.AdamUpIdeal.κ "second" .f32 0x42C8E6D3#32 (((2672307 / 268435456)⁻¹ : ℝ) : EReal) rfl⟩,
  Cert.Proof.Ad.equal_AdamUp,
  ⟨IdealRules.named_const.statement Cert.AdamDownIdeal.κ "first" .f32 0x3FC48605#32 (((5463681 / 8388608)⁻¹ : ℝ) : EReal) rfl,
    IdealRules.named_const.statement Cert.AdamDownIdeal.κ "second" .f32 0x42C8E6D3#32 (((2672307 / 268435456)⁻¹ : ℝ) : EReal) rfl⟩,
  Cert.Proof.Ad.equal_AdamDown,
  ⟨IdealRules.named_const.statement Cert.AdamSmallIdeal.κ "first" .f32 0x3FC48605#32 (((5463681 / 8388608)⁻¹ : ℝ) : EReal) rfl,
    IdealRules.named_const.statement Cert.AdamSmallIdeal.κ "second" .f32 0x42C8E6D3#32 (((2672307 / 268435456)⁻¹ : ℝ) : EReal) rfl⟩,
  Cert.Proof.Ad.equal_AdamSmall,
  trivial,
  Cert.Proof.Loss.equal_LossHead⟩

end Cert.Proof

end
